-- ==== Defs.lean ====
def Pre_Kernel [hPre_pages : Cert.Pre_pages.Facts] (m : (ℓ : Loc Cert.Kernel.nD Cert.Kernel.τ Cert.Kernel.sig) → Buf (Elt Bits) ℓ) : Prop :=
  ∀ c : Dev Cert.Kernel.nD,
    (Cert.Pre_pages.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pages : Cert.Pre_pages.Facts] (m : (ℓ : Loc Cert.KernelIdeal.nD Cert.KernelIdeal.τ Cert.KernelIdeal.sig) → Buf (Elt Ideal) ℓ) : Prop :=
  ∀ c : Dev Cert.KernelIdeal.nD,
    (Cert.Pre_pages.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_pages : Cert.Pre_pages.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_pages : Cert.Pre_pages.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pages : Cert.Pre_pages.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_pages : Cert.Pre_pages.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pages : Cert.Pre_pages.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v53_1)) (v1 : (c : Dev Cert.Kernel5Ideal.nD) → Buf (Elt Ideal) ((c.tc : Thread Cert.Kernel5Ideal.nD Cert.Kernel5Ideal.τ).loc Cert.Kernel5Ideal.main_v53_3)) (v2 : (c : Dev Cert.Kernel5Ideal.nD) → Buf (Elt Ideal) ((c.tc : Thread Cert.Kernel5Ideal.nD Cert.Kernel5Ideal.τ).loc Cert.Kernel5Ideal.main_v53_6)) (v3 : (c : Dev Cert.Kernel5Ideal.nD) → Buf (Elt Ideal) ((c.tc : Thread Cert.Kernel5Ideal.nD Cert.Kernel5Ideal.τ).loc Cert.Kernel5Ideal.main_v53_0)) (v4 : (c : Dev Cert.Kernel5Ideal.nD) → Buf (Elt Ideal) ((c.tc : Thread Cert.Kernel5Ideal.nD Cert.Kernel5Ideal.τ).loc Cert.Kernel5Ideal.main_v53_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v53_1) = v0 c
          ∧ r.2.mem ((c.tc : Thread Cert.Kernel5Ideal.nD Cert.Kernel5Ideal.τ).loc Cert.Kernel5Ideal.main_v53_3) = v1 c
          ∧ r.2.mem ((c.tc : Thread Cert.Kernel5Ideal.nD Cert.Kernel5Ideal.τ).loc Cert.Kernel5Ideal.main_v53_6) = v2 c
          ∧ r.2.mem ((c.tc : Thread Cert.Kernel5Ideal.nD Cert.Kernel5Ideal.τ).loc Cert.Kernel5Ideal.main_v53_0) = v3 c
          ∧ r.2.mem ((c.tc : Thread Cert.Kernel5Ideal.nD Cert.Kernel5Ideal.τ).loc Cert.Kernel5Ideal.main_v53_5) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v160) = v0 c
          ∧ r.2.mem ((c.tc : Thread Cert.Reference5Ideal.nD Cert.Reference5Ideal.τ).loc Cert.Reference5Ideal.main_v161) = v1 c
          ∧ r.2.mem ((c.tc : Thread Cert.Reference5Ideal.nD Cert.Reference5Ideal.τ).loc Cert.Reference5Ideal.main_v162) = v2 c
          ∧ r.2.mem ((c.tc : Thread Cert.Reference5Ideal.nD Cert.Reference5Ideal.τ).loc Cert.Reference5Ideal.main_v164) = v3 c
          ∧ r.2.mem ((c.tc : Thread Cert.Reference5Ideal.nD Cert.Reference5Ideal.τ).loc Cert.Reference5Ideal.main_v167) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v67_1)) (v1 : (c : Dev Cert.Kernel7Ideal.nD) → Buf (Elt Ideal) ((c.tc : Thread Cert.Kernel7Ideal.nD Cert.Kernel7Ideal.τ).loc Cert.Kernel7Ideal.main_v67_3)) (v2 : (c : Dev Cert.Kernel7Ideal.nD) → Buf (Elt Ideal) ((c.tc : Thread Cert.Kernel7Ideal.nD Cert.Kernel7Ideal.τ).loc Cert.Kernel7Ideal.main_v67_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v67_1) = v0 c
          ∧ r.2.mem ((c.tc : Thread Cert.Kernel7Ideal.nD Cert.Kernel7Ideal.τ).loc Cert.Kernel7Ideal.main_v67_3) = v1 c
          ∧ r.2.mem ((c.tc : Thread Cert.Kernel7Ideal.nD Cert.Kernel7Ideal.τ).loc Cert.Kernel7Ideal.main_v67_6) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v92) = v0 c
          ∧ r.2.mem ((c.tc : Thread Cert.Reference7Ideal.nD Cert.Reference7Ideal.τ).loc Cert.Reference7Ideal.main_v93) = v1 c
          ∧ r.2.mem ((c.tc : Thread Cert.Reference7Ideal.nD Cert.Reference7Ideal.τ).loc Cert.Reference7Ideal.main_v94) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_pages : Cert.Pre_pages.Facts),
    quiescent_Kernel (hKernel := hKernel) (hPre_pages := hPre_pages)
    ∧ quiescent_KernelIdeal (hKernelIdeal := hKernelIdeal) (hPre_pages := hPre_pages)
    ∧ quiescent_ReferenceIdeal (hReferenceIdeal := hReferenceIdeal) (hPre_pages := hPre_pages)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_pages := hPre_pages)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_pages.lean ====
abbrev S32x128 : Shape := ⟨2, ![32, 128]⟩
abbrev S32x4x16x64 : Shape := ⟨4, ![32, 4, 16, 64]⟩
abbrev S32x4x16 : Shape := ⟨3, ![32, 4, 16]⟩
abbrev S32x4x64 : Shape := ⟨3, ![32, 4, 64]⟩
abbrev S5120x128x64 : Shape := ⟨3, ![5120, 128, 64]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : IVec S32x128 32) (main_arg1 : FVec F S32x4x16x64 .f32) (main_arg2 : FVec F S32x4x16 .f32) (main_arg3 : FVec F S32x4x64 .f32) (main_arg4 : FVec F S5120x128x64 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg0 main_v0
  let main_c_0 : IVec S_ 32 := constantI S_ 32 5120#32
  let main_v2 : IVec S32x128 32 := broadcastInDim S32x128 ![] bcast_S_S32x128 main_c_0
  let main_v3 : IVec S32x128 1 := cmpi .slt main_arg0 main_v2
  let main_v4 : IVec S32x128 1 := andi main_v1 main_v3
  main_v4
-- ==== Kernel.lean ====
abbrev S32x128 : Shape := ⟨2, ![32, 128]⟩
abbrev S32x4x16x64 : Shape := ⟨4, ![32, 4, 16, 64]⟩
abbrev S32x4x16 : Shape := ⟨3, ![32, 4, 16]⟩
abbrev S32x4x64 : Shape := ⟨3, ![32, 4, 64]⟩
abbrev S5120x128x64 : Shape := ⟨3, ![5120, 128, 64]⟩
abbrev S_ : Shape := ⟨0, ![]⟩
abbrev S32x8x16x64 : Shape := ⟨4, ![32, 8, 16, 64]⟩
abbrev S32x16x8x64 : Shape := ⟨4, ![32, 16, 8, 64]⟩
abbrev S32x128x64 : Shape := ⟨3, ![32, 128, 64]⟩
abbrev S32x8x16 : Shape := ⟨3, ![32, 8, 16]⟩
abbrev S32x16x8 : Shape := ⟨3, ![32, 16, 8]⟩
abbrev S32x128x1 : Shape := ⟨3, ![32, 128, 1]⟩
abbrev S32x64x128 : Shape := ⟨3, ![32, 64, 128]⟩
abbrev S5120x64x128 : Shape := ⟨3, ![5120, 64, 128]⟩
abbrev S4096 : Shape := ⟨1, ![4096]⟩
abbrev S32x8x16384 : Shape := ⟨3, ![32, 8, 16384]⟩
abbrev S32x8x128 : Shape := ⟨3, ![32, 8, 128]⟩
abbrev S1x128x64 : Shape := ⟨3, ![1, 128, 64]⟩
abbrev S1x128x1 : Shape := ⟨3, ![1, 128, 1]⟩
abbrev S1x64x128 : Shape := ⟨3, ![1, 64, 128]⟩
abbrev S1x8x2048 : Shape := ⟨3, ![1, 8, 2048]⟩
abbrev S1x8x128 : Shape := ⟨3, ![1, 8, 128]⟩
abbrev S2x16x64x128 : Shape := ⟨4, ![2, 16, 64, 128]⟩
abbrev S2 : Shape := ⟨1, ![2]⟩
abbrev S128x64 : Shape := ⟨2, ![128, 64]⟩
abbrev S128x1 : Shape := ⟨2, ![128, 1]⟩
abbrev S1 : Shape := ⟨1, ![1]⟩
abbrev S1x1x64x128 : Shape := ⟨4, ![1, 1, 64, 128]⟩
abbrev S64x128 : Shape := ⟨2, ![64, 128]⟩
abbrev S64x2048 : Shape := ⟨2, ![64, 2048]⟩
abbrev S128x2048 : Shape := ⟨2, ![128, 2048]⟩
abbrev S16x8x2048 : Shape := ⟨3, ![16, 8, 2048]⟩
abbrev S8x2048 : Shape := ⟨2, ![8, 2048]⟩
abbrev S128x128 : Shape := ⟨2, ![128, 128]⟩
abbrev S16x8x128 : Shape := ⟨3, ![16, 8, 128]⟩
abbrev S8x128 : Shape := ⟨2, ![8, 128]⟩
abbrev S32x4x16384 : Shape := ⟨3, ![32, 4, 16384]⟩
abbrev S32x4x128 : Shape := ⟨3, ![32, 4, 128]⟩
abbrev S32x4x16512 : Shape := ⟨3, ![32, 4, 16512]⟩

abbrev nBuf : Space → Nat
  | .hbm => 30
  | .vmem => 11
  | .smem => 1
  | _ => 0

abbrev bufTy : (tb : Table) → Fin (tcTables nBuf tb) → BufTy
  | .hbm, ⟨0, _⟩ => ⟨S32x128, .i32⟩
  | .hbm, ⟨1, _⟩ => ⟨S32x4x16x64, .f32⟩
  | .hbm, ⟨2, _⟩ => ⟨S32x4x16, .f32⟩
  | .hbm, ⟨3, _⟩ => ⟨S32x4x64, .f32⟩
  | .hbm, ⟨4, _⟩ => ⟨S5120x128x64, .f32⟩
  | .hbm, ⟨5, _⟩ => ⟨S_, .f32⟩
  | .hbm, ⟨6, _⟩ => ⟨S32x4x16, .f32⟩
  | .hbm, ⟨7, _⟩ => ⟨S32x4x16, .f32⟩
  | .hbm, ⟨8, _⟩ => ⟨S32x4x16x64, .bf16⟩
  | .hbm, ⟨9, _⟩ => ⟨S_, .i32⟩
  | .hbm, ⟨10, _⟩ => ⟨S_, .bf16⟩
  | .hbm, ⟨11, _⟩ => ⟨S32x8x16x64, .bf16⟩
  | .hbm, ⟨12, _⟩ => ⟨S32x16x8x64, .bf16⟩
  | .hbm, ⟨13, _⟩ => ⟨S32x128x64, .bf16⟩
  | .hbm, ⟨14, _⟩ => ⟨S_, .i32⟩
  | .hbm, ⟨15, _⟩ => ⟨S_, .f32⟩
  | .hbm, ⟨16, _⟩ => ⟨S32x8x16, .f32⟩
  | .hbm, ⟨17, _⟩ => ⟨S32x16x8, .f32⟩
  | .hbm, ⟨18, _⟩ => ⟨S32x128x1, .f32⟩
  | .hbm, ⟨19, _⟩ => ⟨S32x4x64, .bf16⟩
  | .hbm, ⟨20, _⟩ => ⟨S_, .i32⟩
  | .hbm, ⟨21, _⟩ => ⟨S_, .bf16⟩
  | .hbm, ⟨22, _⟩ => ⟨S32x128x64, .bf16⟩
  | .hbm, ⟨23, _⟩ => ⟨S32x64x128, .bf16⟩
  | .hbm, ⟨24, _⟩ => ⟨S5120x64x128, .f32⟩
  | .hbm, ⟨25, _⟩ => ⟨S32x8x16384, .f32⟩
  | .hbm, ⟨26, _⟩ => ⟨S32x8x128, .f32⟩
  | .hbm, ⟨27, _⟩ => ⟨S32x4x16384, .f32⟩
  | .hbm, ⟨28, _⟩ => ⟨S32x4x128, .f32⟩
  | .hbm, ⟨29, _⟩ => ⟨S32x4x16512, .f32⟩
  | .local _ .vmem, ⟨0, _⟩ => ⟨S1x128x64, .bf16⟩
  | .local _ .vmem, ⟨1, _⟩ => ⟨S1x128x64, .bf16⟩
  | .local _ .vmem, ⟨2, _⟩ => ⟨S1x128x1, .f32⟩
  | .local _ .vmem, ⟨3, _⟩ => ⟨S1x128x1, .f32⟩
  | .local _ .vmem, ⟨4, _⟩ => ⟨S1x64x128, .bf16⟩
  | .local _ .vmem, ⟨5, _⟩ => ⟨S1x64x128, .bf16⟩
  | .local _ .vmem, ⟨6, _⟩ => ⟨S1x8x2048, .f32⟩
  | .local _ .vmem, ⟨7, _⟩ => ⟨S1x8x2048, .f32⟩
  | .local _ .vmem, ⟨8, _⟩ => ⟨S1x8x128, .f32⟩
  | .local _ .vmem, ⟨9, _⟩ => ⟨S1x8x128, .f32⟩
  | .local _ .vmem, ⟨10, _⟩ => ⟨S2x16x64x128, .f32⟩
  | .local _ .smem, ⟨0, _⟩ => ⟨S4096, .i32⟩
  | _, _ => ⟨S32x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v7 : BitVec 1 := Scalar.cmpi .eq v1 c0_i32
  let v8 : BitVec 32 := Scalar.extui v7
  let c0_i32_5 : BitVec 32 := 0#32
  let v9 : BitVec 1 := Scalar.cmpi .ne v8 c0_i32_5
  v9

def k0_off1 (v252 : BitVec 32) : Fin 3 → Nat :=
  let c0_i32_167 : BitVec 32 := 0#32
  let c0_i32_168 : BitVec 32 := 0#32
  ![v252.toNat, 0, 0]

def k0_chk1 (i : grid0.Coords) (v252 : BitVec 32) : Prop :=
  (∀ (k0_h1 : k0_cond1 i = 1#1), ∀ a, (k0_off1 v252) a + S1x64x128.size a ≤ S5120x64x128.size a)
theorem k0_off1_inb : ∀ (i : grid0.Coords) (v252 : BitVec 32) (k0_hw1 : k0_chk1 i v252), ∀ (k0_h1 : k0_cond1 i = 1#1), ∀ a, (k0_off1 v252) a + S1x64x128.size a ≤ S5120x64x128.size a := fun i v252 k0_hw1 k0_h1 => k0_hw1 k0_h1

def k0_off2 (v253 : BitVec 32) : Fin 3 → Nat :=
  let c0_i32_174 : BitVec 32 := 0#32
  let c0_i32_175 : BitVec 32 := 0#32
  ![v253.toNat, 0, 0]

def k0_chk2 (i : grid0.Coords) (v253 : BitVec 32) : Prop :=
  (∀ (k0_h1 : k0_cond1 i = 1#1), ∀ a, (k0_off2 v253) a + S1x64x128.size a ≤ S5120x64x128.size a)
theorem k0_off2_inb : ∀ (i : grid0.Coords) (v253 : BitVec 32) (k0_hw2 : k0_chk2 i v253), ∀ (k0_h1 : k0_cond1 i = 1#1), ∀ a, (k0_off2 v253) a + S1x64x128.size a ≤ S5120x64x128.size a := fun i v253 k0_hw2 k0_h1 => k0_hw2 k0_h1

def k0_off3 (v254 : BitVec 32) : Fin 3 → Nat :=
  let c0_i32_181 : BitVec 32 := 0#32
  let c0_i32_182 : BitVec 32 := 0#32
  ![v254.toNat, 0, 0]

def k0_chk3 (i : grid0.Coords) (v254 : BitVec 32) : Prop :=
  (∀ (k0_h1 : k0_cond1 i = 1#1), ∀ a, (k0_off3 v254) a + S1x64x128.size a ≤ S5120x64x128.size a)
theorem k0_off3_inb : ∀ (i : grid0.Coords) (v254 : BitVec 32) (k0_hw3 : k0_chk3 i v254), ∀ (k0_h1 : k0_cond1 i = 1#1), ∀ a, (k0_off3 v254) a + S1x64x128.size a ≤ S5120x64x128.size a := fun i v254 k0_hw3 k0_h1 => k0_hw3 k0_h1

def k0_off4 (v255 : BitVec 32) : Fin 3 → Nat :=
  let c0_i32_188 : BitVec 32 := 0#32
  let c0_i32_189 : BitVec 32 := 0#32
  ![v255.toNat, 0, 0]

def k0_chk4 (i : grid0.Coords) (v255 : BitVec 32) : Prop :=
  (∀ (k0_h1 : k0_cond1 i = 1#1), ∀ a, (k0_off4 v255) a + S1x64x128.size a ≤ S5120x64x128.size a)
theorem k0_off4_inb : ∀ (i : grid0.Coords) (v255 : BitVec 32) (k0_hw4 : k0_chk4 i v255), ∀ (k0_h1 : k0_cond1 i = 1#1), ∀ a, (k0_off4 v255) a + S1x64x128.size a ≤ S5120x64x128.size a := fun i v255 k0_hw4 k0_h1 => k0_hw4 k0_h1

def k0_off5 (v256 : BitVec 32) : Fin 3 → Nat :=
  let c0_i32_195 : BitVec 32 := 0#32
  let c0_i32_196 : BitVec 32 := 0#32
  ![v256.toNat, 0, 0]

def k0_chk5 (i : grid0.Coords) (v256 : BitVec 32) : Prop :=
  (∀ (k0_h1 : k0_cond1 i = 1#1), ∀ a, (k0_off5 v256) a + S1x64x128.size a ≤ S5120x64x128.size a)
theorem k0_off5_inb : ∀ (i : grid0.Coords) (v256 : BitVec 32) (k0_hw5 : k0_chk5 i v256), ∀ (k0_h1 : k0_cond1 i = 1#1), ∀ a, (k0_off5 v256) a + S1x64x128.size a ≤ S5120x64x128.size a := fun i v256 k0_hw5 k0_h1 => k0_hw5 k0_h1

def k0_off6 (v257 : BitVec 32) : Fin 3 → Nat :=
  let c0_i32_202 : BitVec 32 := 0#32
  let c0_i32_203 : BitVec 32 := 0#32
  ![v257.toNat, 0, 0]

def k0_chk6 (i : grid0.Coords) (v257 : BitVec 32) : Prop :=
  (∀ (k0_h1 : k0_cond1 i = 1#1), ∀ a, (k0_off6 v257) a + S1x64x128.size a ≤ S5120x64x128.size a)
theorem k0_off6_inb : ∀ (i : grid0.Coords) (v257 : BitVec 32) (k0_hw6 : k0_chk6 i v257), ∀ (k0_h1 : k0_cond1 i = 1#1), ∀ a, (k0_off6 v257) a + S1x64x128.size a ≤ S5120x64x128.size a := fun i v257 k0_hw6 k0_h1 => k0_hw6 k0_h1

def k0_off7 (v258 : BitVec 32) : Fin 3 → Nat :=
  let c0_i32_209 : BitVec 32 := 0#32
  let c0_i32_210 : BitVec 32 := 0#32
  ![v258.toNat, 0, 0]

def k0_chk7 (i : grid0.Coords) (v258 : BitVec 32) : Prop :=
  (∀ (k0_h1 : k0_cond1 i = 1#1), ∀ a, (k0_off7 v258) a + S1x64x128.size a ≤ S5120x64x128.size a)
theorem k0_off7_inb : ∀ (i : grid0.Coords) (v258 : BitVec 32) (k0_hw7 : k0_chk7 i v258), ∀ (k0_h1 : k0_cond1 i = 1#1), ∀ a, (k0_off7 v258) a + S1x64x128.size a ≤ S5120x64x128.size a := fun i v258 k0_hw7 k0_h1 => k0_hw7 k0_h1

def k0_off8 (v259 : BitVec 32) : Fin 3 → Nat :=
  let c0_i32_216 : BitVec 32 := 0#32
  let c0_i32_217 : BitVec 32 := 0#32
  ![v259.toNat, 0, 0]

def k0_chk8 (i : grid0.Coords) (v259 : BitVec 32) : Prop :=
  (∀ (k0_h1 : k0_cond1 i = 1#1), ∀ a, (k0_off8 v259) a + S1x64x128.size a ≤ S5120x64x128.size a)
theorem k0_off8_inb : ∀ (i : grid0.Coords) (v259 : BitVec 32) (k0_hw8 : k0_chk8 i v259), ∀ (k0_h1 : k0_cond1 i = 1#1), ∀ a, (k0_off8 v259) a + S1x64x128.size a ≤ S5120x64x128.size a := fun i v259 k0_hw8 k0_h1 => k0_hw8 k0_h1

def k0_off9 (v260 : BitVec 32) : Fin 3 → Nat :=
  let c0_i32_223 : BitVec 32 := 0#32
  let c0_i32_224 : BitVec 32 := 0#32
  ![v260.toNat, 0, 0]

def k0_chk9 (i : grid0.Coords) (v260 : BitVec 32) : Prop :=
  (∀ (k0_h1 : k0_cond1 i = 1#1), ∀ a, (k0_off9 v260) a + S1x64x128.size a ≤ S5120x64x128.size a)
theorem k0_off9_inb : ∀ (i : grid0.Coords) (v260 : BitVec 32) (k0_hw9 : k0_chk9 i v260), ∀ (k0_h1 : k0_cond1 i = 1#1), ∀ a, (k0_off9 v260) a + S1x64x128.size a ≤ S5120x64x128.size a := fun i v260 k0_hw9 k0_h1 => k0_hw9 k0_h1

def k0_off10 (v261 : BitVec 32) : Fin 3 → Nat :=
  let c0_i32_230 : BitVec 32 := 0#32
  let c0_i32_231 : BitVec 32 := 0#32
  ![v261.toNat, 0, 0]

def k0_chk10 (i : grid0.Coords) (v261 : BitVec 32) : Prop :=
  (∀ (k0_h1 : k0_cond1 i = 1#1), ∀ a, (k0_off10 v261) a + S1x64x128.size a ≤ S5120x64x128.size a)
theorem k0_off10_inb : ∀ (i : grid0.Coords) (v261 : BitVec 32) (k0_hw10 : k0_chk10 i v261), ∀ (k0_h1 : k0_cond1 i = 1#1), ∀ a, (k0_off10 v261) a + S1x64x128.size a ≤ S5120x64x128.size a := fun i v261 k0_hw10 k0_h1 => k0_hw10 k0_h1

def k0_off11 (v262 : BitVec 32) : Fin 3 → Nat :=
  let c0_i32_237 : BitVec 32 := 0#32
  let c0_i32_238 : BitVec 32 := 0#32
  ![v262.toNat, 0, 0]

def k0_chk11 (i : grid0.Coords) (v262 : BitVec 32) : Prop :=
  (∀ (k0_h1 : k0_cond1 i = 1#1), ∀ a, (k0_off11 v262) a + S1x64x128.size a ≤ S5120x64x128.size a)
theorem k0_off11_inb : ∀ (i : grid0.Coords) (v262 : BitVec 32) (k0_hw11 : k0_chk11 i v262), ∀ (k0_h1 : k0_cond1 i = 1#1), ∀ a, (k0_off11 v262) a + S1x64x128.size a ≤ S5120x64x128.size a := fun i v262 k0_hw11 k0_h1 => k0_hw11 k0_h1

def k0_off12 (v263 : BitVec 32) : Fin 3 → Nat :=
  let c0_i32_244 : BitVec 32 := 0#32
  let c0_i32_245 : BitVec 32 := 0#32
  ![v263.toNat, 0, 0]

def k0_chk12 (i : grid0.Coords) (v263 : BitVec 32) : Prop :=
  (∀ (k0_h1 : k0_cond1 i = 1#1), ∀ a, (k0_off12 v263) a + S1x64x128.size a ≤ S5120x64x128.size a)
theorem k0_off12_inb : ∀ (i : grid0.Coords) (v263 : BitVec 32) (k0_hw12 : k0_chk12 i v263), ∀ (k0_h1 : k0_cond1 i = 1#1), ∀ a, (k0_off12 v263) a + S1x64x128.size a ≤ S5120x64x128.size a := fun i v263 k0_hw12 k0_h1 => k0_hw12 k0_h1

def k0_off13 (v264 : BitVec 32) : Fin 3 → Nat :=
  let c0_i32_251 : BitVec 32 := 0#32
  let c0_i32_252 : BitVec 32 := 0#32
  ![v264.toNat, 0, 0]

def k0_chk13 (i : grid0.Coords) (v264 : BitVec 32) : Prop :=
  (∀ (k0_h1 : k0_cond1 i = 1#1), ∀ a, (k0_off13 v264) a + S1x64x128.size a ≤ S5120x64x128.size a)
theorem k0_off13_inb : ∀ (i : grid0.Coords) (v264 : BitVec 32) (k0_hw13 : k0_chk13 i v264), ∀ (k0_h1 : k0_cond1 i = 1#1), ∀ a, (k0_off13 v264) a + S1x64x128.size a ≤ S5120x64x128.size a := fun i v264 k0_hw13 k0_h1 => k0_hw13 k0_h1

def k0_off14 (v265 : BitVec 32) : Fin 3 → Nat :=
  let c0_i32_258 : BitVec 32 := 0#32
  let c0_i32_259 : BitVec 32 := 0#32
  ![v265.toNat, 0, 0]

def k0_chk14 (i : grid0.Coords) (v265 : BitVec 32) : Prop :=
  (∀ (k0_h1 : k0_cond1 i = 1#1), ∀ a, (k0_off14 v265) a + S1x64x128.size a ≤ S5120x64x128.size a)
theorem k0_off14_inb : ∀ (i : grid0.Coords) (v265 : BitVec 32) (k0_hw14 : k0_chk14 i v265), ∀ (k0_h1 : k0_cond1 i = 1#1), ∀ a, (k0_off14 v265) a + S1x64x128.size a ≤ S5120x64x128.size a := fun i v265 k0_hw14 k0_h1 => k0_hw14 k0_h1

def k0_off15 (v266 : BitVec 32) : Fin 3 → Nat :=
  let c0_i32_265 : BitVec 32 := 0#32
  let c0_i32_266 : BitVec 32 := 0#32
  ![v266.toNat, 0, 0]

def k0_chk15 (i : grid0.Coords) (v266 : BitVec 32) : Prop :=
  (∀ (k0_h1 : k0_cond1 i = 1#1), ∀ a, (k0_off15 v266) a + S1x64x128.size a ≤ S5120x64x128.size a)
theorem k0_off15_inb : ∀ (i : grid0.Coords) (v266 : BitVec 32) (k0_hw15 : k0_chk15 i v266), ∀ (k0_h1 : k0_cond1 i = 1#1), ∀ a, (k0_off15 v266) a + S1x64x128.size a ≤ S5120x64x128.size a := fun i v266 k0_hw15 k0_h1 => k0_hw15 k0_h1

def k0_off16 (v267 : BitVec 32) : Fin 3 → Nat :=
  let c0_i32_272 : BitVec 32 := 0#32
  let c0_i32_273 : BitVec 32 := 0#32
  ![v267.toNat, 0, 0]

def k0_chk16 (i : grid0.Coords) (v267 : BitVec 32) : Prop :=
  (∀ (k0_h1 : k0_cond1 i = 1#1), ∀ a, (k0_off16 v267) a + S1x64x128.size a ≤ S5120x64x128.size a)
theorem k0_off16_inb : ∀ (i : grid0.Coords) (v267 : BitVec 32) (k0_hw16 : k0_chk16 i v267), ∀ (k0_h1 : k0_cond1 i = 1#1), ∀ a, (k0_off16 v267) a + S1x64x128.size a ≤ S5120x64x128.size a := fun i v267 k0_hw16 k0_h1 => k0_hw16 k0_h1

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32 : BitVec 32 := 1#32
  let v10 : BitVec 32 := Scalar.addi v1 c1_i32
  let c256_i32 : BitVec 32 := 256#32
  let v11 : BitVec 1 := Scalar.cmpi .slt v10 c256_i32
  let v12 : BitVec 32 := Scalar.extui v11
  let c0_i32_6 : BitVec 32 := 0#32
  let v13 : BitVec 1 := Scalar.cmpi .ne v12 c0_i32_6
  v13

def k0_off17 (i : grid0.Coords) (c0_i32_149 : BitVec 32) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_146 : BitVec 32 := 1#32
  let v252 : BitVec 32 := Scalar.addi v1 c1_i32_146
  let c16_i32_148 : BitVec 32 := 16#32
  let v254 : BitVec 32 := Scalar.muli v252 c16_i32_148
  let v255 : BitVec 32 := Scalar.addi v254 c0_i32_149
  let v256 : Index := Scalar.indexCast v255
  ![v256.toNat]
def k0_off18 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off19 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c0_i32_180 : BitVec 32 := 0#32
  let c0_i32_181 : BitVec 32 := 0#32
  let c0_i32_182 : BitVec 32 := 0#32
  ![v253.toNat, 0, 0, 0]
def k0_off20 (v257 : BitVec 32) : Fin 3 → Nat :=
  let c0_i32_183 : BitVec 32 := 0#32
  let c0_i32_184 : BitVec 32 := 0#32
  ![v257.toNat, 0, 0]

def k0_chk17 (i : grid0.Coords) (v257 : BitVec 32) : Prop :=
  (∀ (k0_h2 : k0_cond2 i = 1#1), ∀ a, (k0_off20 v257) a + S1x64x128.size a ≤ S5120x64x128.size a)
theorem k0_off20_inb : ∀ (i : grid0.Coords) (v257 : BitVec 32) (k0_hw17 : k0_chk17 i v257), ∀ (k0_h2 : k0_cond2 i = 1#1), ∀ a, (k0_off20 v257) a + S1x64x128.size a ≤ S5120x64x128.size a := fun i v257 k0_hw17 k0_h2 => k0_hw17 k0_h2

def k0_off21 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off22 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c1_i32_185 : BitVec 32 := 1#32
  let c0_i32_186 : BitVec 32 := 0#32
  let c0_i32_187 : BitVec 32 := 0#32
  ![v253.toNat, 1, 0, 0]
def k0_off23 (v261 : BitVec 32) : Fin 3 → Nat :=
  let c0_i32_188 : BitVec 32 := 0#32
  let c0_i32_189 : BitVec 32 := 0#32
  ![v261.toNat, 0, 0]

def k0_chk18 (i : grid0.Coords) (v261 : BitVec 32) : Prop :=
  (∀ (k0_h2 : k0_cond2 i = 1#1), ∀ a, (k0_off23 v261) a + S1x64x128.size a ≤ S5120x64x128.size a)
theorem k0_off23_inb : ∀ (i : grid0.Coords) (v261 : BitVec 32) (k0_hw18 : k0_chk18 i v261), ∀ (k0_h2 : k0_cond2 i = 1#1), ∀ a, (k0_off23 v261) a + S1x64x128.size a ≤ S5120x64x128.size a := fun i v261 k0_hw18 k0_h2 => k0_hw18 k0_h2

def k0_off24 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off25 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c2_i32_190 : BitVec 32 := 2#32
  let c0_i32_191 : BitVec 32 := 0#32
  let c0_i32_192 : BitVec 32 := 0#32
  ![v253.toNat, 2, 0, 0]
def k0_off26 (v265 : BitVec 32) : Fin 3 → Nat :=
  let c0_i32_193 : BitVec 32 := 0#32
  let c0_i32_194 : BitVec 32 := 0#32
  ![v265.toNat, 0, 0]

def k0_chk19 (i : grid0.Coords) (v265 : BitVec 32) : Prop :=
  (∀ (k0_h2 : k0_cond2 i = 1#1), ∀ a, (k0_off26 v265) a + S1x64x128.size a ≤ S5120x64x128.size a)
theorem k0_off26_inb : ∀ (i : grid0.Coords) (v265 : BitVec 32) (k0_hw19 : k0_chk19 i v265), ∀ (k0_h2 : k0_cond2 i = 1#1), ∀ a, (k0_off26 v265) a + S1x64x128.size a ≤ S5120x64x128.size a := fun i v265 k0_hw19 k0_h2 => k0_hw19 k0_h2

def k0_off27 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off28 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c3_i32_195 : BitVec 32 := 3#32
  let c0_i32_196 : BitVec 32 := 0#32
  let c0_i32_197 : BitVec 32 := 0#32
  ![v253.toNat, 3, 0, 0]
def k0_off29 (v269 : BitVec 32) : Fin 3 → Nat :=
  let c0_i32_198 : BitVec 32 := 0#32
  let c0_i32_199 : BitVec 32 := 0#32
  ![v269.toNat, 0, 0]

def k0_chk20 (i : grid0.Coords) (v269 : BitVec 32) : Prop :=
  (∀ (k0_h2 : k0_cond2 i = 1#1), ∀ a, (k0_off29 v269) a + S1x64x128.size a ≤ S5120x64x128.size a)
theorem k0_off29_inb : ∀ (i : grid0.Coords) (v269 : BitVec 32) (k0_hw20 : k0_chk20 i v269), ∀ (k0_h2 : k0_cond2 i = 1#1), ∀ a, (k0_off29 v269) a + S1x64x128.size a ≤ S5120x64x128.size a := fun i v269 k0_hw20 k0_h2 => k0_hw20 k0_h2

def k0_off30 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off31 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c4_i32_200 : BitVec 32 := 4#32
  let c0_i32_201 : BitVec 32 := 0#32
  let c0_i32_202 : BitVec 32 := 0#32
  ![v253.toNat, 4, 0, 0]
def k0_off32 (v273 : BitVec 32) : Fin 3 → Nat :=
  let c0_i32_203 : BitVec 32 := 0#32
  let c0_i32_204 : BitVec 32 := 0#32
  ![v273.toNat, 0, 0]

def k0_chk21 (i : grid0.Coords) (v273 : BitVec 32) : Prop :=
  (∀ (k0_h2 : k0_cond2 i = 1#1), ∀ a, (k0_off32 v273) a + S1x64x128.size a ≤ S5120x64x128.size a)
theorem k0_off32_inb : ∀ (i : grid0.Coords) (v273 : BitVec 32) (k0_hw21 : k0_chk21 i v273), ∀ (k0_h2 : k0_cond2 i = 1#1), ∀ a, (k0_off32 v273) a + S1x64x128.size a ≤ S5120x64x128.size a := fun i v273 k0_hw21 k0_h2 => k0_hw21 k0_h2

def k0_off33 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off34 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c5_i32_205 : BitVec 32 := 5#32
  let c0_i32_206 : BitVec 32 := 0#32
  let c0_i32_207 : BitVec 32 := 0#32
  ![v253.toNat, 5, 0, 0]
def k0_off35 (v277 : BitVec 32) : Fin 3 → Nat :=
  let c0_i32_208 : BitVec 32 := 0#32
  let c0_i32_209 : BitVec 32 := 0#32
  ![v277.toNat, 0, 0]

def k0_chk22 (i : grid0.Coords) (v277 : BitVec 32) : Prop :=
  (∀ (k0_h2 : k0_cond2 i = 1#1), ∀ a, (k0_off35 v277) a + S1x64x128.size a ≤ S5120x64x128.size a)
theorem k0_off35_inb : ∀ (i : grid0.Coords) (v277 : BitVec 32) (k0_hw22 : k0_chk22 i v277), ∀ (k0_h2 : k0_cond2 i = 1#1), ∀ a, (k0_off35 v277) a + S1x64x128.size a ≤ S5120x64x128.size a := fun i v277 k0_hw22 k0_h2 => k0_hw22 k0_h2

def k0_off36 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off37 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c6_i32_210 : BitVec 32 := 6#32
  let c0_i32_211 : BitVec 32 := 0#32
  let c0_i32_212 : BitVec 32 := 0#32
  ![v253.toNat, 6, 0, 0]
def k0_off38 (v281 : BitVec 32) : Fin 3 → Nat :=
  let c0_i32_213 : BitVec 32 := 0#32
  let c0_i32_214 : BitVec 32 := 0#32
  ![v281.toNat, 0, 0]

def k0_chk23 (i : grid0.Coords) (v281 : BitVec 32) : Prop :=
  (∀ (k0_h2 : k0_cond2 i = 1#1), ∀ a, (k0_off38 v281) a + S1x64x128.size a ≤ S5120x64x128.size a)
theorem k0_off38_inb : ∀ (i : grid0.Coords) (v281 : BitVec 32) (k0_hw23 : k0_chk23 i v281), ∀ (k0_h2 : k0_cond2 i = 1#1), ∀ a, (k0_off38 v281) a + S1x64x128.size a ≤ S5120x64x128.size a := fun i v281 k0_hw23 k0_h2 => k0_hw23 k0_h2

def k0_off39 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off40 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c7_i32_215 : BitVec 32 := 7#32
  let c0_i32_216 : BitVec 32 := 0#32
  let c0_i32_217 : BitVec 32 := 0#32
  ![v253.toNat, 7, 0, 0]
def k0_off41 (v285 : BitVec 32) : Fin 3 → Nat :=
  let c0_i32_218 : BitVec 32 := 0#32
  let c0_i32_219 : BitVec 32 := 0#32
  ![v285.toNat, 0, 0]

def k0_chk24 (i : grid0.Coords) (v285 : BitVec 32) : Prop :=
  (∀ (k0_h2 : k0_cond2 i = 1#1), ∀ a, (k0_off41 v285) a + S1x64x128.size a ≤ S5120x64x128.size a)
theorem k0_off41_inb : ∀ (i : grid0.Coords) (v285 : BitVec 32) (k0_hw24 : k0_chk24 i v285), ∀ (k0_h2 : k0_cond2 i = 1#1), ∀ a, (k0_off41 v285) a + S1x64x128.size a ≤ S5120x64x128.size a := fun i v285 k0_hw24 k0_h2 => k0_hw24 k0_h2

def k0_off42 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off43 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c8_i32_220 : BitVec 32 := 8#32
  let c0_i32_221 : BitVec 32 := 0#32
  let c0_i32_222 : BitVec 32 := 0#32
  ![v253.toNat, 8, 0, 0]
def k0_off44 (v289 : BitVec 32) : Fin 3 → Nat :=
  let c0_i32_223 : BitVec 32 := 0#32
  let c0_i32_224 : BitVec 32 := 0#32
  ![v289.toNat, 0, 0]

def k0_chk25 (i : grid0.Coords) (v289 : BitVec 32) : Prop :=
  (∀ (k0_h2 : k0_cond2 i = 1#1), ∀ a, (k0_off44 v289) a + S1x64x128.size a ≤ S5120x64x128.size a)
theorem k0_off44_inb : ∀ (i : grid0.Coords) (v289 : BitVec 32) (k0_hw25 : k0_chk25 i v289), ∀ (k0_h2 : k0_cond2 i = 1#1), ∀ a, (k0_off44 v289) a + S1x64x128.size a ≤ S5120x64x128.size a := fun i v289 k0_hw25 k0_h2 => k0_hw25 k0_h2

def k0_off45 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off46 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c9_i32_225 : BitVec 32 := 9#32
  let c0_i32_226 : BitVec 32 := 0#32
  let c0_i32_227 : BitVec 32 := 0#32
  ![v253.toNat, 9, 0, 0]
def k0_off47 (v293 : BitVec 32) : Fin 3 → Nat :=
  let c0_i32_228 : BitVec 32 := 0#32
  let c0_i32_229 : BitVec 32 := 0#32
  ![v293.toNat, 0, 0]

def k0_chk26 (i : grid0.Coords) (v293 : BitVec 32) : Prop :=
  (∀ (k0_h2 : k0_cond2 i = 1#1), ∀ a, (k0_off47 v293) a + S1x64x128.size a ≤ S5120x64x128.size a)
theorem k0_off47_inb : ∀ (i : grid0.Coords) (v293 : BitVec 32) (k0_hw26 : k0_chk26 i v293), ∀ (k0_h2 : k0_cond2 i = 1#1), ∀ a, (k0_off47 v293) a + S1x64x128.size a ≤ S5120x64x128.size a := fun i v293 k0_hw26 k0_h2 => k0_hw26 k0_h2

def k0_off48 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off49 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c10_i32_230 : BitVec 32 := 10#32
  let c0_i32_231 : BitVec 32 := 0#32
  let c0_i32_232 : BitVec 32 := 0#32
  ![v253.toNat, 10, 0, 0]
def k0_off50 (v297 : BitVec 32) : Fin 3 → Nat :=
  let c0_i32_233 : BitVec 32 := 0#32
  let c0_i32_234 : BitVec 32 := 0#32
  ![v297.toNat, 0, 0]

def k0_chk27 (i : grid0.Coords) (v297 : BitVec 32) : Prop :=
  (∀ (k0_h2 : k0_cond2 i = 1#1), ∀ a, (k0_off50 v297) a + S1x64x128.size a ≤ S5120x64x128.size a)
theorem k0_off50_inb : ∀ (i : grid0.Coords) (v297 : BitVec 32) (k0_hw27 : k0_chk27 i v297), ∀ (k0_h2 : k0_cond2 i = 1#1), ∀ a, (k0_off50 v297) a + S1x64x128.size a ≤ S5120x64x128.size a := fun i v297 k0_hw27 k0_h2 => k0_hw27 k0_h2

def k0_off51 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off52 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c11_i32_235 : BitVec 32 := 11#32
  let c0_i32_236 : BitVec 32 := 0#32
  let c0_i32_237 : BitVec 32 := 0#32
  ![v253.toNat, 11, 0, 0]
def k0_off53 (v301 : BitVec 32) : Fin 3 → Nat :=
  let c0_i32_238 : BitVec 32 := 0#32
  let c0_i32_239 : BitVec 32 := 0#32
  ![v301.toNat, 0, 0]

def k0_chk28 (i : grid0.Coords) (v301 : BitVec 32) : Prop :=
  (∀ (k0_h2 : k0_cond2 i = 1#1), ∀ a, (k0_off53 v301) a + S1x64x128.size a ≤ S5120x64x128.size a)
theorem k0_off53_inb : ∀ (i : grid0.Coords) (v301 : BitVec 32) (k0_hw28 : k0_chk28 i v301), ∀ (k0_h2 : k0_cond2 i = 1#1), ∀ a, (k0_off53 v301) a + S1x64x128.size a ≤ S5120x64x128.size a := fun i v301 k0_hw28 k0_h2 => k0_hw28 k0_h2

def k0_off54 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off55 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c12_i32_240 : BitVec 32 := 12#32
  let c0_i32_241 : BitVec 32 := 0#32
  let c0_i32_242 : BitVec 32 := 0#32
  ![v253.toNat, 12, 0, 0]
def k0_off56 (v305 : BitVec 32) : Fin 3 → Nat :=
  let c0_i32_243 : BitVec 32 := 0#32
  let c0_i32_244 : BitVec 32 := 0#32
  ![v305.toNat, 0, 0]

def k0_chk29 (i : grid0.Coords) (v305 : BitVec 32) : Prop :=
  (∀ (k0_h2 : k0_cond2 i = 1#1), ∀ a, (k0_off56 v305) a + S1x64x128.size a ≤ S5120x64x128.size a)
theorem k0_off56_inb : ∀ (i : grid0.Coords) (v305 : BitVec 32) (k0_hw29 : k0_chk29 i v305), ∀ (k0_h2 : k0_cond2 i = 1#1), ∀ a, (k0_off56 v305) a + S1x64x128.size a ≤ S5120x64x128.size a := fun i v305 k0_hw29 k0_h2 => k0_hw29 k0_h2

def k0_off57 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off58 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c13_i32_245 : BitVec 32 := 13#32
  let c0_i32_246 : BitVec 32 := 0#32
  let c0_i32_247 : BitVec 32 := 0#32
  ![v253.toNat, 13, 0, 0]
def k0_off59 (v309 : BitVec 32) : Fin 3 → Nat :=
  let c0_i32_248 : BitVec 32 := 0#32
  let c0_i32_249 : BitVec 32 := 0#32
  ![v309.toNat, 0, 0]

def k0_chk30 (i : grid0.Coords) (v309 : BitVec 32) : Prop :=
  (∀ (k0_h2 : k0_cond2 i = 1#1), ∀ a, (k0_off59 v309) a + S1x64x128.size a ≤ S5120x64x128.size a)
theorem k0_off59_inb : ∀ (i : grid0.Coords) (v309 : BitVec 32) (k0_hw30 : k0_chk30 i v309), ∀ (k0_h2 : k0_cond2 i = 1#1), ∀ a, (k0_off59 v309) a + S1x64x128.size a ≤ S5120x64x128.size a := fun i v309 k0_hw30 k0_h2 => k0_hw30 k0_h2

def k0_off60 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off61 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c14_i32_250 : BitVec 32 := 14#32
  let c0_i32_251 : BitVec 32 := 0#32
  let c0_i32_252 : BitVec 32 := 0#32
  ![v253.toNat, 14, 0, 0]
def k0_off62 (v313 : BitVec 32) : Fin 3 → Nat :=
  let c0_i32_253 : BitVec 32 := 0#32
  let c0_i32_254 : BitVec 32 := 0#32
  ![v313.toNat, 0, 0]

def k0_chk31 (i : grid0.Coords) (v313 : BitVec 32) : Prop :=
  (∀ (k0_h2 : k0_cond2 i = 1#1), ∀ a, (k0_off62 v313) a + S1x64x128.size a ≤ S5120x64x128.size a)
theorem k0_off62_inb : ∀ (i : grid0.Coords) (v313 : BitVec 32) (k0_hw31 : k0_chk31 i v313), ∀ (k0_h2 : k0_cond2 i = 1#1), ∀ a, (k0_off62 v313) a + S1x64x128.size a ≤ S5120x64x128.size a := fun i v313 k0_hw31 k0_h2 => k0_hw31 k0_h2

def k0_off63 (i : grid0.Coords) : Fin 1 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  ![v253.toNat]
def k0_off64 (i : grid0.Coords) : Fin 4 → Nat :=
  let c1_i32_147 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v253 : BitVec 32 := Scalar.subi c1_i32_147 v2
  let c15_i32_255 : BitVec 32 := 15#32
  let c0_i32_256 : BitVec 32 := 0#32
  let c0_i32_257 : BitVec 32 := 0#32
  ![v253.toNat, 15, 0, 0]
def k0_off65 (v317 : BitVec 32) : Fin 3 → Nat :=
  let c0_i32_258 : BitVec 32 := 0#32
  let c0_i32_259 : BitVec 32 := 0#32
  ![v317.toNat, 0, 0]

def k0_chk32 (i : grid0.Coords) (v317 : BitVec 32) : Prop :=
  (∀ (k0_h2 : k0_cond2 i = 1#1), ∀ a, (k0_off65 v317) a + S1x64x128.size a ≤ S5120x64x128.size a)
theorem k0_off65_inb : ∀ (i : grid0.Coords) (v317 : BitVec 32) (k0_hw32 : k0_chk32 i v317), ∀ (k0_h2 : k0_cond2 i = 1#1), ∀ a, (k0_off65 v317) a + S1x64x128.size a ≤ S5120x64x128.size a := fun i v317 k0_hw32 k0_h2 => k0_hw32 k0_h2

def k0_off66 (i : grid0.Coords) (c0_i32_7 : BitVec 32) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c16_i32 : BitVec 32 := 16#32
  let v14 : BitVec 32 := Scalar.muli v1 c16_i32
  let v15 : BitVec 32 := Scalar.addi v14 c0_i32_7
  let v16 : Index := Scalar.indexCast v15
  ![v16.toNat]
def k0_off67 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off68 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_26 : BitVec 32 := 0#32
  let c0_i32_27 : BitVec 32 := 0#32
  let c0_i32_28 : BitVec 32 := 0#32
  ![v2.toNat, 0, 0, 0]
def k0_off69 (v17 : BitVec 32) : Fin 3 → Nat :=
  let c0_i32_29 : BitVec 32 := 0#32
  let c0_i32_30 : BitVec 32 := 0#32
  ![v17.toNat, 0, 0]

def k0_chk33 (v17 : BitVec 32) : Prop :=
  (∀ a, (k0_off69 v17) a + S1x64x128.size a ≤ S5120x64x128.size a)
theorem k0_off69_inb : ∀ (v17 : BitVec 32) (k0_hw33 : k0_chk33 v17), ∀ a, (k0_off69 v17) a + S1x64x128.size a ≤ S5120x64x128.size a := fun v17 k0_hw33 => k0_hw33

def k0_off70 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off71 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c1_i32_31 : BitVec 32 := 1#32
  let c0_i32_32 : BitVec 32 := 0#32
  let c0_i32_33 : BitVec 32 := 0#32
  ![v2.toNat, 1, 0, 0]
def k0_off72 (v21 : BitVec 32) : Fin 3 → Nat :=
  let c0_i32_34 : BitVec 32 := 0#32
  let c0_i32_35 : BitVec 32 := 0#32
  ![v21.toNat, 0, 0]

def k0_chk34 (v21 : BitVec 32) : Prop :=
  (∀ a, (k0_off72 v21) a + S1x64x128.size a ≤ S5120x64x128.size a)
theorem k0_off72_inb : ∀ (v21 : BitVec 32) (k0_hw34 : k0_chk34 v21), ∀ a, (k0_off72 v21) a + S1x64x128.size a ≤ S5120x64x128.size a := fun v21 k0_hw34 => k0_hw34

def k0_off73 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off74 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c2_i32_36 : BitVec 32 := 2#32
  let c0_i32_37 : BitVec 32 := 0#32
  let c0_i32_38 : BitVec 32 := 0#32
  ![v2.toNat, 2, 0, 0]
def k0_off75 (v25 : BitVec 32) : Fin 3 → Nat :=
  let c0_i32_39 : BitVec 32 := 0#32
  let c0_i32_40 : BitVec 32 := 0#32
  ![v25.toNat, 0, 0]

def k0_chk35 (v25 : BitVec 32) : Prop :=
  (∀ a, (k0_off75 v25) a + S1x64x128.size a ≤ S5120x64x128.size a)
theorem k0_off75_inb : ∀ (v25 : BitVec 32) (k0_hw35 : k0_chk35 v25), ∀ a, (k0_off75 v25) a + S1x64x128.size a ≤ S5120x64x128.size a := fun v25 k0_hw35 => k0_hw35

def k0_off76 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off77 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c3_i32_41 : BitVec 32 := 3#32
  let c0_i32_42 : BitVec 32 := 0#32
  let c0_i32_43 : BitVec 32 := 0#32
  ![v2.toNat, 3, 0, 0]
def k0_off78 (v29 : BitVec 32) : Fin 3 → Nat :=
  let c0_i32_44 : BitVec 32 := 0#32
  let c0_i32_45 : BitVec 32 := 0#32
  ![v29.toNat, 0, 0]

def k0_chk36 (v29 : BitVec 32) : Prop :=
  (∀ a, (k0_off78 v29) a + S1x64x128.size a ≤ S5120x64x128.size a)
theorem k0_off78_inb : ∀ (v29 : BitVec 32) (k0_hw36 : k0_chk36 v29), ∀ a, (k0_off78 v29) a + S1x64x128.size a ≤ S5120x64x128.size a := fun v29 k0_hw36 => k0_hw36

def k0_off79 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off80 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c4_i32_46 : BitVec 32 := 4#32
  let c0_i32_47 : BitVec 32 := 0#32
  let c0_i32_48 : BitVec 32 := 0#32
  ![v2.toNat, 4, 0, 0]
def k0_off81 (v33 : BitVec 32) : Fin 3 → Nat :=
  let c0_i32_49 : BitVec 32 := 0#32
  let c0_i32_50 : BitVec 32 := 0#32
  ![v33.toNat, 0, 0]

def k0_chk37 (v33 : BitVec 32) : Prop :=
  (∀ a, (k0_off81 v33) a + S1x64x128.size a ≤ S5120x64x128.size a)
theorem k0_off81_inb : ∀ (v33 : BitVec 32) (k0_hw37 : k0_chk37 v33), ∀ a, (k0_off81 v33) a + S1x64x128.size a ≤ S5120x64x128.size a := fun v33 k0_hw37 => k0_hw37

def k0_off82 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off83 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c5_i32_51 : BitVec 32 := 5#32
  let c0_i32_52 : BitVec 32 := 0#32
  let c0_i32_53 : BitVec 32 := 0#32
  ![v2.toNat, 5, 0, 0]
def k0_off84 (v37 : BitVec 32) : Fin 3 → Nat :=
  let c0_i32_54 : BitVec 32 := 0#32
  let c0_i32_55 : BitVec 32 := 0#32
  ![v37.toNat, 0, 0]

def k0_chk38 (v37 : BitVec 32) : Prop :=
  (∀ a, (k0_off84 v37) a + S1x64x128.size a ≤ S5120x64x128.size a)
theorem k0_off84_inb : ∀ (v37 : BitVec 32) (k0_hw38 : k0_chk38 v37), ∀ a, (k0_off84 v37) a + S1x64x128.size a ≤ S5120x64x128.size a := fun v37 k0_hw38 => k0_hw38

def k0_off85 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off86 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c6_i32_56 : BitVec 32 := 6#32
  let c0_i32_57 : BitVec 32 := 0#32
  let c0_i32_58 : BitVec 32 := 0#32
  ![v2.toNat, 6, 0, 0]
def k0_off87 (v41 : BitVec 32) : Fin 3 → Nat :=
  let c0_i32_59 : BitVec 32 := 0#32
  let c0_i32_60 : BitVec 32 := 0#32
  ![v41.toNat, 0, 0]

def k0_chk39 (v41 : BitVec 32) : Prop :=
  (∀ a, (k0_off87 v41) a + S1x64x128.size a ≤ S5120x64x128.size a)
theorem k0_off87_inb : ∀ (v41 : BitVec 32) (k0_hw39 : k0_chk39 v41), ∀ a, (k0_off87 v41) a + S1x64x128.size a ≤ S5120x64x128.size a := fun v41 k0_hw39 => k0_hw39

def k0_off88 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off89 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c7_i32_61 : BitVec 32 := 7#32
  let c0_i32_62 : BitVec 32 := 0#32
  let c0_i32_63 : BitVec 32 := 0#32
  ![v2.toNat, 7, 0, 0]
def k0_off90 (v45 : BitVec 32) : Fin 3 → Nat :=
  let c0_i32_64 : BitVec 32 := 0#32
  let c0_i32_65 : BitVec 32 := 0#32
  ![v45.toNat, 0, 0]

def k0_chk40 (v45 : BitVec 32) : Prop :=
  (∀ a, (k0_off90 v45) a + S1x64x128.size a ≤ S5120x64x128.size a)
theorem k0_off90_inb : ∀ (v45 : BitVec 32) (k0_hw40 : k0_chk40 v45), ∀ a, (k0_off90 v45) a + S1x64x128.size a ≤ S5120x64x128.size a := fun v45 k0_hw40 => k0_hw40

def k0_off91 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off92 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c8_i32_66 : BitVec 32 := 8#32
  let c0_i32_67 : BitVec 32 := 0#32
  let c0_i32_68 : BitVec 32 := 0#32
  ![v2.toNat, 8, 0, 0]
def k0_off93 (v49 : BitVec 32) : Fin 3 → Nat :=
  let c0_i32_69 : BitVec 32 := 0#32
  let c0_i32_70 : BitVec 32 := 0#32
  ![v49.toNat, 0, 0]

def k0_chk41 (v49 : BitVec 32) : Prop :=
  (∀ a, (k0_off93 v49) a + S1x64x128.size a ≤ S5120x64x128.size a)
theorem k0_off93_inb : ∀ (v49 : BitVec 32) (k0_hw41 : k0_chk41 v49), ∀ a, (k0_off93 v49) a + S1x64x128.size a ≤ S5120x64x128.size a := fun v49 k0_hw41 => k0_hw41

def k0_off94 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off95 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c9_i32_71 : BitVec 32 := 9#32
  let c0_i32_72 : BitVec 32 := 0#32
  let c0_i32_73 : BitVec 32 := 0#32
  ![v2.toNat, 9, 0, 0]
def k0_off96 (v53 : BitVec 32) : Fin 3 → Nat :=
  let c0_i32_74 : BitVec 32 := 0#32
  let c0_i32_75 : BitVec 32 := 0#32
  ![v53.toNat, 0, 0]

def k0_chk42 (v53 : BitVec 32) : Prop :=
  (∀ a, (k0_off96 v53) a + S1x64x128.size a ≤ S5120x64x128.size a)
theorem k0_off96_inb : ∀ (v53 : BitVec 32) (k0_hw42 : k0_chk42 v53), ∀ a, (k0_off96 v53) a + S1x64x128.size a ≤ S5120x64x128.size a := fun v53 k0_hw42 => k0_hw42

def k0_off97 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off98 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c10_i32_76 : BitVec 32 := 10#32
  let c0_i32_77 : BitVec 32 := 0#32
  let c0_i32_78 : BitVec 32 := 0#32
  ![v2.toNat, 10, 0, 0]
def k0_off99 (v57 : BitVec 32) : Fin 3 → Nat :=
  let c0_i32_79 : BitVec 32 := 0#32
  let c0_i32_80 : BitVec 32 := 0#32
  ![v57.toNat, 0, 0]

def k0_chk43 (v57 : BitVec 32) : Prop :=
  (∀ a, (k0_off99 v57) a + S1x64x128.size a ≤ S5120x64x128.size a)
theorem k0_off99_inb : ∀ (v57 : BitVec 32) (k0_hw43 : k0_chk43 v57), ∀ a, (k0_off99 v57) a + S1x64x128.size a ≤ S5120x64x128.size a := fun v57 k0_hw43 => k0_hw43

def k0_off100 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off101 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c11_i32_81 : BitVec 32 := 11#32
  let c0_i32_82 : BitVec 32 := 0#32
  let c0_i32_83 : BitVec 32 := 0#32
  ![v2.toNat, 11, 0, 0]
def k0_off102 (v61 : BitVec 32) : Fin 3 → Nat :=
  let c0_i32_84 : BitVec 32 := 0#32
  let c0_i32_85 : BitVec 32 := 0#32
  ![v61.toNat, 0, 0]

def k0_chk44 (v61 : BitVec 32) : Prop :=
  (∀ a, (k0_off102 v61) a + S1x64x128.size a ≤ S5120x64x128.size a)
theorem k0_off102_inb : ∀ (v61 : BitVec 32) (k0_hw44 : k0_chk44 v61), ∀ a, (k0_off102 v61) a + S1x64x128.size a ≤ S5120x64x128.size a := fun v61 k0_hw44 => k0_hw44

def k0_off103 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off104 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c12_i32_86 : BitVec 32 := 12#32
  let c0_i32_87 : BitVec 32 := 0#32
  let c0_i32_88 : BitVec 32 := 0#32
  ![v2.toNat, 12, 0, 0]
def k0_off105 (v65 : BitVec 32) : Fin 3 → Nat :=
  let c0_i32_89 : BitVec 32 := 0#32
  let c0_i32_90 : BitVec 32 := 0#32
  ![v65.toNat, 0, 0]

def k0_chk45 (v65 : BitVec 32) : Prop :=
  (∀ a, (k0_off105 v65) a + S1x64x128.size a ≤ S5120x64x128.size a)
theorem k0_off105_inb : ∀ (v65 : BitVec 32) (k0_hw45 : k0_chk45 v65), ∀ a, (k0_off105 v65) a + S1x64x128.size a ≤ S5120x64x128.size a := fun v65 k0_hw45 => k0_hw45

def k0_off106 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off107 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c13_i32_91 : BitVec 32 := 13#32
  let c0_i32_92 : BitVec 32 := 0#32
  let c0_i32_93 : BitVec 32 := 0#32
  ![v2.toNat, 13, 0, 0]
def k0_off108 (v69 : BitVec 32) : Fin 3 → Nat :=
  let c0_i32_94 : BitVec 32 := 0#32
  let c0_i32_95 : BitVec 32 := 0#32
  ![v69.toNat, 0, 0]

def k0_chk46 (v69 : BitVec 32) : Prop :=
  (∀ a, (k0_off108 v69) a + S1x64x128.size a ≤ S5120x64x128.size a)
theorem k0_off108_inb : ∀ (v69 : BitVec 32) (k0_hw46 : k0_chk46 v69), ∀ a, (k0_off108 v69) a + S1x64x128.size a ≤ S5120x64x128.size a := fun v69 k0_hw46 => k0_hw46

def k0_off109 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off110 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c14_i32_96 : BitVec 32 := 14#32
  let c0_i32_97 : BitVec 32 := 0#32
  let c0_i32_98 : BitVec 32 := 0#32
  ![v2.toNat, 14, 0, 0]
def k0_off111 (v73 : BitVec 32) : Fin 3 → Nat :=
  let c0_i32_99 : BitVec 32 := 0#32
  let c0_i32_100 : BitVec 32 := 0#32
  ![v73.toNat, 0, 0]

def k0_chk47 (v73 : BitVec 32) : Prop :=
  (∀ a, (k0_off111 v73) a + S1x64x128.size a ≤ S5120x64x128.size a)
theorem k0_off111_inb : ∀ (v73 : BitVec 32) (k0_hw47 : k0_chk47 v73), ∀ a, (k0_off111 v73) a + S1x64x128.size a ≤ S5120x64x128.size a := fun v73 k0_hw47 => k0_hw47

def k0_off112 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off113 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c15_i32_101 : BitVec 32 := 15#32
  let c0_i32_102 : BitVec 32 := 0#32
  let c0_i32_103 : BitVec 32 := 0#32
  ![v2.toNat, 15, 0, 0]
def k0_off114 (v77 : BitVec 32) : Fin 3 → Nat :=
  let c0_i32_104 : BitVec 32 := 0#32
  let c0_i32_105 : BitVec 32 := 0#32
  ![v77.toNat, 0, 0]

def k0_chk48 (v77 : BitVec 32) : Prop :=
  (∀ a, (k0_off114 v77) a + S1x64x128.size a ≤ S5120x64x128.size a)
theorem k0_off114_inb : ∀ (v77 : BitVec 32) (k0_hw48 : k0_chk48 v77), ∀ a, (k0_off114 v77) a + S1x64x128.size a ≤ S5120x64x128.size a := fun v77 k0_hw48 => k0_hw48

def k0_off115 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v174 : Index := Scalar.indexCast v2
  let c0_106 : Index := 0#32
  let c0_107 : Index := 0#32
  let c0_108 : Index := 0#32
  ![v174.toNat, 0, 0, 0]
def k0_off116 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v178 : Index := Scalar.indexCast v2
  let c1 : Index := 1#32
  let c0_109 : Index := 0#32
  let c0_110 : Index := 0#32
  ![v178.toNat, 1, 0, 0]
def k0_off117 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v182 : Index := Scalar.indexCast v2
  let c2 : Index := 2#32
  let c0_111 : Index := 0#32
  let c0_112 : Index := 0#32
  ![v182.toNat, 2, 0, 0]
def k0_off118 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v186 : Index := Scalar.indexCast v2
  let c3 : Index := 3#32
  let c0_113 : Index := 0#32
  let c0_114 : Index := 0#32
  ![v186.toNat, 3, 0, 0]
def k0_off119 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v190 : Index := Scalar.indexCast v2
  let c4 : Index := 4#32
  let c0_115 : Index := 0#32
  let c0_116 : Index := 0#32
  ![v190.toNat, 4, 0, 0]
def k0_off120 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v194 : Index := Scalar.indexCast v2
  let c5 : Index := 5#32
  let c0_117 : Index := 0#32
  let c0_118 : Index := 0#32
  ![v194.toNat, 5, 0, 0]
def k0_off121 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v198 : Index := Scalar.indexCast v2
  let c6 : Index := 6#32
  let c0_119 : Index := 0#32
  let c0_120 : Index := 0#32
  ![v198.toNat, 6, 0, 0]
def k0_off122 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v202 : Index := Scalar.indexCast v2
  let c7 : Index := 7#32
  let c0_121 : Index := 0#32
  let c0_122 : Index := 0#32
  ![v202.toNat, 7, 0, 0]
def k0_off123 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v206 : Index := Scalar.indexCast v2
  let c8 : Index := 8#32
  let c0_123 : Index := 0#32
  let c0_124 : Index := 0#32
  ![v206.toNat, 8, 0, 0]
def k0_off124 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v210 : Index := Scalar.indexCast v2
  let c9 : Index := 9#32
  let c0_125 : Index := 0#32
  let c0_126 : Index := 0#32
  ![v210.toNat, 9, 0, 0]
def k0_off125 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v214 : Index := Scalar.indexCast v2
  let c10 : Index := 10#32
  let c0_127 : Index := 0#32
  let c0_128 : Index := 0#32
  ![v214.toNat, 10, 0, 0]
def k0_off126 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v218 : Index := Scalar.indexCast v2
  let c11 : Index := 11#32
  let c0_129 : Index := 0#32
  let c0_130 : Index := 0#32
  ![v218.toNat, 11, 0, 0]
def k0_off127 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v222 : Index := Scalar.indexCast v2
  let c12 : Index := 12#32
  let c0_131 : Index := 0#32
  let c0_132 : Index := 0#32
  ![v222.toNat, 12, 0, 0]
def k0_off128 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v226 : Index := Scalar.indexCast v2
  let c13 : Index := 13#32
  let c0_133 : Index := 0#32
  let c0_134 : Index := 0#32
  ![v226.toNat, 13, 0, 0]
def k0_off129 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v230 : Index := Scalar.indexCast v2
  let c14 : Index := 14#32
  let c0_135 : Index := 0#32
  let c0_136 : Index := 0#32
  ![v230.toNat, 14, 0, 0]
def k0_off130 (i : grid0.Coords) : Fin 4 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v234 : Index := Scalar.indexCast v2
  let c15 : Index := 15#32
  let c0_137 : Index := 0#32
  let c0_138 : Index := 0#32
  ![v234.toNat, 15, 0, 0]
def k0_cond3 (i : grid0.Coords) : BitVec 1 :=
  let arg1 : BitVec 32 := BitVec.ofNat 32 (i 1).val
  let c0_i32_144 : BitVec 32 := 0#32
  let v249 : BitVec 1 := Scalar.cmpi .eq arg1 c0_i32_144
  let v250 : BitVec 32 := Scalar.extui v249
  let c0_i32_145 : BitVec 32 := 0#32
  let v251 : BitVec 1 := Scalar.cmpi .ne v250 c0_i32_145
  v251

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S32x128 : Shape := ⟨2, ![32, 128]⟩
abbrev S32x4x16x64 : Shape := ⟨4, ![32, 4, 16, 64]⟩
abbrev S32x4x16 : Shape := ⟨3, ![32, 4, 16]⟩
abbrev S32x4x64 : Shape := ⟨3, ![32, 4, 64]⟩
abbrev S5120x128x64 : Shape := ⟨3, ![5120, 128, 64]⟩
abbrev S_ : Shape := ⟨0, ![]⟩
abbrev S32x128x1 : Shape := ⟨3, ![32, 128, 1]⟩
abbrev S32x128x128x64 : Shape := ⟨4, ![32, 128, 128, 64]⟩
abbrev S32x16384x64 : Shape := ⟨3, ![32, 16384, 64]⟩
abbrev S32x16388x64 : Shape := ⟨3, ![32, 16388, 64]⟩
abbrev S4 : Shape := ⟨1, ![4]⟩
abbrev S32x4x16x16388 : Shape := ⟨4, ![32, 4, 16, 16388]⟩
abbrev S32x4x16388 : Shape := ⟨3, ![32, 4, 16388]⟩
abbrev S16388 : Shape := ⟨1, ![16388]⟩
abbrev S1x16388 : Shape := ⟨2, ![1, 16388]⟩
abbrev S4x1 : Shape := ⟨2, ![4, 1]⟩
abbrev S4x16388 : Shape := ⟨2, ![4, 16388]⟩
abbrev S1x4x16388 : Shape := ⟨3, ![1, 4, 16388]⟩
abbrev S32x4x16512 : Shape := ⟨3, ![32, 4, 16512]⟩

abbrev nBuf : Space → Nat
  | .hbm => 46
  | .vmem => 0
  | .smem => 0
  | _ => 0

abbrev bufTy : (tb : Table) → Fin (tcTables nBuf tb) → BufTy
  | .hbm, ⟨0, _⟩ => ⟨S32x128, .i32⟩
  | .hbm, ⟨1, _⟩ => ⟨S32x4x16x64, .f32⟩
  | .hbm, ⟨2, _⟩ => ⟨S32x4x16, .f32⟩
  | .hbm, ⟨3, _⟩ => ⟨S32x4x64, .f32⟩
  | .hbm, ⟨4, _⟩ => ⟨S5120x128x64, .f32⟩
  | .hbm, ⟨5, _⟩ => ⟨S_, .f32⟩
  | .hbm, ⟨6, _⟩ => ⟨S32x4x16, .f32⟩
  | .hbm, ⟨7, _⟩ => ⟨S32x4x16, .f32⟩
  | .hbm, ⟨8, _⟩ => ⟨S_, .i32⟩
  | .hbm, ⟨9, _⟩ => ⟨S32x128, .i32⟩
  | .hbm, ⟨10, _⟩ => ⟨S32x128, .i1⟩
  | .hbm, ⟨11, _⟩ => ⟨S_, .i32⟩
  | .hbm, ⟨12, _⟩ => ⟨S32x128, .i32⟩
  | .hbm, ⟨13, _⟩ => ⟨S32x128, .i32⟩
  | .hbm, ⟨14, _⟩ => ⟨S32x128, .i32⟩
  | .hbm, ⟨15, _⟩ => ⟨S32x128x1, .i32⟩
  | .hbm, ⟨16, _⟩ => ⟨S32x128x128x64, .f32⟩
  | .hbm, ⟨17, _⟩ => ⟨S32x16384x64, .f32⟩
  | .hbm, ⟨18, _⟩ => ⟨S32x16388x64, .f32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S32x4x16x16388, .f32⟩
  | .hbm, ⟨24, _⟩ => ⟨S_, .f32⟩
  | .hbm, ⟨25, _⟩ => ⟨S32x4x16x16388, .f32⟩
  | .hbm, ⟨26, _⟩ => ⟨S32x4x16x16388, .f32⟩
  | .hbm, ⟨27, _⟩ => ⟨S_, .f32⟩
  | .hbm, ⟨28, _⟩ => ⟨S32x4x16x16388, .f32⟩
  | .hbm, ⟨29, _⟩ => ⟨S32x4x16x16388, .f32⟩
  | .hbm, ⟨30, _⟩ => ⟨S32x4x16388, .f32⟩
  | .hbm, ⟨31, _⟩ => ⟨S16388, .i32⟩
  | .hbm, ⟨32, _⟩ => ⟨S1x16388, .i32⟩
  | .hbm, ⟨33, _⟩ => ⟨S4x1, .i32⟩
  | .hbm, ⟨34, _⟩ => ⟨S4x16388, .i32⟩
  | .hbm, ⟨35, _⟩ => ⟨S4x16388, .i32⟩
  | .hbm, ⟨36, _⟩ => ⟨S4x16388, .i1⟩
  | .hbm, ⟨37, _⟩ => ⟨S1x4x16388, .i1⟩
  | .hbm, ⟨38, _⟩ => ⟨S_, .f32⟩
  | .hbm, ⟨39, _⟩ => ⟨S_, .f32⟩
  | .hbm, ⟨40, _⟩ => ⟨S32x4x16388, .i1⟩
  | .hbm, ⟨41, _⟩ => ⟨S32x4x16388, .f32⟩
  | .hbm, ⟨42, _⟩ => ⟨S32x4x16388, .f32⟩
  | .hbm, ⟨43, _⟩ => ⟨S_, .f32⟩
  | .hbm, ⟨44, _⟩ => ⟨S_, .f32⟩
  | .hbm, ⟨45, _⟩ => ⟨S32x4x16512, .f32⟩
  | _, _ => ⟨S32x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v26 : Ref sig .tc := ⟨.hbm, 42, rfl⟩
abbrev main_cst_4 : Ref sig .tc := ⟨.hbm, 43, rfl⟩
abbrev main_call2_v0 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel2.lean ====
abbrev S4x4096x2048 : Shape := ⟨3, ![4, 4096, 2048]⟩
abbrev S1x2048x5632 : Shape := ⟨3, ![1, 2048, 5632]⟩
abbrev S16384x2048 : Shape := ⟨2, ![16384, 2048]⟩
abbrev S2048x5632 : Shape := ⟨2, ![2048, 5632]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048x5632, .f32⟩
  | .hbm, ⟨2, _⟩ => ⟨S1x2048x5632, .f32⟩
  | .hbm, ⟨3, _⟩ => ⟨S16384x2048, .f32⟩
  | .hbm, ⟨4, _⟩ => ⟨S16384x2048, .bf16⟩
  | .hbm, ⟨5, _⟩ => ⟨S2048x5632, .f32⟩
  | .hbm, ⟨6, _⟩ => ⟨S2048x5632, .bf16⟩
  | .hbm, ⟨7, _⟩ => ⟨S2048x5632, .f32⟩
  | .hbm, ⟨8, _⟩ => ⟨S2048x5632, .bf16⟩
  | .hbm, ⟨9, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S1x2048x5632 : Shape := ⟨3, ![1, 2048, 5632]⟩
abbrev S2048x5632 : Shape := ⟨2, ![2048, 5632]⟩
abbrev S4x4096x5632 : Shape := ⟨3, ![4, 4096, 5632]⟩
abbrev S_ : Shape := ⟨0, ![]⟩
abbrev S16384x5632 : Shape := ⟨2, ![16384, 5632]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x5632, .f32⟩
  | .hbm, ⟨2, _⟩ => ⟨S1x2048x5632, .f32⟩
  | .hbm, ⟨3, _⟩ => ⟨S2048x5632, .f32⟩
  | .hbm, ⟨4, _⟩ => ⟨S4x4096x5632, .f32⟩
  | .hbm, ⟨5, _⟩ => ⟨S4x4096x5632, .f32⟩
  | .hbm, ⟨6, _⟩ => ⟨S4x4096x5632, .f32⟩
  | .hbm, ⟨7, _⟩ => ⟨S_, .f32⟩
  | .hbm, ⟨8, _⟩ => ⟨S4x4096x5632, .f32⟩
  | .hbm, ⟨9, _⟩ => ⟨S4x4096x5632, .f32⟩
  | .hbm, ⟨10, _⟩ => ⟨S_, .f32⟩
  | .hbm, ⟨11, _⟩ => ⟨S4x4096x5632, .f32⟩
  | .hbm, ⟨12, _⟩ => ⟨S4x4096x5632, .f32⟩
  | .hbm, ⟨13, _⟩ => ⟨S4x4096x5632, .f32⟩
  | .hbm, ⟨14, _⟩ => ⟨S2048x5632, .f32⟩
  | .hbm, ⟨15, _⟩ => ⟨S4x4096x5632, .f32⟩
  | .hbm, ⟨16, _⟩ => ⟨S4x4096x5632, .f32⟩
  | .hbm, ⟨17, _⟩ => ⟨S16384x5632, .f32⟩
  | .hbm, ⟨18, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel4.lean ====
abbrev S4x4096x2048 : Shape := ⟨3, ![4, 4096, 2048]⟩
abbrev S1x2048 : Shape := ⟨2, ![1, 2048]⟩
abbrev S1x2048x4688 : Shape := ⟨3, ![1, 2048, 4688]⟩
abbrev S2048x4688 : Shape := ⟨2, ![2048, 4688]⟩
abbrev S16384x2048 : Shape := ⟨2, ![16384, 2048]⟩
abbrev S2048 : Shape := ⟨1, ![2048]⟩
abbrev S2048x1024 : Shape := ⟨2, ![2048, 1024]⟩
abbrev S16384x1024 : Shape := ⟨2, ![16384, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x4688, .f32⟩
  | .hbm, ⟨3, _⟩ => ⟨S2048x4688, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x4096x2048 : Shape := ⟨3, ![4, 4096, 2048]⟩
abbrev S1x2048 : Shape := ⟨2, ![1, 2048]⟩
abbrev S1x2048x4688 : Shape := ⟨3, ![1, 2048, 4688]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x4688 : Shape := ⟨2, ![2048, 4688]⟩
abbrev S4x4096x4688 : Shape := ⟨3, ![4, 4096, 4688]⟩
abbrev S4x4096x1024 : Shape := ⟨3, ![4, 4096, 1024]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x4688, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x4688, .f32⟩
  | .hbm, ⟨21, _⟩ => ⟨S4x4096x4688, .f32⟩
  | .hbm, ⟨22, _⟩ => ⟨S4x4096x2048, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S16384x1024, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel5.lean ====
abbrev S4x4096x2048 : Shape := ⟨3, ![4, 4096, 2048]⟩
abbrev S1x2048 : Shape := ⟨2, ![1, 2048]⟩
abbrev S1x2048x4688 : Shape := ⟨3, ![1, 2048, 4688]⟩
abbrev S2048x4688 : Shape := ⟨2, ![2048, 4688]⟩
abbrev S_ : Shape := ⟨0, ![]⟩
abbrev S2048x48 : Shape := ⟨2, ![2048, 48]⟩
abbrev S2048x2640 : Shape := ⟨2, ![2048, 2640]⟩
abbrev S2048x2688 : Shape := ⟨2, ![2048, 2688]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S32 : Shape := ⟨1, ![32]⟩
abbrev S1x32 : Shape := ⟨2, ![1, 32]⟩
abbrev S4096x32 : Shape := ⟨2, ![4096, 32]⟩
abbrev S1x4096x1x64 : Shape := ⟨4, ![1, 4096, 1, 64]⟩
abbrev S1x4096x2x64 : Shape := ⟨4, ![1, 4096, 2, 64]⟩
abbrev S16384x2048 : Shape := ⟨2, ![16384, 2048]⟩
abbrev S2048 : Shape := ⟨1, ![2048]⟩
abbrev S16384x1024 : Shape := ⟨2, ![16384, 1024]⟩
abbrev S16384x256 : Shape := ⟨2, ![16384, 256]⟩
abbrev S16x16384x64 : Shape := ⟨3, ![16, 16384, 64]⟩
abbrev S16384x64 : Shape := ⟨2, ![16384, 64]⟩
abbrev S16384x16 : Shape := ⟨2, ![16384, 16]⟩
abbrev S256x2048 : Shape := ⟨2, ![256, 2048]⟩
abbrev S256x128 : Shape := ⟨2, ![256, 128]⟩
abbrev S256x1024 : Shape := ⟨2, ![256, 1024]⟩
abbrev S256x256 : Shape := ⟨2, ![256, 256]⟩
abbrev S16x256x64 : Shape := ⟨3, ![16, 256, 64]⟩
abbrev S256x64 : Shape := ⟨2, ![256, 64]⟩
abbrev S256x16 : Shape := ⟨2, ![256, 16]⟩
abbrev S256 : Shape := ⟨1, ![256]⟩
abbrev S256x1 : Shape := ⟨2, ![256, 1]⟩
abbrev S256x2688 : Shape := ⟨2, ![256, 2688]⟩
abbrev S1x256x64 : Shape := ⟨3, ![1, 256, 64]⟩

abbrev nBuf : Space → Nat
  | .hbm => 70
  | .vmem => 30
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x4688, .f32⟩
  | .hbm, ⟨3, _⟩ => ⟨S2048x4688, .f32⟩
  | .hbm, ⟨4, _⟩ => ⟨S_, .f32⟩
  | .hbm, ⟨5, _⟩ => ⟨S2048x48, .f32⟩
  | .hbm, ⟨6, _⟩ => ⟨S2048x2640, .f32⟩
  | .hbm, ⟨7, _⟩ => ⟨S2048x2688, .f32⟩
  | .hbm, ⟨8, _⟩ => ⟨S2048x2688, .bf16⟩
  | .hbm, ⟨9, _⟩ => ⟨S4096, .i32⟩
  | .hbm, ⟨10, _⟩ => ⟨S4096, .f32⟩
  | .hbm, ⟨11, _⟩ => ⟨S4096x1, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x128, .f32⟩
  | .hbm, ⟨27, _⟩ => ⟨S1x4096x1x128, .f32⟩
  | .hbm, ⟨28, _⟩ => ⟨S1x4096x1x128, .f32⟩
  | .hbm, ⟨29, _⟩ => ⟨S4096x128, .f32⟩
  | .hbm, ⟨30, _⟩ => ⟨S4096x64, .f32⟩
  | .hbm, ⟨31, _⟩ => ⟨S4096x128, .f32⟩
  | .hbm, ⟨32, _⟩ => ⟨S1x4096x1x128, .f32⟩
  | .hbm, ⟨33, _⟩ => ⟨S1x4096x1x128, .f32⟩
  | .hbm, ⟨34, _⟩ => ⟨S4096x128, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x64, .f32⟩
  | .hbm, ⟨50, _⟩ => ⟨S1x4096x1x64, .f32⟩
  | .hbm, ⟨51, _⟩ => ⟨S1x4096x2x64, .f32⟩
  | .hbm, ⟨52, _⟩ => ⟨S4096x128, .f32⟩
  | .hbm, ⟨53, _⟩ => ⟨S4096x32, .f32⟩
  | .hbm, ⟨54, _⟩ => ⟨S4096x64, .f32⟩
  | .hbm, ⟨55, _⟩ => ⟨S1x4096x1x64, .f32⟩
  | .hbm, ⟨56, _⟩ => ⟨S1x4096x2x64, .f32⟩
  | .hbm, ⟨57, _⟩ => ⟨S4096x128, .f32⟩
  | .hbm, ⟨58, _⟩ => ⟨S16384x2048, .f32⟩
  | .hbm, ⟨59, _⟩ => ⟨S2048, .f32⟩
  | .hbm, ⟨60, _⟩ => ⟨S1x2048, .f32⟩
  | .hbm, ⟨61, _⟩ => ⟨S16384x1024, .bf16⟩
  | .hbm, ⟨62, _⟩ => ⟨S16384x256, .f32⟩
  | .hbm, ⟨63, _⟩ => ⟨S16384x256, .bf16⟩
  | .hbm, ⟨64, _⟩ => ⟨S16384x256, .f32⟩
  | .hbm, ⟨65, _⟩ => ⟨S16384x256, .bf16⟩
  | .hbm, ⟨66, _⟩ => ⟨S16x16384x64, .bf16⟩
  | .hbm, ⟨67, _⟩ => ⟨S16384x64, .f32⟩
  | .hbm, ⟨68, _⟩ => ⟨S16384x64, .bf16⟩
  | .hbm, ⟨69, _⟩ => ⟨S16384x16, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2688, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S256x256, .f32⟩
  | .local _ .vmem, ⟨15, _⟩ => ⟨S256x256, .f32⟩
  | .local _ .vmem, ⟨16, _⟩ => ⟨S256x256, .bf16⟩
  | .local _ .vmem, ⟨17, _⟩ => ⟨S256x256, .bf16⟩
  | .local _ .vmem, ⟨18, _⟩ => ⟨S256x256, .f32⟩
  | .local _ .vmem, ⟨19, _⟩ => ⟨S256x256, .f32⟩
  | .local _ .vmem, ⟨20, _⟩ => ⟨S256x256, .bf16⟩
  | .local _ .vmem, ⟨21, _⟩ => ⟨S256x256, .bf16⟩
  | .local _ .vmem, ⟨22, _⟩ => ⟨S16x256x64, .bf16⟩
  | .local _ .vmem, ⟨23, _⟩ => ⟨S16x256x64, .bf16⟩
  | .local _ .vmem, ⟨24, _⟩ => ⟨S256x64, .f32⟩
  | .local _ .vmem, ⟨25, _⟩ => ⟨S256x64, .f32⟩
  | .local _ .vmem, ⟨26, _⟩ => ⟨S256x64, .bf16⟩
  | .local _ .vmem, ⟨27, _⟩ => ⟨S256x64, .bf16⟩
  | .local _ .vmem, ⟨28, _⟩ => ⟨S256x16, .f32⟩
  | .local _ .vmem, ⟨29, _⟩ => ⟨S256x16, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53_0 : Ref sig .tc := ⟨.hbm, 61, rfl⟩
abbrev main_v53_1 : Ref sig .tc := ⟨.hbm, 62, rfl⟩
abbrev main_v53_2 : Ref sig .tc := ⟨.hbm, 63, rfl⟩
abbrev main_v53_3 : Ref sig .tc := ⟨.hbm, 64, rfl⟩
abbrev main_v53_4 : Ref sig .tc := ⟨.hbm, 65, rfl⟩
abbrev main_v53_5 : Ref sig .tc := ⟨.hbm, 66, rfl⟩
abbrev main_v53_6 : Ref sig .tc := ⟨.hbm, 67, rfl⟩
abbrev main_v53_7 : Ref sig .tc := ⟨.hbm, 68, rfl⟩
abbrev main_v53_8 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S4x4096x2048 : Shape := ⟨3, ![4, 4096, 2048]⟩
abbrev S1x2048 : Shape := ⟨2, ![1, 2048]⟩
abbrev S1x2048x4688 : Shape := ⟨3, ![1, 2048, 4688]⟩
abbrev S4096 : Shape := ⟨1, ![4096]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x4688 : Shape := ⟨2, ![2048, 4688]⟩
abbrev S4x4096x4688 : Shape := ⟨3, ![4, 4096, 4688]⟩
abbrev S4x4096x256 : Shape := ⟨3, ![4, 4096, 256]⟩
abbrev S4x4096x2x128 : Shape := ⟨4, ![4, 4096, 2, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4x4096x2x64 : Shape := ⟨4, ![4, 4096, 2, 64]⟩
abbrev S1x4096x1x64 : Shape := ⟨4, ![1, 4096, 1, 64]⟩
abbrev S4x4096x64 : Shape := ⟨3, ![4, 4096, 64]⟩
abbrev S4x4096x1x64 : Shape := ⟨4, ![4, 4096, 1, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4x4096x1x32 : Shape := ⟨4, ![4, 4096, 1, 32]⟩
abbrev S1x4096x1x32 : Shape := ⟨4, ![1, 4096, 1, 32]⟩
abbrev S4x4096x1024 : Shape := ⟨3, ![4, 4096, 1024]⟩
abbrev S4x4096x8x128 : Shape := ⟨4, ![4, 4096, 8, 128]⟩
abbrev S4x4096x8x64 : Shape := ⟨4, ![4, 4096, 8, 64]⟩
abbrev S4x4096x16x64 : Shape := ⟨4, ![4, 4096, 16, 64]⟩
abbrev S4x4096x16x32 : Shape := ⟨4, ![4, 4096, 16, 32]⟩
abbrev S16384x256 : Shape := ⟨2, ![16384, 256]⟩
abbrev S16384x64 : Shape := ⟨2, ![16384, 64]⟩
abbrev S16384x1024 : Shape := ⟨2, ![16384, 1024]⟩
abbrev S16384x16x64 : Shape := ⟨3, ![16384, 16, 64]⟩
abbrev S16x16384x64 : Shape := ⟨3, ![16, 16384, 64]⟩

abbrev nBuf : Space → Nat
  | .hbm => 182
  | .vmem => 0
  | .smem => 0
  | _ => 0

abbrev hbmTy0_0 (i : Nat) : BufTy := match i % 128 with
  | 0 => ⟨S4x4096x2048, .f32⟩
  | 1 => ⟨S1x2048, .f32⟩
  | 2 => ⟨S1x2048x4688, .f32⟩
  | 3 => ⟨S4096, .i32⟩
  | 4 => ⟨S2048, .f32⟩
  | 5 => ⟨S4x4096x2048, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x2048, .f32⟩
  | 17 => ⟨S4x4096x2048, .f32⟩
  | 18 => ⟨S1x1x2048, .f32⟩
  | 19 => ⟨S4x4096x2048, .f32⟩
  | 20 => ⟨S4x4096x2048, .f32⟩
  | 21 => ⟨S2048x4688, .f32⟩
  | 22 => ⟨S4x4096x4688, .f32⟩
  | 23 => ⟨S4x4096x256, .f32⟩
  | 24 => ⟨S4x4096x2x128, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S4096, .f32⟩
  | 34 => ⟨S4096x1, .f32⟩
  | 35 => ⟨S1x64, .f32⟩
  | 36 => ⟨S4096x64, .f32⟩
  | 37 => ⟨S4096x64, .f32⟩
  | 38 => ⟨S4096x64, .f32⟩
  | 39 => ⟨S4096x64, .f32⟩
  | 40 => ⟨S4096x1x64, .f32⟩
  | 41 => ⟨S4096x64, .f32⟩
  | 42 => ⟨S4096x1x64, .f32⟩
  | 43 => ⟨S4x4096x2x64, .f32⟩
  | 44 => ⟨S4x4096x2x64, .f32⟩
  | 45 => ⟨S1x4096x1x64, .f32⟩
  | 46 => ⟨S4x4096x2x64, .f32⟩
  | 47 => ⟨S4x4096x2x64, .f32⟩
  | 48 => ⟨S1x4096x1x64, .f32⟩
  | 49 => ⟨S4x4096x2x64, .f32⟩
  | 50 => ⟨S4x4096x2x64, .f32⟩
  | 51 => ⟨S4x4096x2x64, .f32⟩
  | 52 => ⟨S1x4096x1x64, .f32⟩
  | 53 => ⟨S4x4096x2x64, .f32⟩
  | 54 => ⟨S4x4096x2x64, .f32⟩
  | 55 => ⟨S1x4096x1x64, .f32⟩
  | 56 => ⟨S4x4096x2x64, .f32⟩
  | 57 => ⟨S4x4096x2x64, .f32⟩
  | 58 => ⟨S4x4096x2x64, .f32⟩
  | 59 => ⟨S4x4096x2x128, .f32⟩
  | 60 => ⟨S4x4096x256, .f32⟩
  | 61 => ⟨S4x4096x2x128, .f32⟩
  | 62 => ⟨S4x4096x64, .f32⟩
  | 63 => ⟨S4x4096x1x64, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S4096, .f32⟩
  | 73 => ⟨S4096x1, .f32⟩
  | 74 => ⟨S1x32, .f32⟩
  | 75 => ⟨S4096x32, .f32⟩
  | 76 => ⟨S4096x32, .f32⟩
  | 77 => ⟨S4096x32, .f32⟩
  | 78 => ⟨S4096x32, .f32⟩
  | 79 => ⟨S4096x1x32, .f32⟩
  | 80 => ⟨S4096x32, .f32⟩
  | 81 => ⟨S4096x1x32, .f32⟩
  | 82 => ⟨S4x4096x1x32, .f32⟩
  | 83 => ⟨S4x4096x1x32, .f32⟩
  | 84 => ⟨S1x4096x1x32, .f32⟩
  | 85 => ⟨S4x4096x1x32, .f32⟩
  | 86 => ⟨S4x4096x1x32, .f32⟩
  | 87 => ⟨S1x4096x1x32, .f32⟩
  | 88 => ⟨S4x4096x1x32, .f32⟩
  | 89 => ⟨S4x4096x1x32, .f32⟩
  | 90 => ⟨S4x4096x1x32, .f32⟩
  | 91 => ⟨S1x4096x1x32, .f32⟩
  | 92 => ⟨S4x4096x1x32, .f32⟩
  | 93 => ⟨S4x4096x1x32, .f32⟩
  | 94 => ⟨S1x4096x1x32, .f32⟩
  | 95 => ⟨S4x4096x1x32, .f32⟩
  | 96 => ⟨S4x4096x1x32, .f32⟩
  | 97 => ⟨S4x4096x1x32, .f32⟩
  | 98 => ⟨S4x4096x1x64, .f32⟩
  | 99 => ⟨S4x4096x64, .f32⟩
  | 100 => ⟨S4x4096x1024, .f32⟩
  | 101 => ⟨S4x4096x8x128, .f32⟩
  | 102 => ⟨S64, .f32⟩
  | 103 => ⟨S64, .f32⟩
  | 104 => ⟨S_, .f32⟩
  | 105 => ⟨S64, .f32⟩
  | 106 => ⟨S64, .f32⟩
  | 107 => ⟨S_, .f32⟩
  | 108 => ⟨S64, .f32⟩
  | 109 => ⟨S64, .f32⟩
  | 110 => ⟨S4096, .f32⟩
  | 111 => ⟨S4096x1, .f32⟩
  | 112 => ⟨S1x64, .f32⟩
  | 113 => ⟨S4096x64, .f32⟩
  | 114 => ⟨S4096x64, .f32⟩
  | 115 => ⟨S4096x64, .f32⟩
  | 116 => ⟨S4096x64, .f32⟩
  | 117 => ⟨S4096x1x64, .f32⟩
  | 118 => ⟨S4096x64, .f32⟩
  | 119 => ⟨S4096x1x64, .f32⟩
  | 120 => ⟨S4x4096x8x64, .f32⟩
  | 121 => ⟨S4x4096x8x64, .f32⟩
  | 122 => ⟨S1x4096x1x64, .f32⟩
  | 123 => ⟨S4x4096x8x64, .f32⟩
  | 124 => ⟨S4x4096x8x64, .f32⟩
  | 125 => ⟨S1x4096x1x64, .f32⟩
  | 126 => ⟨S4x4096x8x64, .f32⟩
  | 127 => ⟨S4x4096x8x64, .f32⟩
  | _ => ⟨S4x4096x2048, .f32⟩

abbrev hbmTy0_1 (i : Nat) : BufTy := match i % 128 with
  | 0 => ⟨S4x4096x8x64, .f32⟩
  | 1 => ⟨S1x4096x1x64, .f32⟩
  | 2 => ⟨S4x4096x8x64, .f32⟩
  | 3 => ⟨S4x4096x8x64, .f32⟩
  | 4 => ⟨S1x4096x1x64, .f32⟩
  | 5 => ⟨S4x4096x8x64, .f32⟩
  | 6 => ⟨S4x4096x8x64, .f32⟩
  | 7 => ⟨S4x4096x8x64, .f32⟩
  | 8 => ⟨S4x4096x8x128, .f32⟩
  | 9 => ⟨S4x4096x1024, .f32⟩
  | 10 => ⟨S4x4096x16x64, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S4096, .f32⟩
  | 20 => ⟨S4096x1, .f32⟩
  | 21 => ⟨S1x32, .f32⟩
  | 22 => ⟨S4096x32, .f32⟩
  | 23 => ⟨S4096x32, .f32⟩
  | 24 => ⟨S4096x32, .f32⟩
  | 25 => ⟨S4096x32, .f32⟩
  | 26 => ⟨S4096x1x32, .f32⟩
  | 27 => ⟨S4096x32, .f32⟩
  | 28 => ⟨S4096x1x32, .f32⟩
  | 29 => ⟨S4x4096x16x32, .f32⟩
  | 30 => ⟨S4x4096x16x32, .f32⟩
  | 31 => ⟨S1x4096x1x32, .f32⟩
  | 32 => ⟨S4x4096x16x32, .f32⟩
  | 33 => ⟨S4x4096x16x32, .f32⟩
  | 34 => ⟨S1x4096x1x32, .f32⟩
  | 35 => ⟨S4x4096x16x32, .f32⟩
  | 36 => ⟨S4x4096x16x32, .f32⟩
  | 37 => ⟨S4x4096x16x32, .f32⟩
  | 38 => ⟨S1x4096x1x32, .f32⟩
  | 39 => ⟨S4x4096x16x32, .f32⟩
  | 40 => ⟨S4x4096x16x32, .f32⟩
  | 41 => ⟨S1x4096x1x32, .f32⟩
  | 42 => ⟨S4x4096x16x32, .f32⟩
  | 43 => ⟨S4x4096x16x32, .f32⟩
  | 44 => ⟨S4x4096x16x32, .f32⟩
  | 45 => ⟨S4x4096x16x64, .f32⟩
  | 46 => ⟨S16384x256, .f32⟩
  | 47 => ⟨S16384x256, .f32⟩
  | 48 => ⟨S16384x64, .f32⟩
  | 49 => ⟨S16384x1024, .f32⟩
  | 50 => ⟨S16384x1024, .bf16⟩
  | 51 => ⟨S16384x16x64, .f32⟩
  | 52 => ⟨S16x16384x64, .f32⟩
  | 53 => ⟨S16x16384x64, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_cst_7 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_cst_8 : Ref sig .tc := ⟨.hbm, 141, rfl⟩
abbrev main_v129 : Ref sig .tc := ⟨.hbm, 142, rfl⟩
abbrev main_v130 : Ref sig .tc := ⟨.hbm, 143, rfl⟩
abbrev main_cst_9 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩

abbrev nD : Nat := 1
abbrev τ : Topo := Topo.v7x

variable {F : FTy → Type} [FloatOps F]
-- ==== Kernel6.lean ====
abbrev S4x4096x1024 : Shape := ⟨3, ![4, 4096, 1024]⟩
abbrev S4x4096x2048 : Shape := ⟨3, ![4, 4096, 2048]⟩
abbrev S1x2048x2048 : Shape := ⟨3, ![1, 2048, 2048]⟩
abbrev S1x2048 : Shape := ⟨2, ![1, 2048]⟩
abbrev S2048x2048 : Shape := ⟨2, ![2048, 2048]⟩
abbrev S16384x1024 : Shape := ⟨2, ![16384, 1024]⟩
abbrev S1024x2048 : Shape := ⟨2, ![1024, 2048]⟩
abbrev S16384x2048 : Shape := ⟨2, ![16384, 2048]⟩
abbrev S2048 : Shape := ⟨1, ![2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x2048, .f32⟩
  | .hbm, ⟨3, _⟩ => ⟨S1x2048x2048, .f32⟩
  | .hbm, ⟨4, _⟩ => ⟨S1x2048, .f32⟩
  | .hbm, ⟨5, _⟩ => ⟨S2048x2048, .f32⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S16384x2048, .f32⟩
  | .hbm, ⟨15, _⟩ => ⟨S2048, .f32⟩
  | .hbm, ⟨16, _⟩ => ⟨S1x2048, .f32⟩
  | .hbm, ⟨17, _⟩ => ⟨S16384x2048, .f32⟩
  | .hbm, ⟨18, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4x4096x1024 : Shape := ⟨3, ![4, 4096, 1024]⟩
abbrev S4x4096x2048 : Shape := ⟨3, ![4, 4096, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x2048, .f32⟩
  | .hbm, ⟨3, _⟩ => ⟨S1x2048x2048, .f32⟩
  | .hbm, ⟨4, _⟩ => ⟨S1x2048, .f32⟩
  | .hbm, ⟨5, _⟩ => ⟨S4x4096x2048, .f32⟩
  | .hbm, ⟨6, _⟩ => ⟨S2048x2048, .f32⟩
  | .hbm, ⟨7, _⟩ => ⟨S4x4096x2048, .f32⟩
  | .hbm, ⟨8, _⟩ => ⟨S4x4096x2048, .f32⟩
  | .hbm, ⟨9, _⟩ => ⟨S2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S16384x2048, .f32⟩
  | .hbm, ⟨27, _⟩ => ⟨S16384x2048, .f32⟩
  | .hbm, ⟨28, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel7.lean ====
abbrev S32x4x2048 : Shape := ⟨3, ![32, 4, 2048]⟩
abbrev S1x2048 : Shape := ⟨2, ![1, 2048]⟩
abbrev S1x2048x4688 : Shape := ⟨3, ![1, 2048, 4688]⟩
abbrev S2048x4688 : Shape := ⟨2, ![2048, 4688]⟩
abbrev S_ : Shape := ⟨0, ![]⟩
abbrev S2048x48 : Shape := ⟨2, ![2048, 48]⟩
abbrev S2048x2640 : Shape := ⟨2, ![2048, 2640]⟩
abbrev S2048x2688 : Shape := ⟨2, ![2048, 2688]⟩
abbrev S4 : Shape := ⟨1, ![4]⟩
abbrev S4x1 : Shape := ⟨2, ![4, 1]⟩
abbrev S64 : Shape := ⟨1, ![64]⟩
abbrev S1x64 : Shape := ⟨2, ![1, 64]⟩
abbrev S4x64 : Shape := ⟨2, ![4, 64]⟩
abbrev S4x128 : Shape := ⟨2, ![4, 128]⟩
abbrev S1x4x1x128 : Shape := ⟨4, ![1, 4, 1, 128]⟩
abbrev S32 : Shape := ⟨1, ![32]⟩
abbrev S1x32 : Shape := ⟨2, ![1, 32]⟩
abbrev S4x32 : Shape := ⟨2, ![4, 32]⟩
abbrev S1x4x1x64 : Shape := ⟨4, ![1, 4, 1, 64]⟩
abbrev S1x4x2x64 : Shape := ⟨4, ![1, 4, 2, 64]⟩
abbrev S32x4x1x128 : Shape := ⟨4, ![32, 4, 1, 128]⟩
abbrev S128x128 : Shape := ⟨2, ![128, 128]⟩
abbrev S128x2048 : Shape := ⟨2, ![128, 2048]⟩
abbrev S2048 : Shape := ⟨1, ![2048]⟩
abbrev S128x1024 : Shape := ⟨2, ![128, 1024]⟩
abbrev S128x256 : Shape := ⟨2, ![128, 256]⟩
abbrev S16x128x64 : Shape := ⟨3, ![16, 128, 64]⟩
abbrev S128x64 : Shape := ⟨2, ![128, 64]⟩
abbrev S128x16 : Shape := ⟨2, ![128, 16]⟩
abbrev S128 : Shape := ⟨1, ![128]⟩
abbrev S128x1 : Shape := ⟨2, ![128, 1]⟩
abbrev S128x2688 : Shape := ⟨2, ![128, 2688]⟩
abbrev S1x128x64 : Shape := ⟨3, ![1, 128, 64]⟩

abbrev nBuf : Space → Nat
  | .hbm => 85
  | .vmem => 16
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x4688, .f32⟩
  | .hbm, ⟨3, _⟩ => ⟨S2048x4688, .f32⟩
  | .hbm, ⟨4, _⟩ => ⟨S_, .f32⟩
  | .hbm, ⟨5, _⟩ => ⟨S2048x48, .f32⟩
  | .hbm, ⟨6, _⟩ => ⟨S2048x2640, .f32⟩
  | .hbm, ⟨7, _⟩ => ⟨S2048x2688, .f32⟩
  | .hbm, ⟨8, _⟩ => ⟨S2048x2688, .bf16⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .f32⟩
  | .hbm, ⟨14, _⟩ => ⟨S4x1, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S4x64, .f32⟩
  | .hbm, ⟨25, _⟩ => ⟨S4x64, .f32⟩
  | .hbm, ⟨26, _⟩ => ⟨S4x64, .f32⟩
  | .hbm, ⟨27, _⟩ => ⟨S4x64, .f32⟩
  | .hbm, ⟨28, _⟩ => ⟨S4x64, .f32⟩
  | .hbm, ⟨29, _⟩ => ⟨S4x128, .f32⟩
  | .hbm, ⟨30, _⟩ => ⟨S1x4x1x128, .f32⟩
  | .hbm, ⟨31, _⟩ => ⟨S1x4x1x128, .f32⟩
  | .hbm, ⟨32, _⟩ => ⟨S4x128, .f32⟩
  | .hbm, ⟨33, _⟩ => ⟨S4x64, .f32⟩
  | .hbm, ⟨34, _⟩ => ⟨S4x128, .f32⟩
  | .hbm, ⟨35, _⟩ => ⟨S1x4x1x128, .f32⟩
  | .hbm, ⟨36, _⟩ => ⟨S1x4x1x128, .f32⟩
  | .hbm, ⟨37, _⟩ => ⟨S4x128, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S1x32, .f32⟩
  | .hbm, ⟨47, _⟩ => ⟨S4x32, .f32⟩
  | .hbm, ⟨48, _⟩ => ⟨S4x32, .f32⟩
  | .hbm, ⟨49, _⟩ => ⟨S4x32, .f32⟩
  | .hbm, ⟨50, _⟩ => ⟨S4x32, .f32⟩
  | .hbm, ⟨51, _⟩ => ⟨S4x32, .f32⟩
  | .hbm, ⟨52, _⟩ => ⟨S4x64, .f32⟩
  | .hbm, ⟨53, _⟩ => ⟨S1x4x1x64, .f32⟩
  | .hbm, ⟨54, _⟩ => ⟨S1x4x2x64, .f32⟩
  | .hbm, ⟨55, _⟩ => ⟨S4x128, .f32⟩
  | .hbm, ⟨56, _⟩ => ⟨S4x32, .f32⟩
  | .hbm, ⟨57, _⟩ => ⟨S4x64, .f32⟩
  | .hbm, ⟨58, _⟩ => ⟨S1x4x1x64, .f32⟩
  | .hbm, ⟨59, _⟩ => ⟨S1x4x2x64, .f32⟩
  | .hbm, ⟨60, _⟩ => ⟨S4x128, .f32⟩
  | .hbm, ⟨61, _⟩ => ⟨S1x4x1x128, .f32⟩
  | .hbm, ⟨62, _⟩ => ⟨S32x4x1x128, .f32⟩
  | .hbm, ⟨63, _⟩ => ⟨S128x128, .f32⟩
  | .hbm, ⟨64, _⟩ => ⟨S1x4x1x128, .f32⟩
  | .hbm, ⟨65, _⟩ => ⟨S32x4x1x128, .f32⟩
  | .hbm, ⟨66, _⟩ => ⟨S128x128, .f32⟩
  | .hbm, ⟨67, _⟩ => ⟨S1x4x1x128, .f32⟩
  | .hbm, ⟨68, _⟩ => ⟨S32x4x1x128, .f32⟩
  | .hbm, ⟨69, _⟩ => ⟨S128x128, .f32⟩
  | .hbm, ⟨70, _⟩ => ⟨S1x4x1x128, .f32⟩
  | .hbm, ⟨71, _⟩ => ⟨S32x4x1x128, .f32⟩
  | .hbm, ⟨72, _⟩ => ⟨S128x128, .f32⟩
  | .hbm, ⟨73, _⟩ => ⟨S128x2048, .f32⟩
  | .hbm, ⟨74, _⟩ => ⟨S2048, .f32⟩
  | .hbm, ⟨75, _⟩ => ⟨S1x2048, .f32⟩
  | .hbm, ⟨76, _⟩ => ⟨S128x1024, .bf16⟩
  | .hbm, ⟨77, _⟩ => ⟨S128x256, .f32⟩
  | .hbm, ⟨78, _⟩ => ⟨S128x256, .bf16⟩
  | .hbm, ⟨79, _⟩ => ⟨S128x256, .f32⟩
  | .hbm, ⟨80, _⟩ => ⟨S128x256, .bf16⟩
  | .hbm, ⟨81, _⟩ => ⟨S16x128x64, .bf16⟩
  | .hbm, ⟨82, _⟩ => ⟨S128x64, .f32⟩
  | .hbm, ⟨83, _⟩ => ⟨S128x64, .bf16⟩
  | .hbm, ⟨84, _⟩ => ⟨S128x16, .f32⟩
  | .local _ .vmem, ⟨0, _⟩ => ⟨S128x2048, .f32⟩
  | .local _ .vmem, ⟨1, _⟩ => ⟨S1x2048, .f32⟩
  | .local _ .vmem, ⟨2, _⟩ => ⟨S2048x2688, .bf16⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x1024, .bf16⟩
  | .local _ .vmem, ⟨8, _⟩ => ⟨S128x256, .f32⟩
  | .local _ .vmem, ⟨9, _⟩ => ⟨S128x256, .bf16⟩
  | .local _ .vmem, ⟨10, _⟩ => ⟨S128x256, .f32⟩
  | .local _ .vmem, ⟨11, _⟩ => ⟨S128x256, .bf16⟩
  | .local _ .vmem, ⟨12, _⟩ => ⟨S16x128x64, .bf16⟩
  | .local _ .vmem, ⟨13, _⟩ => ⟨S128x64, .f32⟩
  | .local _ .vmem, ⟨14, _⟩ => ⟨S128x64, .bf16⟩
  | .local _ .vmem, ⟨15, _⟩ => ⟨S128x16, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67_0 : Ref sig .tc := ⟨.hbm, 76, rfl⟩
abbrev main_v67_1 : Ref sig .tc := ⟨.hbm, 77, rfl⟩
abbrev main_v67_2 : Ref sig .tc := ⟨.hbm, 78, rfl⟩
abbrev main_v67_3 : Ref sig .tc := ⟨.hbm, 79, rfl⟩
abbrev main_v67_4 : Ref sig .tc := ⟨.hbm, 80, rfl⟩
abbrev main_v67_5 : Ref sig .tc := ⟨.hbm, 81, rfl⟩
abbrev main_v67_6 : Ref sig .tc := ⟨.hbm, 82, rfl⟩
abbrev main_v67_7 : Ref sig .tc := ⟨.hbm, 83, rfl⟩
abbrev main_v67_8 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S16x128x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== Reference7Ideal.lean ====
abbrev S32x4x2048 : Shape := ⟨3, ![32, 4, 2048]⟩
abbrev S1x2048 : Shape := ⟨2, ![1, 2048]⟩
abbrev S1x2048x4688 : Shape := ⟨3, ![1, 2048, 4688]⟩
abbrev S4 : Shape := ⟨1, ![4]⟩
abbrev S_ : Shape := ⟨0, ![]⟩
abbrev S2048 : Shape := ⟨1, ![2048]⟩
abbrev S32x4 : Shape := ⟨2, ![32, 4]⟩
abbrev S32x4x1 : Shape := ⟨3, ![32, 4, 1]⟩
abbrev S1x1x2048 : Shape := ⟨3, ![1, 1, 2048]⟩
abbrev S2048x4688 : Shape := ⟨2, ![2048, 4688]⟩
abbrev S32x4x4688 : Shape := ⟨3, ![32, 4, 4688]⟩
abbrev S32x4x256 : Shape := ⟨3, ![32, 4, 256]⟩
abbrev S32x4x2x128 : Shape := ⟨4, ![32, 4, 2, 128]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S4x1x64 : Shape := ⟨3, ![4, 1, 64]⟩
abbrev S32x4x2x64 : Shape := ⟨4, ![32, 4, 2, 64]⟩
abbrev S1x4x1x64 : Shape := ⟨4, ![1, 4, 1, 64]⟩
abbrev S32x4x64 : Shape := ⟨3, ![32, 4, 64]⟩
abbrev S32x4x1x64 : Shape := ⟨4, ![32, 4, 1, 64]⟩
abbrev S32 : Shape := ⟨1, ![32]⟩
abbrev S1x32 : Shape := ⟨2, ![1, 32]⟩
abbrev S4x32 : Shape := ⟨2, ![4, 32]⟩
abbrev S4x1x32 : Shape := ⟨3, ![4, 1, 32]⟩
abbrev S32x4x1x32 : Shape := ⟨4, ![32, 4, 1, 32]⟩
abbrev S1x4x1x32 : Shape := ⟨4, ![1, 4, 1, 32]⟩
abbrev S128x256 : Shape := ⟨2, ![128, 256]⟩
abbrev S128x64 : Shape := ⟨2, ![128, 64]⟩

abbrev nBuf : Space → Nat
  | .hbm => 106
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x4688, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S2048, .f32⟩
  | .hbm, ⟨8, _⟩ => ⟨S32x4x2048, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S32x4x1, .f32⟩
  | .hbm, ⟨19, _⟩ => ⟨S32x4x2048, .f32⟩
  | .hbm, ⟨20, _⟩ => ⟨S32x4x2048, .f32⟩
  | .hbm, ⟨21, _⟩ => ⟨S1x1x2048, .f32⟩
  | .hbm, ⟨22, _⟩ => ⟨S32x4x2048, .f32⟩
  | .hbm, ⟨23, _⟩ => ⟨S32x4x2048, .f32⟩
  | .hbm, ⟨24, _⟩ => ⟨S2048x4688, .f32⟩
  | .hbm, ⟨25, _⟩ => ⟨S32x4x4688, .f32⟩
  | .hbm, ⟨26, _⟩ => ⟨S32x4x256, .f32⟩
  | .hbm, ⟨27, _⟩ => ⟨S32x4x2x128, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S4, .f32⟩
  | .hbm, ⟨37, _⟩ => ⟨S4x1, .f32⟩
  | .hbm, ⟨38, _⟩ => ⟨S1x64, .f32⟩
  | .hbm, ⟨39, _⟩ => ⟨S4x64, .f32⟩
  | .hbm, ⟨40, _⟩ => ⟨S4x64, .f32⟩
  | .hbm, ⟨41, _⟩ => ⟨S4x64, .f32⟩
  | .hbm, ⟨42, _⟩ => ⟨S4x64, .f32⟩
  | .hbm, ⟨43, _⟩ => ⟨S4x1x64, .f32⟩
  | .hbm, ⟨44, _⟩ => ⟨S4x64, .f32⟩
  | .hbm, ⟨45, _⟩ => ⟨S4x1x64, .f32⟩
  | .hbm, ⟨46, _⟩ => ⟨S32x4x2x64, .f32⟩
  | .hbm, ⟨47, _⟩ => ⟨S32x4x2x64, .f32⟩
  | .hbm, ⟨48, _⟩ => ⟨S1x4x1x64, .f32⟩
  | .hbm, ⟨49, _⟩ => ⟨S32x4x2x64, .f32⟩
  | .hbm, ⟨50, _⟩ => ⟨S32x4x2x64, .f32⟩
  | .hbm, ⟨51, _⟩ => ⟨S1x4x1x64, .f32⟩
  | .hbm, ⟨52, _⟩ => ⟨S32x4x2x64, .f32⟩
  | .hbm, ⟨53, _⟩ => ⟨S32x4x2x64, .f32⟩
  | .hbm, ⟨54, _⟩ => ⟨S32x4x2x64, .f32⟩
  | .hbm, ⟨55, _⟩ => ⟨S1x4x1x64, .f32⟩
  | .hbm, ⟨56, _⟩ => ⟨S32x4x2x64, .f32⟩
  | .hbm, ⟨57, _⟩ => ⟨S32x4x2x64, .f32⟩
  | .hbm, ⟨58, _⟩ => ⟨S1x4x1x64, .f32⟩
  | .hbm, ⟨59, _⟩ => ⟨S32x4x2x64, .f32⟩
  | .hbm, ⟨60, _⟩ => ⟨S32x4x2x64, .f32⟩
  | .hbm, ⟨61, _⟩ => ⟨S32x4x2x64, .f32⟩
  | .hbm, ⟨62, _⟩ => ⟨S32x4x2x128, .f32⟩
  | .hbm, ⟨63, _⟩ => ⟨S32x4x256, .f32⟩
  | .hbm, ⟨64, _⟩ => ⟨S32x4x2x128, .f32⟩
  | .hbm, ⟨65, _⟩ => ⟨S32x4x64, .f32⟩
  | .hbm, ⟨66, _⟩ => ⟨S32x4x1x64, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S4, .f32⟩
  | .hbm, ⟨76, _⟩ => ⟨S4x1, .f32⟩
  | .hbm, ⟨77, _⟩ => ⟨S1x32, .f32⟩
  | .hbm, ⟨78, _⟩ => ⟨S4x32, .f32⟩
  | .hbm, ⟨79, _⟩ => ⟨S4x32, .f32⟩
  | .hbm, ⟨80, _⟩ => ⟨S4x32, .f32⟩
  | .hbm, ⟨81, _⟩ => ⟨S4x32, .f32⟩
  | .hbm, ⟨82, _⟩ => ⟨S4x1x32, .f32⟩
  | .hbm, ⟨83, _⟩ => ⟨S4x32, .f32⟩
  | .hbm, ⟨84, _⟩ => ⟨S4x1x32, .f32⟩
  | .hbm, ⟨85, _⟩ => ⟨S32x4x1x32, .f32⟩
  | .hbm, ⟨86, _⟩ => ⟨S32x4x1x32, .f32⟩
  | .hbm, ⟨87, _⟩ => ⟨S1x4x1x32, .f32⟩
  | .hbm, ⟨88, _⟩ => ⟨S32x4x1x32, .f32⟩
  | .hbm, ⟨89, _⟩ => ⟨S32x4x1x32, .f32⟩
  | .hbm, ⟨90, _⟩ => ⟨S1x4x1x32, .f32⟩
  | .hbm, ⟨91, _⟩ => ⟨S32x4x1x32, .f32⟩
  | .hbm, ⟨92, _⟩ => ⟨S32x4x1x32, .f32⟩
  | .hbm, ⟨93, _⟩ => ⟨S32x4x1x32, .f32⟩
  | .hbm, ⟨94, _⟩ => ⟨S1x4x1x32, .f32⟩
  | .hbm, ⟨95, _⟩ => ⟨S32x4x1x32, .f32⟩
  | .hbm, ⟨96, _⟩ => ⟨S32x4x1x32, .f32⟩
  | .hbm, ⟨97, _⟩ => ⟨S1x4x1x32, .f32⟩
  | .hbm, ⟨98, _⟩ => ⟨S32x4x1x32, .f32⟩
  | .hbm, ⟨99, _⟩ => ⟨S32x4x1x32, .f32⟩
  | .hbm, ⟨100, _⟩ => ⟨S32x4x1x32, .f32⟩
  | .hbm, ⟨101, _⟩ => ⟨S32x4x1x64, .f32⟩
  | .hbm, ⟨102, _⟩ => ⟨S32x4x64, .f32⟩
  | .hbm, ⟨103, _⟩ => ⟨S128x256, .f32⟩
  | .hbm, ⟨104, _⟩ => ⟨S128x256, .f32⟩
  | .hbm, ⟨105, _⟩ => ⟨S128x64, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩

abbrev nD : Nat := 1
abbrev τ : Topo := Topo.v7x

variable {F : FTy → Type} [FloatOps F]
-- ==== Kernel8.lean ====
abbrev S32x4x2048 : Shape := ⟨3, ![32, 4, 2048]⟩
abbrev S1x2048 : Shape := ⟨2, ![1, 2048]⟩
abbrev S1x2048x4688 : Shape := ⟨3, ![1, 2048, 4688]⟩
abbrev S2048x4688 : Shape := ⟨2, ![2048, 4688]⟩
abbrev S128x2048 : Shape := ⟨2, ![128, 2048]⟩
abbrev S2048 : Shape := ⟨1, ![2048]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩

abbrev nBuf : Space → Nat
  | .hbm => 12
  | .vmem => 6
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x4688, .f32⟩
  | .hbm, ⟨3, _⟩ => ⟨S2048x4688, .f32⟩
  | .hbm, ⟨4, _⟩ => ⟨S128x2048, .f32⟩
  | .hbm, ⟨5, _⟩ => ⟨S2048, .f32⟩
  | .hbm, ⟨6, _⟩ => ⟨S1x2048, .f32⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S128x1024, .f32⟩
  | .local _ .vmem, ⟨0, _⟩ => ⟨S128x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference8Ideal.lean ====
abbrev S32x4x2048 : Shape := ⟨3, ![32, 4, 2048]⟩
abbrev S1x2048 : Shape := ⟨2, ![1, 2048]⟩
abbrev S1x2048x4688 : Shape := ⟨3, ![1, 2048, 4688]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S2048x4688 : Shape := ⟨2, ![2048, 4688]⟩
abbrev S32x4x4688 : Shape := ⟨3, ![32, 4, 4688]⟩
abbrev S32x4x1024 : Shape := ⟨3, ![32, 4, 1024]⟩
abbrev S128x1024 : Shape := ⟨2, ![128, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x4688, .f32⟩
  | .hbm, ⟨3, _⟩ => ⟨S2048, .f32⟩
  | .hbm, ⟨4, _⟩ => ⟨S32x4x2048, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x2048, .f32⟩
  | .hbm, ⟨16, _⟩ => ⟨S32x4x2048, .f32⟩
  | .hbm, ⟨17, _⟩ => ⟨S1x1x2048, .f32⟩
  | .hbm, ⟨18, _⟩ => ⟨S32x4x2048, .f32⟩
  | .hbm, ⟨19, _⟩ => ⟨S32x4x2048, .f32⟩
  | .hbm, ⟨20, _⟩ => ⟨S2048x4688, .f32⟩
  | .hbm, ⟨21, _⟩ => ⟨S32x4x4688, .f32⟩
  | .hbm, ⟨22, _⟩ => ⟨S32x4x2048, .f32⟩
  | .hbm, ⟨23, _⟩ => ⟨S32x4x1024, .f32⟩
  | .hbm, ⟨24, _⟩ => ⟨S32x4x1024, .f32⟩
  | .hbm, ⟨25, _⟩ => ⟨S32x4x1024, .f32⟩
  | .hbm, ⟨26, _⟩ => ⟨S32x4x1024, .f32⟩
  | .hbm, ⟨27, _⟩ => ⟨S_, .f32⟩
  | .hbm, ⟨28, _⟩ => ⟨S32x4x1024, .f32⟩
  | .hbm, ⟨29, _⟩ => ⟨S32x4x1024, .f32⟩
  | .hbm, ⟨30, _⟩ => ⟨S_, .f32⟩
  | .hbm, ⟨31, _⟩ => ⟨S32x4x1024, .f32⟩
  | .hbm, ⟨32, _⟩ => ⟨S32x4x1024, .f32⟩
  | .hbm, ⟨33, _⟩ => ⟨S32x4x1024, .f32⟩
  | .hbm, ⟨34, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Pages.lean ====
/-
  The page copies of `sample_scores`, piece by piece.

  At every grid point the kernel waits for sixteen pages of keys, which the previous point started copying out of the
  (transposed) key cache in HBM, and starts the sixteen of the next point. The landing buffer is two slots of sixteen
  rows; row `r` of slot `s` is `piece s r`. This module names those pieces and says what a copy, a wait and a load do
  to them: the contents of a landed slot is the function `landed` of the table and of the cache.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.ValueKit
public import Idealize.ShloMosaic.Lib.Pointwise
public import Idealize.ShloMosaic.Lib.Batch
public import Idealize.ShloMosaic.Lib.Ring
public import Idealize.ShloMosaic.Lib.Ring.Tabled
public import Idealize.ShloMosaic.Lib.Tactic
public import Idealize.ShloMosaic.Lib.WordCmp

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The landing buffer of core `c`, and the cache in HBM. -/
abbrev ringLoc (c : Dev nD) : Loc nD τ sig := (c : Thread nD τ).loc cc0_scratch0
abbrev cacheLoc (c : Dev nD) : Loc nD τ sig := (c : Thread nD τ).loc main_v12

abbrev Ring (F : FTy → Type) : Type := S2x16x64x128.Idx → Elt F .f32
abbrev Cache (F : FTy → Type) : Type := S5120x64x128.Idx → Elt F .f32
abbrev Table : Type := S4096.Idx → BitVec 32

/-- The page the table holds at position `n` (positions and pages outside the table wrap round). -/
def pageAt (tb : Table) (n : ℕ) : Fin 5120 :=
  ⟨(tb (ix1 ⟨n % 4096, Nat.mod_lt _ (by decide)⟩)).toNat % 5120, Nat.mod_lt _ (by decide)⟩

/-- Row `r` of slot `s` of the landing buffer. -/
def piece (s : ℕ) (r : ℕ) : Finset S2x16x64x128.Idx := Finset.univ.filter fun x => (x 0).val = s ∧ (x 1).val = r

/-- What the landing buffer holds once step `t`'s pages have landed, in the rows of the step's slot: row `r` is the page the table
    names at position `16 t + r`. -/
def landed (tb : Table) (C : Cache F) (t : ℕ) : Ring F := fun x =>
  C (ix3 (pageAt tb (16 * t + (x 1).val)) (x 2) (x 3))

/-- Row `r` of slot `s`, as the kernel slices and squeezes it. -/
abbrev rowM (o : Fin 4 → ℕ) (h : ∀ a, o a + S1x1x64x128.size a ≤ S2x16x64x128.size a) : Memref sig .tc .vmem S64x128 .f32 :=
  ((Memref.whole cc0_scratch0).slice (Rect.unit (s := S2x16x64x128) o S1x1x64x128.size h) (fun _ => rfl)).squeeze S64x128
    squeezes_S1x1x64x128_S64x128

/-- A page of the cache, as the kernel slices and squeezes it. -/
abbrev pageM (o : Fin 3 → ℕ) (h : ∀ a, o a + S1x64x128.size a ≤ S5120x64x128.size a) : Memref sig .tc .hbm S64x128 .f32 :=
  ((Memref.whole main_v12).slice (Rect.unit (s := S5120x64x128) o S1x64x128.size h) (fun _ => rfl)).squeeze S64x128
    squeezes_S1x64x128_S64x128

/-- A cell of the kernel's two DMA semaphores, as it slices and squeezes it. -/
abbrev cellM (o : Fin 1 → ℕ) (h : ∀ a, o a + S1.size a ≤ S2.size a) : DmaSems sig S_ :=
  (cc0_scratch1.slice (Rect.unit (s := S2) o S1.size h)).squeeze S_ squeezes_S1_S_

theorem rowM_emb (s r : ℕ) (o : Fin 4 → ℕ) (h) (ho : o = ![s, r, 0, 0]) (y : S64x128.Idx) (a : Fin 4) :
    ((((rowM o h).view.emb y : S2x16x64x128.Idx) a : Fin _) : ℕ) = ![s, r, (y 0).val, (y 1).val] a := by
  subst ho
  have e : Shape.reshapeEquiv (s := S1x1x64x128) (s' := S64x128) squeezes_S1x1x64x128_S64x128.numel_eq y
      = ix4 (n0 := 1) (n1 := 1) (n2 := 64) (n3 := 128) 0 0 (y 0) (y 1) := by
    simp [pointwise]
  show (((Rect.unit (s := S2x16x64x128) ![s, r, 0, 0] S1x1x64x128.size h).emb (Shape.reshapeEquiv (s := S1x1x64x128) (s' := S64x128) squeezes_S1x1x64x128_S64x128.numel_eq y) : S2x16x64x128.Idx) a).val = _
  rw [ValueKit.rect_emb_unit_val, e]
  fin_cases a <;> simp [ix4]

theorem pageM_emb (p : ℕ) (o : Fin 3 → ℕ) (h) (ho : o = ![p, 0, 0]) (y : S64x128.Idx) (a : Fin 3) :
    ((((pageM o h).view.emb y : S5120x64x128.Idx) a : Fin _) : ℕ) = ![p, (y 0).val, (y 1).val] a := by
  subst ho
  have e : Shape.reshapeEquiv (s := S1x64x128) (s' := S64x128) squeezes_S1x64x128_S64x128.numel_eq y
      = ix3 (n0 := 1) (n1 := 64) (n2 := 128) 0 (y 0) (y 1) := by
    simp [pointwise]
  show (((Rect.unit (s := S5120x64x128) ![p, 0, 0] S1x64x128.size h).emb (Shape.reshapeEquiv (s := S1x64x128) (s' := S64x128) squeezes_S1x64x128_S64x128.numel_eq y) : S5120x64x128.Idx) a).val = _
  rw [ValueKit.rect_emb_unit_val, e]
  fin_cases a <;> simp [ix3]

/-- The kernel's view of a row covers exactly the row. -/
theorem rowM_set (s r : ℕ) (o : Fin 4 → ℕ) (h) (ho : o = ![s, r, 0, 0]) : (rowM o h).view.set = piece s r := by
  ext x
  constructor
  · intro hx
    obtain ⟨y, -, rfl⟩ := Finset.mem_map.mp hx
    exact Finset.mem_filter.mpr ⟨Finset.mem_univ _, rowM_emb s r o h ho y 0, rowM_emb s r o h ho y 1⟩
  · intro hx
    have hx := (Finset.mem_filter.mp hx).2
    refine Finset.mem_map.mpr ⟨(ix2 (n0 := 64) (n1 := 128) (x 2) (x 3) : S64x128.Idx), Finset.mem_univ _, ?_⟩
    funext a
    apply Fin.ext
    rw [rowM_emb s r o h ho]
    fin_cases a
    · exact hx.1.symm
    · exact hx.2.symm
    · rfl
    · rfl

/-- The elements of page `p` of the cache. -/
def pageSet (p : ℕ) : Finset S5120x64x128.Idx := Finset.univ.filter fun x => (x 0).val = p

theorem pageM_set (p : ℕ) (o : Fin 3 → ℕ) (h) (ho : o = ![p, 0, 0]) : (pageM o h).view.set = pageSet p := by
  ext x
  constructor
  · intro hx
    obtain ⟨y, -, rfl⟩ := Finset.mem_map.mp hx
    exact Finset.mem_filter.mpr ⟨Finset.mem_univ _, pageM_emb p o h ho y 0⟩
  · intro hx
    have hx := (Finset.mem_filter.mp hx).2
    refine Finset.mem_map.mpr ⟨(ix2 (n0 := 64) (n1 := 128) (x 1) (x 2) : S64x128.Idx), Finset.mem_univ _, ?_⟩
    funext a
    apply Fin.ext
    rw [pageM_emb p o h ho]
    fin_cases a
    · exact hx.symm
    · rfl
    · rfl

/-- A page copied into a row leaves the row as `landed` says. -/
theorem write_page (tb : Table) (C : Cache F) (t s r : ℕ) (hr : r < 16) (o : Fin 4 → ℕ) (h) (ho : o = ![s, r, 0, 0]) (o' : Fin 3 → ℕ) (h')
    (ho' : o' = ![(pageAt tb (16 * t + r)).val, 0, 0]) (fd : Ring F) (x : S2x16x64x128.Idx) (hx : x ∈ piece s r) :
    (rowM o h).view.write (Elt F) fd ((pageM o' h').view.read (Elt F) C) Finset.univ x = landed tb C t x := by
  rw [← rowM_set s r o h ho] at hx
  obtain ⟨y, -, rfl⟩ := Finset.mem_map.mp hx
  refine (View.write_emb_of_mem (v := (rowM o h).view) (Val := Elt F) fd _ (Finset.mem_univ y)).trans ?_
  show C ((pageM o' h').view.emb y) = landed tb C t _
  unfold landed
  have e1 := rowM_emb s r o h ho y 1
  have e2 := rowM_emb s r o h ho y 2
  have e3 := rowM_emb s r o h ho y 3
  congr 1
  funext a
  apply Fin.ext
  rw [pageM_emb _ o' h' ho' y a]
  fin_cases a
  · simp only [ix3]; rw [e1]; rfl
  · exact e2.symm
  · exact e3.symm

/-- A load of a row of a landed slot reads the page. -/
theorem load_row (tb : Table) (C : Cache F) (t s r : ℕ) (o : Fin 4 → ℕ) (h) (ho : o = ![s, r, 0, 0]) :
    ((Memref.whole cc0_scratch0).access (Rect.unit (s := S2x16x64x128) o S1x1x64x128.size h)).read (Elt F) (landed tb C t)
      = fun y => C (ix3 (pageAt tb (16 * t + r)) (y 2) (y 3)) := by
  subst ho
  funext y
  show landed tb C t ((Rect.unit (s := S2x16x64x128) ![s, r, 0, 0] S1x1x64x128.size h).emb y) = _
  unfold landed
  have e := fun a => ValueKit.rect_emb_unit_val (s := S2x16x64x128) ![s, r, 0, 0] S1x1x64x128.size h y a
  have h1 : (y 1).val = 0 := by have := (y 1).isLt; change _ < 1 at this; omega
  congr 1
  funext a
  apply Fin.ext
  fin_cases a
  · simp only [ix3]
    have := e 1
    rw [this, h1]; rfl
  · exact (e 2).trans (Nat.zero_add _)
  · exact (e 3).trans (Nat.zero_add _)

theorem load_row_set (s r : ℕ) (o : Fin 4 → ℕ) (h) (ho : o = ![s, r, 0, 0]) :
    ((Memref.whole cc0_scratch0).access (Rect.unit (s := S2x16x64x128) o S1x1x64x128.size h)).set ⊆ piece s r := by
  subst ho
  intro x hx
  obtain ⟨y, -, rfl⟩ := Finset.mem_map.mp hx
  have e := fun a => ValueKit.rect_emb_unit_val (s := S2x16x64x128) ![s, r, 0, 0] S1x1x64x128.size h y a
  have h0 : (y 0).val = 0 := by have := (y 0).isLt; change _ < 1 at this; omega
  have h1 : (y 1).val = 0 := by have := (y 1).isLt; change _ < 1 at this; omega
  refine Finset.mem_filter.mpr ⟨Finset.mem_univ _, ?_, ?_⟩
  · refine (e 0).trans ?_; rw [h0]; rfl
  · refine (e 1).trans ?_; rw [h1]; rfl

/-- The word the kernel reads at position `n` of the table. -/
theorem load_word (tb : Table) (n : ℕ) (hn : n < 4096) (o : Fin 1 → ℕ) (h) (ho : o = ![n]) (x) :
    ((Memref.whole main_v13).access (Rect.unit (s := S4096) o S1.size h)).read (Elt F) tb x = tb (ix1 ⟨n, hn⟩) := by
  subst ho
  show tb ((Rect.unit (s := S4096) ![n] S1.size h).emb x) = _
  congr 1
  funext a
  apply Fin.ext
  have e := ValueKit.rect_emb_unit_val (s := S4096) ![n] S1.size h x a
  fin_cases a
  have h0 : (x 0).val = 0 := by have := (x 0).isLt; change _ < 1 at this; omega
  refine e.trans ?_
  show n + (x 0).val = n
  omega

theorem pageAt_val (tb : Table) (n : ℕ) (hn : n < 4096) (hp : ∀ i, (tb i).toNat < 5120) : (pageAt tb n).val = (tb (ix1 ⟨n, hn⟩)).toNat := by
  unfold pageAt
  simp only [Nat.mod_eq_of_lt hn]
  exact Nat.mod_eq_of_lt (hp _)

end Cert.Pages

end
-- ==== Proof.Copies.lean ====
/-
  One step's sixteen copies: issued one by one on the step's own DMA cell, waited for one by one, the landed slot then read.

  A slot is in one of three states. `Free`: nothing in flight, the slot at any contents. `Issuing k`: the first `k` copies
  of step `t` started. `Waiting u`: all started, `u` units already consumed by waits. The last wait hands back the whole
  slot, holding step `t`'s pages (`Ready`). The cache is only read; each of the 32 rows lends its own share of it.
-/
module

public import proofs.«01_k».proof.Proof.Pages

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

/-- The DMA cell of slot `s`. -/
def cell (s : ℕ) : DmaSem sig := if s = 0 then 10 else 11

theorem cellM_sem (s : ℕ) (hs : s < 2) (o : Fin 1 → ℕ) (h) (ho : o = ![s]) : (cellM o h).sem = cell s := by
  subst ho
  rcases s with _ | _ | s
  · apply Fin.ext
    simp only [cellM, SemArray.sem, SemArray.squeeze, SemArray.slice, SemArray.consecutive, cell]
    decide +revert
  · apply Fin.ext
    simp only [cellM, SemArray.sem, SemArray.squeeze, SemArray.slice, SemArray.consecutive, cell]
    decide +revert
  · omega

/-- The share of the cache the row `r` of slot `s` lends. -/
def share (s : ℕ) (r : Fin 16) : PosShare TreeShare :=
  Idealize.ShloMosaic.Ring.sharesN 32 fullShare ⟨(16 * s + r.val) % 32, Nat.mod_lt _ (by decide)⟩

/-- The units one copy credits. -/
def units : ℕ := (rowM ![0, 0, 0, 0] (by decide)).view.dmaCredit

theorem units_pos : 0 < units := by unfold units; decide

/-- The rows of slot `s`. -/
def slot (s : ℕ) : Finset S2x16x64x128.Idx := Finset.univ.filter fun x => (x 0).val = s

variable (c : Dev nD) (tb : Table) (C : Cache F)

/-- What copy `r` of step `t` into slot `s` delivers: the row holding its page, and the page's elements of the cache back. -/
def delivered (t s : ℕ) (r : Fin 16) : sProp 𝕄 :=
  iprop((ringLoc c ↦[piece s r.val]{fullShare} landed tb C t)
    ∗ (cacheLoc c ↦[pageSet (pageAt tb (16 * t + r.val)).val]{share s r} C))

instance delivered_storable (t s : ℕ) (r : Fin 16) : Storable (upEmb : UEmb _ 𝕄) (delivered c tb C t s r) := by
  unfold delivered; infer_instance

/-- The rest of row `r`'s share of the cache while its page is lent. -/
def kept (t s : ℕ) (r : Fin 16) : sProp 𝕄 :=
  cacheLoc c ↦[Finset.univ \ pageSet (pageAt tb (16 * t + r.val)).val]{share s r} C

def lent (s : ℕ) (r : Fin 16) : sProp 𝕄 := cacheLoc c ↦{share s r} C

theorem lent_split (t s : ℕ) (r : Fin 16) :
    lent c C s r ⊣⊢ iprop((cacheLoc c ↦[pageSet (pageAt tb (16 * t + r.val)).val]{share s r} C) ∗ kept c tb C t s r) := by
  unfold lent kept
  exact pointsTo_split_subset (Finset.subset_univ _)

abbrev batch (t s k u : ℕ) : sProp 𝕄 :=
  Batch (countersEmb (U := Pipeline.UD sig nD τ)) (c : Thread nD τ) (.dma (cell s)) () units (delivered c tb C t s) k u

def Free (s : ℕ) : sProp 𝕄 :=
  iprop((∃ f : Ring F, ringLoc c ↦[slot s]{fullShare} f) ∗ semVal ((c : Thread nD τ), .dma (cell s)) 0
    ∗ bigSep Finset.univ (lent c C s))

def Issuing (t s k : ℕ) : sProp 𝕄 :=
  iprop(batch c tb C t s k 0 ∗ bigSep (issued k) (kept c tb C t s)
    ∗ bigSep (pending k) (fun r => iprop((∃ f : Ring F, ringLoc c ↦[piece s r.val]{fullShare} f) ∗ lent c C s r)))

def Waiting (t s u : ℕ) : sProp 𝕄 :=
  iprop(batch c tb C t s 16 u ∗ bigSep Finset.univ (kept c tb C t s) ∗ ∃ W, owes (c : Thread nD τ) 0 W)

def Ready (t s : ℕ) : sProp 𝕄 :=
  iprop((ringLoc c ↦[slot s]{fullShare} landed tb C t) ∗ semVal ((c : Thread nD τ), .dma (cell s)) 0
    ∗ bigSep Finset.univ (lent c C s))

theorem piece_disjoint (s : ℕ) (r r' : Fin 16) (h : r ≠ r') : Disjoint (piece s r.val) (piece s r'.val) := by
  rw [Finset.disjoint_left]
  intro x h1 h2
  exact h (Fin.ext ((Finset.mem_filter.mp h1).2.2.symm.trans (Finset.mem_filter.mp h2).2.2))

theorem piece_cover (s : ℕ) : (Finset.univ.biUnion fun r : Fin 16 => piece s r.val) = slot s := by
  ext x
  constructor
  · intro h
    obtain ⟨r, -, h⟩ := Finset.mem_biUnion.mp h
    exact Finset.mem_filter.mpr ⟨Finset.mem_univ _, (Finset.mem_filter.mp h).2.1⟩
  · intro h
    exact Finset.mem_biUnion.mpr ⟨⟨(x 1).val, (x 1).isLt⟩, Finset.mem_univ _,
      Finset.mem_filter.mpr ⟨Finset.mem_univ _, (Finset.mem_filter.mp h).2, rfl⟩⟩

theorem slot_pieces (s : ℕ) (f : Ring F) :
    (ringLoc c ↦[slot s]{fullShare} f : sProp 𝕄) = bigSep Finset.univ fun r : Fin 16 => ringLoc c ↦[piece s r.val]{fullShare} f := by
  refine Idealize.ShloMosaic.Ring.pointsTo_sub_blocks (ℓ := ringLoc c) (fun r : Fin 16 => piece s r.val) ?_ (slot s) (piece_cover s) f
  intro b b' h
  exact piece_disjoint s b b' h

theorem pieces_free (s : ℕ) (f : Ring F) :
    (bigSep Finset.univ fun r : Fin 16 => (ringLoc c ↦[piece s r.val]{fullShare} f : sProp 𝕄))
      ⊢ bigSep Finset.univ fun r : Fin 16 => iprop(∃ f : Ring F, ringLoc c ↦[piece s r.val]{fullShare} f) := by
  exact bigSep_mono fun r _ => exists_intro (Φ := fun f : Ring F => (ringLoc c ↦[piece s r.val]{fullShare} f : sProp 𝕄)) f

/-- Before the first copy of a step: the batch is allocated on the slot's idle cell, the slot cut into its rows. -/
theorem start (t s : ℕ) : Free c C s ⊢ |={Set.univ}=> Issuing c tb C t s 0 := by
  unfold Free Issuing
  iintro ⟨⟨%f, Hf⟩, Hc, Hl⟩
  imod (Transfers.batch_alloc' (Lvl := ℕ) (countersEmb (U := Pipeline.UD sig nD τ)) (c : Thread nD τ) () units
      (delivered c tb C t s) (sm := .dma (cell s)) (E := Set.univ)) $$ Hc with HB
  imodintro
  isplitl [HB]; · iexact HB
  rw [Transfers.issued_zero, Transfers.pending_zero, bigSep_empty]
  isplitr; · iempintro
  rw [bigSep_sep']
  isplitl [Hf]
  · ihave Hf := (Entails.of_eq (slot_pieces c s f)) $$ Hf
    iapply (pieces_free c s f) $$ Hf
  · iexact Hl

/-- All sixteen started. -/
theorem started (t s : ℕ) : iprop(Issuing c tb C t s 16 ∗ ∃ W, owes (c : Thread nD τ) 0 W) ⊢ Waiting c tb C t s 0 := by
  unfold Issuing Waiting
  rw [Transfers.issued_all rfl]
  iintro ⟨⟨HB, Hk, -⟩, Ho⟩
  isplitl [HB]; · iexact HB
  isplitl [Hk]; · iexact Hk
  iexact Ho

/-- A step read and done: its slot is free again. -/
theorem finish (t s : ℕ) : Ready c tb C t s ⊢ Free c C s := by
  unfold Ready Free
  iintro ⟨Hr, Hc, Hl⟩
  isplitl [Hr]; · iexists _; iexact Hr
  isplitl [Hc]; · iexact Hc
  iexact Hl

/-- The weakest precondition of a piece of the kernel's body. -/
abbrev wpk {α : Type} (p : Prog (TpuEff nD τ sig (Elt F) Λ₀ .tc) α) (Q : α → sProp 𝕄) : sProp 𝕄 :=
  wp frame (wpE (defs₀ (F := F)) Variants.none (c : Thread nD τ) none) Set.univ p Q

/-- One copy started. -/
theorem wp_issue {α : Type} (t s k : ℕ) (hk : k < 16) (hs : s < 2)
    {o3 : Fin 3 → ℕ} {o4 : Fin 4 → ℕ} {o1 : Fin 1 → ℕ} {h3 h4 h1}
    (ho3 : o3 = ![(pageAt tb (16 * t + k)).val, 0, 0]) (ho4 : o4 = ![s, k, 0, 0]) (ho1 : o1 = ![s])
    {hsr hds hsz} {K : PUnit → Prog (TpuEff nD τ sig (Elt F) Λ₀ .tc) α} {Q : α → sProp 𝕄} :
    Issuing c tb C t s k
    ⊢ iprop((Issuing c tb C t s (k + 1) -∗ wpk c (K ⟨⟩) Q)
      -∗ wpk c (Prog.lift (.enqueueDma (pageM o3 h3) (.here (rowM o4 h4)) (.dma (cellM o1 h1).sem) hsr hds hsz) >>= K) Q) := by
  have hc := cellM_sem s hs o1 h1 ho1
  have hp := pageM_set _ o3 h3 ho3
  have hr := rowM_set s k o4 h4 ho4
  show _ ⊢ iprop(_ -∗ wpk c (.op (.enqueueDma (pageM o3 h3) (.here (rowM o4 h4)) (.dma (cellM o1 h1).sem) hsr hds hsz) K) Q)
  revert hsr hds hsz
  rw [hc]
  intro hsr hds hsz
  unfold Issuing
  iintro ⟨HB, Hk, Hp⟩ HK
  ihave Hp := (show bigSep (pending k) _ ⊢ iprop(((∃ f : Ring F, ringLoc c ↦[piece s k]{fullShare} f) ∗ lent c C s ⟨k, hk⟩) ∗ bigSep (pending (k + 1))
      (fun r => iprop((∃ f : Ring F, ringLoc c ↦[piece s r.val]{fullShare} f) ∗ lent c C s r)))
    from Entails.of_eq (by rw [Transfers.pending_succ hk, bigSep_insert (Transfers.not_mem_pending_succ hk)]; rfl)) $$ Hp
  icases Hp with ⟨⟨⟨%f, Hf⟩, Hl⟩, Hp⟩
  ihave Hl := (lent_split c tb C t s ⟨k, hk⟩).1 $$ Hl
  icases Hl with ⟨Hl, Hn⟩
  have hD : iprop(((rowM o4 h4).view.loc (c : Thread nD τ) ↦[piece s k]{fullShare} ((rowM o4 h4).view.write (Elt F) f
        (ReadAs.same.apply ((pageM o3 h3).view.read (Elt F) C)) Finset.univ))
      ∗ ((pageM o3 h3).view.loc (c : Thread nD τ) ↦[(pageM o3 h3).view.set]{share s ⟨k, hk⟩} C)) ⊢ delivered c tb C t s ⟨k, hk⟩ := by
    unfold delivered
    rw [hp]
    refine sep_mono_left (Entails.of_eq ?_)
    exact pointsTo_congr fun x hx => write_page tb C t s k hk o4 h4 ho4 o3 h3 ho3 f x hx
  have hN : (rowM o4 h4).view.amount (.dma (cell s)) = units := rfl
  ihave HW := (Transfers.wp_dmaBatch (countersEmb (U := Pipeline.UD sig nD τ)) Variants.none (c : Thread nD τ) none (defs := defs₀ (F := F)) (Q := Q) (k := K) (src := pageM o3 h3)
    (dst := rowM o4 h4) (via := ReadAs.same) (sm := .dma (cell s)) (hsrc := hsr) (hdst := hds) (hsem := hsz) (u := 0)
    (q := share s ⟨k, hk⟩) (fs := C) (fd := f)
      (Sd := piece s k) () units hN hr.le hk (Nat.zero_le _) hD) $$ [Hl Hf HB]
  · isplitl [Hl]
    · rw [hp]; iexact Hl
    isplitl [Hf]; · iexact Hf
    iexact HB
  iapply HW
  iintro HB
  iapply HK
  isplitl [HB]; · iexact HB
  isplitl [Hk Hn]
  · have e : bigSep (issued (k + 1)) (kept c tb C t s) = iprop(kept c tb C t s ⟨k, hk⟩ ∗ bigSep (issued k) (kept c tb C t s)) := by
      rw [Transfers.issued_succ hk, bigSep_insert (Transfers.not_mem_issued hk)]; rfl
    rw [e]
    isplitl [Hn]; · iexact Hn
    iexact Hk
  iexact Hp

theorem not_yet (k u : ℕ) (hk : k < 15) (hu : 0 < u) : k * u + u < u * 16 := by
  have := Nat.mul_lt_mul_of_pos_right (Nat.succ_lt_succ hk) hu
  rw [Nat.succ_mul] at this
  omega

theorem at_last (u : ℕ) : 15 * u + u = u * 16 := by omega

/-- One copy waited for, not the last. -/
theorem wp_wait {α : Type} (t s k : ℕ) (hk : k < 15) (hs : s < 2)
    {o3 : Fin 3 → ℕ} {o4 : Fin 4 → ℕ} {o1 : Fin 1 → ℕ} {h3 h4 h1}
    (ho1 : o1 = ![s])
    {hsr hds} {K : PUnit → Prog (TpuEff nD τ sig (Elt F) Λ₀ .tc) α} {Q : α → sProp 𝕄} :
    Waiting c tb C t s (k * units)
    ⊢ iprop((Waiting c tb C t s ((k + 1) * units) -∗ wpk c (K ⟨⟩) Q)
      -∗ wpk c (Prog.lift (.waitDma2 (cellM o1 h1).sem (pageM o3 h3) (rowM o4 h4) hsr hds) >>= K) Q) := by
  show _ ⊢ iprop(_ -∗ wpk c (.op (.waitDma2 (cellM o1 h1).sem (pageM o3 h3) (rowM o4 h4) hsr hds) K) Q)
  rw [cellM_sem s hs o1 h1 ho1]
  unfold Waiting
  have hlt := not_yet k units hk units_pos
  iintro ⟨HB, Hk, %W, Ho⟩ HK
  iapply (Transfers.wp_waitBatch (countersEmb (U := Pipeline.UD sig nD τ)) Variants.none (c : Thread nD τ) none () (N := units) (by rfl) hlt) $$ [HB Ho]
  · isplitl [HB]; · iexact HB
    iexact Ho
  iintro ⟨HB, Ho⟩
  iapply HK
  isplitl [HB]; · rw [Nat.succ_mul]; iexact HB
  isplitl [Hk]; · iexact Hk
  iexists _; iexact Ho

/-- The last wait: the slot is landed, every share of the cache whole again. -/
theorem wp_wait_last {α : Type} (t s : ℕ) (hs : s < 2)
    {o3 : Fin 3 → ℕ} {o4 : Fin 4 → ℕ} {o1 : Fin 1 → ℕ} {h3 h4 h1}
    (ho1 : o1 = ![s])
    {hsr hds} {K : PUnit → Prog (TpuEff nD τ sig (Elt F) Λ₀ .tc) α} {Q : α → sProp 𝕄} :
    Waiting c tb C t s (15 * units)
    ⊢ iprop((iprop(Ready c tb C t s ∗ ∃ W, owes (c : Thread nD τ) 0 W) -∗ wpk c (K ⟨⟩) Q)
      -∗ wpk c (Prog.lift (.waitDma2 (cellM o1 h1).sem (pageM o3 h3) (rowM o4 h4) hsr hds) >>= K) Q) := by
  show _ ⊢ iprop(_ -∗ wpk c (.op (.waitDma2 (cellM o1 h1).sem (pageM o3 h3) (rowM o4 h4) hsr hds) K) Q)
  rw [cellM_sem s hs o1 h1 ho1]
  unfold Waiting
  have hu := at_last units
  iintro ⟨HB, Hk, %W, Ho⟩ HK
  iapply (Transfers.wp_waitBatchLast (countersEmb (U := Pipeline.UD sig nD τ)) Variants.none (c : Thread nD τ) none () (N := units) (by rfl) units_pos hu) $$ [HB Ho]
  · isplitl [HB]; · iexact HB
    iexact Ho
  iintro ⟨HD, Hc, Ho⟩
  iapply HK
  isplitr [Ho]
  · unfold Ready
    ihave HD := (Entails.of_eq (show bigSep Finset.univ (delivered c tb C t s) = _ from bigSep_sep' _ _ _)) $$ HD
    icases HD with ⟨Hr, Hl⟩
    isplitl [Hr]
    · rw [slot_pieces]; iexact Hr
    isplitl [Hc]; · iexact Hc
    have hl : lent c C s = fun r => iprop((cacheLoc c ↦[pageSet (pageAt tb (16 * t + r.val)).val]{share s r} C) ∗ kept c tb C t s r) :=
      funext fun r => Entails.antisymm (lent_split c tb C t s r).1 (lent_split c tb C t s r).2
    rw [hl, bigSep_sep']
    isplitl [Hl]; · iexact Hl
    iexact Hk
  iexists _; iexact Ho

end Cert.Pages

end
-- ==== Proof.Words.lean ====
/-
  The kernel's reads and writes apart from its copies: a word of the page table with the check on it, a landed page,
  a staged block read whole, a result's block written whole.
-/
module

public import proofs.«01_k».proof.Proof.Copies

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

/-- The page table of core `c` in scalar memory. -/
abbrev tabLoc (c : Dev nD) : Loc nD τ sig := (c : Thread nD τ).loc main_v13

variable (c : Dev nD) (tb : Table) (C : Cache F)

/-- A word of the table is read and checked: every check is one a word under 5120 passes. -/
theorem wp_word {α : Type} (n : ℕ) (hn : n < 4096) (htb : ∀ i, (tb i).toNat < 5120) {q : PosShare TreeShare}
    {o1 : Fin 1 → ℕ} {h1 hs hl} (ho : o1 = ![n]) {P : Elt F .i32 → Prop} {d : ∀ w, Decidable (P w)}
    (hP : ∀ w : BitVec 32, w.toNat < 5120 → P w)
    {K : (w : Elt F .i32) → PLift (P w) → Prog (TpuEff nD τ sig (Elt F) Λ₀ .tc) α} {Q : α → sProp 𝕄} :
    (tabLoc c ↦{q} tb : sProp 𝕄)
    ⊢ iprop((∀ (w : BitVec 32) (h : PLift (P w)), ⌜w.toNat = (pageAt tb n).val⌝ -∗ (tabLoc c ↦{q} tb) -∗ wpk c (K w h) Q)
      -∗ wpk c (smemLoad (Memref.whole main_v13) (Rect.unit (s := S4096) o1 S1.size h1) hs hl
          >>= fun w => Prog.lift (TpuEff.assume (P w) (d w)) >>= fun h => K w h) Q) := by
  set m := (Memref.whole main_v13).access (Rect.unit (s := S4096) o1 S1.size h1) with hm
  have hld : ∀ x, m.read (Elt F) tb x = tb (ix1 ⟨n, hn⟩) := fun x => load_word tb n hn o1 h1 ho x
  have hp : (tb (ix1 ⟨n, hn⟩)).toNat = (pageAt tb n).val := (pageAt_val tb n hn htb).symm
  have hw : (tabLoc c ↦{q} tb : sProp 𝕄) ⊢ iprop(((tabLoc c ↦{q} tb)
        -∗ wpk c (Prog.lift (TpuEff.assume (P (tb (ix1 ⟨n, hn⟩))) (d (tb (ix1 ⟨n, hn⟩)))) >>= fun h => K (tb (ix1 ⟨n, hn⟩)) h) Q)
      -∗ wpk c (smemLoad (Memref.whole main_v13) (Rect.unit (s := S4096) o1 S1.size h1) hs hl
          >>= fun w => Prog.lift (TpuEff.assume (P w) (d w)) >>= fun h => K w h) Q) := by
    rw [← hld (Shape.Idx.first (hs.symm ▸ Nat.one_pos))]
    exact wp_load_rect (defs := defs₀ (F := F)) Variants.none (c : Thread nD τ) none Set.univ (m := Memref.whole main_v13)
      (r := Rect.unit (s := S4096) o1 S1.size h1) (S := Finset.univ) (f := tb) (q := q) (Q := Q)
      (k := fun f => Prog.lift (TpuEff.assume (P (f (Shape.Idx.first (hs.symm ▸ Nat.one_pos)))) (d (f (Shape.Idx.first (hs.symm ▸ Nat.one_pos)))))
        >>= fun h => K (f (Shape.Idx.first (hs.symm ▸ Nat.one_pos))) h) (Finset.subset_univ _)
  have ha : wpk c (K (tb (ix1 ⟨n, hn⟩)) ⟨hP _ (htb _)⟩) Q
      ⊢ wpk c (Prog.lift (TpuEff.assume (P (tb (ix1 ⟨n, hn⟩))) (d (tb (ix1 ⟨n, hn⟩)))) >>= fun h => K (tb (ix1 ⟨n, hn⟩)) h) Q :=
    wp_assume (defs := defs₀ (F := F)) Variants.none (c : Thread nD τ) none Set.univ (k := fun h => K (tb (ix1 ⟨n, hn⟩)) h) (hP _ (htb _))
  iintro Ht HK
  iapply hw $$ Ht
  iintro Ht
  iapply ha
  iapply HK $$ %(tb (ix1 ⟨n, hn⟩)) %⟨hP _ (htb _)⟩ %hp Ht

/-- The page the table names at position `n`, as the block the kernel reads. -/
def pageBlock (n : ℕ) : Vec F S1x1x64x128 .f32 := fun y => C (ix3 (pageAt tb n) (y 2) (y 3))

/-- A landed page is read. -/
theorem wp_landed {α : Type} (t s r : ℕ) {o4 : Fin 4 → ℕ} {h4 hl} (ho : o4 = ![s, r, 0, 0])
    {K : Vec F S1x1x64x128 .f32 → Prog (TpuEff nD τ sig (Elt F) Λ₀ .tc) α} {Q : α → sProp 𝕄} :
    Ready c tb C t s
    ⊢ iprop((Ready c tb C t s -∗ wpk c (K (pageBlock tb C (16 * t + r))) Q)
      -∗ wpk c (Prog.lift (.load (Memref.whole cc0_scratch0) (Rect.unit (s := S2x16x64x128) o4 S1x1x64x128.size h4).toLoadRect hl) >>= K) Q) := by

  have hsub : ((Memref.whole cc0_scratch0).access (Rect.unit (s := S2x16x64x128) o4 S1x1x64x128.size h4)).set ⊆ slot s :=
    (load_row_set s r o4 h4 ho).trans fun x hx => Finset.mem_filter.mpr ⟨Finset.mem_univ _, (Finset.mem_filter.mp hx).2.1⟩
  have hw : (ringLoc c ↦[slot s]{fullShare} landed tb C t : sProp 𝕄) ⊢ iprop(((ringLoc c ↦[slot s]{fullShare} landed tb C t)
        -∗ wpk c (K (pageBlock tb C (16 * t + r))) Q)
      -∗ wpk c (Prog.lift (.load (Memref.whole cc0_scratch0) (Rect.unit (s := S2x16x64x128) o4 S1x1x64x128.size h4).toLoadRect hl) >>= K) Q) := by
    have e : ((Memref.whole cc0_scratch0).access (Rect.unit (s := S2x16x64x128) o4 S1x1x64x128.size h4)).read (Elt F) (landed tb C t)
        = pageBlock tb C (16 * t + r) := load_row tb C t s r o4 h4 ho
    rw [← e]
    exact wp_load_rect (defs := defs₀ (F := F)) Variants.none (c : Thread nD τ) none Set.univ (m := Memref.whole cc0_scratch0)
      (r := Rect.unit (s := S2x16x64x128) o4 S1x1x64x128.size h4) (S := slot s) (f := landed tb C t) (q := fullShare) (Q := Q) (k := K) hsub
  unfold Ready
  iintro ⟨Hr, Hc⟩ HK
  iapply hw $$ Hr
  iintro Hr
  iapply HK
  isplitl [Hr]; · iexact Hr
  iexact Hc

/-- A staged block is read whole. -/
theorem wp_whole_load {α : Type} {s : Shape} {e : EltTy} (m : Memref sig .tc .vmem s e) {o : Fin s.rank → ℕ} {h hl} (ho : ∀ a, o a = 0)
    {q : PosShare TreeShare} {x : s.Idx → Elt F e}
    {K : (s.Idx → Elt F e) → Prog (TpuEff nD τ sig (Elt F) Λ₀ .tc) α} {Q : α → sProp 𝕄} :
    (owns (c : Thread nD τ) m q x : sProp 𝕄)
    ⊢ iprop((owns (c : Thread nD τ) m q x -∗ wpk c (K x) Q)
      -∗ wpk c (Prog.lift (.load m (Rect.unit (s := s) o s.size h).toLoadRect hl) >>= K) Q) := by
  have hr : ∀ y, (Rect.unit (s := s) o s.size h).emb y = y := fun y => funext fun a => Fin.ext
    ((ValueKit.rect_emb_unit_val (s := s) o s.size h y a).trans (by rw [ho, Nat.zero_add]))
  unfold owns
  iintro ⟨%f, %hf, Hf⟩ HK
  have hw : (m.view.loc (c : Thread nD τ) ↦[m.view.set]{q} f : sProp 𝕄) ⊢ iprop(((m.view.loc (c : Thread nD τ) ↦[m.view.set]{q} f)
        -∗ wpk c (K x) Q)
      -∗ wpk c (Prog.lift (.load m (Rect.unit (s := s) o s.size h).toLoadRect hl) >>= K) Q) := by
    have e : (m.access (Rect.unit (s := s) o s.size h)).read (Elt F) f = x := by
      funext y
      rw [← hf]
      show m.view.read (Elt F) f ((Rect.unit (s := s) o s.size h).emb y) = _
      rw [hr]
    rw [← e]
    exact wp_load_rect (defs := defs₀ (F := F)) Variants.none (c : Thread nD τ) none Set.univ (m := m)
      (r := Rect.unit (s := s) o s.size h) (S := m.view.set) (f := f) (q := q) (Q := Q) (k := K) (View.set_slice_subset _ _)
  iapply hw $$ Hf
  iintro Hf
  iapply HK
  iexists f
  isplitr
  · ipureintro; exact hf
  iexact Hf

/-- A result's block is written whole. -/
theorem wp_whole_store {α : Type} {s : Shape} {e : EltTy} (m : Memref sig .tc .vmem s e) {o : Fin s.rank → ℕ} {h hx hm} (ho : ∀ a, o a = 0)
    {x w : s.Idx → Elt F e}
    {K : PUnit → Prog (TpuEff nD τ sig (Elt F) Λ₀ .tc) α} {Q : α → sProp 𝕄} :
    (owns (c : Thread nD τ) m fullShare x : sProp 𝕄)
    ⊢ iprop((owns (c : Thread nD τ) m fullShare w -∗ wpk c (K ⟨⟩) Q)
      -∗ wpk c (Prog.lift (.store m (Rect.unit (s := s) o s.size h) w Finset.univ hx hm) >>= K) Q) := by
  have hr : ∀ y, (Rect.unit (s := s) o s.size h).emb y = y := fun y => funext fun a => Fin.ext
    ((ValueKit.rect_emb_unit_val (s := s) o s.size h y a).trans (by rw [ho, Nat.zero_add]))
  unfold owns
  iintro ⟨%f, %hf, Hf⟩ HK
  have hw : (m.view.loc (c : Thread nD τ) ↦[m.view.set]{fullShare} f : sProp 𝕄) ⊢ iprop(((m.view.loc (c : Thread nD τ) ↦[m.view.set]{fullShare}
          (m.access (Rect.unit (s := s) o s.size h)).write (Elt F) f w Finset.univ) -∗ wpk c (K ⟨⟩) Q)
      -∗ wpk c (Prog.lift (.store m (Rect.unit (s := s) o s.size h) w Finset.univ hx hm) >>= K) Q) :=
    wp_store (defs := defs₀ (F := F)) Variants.none (c : Thread nD τ) none Set.univ (m := m)
      (r := Rect.unit (s := s) o s.size h) (S := m.view.set) (f := f) (Q := Q) (k := K) (View.set_slice_subset _ _)
  iapply hw $$ Hf
  iintro Hf
  iapply HK
  iexists _
  isplitr; swap; · iexact Hf
  ipureintro
  have e := View.read_write_univ (v := m.access (Rect.unit (s := s) o s.size h)) (Val := Elt F) f w
  funext y
  have e' := congrFun e y
  rw [← e']
  show _ = m.view.read (Elt F) _ ((Rect.unit (s := s) o s.size h).emb y)
  rw [hr]

/-- A piece that is done. -/
theorem wp_done {α : Type} {a : α} {Q : α → sProp 𝕄} : Q a ⊢ wpk c (pure a) Q := by
  unfold wpk
  rw [wp_pure]
  exact fupd_intro

theorem page_off {v : BitVec 32} {n : ℕ} (h : v.toNat = (pageAt tb n).val) : (![v.toNat, 0, 0] : Fin 3 → ℕ) = ![(pageAt tb n).val, 0, 0] := by
  rw [h]

theorem page_ok (w : BitVec 32) (h : w.toNat < 5120) : ∀ a : Fin 3, (![w.toNat, 0, 0] : Fin 3 → ℕ) a + S1x64x128.size a ≤ S5120x64x128.size a := by
  intro a
  fin_cases a
  · show w.toNat + 1 ≤ 5120; omega
  · show 0 + 64 ≤ 64; omega
  · show 0 + 128 ≤ 128; omega

theorem word_next {i : grid0.Coords} {t : ℕ} (ht : 8 * (i 0).val + (i 1).val = t) (r : Fin 16) :
    k0_off17 i (BitVec.ofNat 32 r.val) = ![16 * (t + 1) + r.val] := by
  rw [k0_off17_eq, show 128 * (i 0).val + 16 * (i 1).val + r.val + 16 = 16 * (t + 1) + r.val by omega]

theorem word_this {i : grid0.Coords} {t : ℕ} (ht : 8 * (i 0).val + (i 1).val = t) (r : Fin 16) :
    k0_off66 i (BitVec.ofNat 32 r.val) = ![16 * t + r.val] := by
  rw [k0_off66_eq, show 128 * (i 0).val + 16 * (i 1).val + r.val = 16 * t + r.val by omega]

end Cert.Pages

end
-- ==== Proof.Issues.lean ====
/-
  The parts of the body that read the page table ahead and start copies: the first step's own (parts 1 to 4), the next
  step's (parts 5 to 9).
-/
module

public import proofs.«01_k».proof.Proof.Words

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (tb : Table) (C : Cache F) (i : grid0.Coords)
variable (arg3 : Memref sig .tc .vmem S1x128x64 .bf16) (harg3 : arg3.IsWhole) (arg4 : Memref sig .tc .vmem S1x128x1 .f32) (harg4 : arg4.IsWhole) (arg5 : Memref sig .tc .vmem S1x64x128 .bf16) (harg5 : arg5.IsWhole) (arg7 : Memref sig .tc .vmem S1x8x2048 .f32) (harg7 : arg7.IsWhole) (arg8 : Memref sig .tc .vmem S1x8x128 .f32) (harg8 : arg8.IsWhole)
variable (h2 : (Memref.whole main_v13).IsWhole) (h6 : (Memref.whole main_v12).IsWhole) (h9 : (Memref.whole cc0_scratch0).IsWhole)
include C

/-- Part 1 of the body: 16 words of the table read and checked. -/
theorem part1_run {q : PosShare TreeShare} (k0_h1 : k0_cond1 i = 1#1) (htb : ∀ i, (tb i).toNat < 5120)
    {Q : (Σ' (v252 : Elt F .i32) (k0_hw1 : k0_chk1 i v252) (v253 : Elt F .i32) (k0_hw2 : k0_chk2 i v253) (v254 : Elt F .i32) (k0_hw3 : k0_chk3 i v254) (v255 : Elt F .i32) (k0_hw4 : k0_chk4 i v255) (v256 : Elt F .i32) (k0_hw5 : k0_chk5 i v256) (v257 : Elt F .i32) (k0_hw6 : k0_chk6 i v257) (v258 : Elt F .i32) (k0_hw7 : k0_chk7 i v258) (v259 : Elt F .i32) (k0_hw8 : k0_chk8 i v259) (v260 : Elt F .i32) (k0_hw9 : k0_chk9 i v260) (v261 : Elt F .i32) (k0_hw10 : k0_chk10 i v261) (v262 : Elt F .i32) (k0_hw11 : k0_chk11 i v262) (v263 : Elt F .i32) (k0_hw12 : k0_chk12 i v263) (v264 : Elt F .i32) (k0_hw13 : k0_chk13 i v264) (v265 : Elt F .i32) (k0_hw14 : k0_chk14 i v265) (v266 : Elt F .i32) (k0_hw15 : k0_chk15 i v266) (v267 : Elt F .i32), k0_chk16 i v267) → sProp 𝕄} :
    iprop((tabLoc c ↦{q} tb))
    ⊢ iprop((∀ (v252 : BitVec 32) (hv252 : PLift (k0_chk1 i v252)) (v253 : BitVec 32) (hv253 : PLift (k0_chk2 i v253)) (v254 : BitVec 32) (hv254 : PLift (k0_chk3 i v254)) (v255 : BitVec 32) (hv255 : PLift (k0_chk4 i v255)) (v256 : BitVec 32) (hv256 : PLift (k0_chk5 i v256)) (v257 : BitVec 32) (hv257 : PLift (k0_chk6 i v257)) (v258 : BitVec 32) (hv258 : PLift (k0_chk7 i v258)) (v259 : BitVec 32) (hv259 : PLift (k0_chk8 i v259)) (v260 : BitVec 32) (hv260 : PLift (k0_chk9 i v260)) (v261 : BitVec 32) (hv261 : PLift (k0_chk10 i v261)) (v262 : BitVec 32) (hv262 : PLift (k0_chk11 i v262)) (v263 : BitVec 32) (hv263 : PLift (k0_chk12 i v263)) (v264 : BitVec 32) (hv264 : PLift (k0_chk13 i v264)) (v265 : BitVec 32) (hv265 : PLift (k0_chk14 i v265)) (v266 : BitVec 32) (hv266 : PLift (k0_chk15 i v266)) (v267 : BitVec 32) (hv267 : PLift (k0_chk16 i v267)), ⌜v252.toNat = (pageAt tb 0).val ∧ v253.toNat = (pageAt tb 1).val ∧ v254.toNat = (pageAt tb 2).val ∧ v255.toNat = (pageAt tb 3).val ∧ v256.toNat = (pageAt tb 4).val ∧ v257.toNat = (pageAt tb 5).val ∧ v258.toNat = (pageAt tb 6).val ∧ v259.toNat = (pageAt tb 7).val ∧ v260.toNat = (pageAt tb 8).val ∧ v261.toNat = (pageAt tb 9).val ∧ v262.toNat = (pageAt tb 10).val ∧ v263.toNat = (pageAt tb 11).val ∧ v264.toNat = (pageAt tb 12).val ∧ v265.toNat = (pageAt tb 13).val ∧ v266.toNat = (pageAt tb 14).val ∧ v267.toNat = (pageAt tb 15).val⌝ -∗ (tabLoc c ↦{q} tb) -∗ Q ⟨v252, hv252.down, v253, hv253.down, v254, hv254.down, v255, hv255.down, v256, hv256.down, v257, hv257.down, v258, hv258.down, v259, hv259.down, v260, hv260.down, v261, hv261.down, v262, hv262.down, v263, hv263.down, v264, hv264.down, v265, hv265.down, v266, hv266.down, v267, hv267.down⟩)
      -∗ wpk c (k0_part1 i (Memref.whole main_v13) h2 arg3 harg3 arg4 harg4 arg5 harg5 (Memref.whole main_v12) h6 arg7 harg7 arg8 harg8 (Memref.whole cc0_scratch0) h9 cc0_scratch1 k0_h1) Q) := by
  rw [k0_part1_eq_skeleton]
  unfold k0_part1_skel
  dsimp only
  iintro Ht HK
  iapply (wp_word c tb 0 (by omega) htb rfl (P := k0_chk1 i) (fun w hw => (fun _ => page_ok w hw : k0_chk1 i w))) $$ Ht
  iintro %v252 %hv252 %ev252 Ht
  iapply (wp_word c tb 1 (by omega) htb rfl (P := k0_chk2 i) (fun w hw => (fun _ => page_ok w hw : k0_chk2 i w))) $$ Ht
  iintro %v253 %hv253 %ev253 Ht
  iapply (wp_word c tb 2 (by omega) htb rfl (P := k0_chk3 i) (fun w hw => (fun _ => page_ok w hw : k0_chk3 i w))) $$ Ht
  iintro %v254 %hv254 %ev254 Ht
  iapply (wp_word c tb 3 (by omega) htb rfl (P := k0_chk4 i) (fun w hw => (fun _ => page_ok w hw : k0_chk4 i w))) $$ Ht
  iintro %v255 %hv255 %ev255 Ht
  iapply (wp_word c tb 4 (by omega) htb rfl (P := k0_chk5 i) (fun w hw => (fun _ => page_ok w hw : k0_chk5 i w))) $$ Ht
  iintro %v256 %hv256 %ev256 Ht
  iapply (wp_word c tb 5 (by omega) htb rfl (P := k0_chk6 i) (fun w hw => (fun _ => page_ok w hw : k0_chk6 i w))) $$ Ht
  iintro %v257 %hv257 %ev257 Ht
  iapply (wp_word c tb 6 (by omega) htb rfl (P := k0_chk7 i) (fun w hw => (fun _ => page_ok w hw : k0_chk7 i w))) $$ Ht
  iintro %v258 %hv258 %ev258 Ht
  iapply (wp_word c tb 7 (by omega) htb rfl (P := k0_chk8 i) (fun w hw => (fun _ => page_ok w hw : k0_chk8 i w))) $$ Ht
  iintro %v259 %hv259 %ev259 Ht
  iapply (wp_word c tb 8 (by omega) htb rfl (P := k0_chk9 i) (fun w hw => (fun _ => page_ok w hw : k0_chk9 i w))) $$ Ht
  iintro %v260 %hv260 %ev260 Ht
  iapply (wp_word c tb 9 (by omega) htb rfl (P := k0_chk10 i) (fun w hw => (fun _ => page_ok w hw : k0_chk10 i w))) $$ Ht
  iintro %v261 %hv261 %ev261 Ht
  iapply (wp_word c tb 10 (by omega) htb rfl (P := k0_chk11 i) (fun w hw => (fun _ => page_ok w hw : k0_chk11 i w))) $$ Ht
  iintro %v262 %hv262 %ev262 Ht
  iapply (wp_word c tb 11 (by omega) htb rfl (P := k0_chk12 i) (fun w hw => (fun _ => page_ok w hw : k0_chk12 i w))) $$ Ht
  iintro %v263 %hv263 %ev263 Ht
  iapply (wp_word c tb 12 (by omega) htb rfl (P := k0_chk13 i) (fun w hw => (fun _ => page_ok w hw : k0_chk13 i w))) $$ Ht
  iintro %v264 %hv264 %ev264 Ht
  iapply (wp_word c tb 13 (by omega) htb rfl (P := k0_chk14 i) (fun w hw => (fun _ => page_ok w hw : k0_chk14 i w))) $$ Ht
  iintro %v265 %hv265 %ev265 Ht
  iapply (wp_word c tb 14 (by omega) htb rfl (P := k0_chk15 i) (fun w hw => (fun _ => page_ok w hw : k0_chk15 i w))) $$ Ht
  iintro %v266 %hv266 %ev266 Ht
  iapply (wp_word c tb 15 (by omega) htb rfl (P := k0_chk16 i) (fun w hw => (fun _ => page_ok w hw : k0_chk16 i w))) $$ Ht
  iintro %v267 %hv267 %ev267 Ht
  iapply wp_done
  iapply HK $$ %v252 %hv252 %v253 %hv253 %v254 %hv254 %v255 %hv255 %v256 %hv256 %v257 %hv257 %v258 %hv258 %v259 %hv259 %v260 %hv260 %v261 %hv261 %v262 %hv262 %v263 %hv263 %v264 %hv264 %v265 %hv265 %v266 %hv266 %v267 %hv267 %⟨ev252, ev253, ev254, ev255, ev256, ev257, ev258, ev259, ev260, ev261, ev262, ev263, ev264, ev265, ev266, ev267⟩ Ht

/-- Part 2 of the body: copies 0 to 4 of a step started. -/
theorem part2_run (k0_h1 : k0_cond1 i = 1#1) (v252 : Elt F .i32) (k0_hw1 : k0_chk1 i v252) (v253 : Elt F .i32) (k0_hw2 : k0_chk2 i v253) (v254 : Elt F .i32) (k0_hw3 : k0_chk3 i v254) (v255 : Elt F .i32) (k0_hw4 : k0_chk4 i v255) (v256 : Elt F .i32) (k0_hw5 : k0_chk5 i v256) (ev252 : v252.toNat = (pageAt tb (16 * 0 + 0)).val) (ev253 : v253.toNat = (pageAt tb (16 * 0 + 1)).val) (ev254 : v254.toNat = (pageAt tb (16 * 0 + 2)).val) (ev255 : v255.toNat = (pageAt tb (16 * 0 + 3)).val) (ev256 : v256.toNat = (pageAt tb (16 * 0 + 4)).val)
    {Q : (PUnit) → sProp 𝕄} :
    iprop(Issuing c tb C 0 0 0)
    ⊢ iprop((Issuing c tb C 0 0 5 -∗ Q ⟨⟩)
      -∗ wpk c (k0_part2 i (Memref.whole main_v13) h2 arg3 harg3 arg4 harg4 arg5 harg5 (Memref.whole main_v12) h6 arg7 harg7 arg8 harg8 (Memref.whole cc0_scratch0) h9 cc0_scratch1 k0_h1 v252 k0_hw1 v253 k0_hw2 v254 k0_hw3 v255 k0_hw4 v256 k0_hw5) Q) := by
  rw [k0_part2_eq_skeleton]
  unfold k0_part2_skel
  dsimp only
  iintro H HK
  iapply (wp_issue c tb C 0 0 0 (by decide) (by decide) (page_off tb ev252) rfl rfl) $$ H
  iintro H
  iapply (wp_issue c tb C 0 0 1 (by decide) (by decide) (page_off tb ev253) rfl rfl) $$ H
  iintro H
  iapply (wp_issue c tb C 0 0 2 (by decide) (by decide) (page_off tb ev254) rfl rfl) $$ H
  iintro H
  iapply (wp_issue c tb C 0 0 3 (by decide) (by decide) (page_off tb ev255) rfl rfl) $$ H
  iintro H
  iapply (wp_issue c tb C 0 0 4 (by decide) (by decide) (page_off tb ev256) rfl rfl) $$ H
  iintro H
  iapply wp_done
  iapply HK $$ H

/-- Part 3 of the body: copies 5 to 8 of a step started. -/
theorem part3_run (k0_h1 : k0_cond1 i = 1#1) (v257 : Elt F .i32) (k0_hw6 : k0_chk6 i v257) (v258 : Elt F .i32) (k0_hw7 : k0_chk7 i v258) (v259 : Elt F .i32) (k0_hw8 : k0_chk8 i v259) (v260 : Elt F .i32) (k0_hw9 : k0_chk9 i v260) (ev257 : v257.toNat = (pageAt tb (16 * 0 + 5)).val) (ev258 : v258.toNat = (pageAt tb (16 * 0 + 6)).val) (ev259 : v259.toNat = (pageAt tb (16 * 0 + 7)).val) (ev260 : v260.toNat = (pageAt tb (16 * 0 + 8)).val)
    {Q : (PUnit) → sProp 𝕄} :
    iprop(Issuing c tb C 0 0 5)
    ⊢ iprop((Issuing c tb C 0 0 9 -∗ Q ⟨⟩)
      -∗ wpk c (k0_part3 i (Memref.whole main_v13) h2 arg3 harg3 arg4 harg4 arg5 harg5 (Memref.whole main_v12) h6 arg7 harg7 arg8 harg8 (Memref.whole cc0_scratch0) h9 cc0_scratch1 k0_h1 v257 k0_hw6 v258 k0_hw7 v259 k0_hw8 v260 k0_hw9) Q) := by
  rw [k0_part3_eq_skeleton]
  unfold k0_part3_skel
  dsimp only
  iintro H HK
  iapply (wp_issue c tb C 0 0 5 (by decide) (by decide) (page_off tb ev257) rfl rfl) $$ H
  iintro H
  iapply (wp_issue c tb C 0 0 6 (by decide) (by decide) (page_off tb ev258) rfl rfl) $$ H
  iintro H
  iapply (wp_issue c tb C 0 0 7 (by decide) (by decide) (page_off tb ev259) rfl rfl) $$ H
  iintro H
  iapply (wp_issue c tb C 0 0 8 (by decide) (by decide) (page_off tb ev260) rfl rfl) $$ H
  iintro H
  iapply wp_done
  iapply HK $$ H

/-- Part 4 of the body: copies 9 to 12 of a step started. -/
theorem part4_run (k0_h1 : k0_cond1 i = 1#1) (v261 : Elt F .i32) (k0_hw10 : k0_chk10 i v261) (v262 : Elt F .i32) (k0_hw11 : k0_chk11 i v262) (v263 : Elt F .i32) (k0_hw12 : k0_chk12 i v263) (v264 : Elt F .i32) (k0_hw13 : k0_chk13 i v264) (ev261 : v261.toNat = (pageAt tb (16 * 0 + 9)).val) (ev262 : v262.toNat = (pageAt tb (16 * 0 + 10)).val) (ev263 : v263.toNat = (pageAt tb (16 * 0 + 11)).val) (ev264 : v264.toNat = (pageAt tb (16 * 0 + 12)).val)
    {Q : (PUnit) → sProp 𝕄} :
    iprop(Issuing c tb C 0 0 9)
    ⊢ iprop((Issuing c tb C 0 0 13 -∗ Q ⟨⟩)
      -∗ wpk c (k0_part4 i (Memref.whole main_v13) h2 arg3 harg3 arg4 harg4 arg5 harg5 (Memref.whole main_v12) h6 arg7 harg7 arg8 harg8 (Memref.whole cc0_scratch0) h9 cc0_scratch1 k0_h1 v261 k0_hw10 v262 k0_hw11 v263 k0_hw12 v264 k0_hw13) Q) := by
  rw [k0_part4_eq_skeleton]
  unfold k0_part4_skel
  dsimp only
  iintro H HK
  iapply (wp_issue c tb C 0 0 9 (by decide) (by decide) (page_off tb ev261) rfl rfl) $$ H
  iintro H
  iapply (wp_issue c tb C 0 0 10 (by decide) (by decide) (page_off tb ev262) rfl rfl) $$ H
  iintro H
  iapply (wp_issue c tb C 0 0 11 (by decide) (by decide) (page_off tb ev263) rfl rfl) $$ H
  iintro H
  iapply (wp_issue c tb C 0 0 12 (by decide) (by decide) (page_off tb ev264) rfl rfl) $$ H
  iintro H
  iapply wp_done
  iapply HK $$ H

/-- Part 5 of the body: 8 words of the table read and checked. -/
theorem part5_run {t s : ℕ} {q : PosShare TreeShare} (v1 : BitVec 32) (v2 : BitVec 32) (k0_h2 : k0_cond2 i = 1#1) (hs2 : s < 2) (htb : ∀ i, (tb i).toNat < 5120) (ht : 8 * (i 0).val + (i 1).val = t) (hl : t < 255)
    {Q : (Σ' (v252 : BitVec 32) (v257 : Elt F .i32) (k0_hw17 : k0_chk17 i v257) (v261 : Elt F .i32) (k0_hw18 : k0_chk18 i v261) (v265 : Elt F .i32) (k0_hw19 : k0_chk19 i v265) (v269 : Elt F .i32) (k0_hw20 : k0_chk20 i v269) (v273 : Elt F .i32) (k0_hw21 : k0_chk21 i v273) (v277 : Elt F .i32) (k0_hw22 : k0_chk22 i v277) (v281 : Elt F .i32) (k0_hw23 : k0_chk23 i v281) (v285 : Elt F .i32), k0_chk24 i v285) → sProp 𝕄} :
    iprop((tabLoc c ↦{q} tb))
    ⊢ iprop((∀ (v257 : BitVec 32) (hv257 : PLift (k0_chk17 i v257)) (v261 : BitVec 32) (hv261 : PLift (k0_chk18 i v261)) (v265 : BitVec 32) (hv265 : PLift (k0_chk19 i v265)) (v269 : BitVec 32) (hv269 : PLift (k0_chk20 i v269)) (v273 : BitVec 32) (hv273 : PLift (k0_chk21 i v273)) (v277 : BitVec 32) (hv277 : PLift (k0_chk22 i v277)) (v281 : BitVec 32) (hv281 : PLift (k0_chk23 i v281)) (v285 : BitVec 32) (hv285 : PLift (k0_chk24 i v285)), ⌜v257.toNat = (pageAt tb (16 * (t + 1) + 0)).val ∧ v261.toNat = (pageAt tb (16 * (t + 1) + 1)).val ∧ v265.toNat = (pageAt tb (16 * (t + 1) + 2)).val ∧ v269.toNat = (pageAt tb (16 * (t + 1) + 3)).val ∧ v273.toNat = (pageAt tb (16 * (t + 1) + 4)).val ∧ v277.toNat = (pageAt tb (16 * (t + 1) + 5)).val ∧ v281.toNat = (pageAt tb (16 * (t + 1) + 6)).val ∧ v285.toNat = (pageAt tb (16 * (t + 1) + 7)).val⌝ -∗ (tabLoc c ↦{q} tb) -∗ Q ⟨Scalar.addi v1 1#32, v257, hv257.down, v261, hv261.down, v265, hv265.down, v269, hv269.down, v273, hv273.down, v277, hv277.down, v281, hv281.down, v285, hv285.down⟩)
      -∗ wpk c (k0_part5 i (Memref.whole main_v13) h2 arg3 harg3 arg4 harg4 arg5 harg5 (Memref.whole main_v12) h6 arg7 harg7 arg8 harg8 (Memref.whole cc0_scratch0) h9 cc0_scratch1 v1 v2 k0_h2) Q) := by
  rw [k0_part5_eq_skeleton]
  unfold k0_part5_skel
  dsimp only
  iintro Ht HK
  iapply (wp_word c tb (16 * (t + 1) + 0) (by omega) htb (word_next ht 0) (P := k0_chk17 i) (fun w hw => (fun _ => page_ok w hw : k0_chk17 i w))) $$ Ht
  iintro %v257 %hv257 %ev257 Ht
  iapply (wp_word c tb (16 * (t + 1) + 1) (by omega) htb (word_next ht 1) (P := k0_chk18 i) (fun w hw => (fun _ => page_ok w hw : k0_chk18 i w))) $$ Ht
  iintro %v261 %hv261 %ev261 Ht
  iapply (wp_word c tb (16 * (t + 1) + 2) (by omega) htb (word_next ht 2) (P := k0_chk19 i) (fun w hw => (fun _ => page_ok w hw : k0_chk19 i w))) $$ Ht
  iintro %v265 %hv265 %ev265 Ht
  iapply (wp_word c tb (16 * (t + 1) + 3) (by omega) htb (word_next ht 3) (P := k0_chk20 i) (fun w hw => (fun _ => page_ok w hw : k0_chk20 i w))) $$ Ht
  iintro %v269 %hv269 %ev269 Ht
  iapply (wp_word c tb (16 * (t + 1) + 4) (by omega) htb (word_next ht 4) (P := k0_chk21 i) (fun w hw => (fun _ => page_ok w hw : k0_chk21 i w))) $$ Ht
  iintro %v273 %hv273 %ev273 Ht
  iapply (wp_word c tb (16 * (t + 1) + 5) (by omega) htb (word_next ht 5) (P := k0_chk22 i) (fun w hw => (fun _ => page_ok w hw : k0_chk22 i w))) $$ Ht
  iintro %v277 %hv277 %ev277 Ht
  iapply (wp_word c tb (16 * (t + 1) + 6) (by omega) htb (word_next ht 6) (P := k0_chk23 i) (fun w hw => (fun _ => page_ok w hw : k0_chk23 i w))) $$ Ht
  iintro %v281 %hv281 %ev281 Ht
  iapply (wp_word c tb (16 * (t + 1) + 7) (by omega) htb (word_next ht 7) (P := k0_chk24 i) (fun w hw => (fun _ => page_ok w hw : k0_chk24 i w))) $$ Ht
  iintro %v285 %hv285 %ev285 Ht
  iapply wp_done
  iapply HK $$ %v257 %hv257 %v261 %hv261 %v265 %hv265 %v269 %hv269 %v273 %hv273 %v277 %hv277 %v281 %hv281 %v285 %hv285 %⟨ev257, ev261, ev265, ev269, ev273, ev277, ev281, ev285⟩ Ht

/-- Part 6 of the body: 8 words of the table read and checked. -/
theorem part6_run {t s : ℕ} {q : PosShare TreeShare} (k0_h2 : k0_cond2 i = 1#1) (v252 : BitVec 32) (hs2 : s < 2) (htb : ∀ i, (tb i).toNat < 5120) (ht : 8 * (i 0).val + (i 1).val = t) (hl : t < 255)
    {Q : (Σ' (v289 : Elt F .i32) (k0_hw25 : k0_chk25 i v289) (v293 : Elt F .i32) (k0_hw26 : k0_chk26 i v293) (v297 : Elt F .i32) (k0_hw27 : k0_chk27 i v297) (v301 : Elt F .i32) (k0_hw28 : k0_chk28 i v301) (v305 : Elt F .i32) (k0_hw29 : k0_chk29 i v305) (v309 : Elt F .i32) (k0_hw30 : k0_chk30 i v309) (v313 : Elt F .i32) (k0_hw31 : k0_chk31 i v313) (v317 : Elt F .i32), k0_chk32 i v317) → sProp 𝕄} :
    iprop((tabLoc c ↦{q} tb))
    ⊢ iprop((∀ (v289 : BitVec 32) (hv289 : PLift (k0_chk25 i v289)) (v293 : BitVec 32) (hv293 : PLift (k0_chk26 i v293)) (v297 : BitVec 32) (hv297 : PLift (k0_chk27 i v297)) (v301 : BitVec 32) (hv301 : PLift (k0_chk28 i v301)) (v305 : BitVec 32) (hv305 : PLift (k0_chk29 i v305)) (v309 : BitVec 32) (hv309 : PLift (k0_chk30 i v309)) (v313 : BitVec 32) (hv313 : PLift (k0_chk31 i v313)) (v317 : BitVec 32) (hv317 : PLift (k0_chk32 i v317)), ⌜v289.toNat = (pageAt tb (16 * (t + 1) + 8)).val ∧ v293.toNat = (pageAt tb (16 * (t + 1) + 9)).val ∧ v297.toNat = (pageAt tb (16 * (t + 1) + 10)).val ∧ v301.toNat = (pageAt tb (16 * (t + 1) + 11)).val ∧ v305.toNat = (pageAt tb (16 * (t + 1) + 12)).val ∧ v309.toNat = (pageAt tb (16 * (t + 1) + 13)).val ∧ v313.toNat = (pageAt tb (16 * (t + 1) + 14)).val ∧ v317.toNat = (pageAt tb (16 * (t + 1) + 15)).val⌝ -∗ (tabLoc c ↦{q} tb) -∗ Q ⟨v289, hv289.down, v293, hv293.down, v297, hv297.down, v301, hv301.down, v305, hv305.down, v309, hv309.down, v313, hv313.down, v317, hv317.down⟩)
      -∗ wpk c (k0_part6 i (Memref.whole main_v13) h2 arg3 harg3 arg4 harg4 arg5 harg5 (Memref.whole main_v12) h6 arg7 harg7 arg8 harg8 (Memref.whole cc0_scratch0) h9 cc0_scratch1 k0_h2 v252) Q) := by
  rw [k0_part6_eq_skeleton]
  unfold k0_part6_skel
  dsimp only
  iintro Ht HK
  iapply (wp_word c tb (16 * (t + 1) + 8) (by omega) htb (word_next ht 8) (P := k0_chk25 i) (fun w hw => (fun _ => page_ok w hw : k0_chk25 i w))) $$ Ht
  iintro %v289 %hv289 %ev289 Ht
  iapply (wp_word c tb (16 * (t + 1) + 9) (by omega) htb (word_next ht 9) (P := k0_chk26 i) (fun w hw => (fun _ => page_ok w hw : k0_chk26 i w))) $$ Ht
  iintro %v293 %hv293 %ev293 Ht
  iapply (wp_word c tb (16 * (t + 1) + 10) (by omega) htb (word_next ht 10) (P := k0_chk27 i) (fun w hw => (fun _ => page_ok w hw : k0_chk27 i w))) $$ Ht
  iintro %v297 %hv297 %ev297 Ht
  iapply (wp_word c tb (16 * (t + 1) + 11) (by omega) htb (word_next ht 11) (P := k0_chk28 i) (fun w hw => (fun _ => page_ok w hw : k0_chk28 i w))) $$ Ht
  iintro %v301 %hv301 %ev301 Ht
  iapply (wp_word c tb (16 * (t + 1) + 12) (by omega) htb (word_next ht 12) (P := k0_chk29 i) (fun w hw => (fun _ => page_ok w hw : k0_chk29 i w))) $$ Ht
  iintro %v305 %hv305 %ev305 Ht
  iapply (wp_word c tb (16 * (t + 1) + 13) (by omega) htb (word_next ht 13) (P := k0_chk30 i) (fun w hw => (fun _ => page_ok w hw : k0_chk30 i w))) $$ Ht
  iintro %v309 %hv309 %ev309 Ht
  iapply (wp_word c tb (16 * (t + 1) + 14) (by omega) htb (word_next ht 14) (P := k0_chk31 i) (fun w hw => (fun _ => page_ok w hw : k0_chk31 i w))) $$ Ht
  iintro %v313 %hv313 %ev313 Ht
  iapply (wp_word c tb (16 * (t + 1) + 15) (by omega) htb (word_next ht 15) (P := k0_chk32 i) (fun w hw => (fun _ => page_ok w hw : k0_chk32 i w))) $$ Ht
  iintro %v317 %hv317 %ev317 Ht
  iapply wp_done
  iapply HK $$ %v289 %hv289 %v293 %hv293 %v297 %hv297 %v301 %hv301 %v305 %hv305 %v309 %hv309 %v313 %hv313 %v317 %hv317 %⟨ev289, ev293, ev297, ev301, ev305, ev309, ev313, ev317⟩ Ht

/-- Part 7 of the body: copies 0 to 4 of a step started. -/
theorem part7_run {t s : ℕ} (k0_h2 : k0_cond2 i = 1#1) (v257 : Elt F .i32) (k0_hw17 : k0_chk17 i v257) (v261 : Elt F .i32) (k0_hw18 : k0_chk18 i v261) (v265 : Elt F .i32) (k0_hw19 : k0_chk19 i v265) (v269 : Elt F .i32) (k0_hw20 : k0_chk20 i v269) (v273 : Elt F .i32) (k0_hw21 : k0_chk21 i v273) (hs2 : s < 2) (hs : 1 - ((8 * (i 0).val + (i 1).val) % 2) = s) (ev257 : v257.toNat = (pageAt tb (16 * (t + 1) + 0)).val) (ev261 : v261.toNat = (pageAt tb (16 * (t + 1) + 1)).val) (ev265 : v265.toNat = (pageAt tb (16 * (t + 1) + 2)).val) (ev269 : v269.toNat = (pageAt tb (16 * (t + 1) + 3)).val) (ev273 : v273.toNat = (pageAt tb (16 * (t + 1) + 4)).val)
    {Q : (PUnit) → sProp 𝕄} :
    iprop(Issuing c tb C (t + 1) s 0)
    ⊢ iprop((Issuing c tb C (t + 1) s 5 -∗ Q ⟨⟩)
      -∗ wpk c (k0_part7 i (Memref.whole main_v13) h2 arg3 harg3 arg4 harg4 arg5 harg5 (Memref.whole main_v12) h6 arg7 harg7 arg8 harg8 (Memref.whole cc0_scratch0) h9 cc0_scratch1 k0_h2 v257 k0_hw17 v261 k0_hw18 v265 k0_hw19 v269 k0_hw20 v273 k0_hw21) Q) := by
  rw [k0_part7_eq_skeleton]
  unfold k0_part7_skel
  dsimp only
  iintro H HK
  iapply (wp_issue c tb C (t + 1) s 0 (by decide) hs2 (page_off tb ev257) ((k0_off19_eq i).trans (by rw [hs])) ((k0_off18_eq i).trans (by rw [hs]))) $$ H
  iintro H
  iapply (wp_issue c tb C (t + 1) s 1 (by decide) hs2 (page_off tb ev261) ((k0_off22_eq i).trans (by rw [hs])) ((k0_off21_eq i).trans (by rw [hs]))) $$ H
  iintro H
  iapply (wp_issue c tb C (t + 1) s 2 (by decide) hs2 (page_off tb ev265) ((k0_off25_eq i).trans (by rw [hs])) ((k0_off24_eq i).trans (by rw [hs]))) $$ H
  iintro H
  iapply (wp_issue c tb C (t + 1) s 3 (by decide) hs2 (page_off tb ev269) ((k0_off28_eq i).trans (by rw [hs])) ((k0_off27_eq i).trans (by rw [hs]))) $$ H
  iintro H
  iapply (wp_issue c tb C (t + 1) s 4 (by decide) hs2 (page_off tb ev273) ((k0_off31_eq i).trans (by rw [hs])) ((k0_off30_eq i).trans (by rw [hs]))) $$ H
  iintro H
  iapply wp_done
  iapply HK $$ H

/-- Part 8 of the body: copies 5 to 9 of a step started. -/
theorem part8_run {t s : ℕ} (k0_h2 : k0_cond2 i = 1#1) (v277 : Elt F .i32) (k0_hw22 : k0_chk22 i v277) (v281 : Elt F .i32) (k0_hw23 : k0_chk23 i v281) (v285 : Elt F .i32) (k0_hw24 : k0_chk24 i v285) (v289 : Elt F .i32) (k0_hw25 : k0_chk25 i v289) (v293 : Elt F .i32) (k0_hw26 : k0_chk26 i v293) (hs2 : s < 2) (hs : 1 - ((8 * (i 0).val + (i 1).val) % 2) = s) (ev277 : v277.toNat = (pageAt tb (16 * (t + 1) + 5)).val) (ev281 : v281.toNat = (pageAt tb (16 * (t + 1) + 6)).val) (ev285 : v285.toNat = (pageAt tb (16 * (t + 1) + 7)).val) (ev289 : v289.toNat = (pageAt tb (16 * (t + 1) + 8)).val) (ev293 : v293.toNat = (pageAt tb (16 * (t + 1) + 9)).val)
    {Q : (PUnit) → sProp 𝕄} :
    iprop(Issuing c tb C (t + 1) s 5)
    ⊢ iprop((Issuing c tb C (t + 1) s 10 -∗ Q ⟨⟩)
      -∗ wpk c (k0_part8 i (Memref.whole main_v13) h2 arg3 harg3 arg4 harg4 arg5 harg5 (Memref.whole main_v12) h6 arg7 harg7 arg8 harg8 (Memref.whole cc0_scratch0) h9 cc0_scratch1 k0_h2 v277 k0_hw22 v281 k0_hw23 v285 k0_hw24 v289 k0_hw25 v293 k0_hw26) Q) := by
  rw [k0_part8_eq_skeleton]
  unfold k0_part8_skel
  dsimp only
  iintro H HK
  iapply (wp_issue c tb C (t + 1) s 5 (by decide) hs2 (page_off tb ev277) ((k0_off34_eq i).trans (by rw [hs])) ((k0_off33_eq i).trans (by rw [hs]))) $$ H
  iintro H
  iapply (wp_issue c tb C (t + 1) s 6 (by decide) hs2 (page_off tb ev281) ((k0_off37_eq i).trans (by rw [hs])) ((k0_off36_eq i).trans (by rw [hs]))) $$ H
  iintro H
  iapply (wp_issue c tb C (t + 1) s 7 (by decide) hs2 (page_off tb ev285) ((k0_off40_eq i).trans (by rw [hs])) ((k0_off39_eq i).trans (by rw [hs]))) $$ H
  iintro H
  iapply (wp_issue c tb C (t + 1) s 8 (by decide) hs2 (page_off tb ev289) ((k0_off43_eq i).trans (by rw [hs])) ((k0_off42_eq i).trans (by rw [hs]))) $$ H
  iintro H
  iapply (wp_issue c tb C (t + 1) s 9 (by decide) hs2 (page_off tb ev293) ((k0_off46_eq i).trans (by rw [hs])) ((k0_off45_eq i).trans (by rw [hs]))) $$ H
  iintro H
  iapply wp_done
  iapply HK $$ H

/-- Part 9 of the body: copies 10 to 14 of a step started. -/
theorem part9_run {t s : ℕ} (k0_h2 : k0_cond2 i = 1#1) (v297 : Elt F .i32) (k0_hw27 : k0_chk27 i v297) (v301 : Elt F .i32) (k0_hw28 : k0_chk28 i v301) (v305 : Elt F .i32) (k0_hw29 : k0_chk29 i v305) (v309 : Elt F .i32) (k0_hw30 : k0_chk30 i v309) (v313 : Elt F .i32) (k0_hw31 : k0_chk31 i v313) (hs2 : s < 2) (hs : 1 - ((8 * (i 0).val + (i 1).val) % 2) = s) (ev297 : v297.toNat = (pageAt tb (16 * (t + 1) + 10)).val) (ev301 : v301.toNat = (pageAt tb (16 * (t + 1) + 11)).val) (ev305 : v305.toNat = (pageAt tb (16 * (t + 1) + 12)).val) (ev309 : v309.toNat = (pageAt tb (16 * (t + 1) + 13)).val) (ev313 : v313.toNat = (pageAt tb (16 * (t + 1) + 14)).val)
    {Q : (PUnit) → sProp 𝕄} :
    iprop(Issuing c tb C (t + 1) s 10)
    ⊢ iprop((Issuing c tb C (t + 1) s 15 -∗ Q ⟨⟩)
      -∗ wpk c (k0_part9 i (Memref.whole main_v13) h2 arg3 harg3 arg4 harg4 arg5 harg5 (Memref.whole main_v12) h6 arg7 harg7 arg8 harg8 (Memref.whole cc0_scratch0) h9 cc0_scratch1 k0_h2 v297 k0_hw27 v301 k0_hw28 v305 k0_hw29 v309 k0_hw30 v313 k0_hw31) Q) := by
  rw [k0_part9_eq_skeleton]
  unfold k0_part9_skel
  dsimp only
  iintro H HK
  iapply (wp_issue c tb C (t + 1) s 10 (by decide) hs2 (page_off tb ev297) ((k0_off49_eq i).trans (by rw [hs])) ((k0_off48_eq i).trans (by rw [hs]))) $$ H
  iintro H
  iapply (wp_issue c tb C (t + 1) s 11 (by decide) hs2 (page_off tb ev301) ((k0_off52_eq i).trans (by rw [hs])) ((k0_off51_eq i).trans (by rw [hs]))) $$ H
  iintro H
  iapply (wp_issue c tb C (t + 1) s 12 (by decide) hs2 (page_off tb ev305) ((k0_off55_eq i).trans (by rw [hs])) ((k0_off54_eq i).trans (by rw [hs]))) $$ H
  iintro H
  iapply (wp_issue c tb C (t + 1) s 13 (by decide) hs2 (page_off tb ev309) ((k0_off58_eq i).trans (by rw [hs])) ((k0_off57_eq i).trans (by rw [hs]))) $$ H
  iintro H
  iapply (wp_issue c tb C (t + 1) s 14 (by decide) hs2 (page_off tb ev313) ((k0_off61_eq i).trans (by rw [hs])) ((k0_off60_eq i).trans (by rw [hs]))) $$ H
  iintro H
  iapply wp_done
  iapply HK $$ H

end Cert.Pages

end
-- ==== Proof.Waits.lean ====
/-
  The parts of the body that wait for the step's copies and read its pages (parts 11 to 16).
-/
module

public import proofs.«01_k».proof.Proof.Words

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (tb : Table) (C : Cache F) (i : grid0.Coords)
variable (arg3 : Memref sig .tc .vmem S1x128x64 .bf16) (harg3 : arg3.IsWhole) (arg4 : Memref sig .tc .vmem S1x128x1 .f32) (harg4 : arg4.IsWhole) (arg5 : Memref sig .tc .vmem S1x64x128 .bf16) (harg5 : arg5.IsWhole) (arg7 : Memref sig .tc .vmem S1x8x2048 .f32) (harg7 : arg7.IsWhole) (arg8 : Memref sig .tc .vmem S1x8x128 .f32) (harg8 : arg8.IsWhole)
variable (h2 : (Memref.whole main_v13).IsWhole) (h6 : (Memref.whole main_v12).IsWhole) (h9 : (Memref.whole cc0_scratch0).IsWhole)
include C

/-- Part 11 of the body: 8 words of the table read and checked. -/
theorem part11_run {t s : ℕ} {q : PosShare TreeShare} (v1 : BitVec 32) (c16_i32_13 : BitVec 32) (hs2 : s < 2) (htb : ∀ i, (tb i).toNat < 5120) (ht : 8 * (i 0).val + (i 1).val = t) (hl : t < 256)
    {Q : (Σ' (v33 : Elt F .i32) (k0_hw37 : k0_chk37 v33) (v37 : Elt F .i32) (k0_hw38 : k0_chk38 v37) (v41 : Elt F .i32) (k0_hw39 : k0_chk39 v41) (v45 : Elt F .i32) (k0_hw40 : k0_chk40 v45) (v49 : Elt F .i32) (k0_hw41 : k0_chk41 v49) (v53 : Elt F .i32) (k0_hw42 : k0_chk42 v53) (v57 : Elt F .i32) (k0_hw43 : k0_chk43 v57) (v61 : Elt F .i32), k0_chk44 v61) → sProp 𝕄} :
    iprop((tabLoc c ↦{q} tb))
    ⊢ iprop((∀ (v33 : BitVec 32) (hv33 : PLift (k0_chk37 v33)) (v37 : BitVec 32) (hv37 : PLift (k0_chk38 v37)) (v41 : BitVec 32) (hv41 : PLift (k0_chk39 v41)) (v45 : BitVec 32) (hv45 : PLift (k0_chk40 v45)) (v49 : BitVec 32) (hv49 : PLift (k0_chk41 v49)) (v53 : BitVec 32) (hv53 : PLift (k0_chk42 v53)) (v57 : BitVec 32) (hv57 : PLift (k0_chk43 v57)) (v61 : BitVec 32) (hv61 : PLift (k0_chk44 v61)), ⌜v33.toNat = (pageAt tb (16 * t + 4)).val ∧ v37.toNat = (pageAt tb (16 * t + 5)).val ∧ v41.toNat = (pageAt tb (16 * t + 6)).val ∧ v45.toNat = (pageAt tb (16 * t + 7)).val ∧ v49.toNat = (pageAt tb (16 * t + 8)).val ∧ v53.toNat = (pageAt tb (16 * t + 9)).val ∧ v57.toNat = (pageAt tb (16 * t + 10)).val ∧ v61.toNat = (pageAt tb (16 * t + 11)).val⌝ -∗ (tabLoc c ↦{q} tb) -∗ Q ⟨v33, hv33.down, v37, hv37.down, v41, hv41.down, v45, hv45.down, v49, hv49.down, v53, hv53.down, v57, hv57.down, v61, hv61.down⟩)
      -∗ wpk c (k0_part11 i (Memref.whole main_v13) h2 arg3 harg3 arg4 harg4 arg5 harg5 (Memref.whole main_v12) h6 arg7 harg7 arg8 harg8 (Memref.whole cc0_scratch0) h9 cc0_scratch1 v1 c16_i32_13) Q) := by
  rw [k0_part11_eq_skeleton]
  unfold k0_part11_skel
  dsimp only
  iintro Ht HK
  iapply (wp_word c tb (16 * t + 4) (by omega) htb (word_this ht 4) (P := k0_chk37) (fun w hw => (page_ok w hw : k0_chk37 w))) $$ Ht
  iintro %v33 %hv33 %ev33 Ht
  iapply (wp_word c tb (16 * t + 5) (by omega) htb (word_this ht 5) (P := k0_chk38) (fun w hw => (page_ok w hw : k0_chk38 w))) $$ Ht
  iintro %v37 %hv37 %ev37 Ht
  iapply (wp_word c tb (16 * t + 6) (by omega) htb (word_this ht 6) (P := k0_chk39) (fun w hw => (page_ok w hw : k0_chk39 w))) $$ Ht
  iintro %v41 %hv41 %ev41 Ht
  iapply (wp_word c tb (16 * t + 7) (by omega) htb (word_this ht 7) (P := k0_chk40) (fun w hw => (page_ok w hw : k0_chk40 w))) $$ Ht
  iintro %v45 %hv45 %ev45 Ht
  iapply (wp_word c tb (16 * t + 8) (by omega) htb (word_this ht 8) (P := k0_chk41) (fun w hw => (page_ok w hw : k0_chk41 w))) $$ Ht
  iintro %v49 %hv49 %ev49 Ht
  iapply (wp_word c tb (16 * t + 9) (by omega) htb (word_this ht 9) (P := k0_chk42) (fun w hw => (page_ok w hw : k0_chk42 w))) $$ Ht
  iintro %v53 %hv53 %ev53 Ht
  iapply (wp_word c tb (16 * t + 10) (by omega) htb (word_this ht 10) (P := k0_chk43) (fun w hw => (page_ok w hw : k0_chk43 w))) $$ Ht
  iintro %v57 %hv57 %ev57 Ht
  iapply (wp_word c tb (16 * t + 11) (by omega) htb (word_this ht 11) (P := k0_chk44) (fun w hw => (page_ok w hw : k0_chk44 w))) $$ Ht
  iintro %v61 %hv61 %ev61 Ht
  iapply wp_done
  iapply HK $$ %v33 %hv33 %v37 %hv37 %v41 %hv41 %v45 %hv45 %v49 %hv49 %v53 %hv53 %v57 %hv57 %v61 %hv61 %⟨ev33, ev37, ev41, ev45, ev49, ev53, ev57, ev61⟩ Ht

/-- Part 12 of the body: 4 words of the table read and checked, copies 0 to 2 waited for. -/
theorem part12_run {t s : ℕ} {q : PosShare TreeShare} (v1 : BitVec 32) (v17 : Elt F .i32) (k0_hw33 : k0_chk33 v17) (v21 : Elt F .i32) (k0_hw34 : k0_chk34 v21) (v25 : Elt F .i32) (k0_hw35 : k0_chk35 v25) (htb : ∀ i, (tb i).toNat < 5120) (ht : 8 * (i 0).val + (i 1).val = t) (hl : t < 256) (hs : (8 * (i 0).val + (i 1).val) % 2 = s) (hs2 : s < 2)
    {Q : (Σ' (v65 : Elt F .i32) (k0_hw45 : k0_chk45 v65) (v69 : Elt F .i32) (k0_hw46 : k0_chk46 v69) (v73 : Elt F .i32) (k0_hw47 : k0_chk47 v73) (v77 : Elt F .i32), k0_chk48 v77) → sProp 𝕄} :
    iprop((tabLoc c ↦{q} tb) ∗ Waiting c tb C t s (0 * units))
    ⊢ iprop((∀ (v65 : BitVec 32) (hv65 : PLift (k0_chk45 v65)) (v69 : BitVec 32) (hv69 : PLift (k0_chk46 v69)) (v73 : BitVec 32) (hv73 : PLift (k0_chk47 v73)) (v77 : BitVec 32) (hv77 : PLift (k0_chk48 v77)), ⌜v65.toNat = (pageAt tb (16 * t + 12)).val ∧ v69.toNat = (pageAt tb (16 * t + 13)).val ∧ v73.toNat = (pageAt tb (16 * t + 14)).val ∧ v77.toNat = (pageAt tb (16 * t + 15)).val⌝ -∗ (tabLoc c ↦{q} tb) -∗ Waiting c tb C t s (3 * units) -∗ Q ⟨v65, hv65.down, v69, hv69.down, v73, hv73.down, v77, hv77.down⟩)
      -∗ wpk c (k0_part12 i (Memref.whole main_v13) h2 arg3 harg3 arg4 harg4 arg5 harg5 (Memref.whole main_v12) h6 arg7 harg7 arg8 harg8 (Memref.whole cc0_scratch0) h9 cc0_scratch1 v1 v17 k0_hw33 v21 k0_hw34 v25 k0_hw35) Q) := by
  rw [k0_part12_eq_skeleton]
  unfold k0_part12_skel
  dsimp only
  iintro ⟨Ht, H⟩ HK
  iapply (wp_word c tb (16 * t + 12) (by omega) htb (word_this ht 12) (P := k0_chk45) (fun w hw => (page_ok w hw : k0_chk45 w))) $$ Ht
  iintro %v65 %hv65 %ev65 Ht
  iapply (wp_word c tb (16 * t + 13) (by omega) htb (word_this ht 13) (P := k0_chk46) (fun w hw => (page_ok w hw : k0_chk46 w))) $$ Ht
  iintro %v69 %hv69 %ev69 Ht
  iapply (wp_word c tb (16 * t + 14) (by omega) htb (word_this ht 14) (P := k0_chk47) (fun w hw => (page_ok w hw : k0_chk47 w))) $$ Ht
  iintro %v73 %hv73 %ev73 Ht
  iapply (wp_word c tb (16 * t + 15) (by omega) htb (word_this ht 15) (P := k0_chk48) (fun w hw => (page_ok w hw : k0_chk48 w))) $$ Ht
  iintro %v77 %hv77 %ev77 Ht
  iapply (wp_wait c tb C t s 0 (by decide) hs2 ((k0_off67_eq i).trans (by rw [hs]))) $$ H
  iintro H
  iapply (wp_wait c tb C t s 1 (by decide) hs2 ((k0_off70_eq i).trans (by rw [hs]))) $$ H
  iintro H
  iapply (wp_wait c tb C t s 2 (by decide) hs2 ((k0_off73_eq i).trans (by rw [hs]))) $$ H
  iintro H
  iapply wp_done
  iapply HK $$ %v65 %hv65 %v69 %hv69 %v73 %hv73 %v77 %hv77 %⟨ev65, ev69, ev73, ev77⟩ Ht H

/-- Part 13 of the body: copies 3 to 7 waited for. -/
theorem part13_run {t s : ℕ} (v29 : Elt F .i32) (k0_hw36 : k0_chk36 v29) (v33 : Elt F .i32) (k0_hw37 : k0_chk37 v33) (v37 : Elt F .i32) (k0_hw38 : k0_chk38 v37) (v41 : Elt F .i32) (k0_hw39 : k0_chk39 v41) (v45 : Elt F .i32) (k0_hw40 : k0_chk40 v45) (hs : (8 * (i 0).val + (i 1).val) % 2 = s) (hs2 : s < 2)
    {Q : (PUnit) → sProp 𝕄} :
    iprop(Waiting c tb C t s (3 * units))
    ⊢ iprop((Waiting c tb C t s (8 * units) -∗ Q ⟨⟩)
      -∗ wpk c (k0_part13 i (Memref.whole main_v13) h2 arg3 harg3 arg4 harg4 arg5 harg5 (Memref.whole main_v12) h6 arg7 harg7 arg8 harg8 (Memref.whole cc0_scratch0) h9 cc0_scratch1 v29 k0_hw36 v33 k0_hw37 v37 k0_hw38 v41 k0_hw39 v45 k0_hw40) Q) := by
  rw [k0_part13_eq_skeleton]
  unfold k0_part13_skel
  dsimp only
  iintro H HK
  iapply (wp_wait c tb C t s 3 (by decide) hs2 ((k0_off76_eq i).trans (by rw [hs]))) $$ H
  iintro H
  iapply (wp_wait c tb C t s 4 (by decide) hs2 ((k0_off79_eq i).trans (by rw [hs]))) $$ H
  iintro H
  iapply (wp_wait c tb C t s 5 (by decide) hs2 ((k0_off82_eq i).trans (by rw [hs]))) $$ H
  iintro H
  iapply (wp_wait c tb C t s 6 (by decide) hs2 ((k0_off85_eq i).trans (by rw [hs]))) $$ H
  iintro H
  iapply (wp_wait c tb C t s 7 (by decide) hs2 ((k0_off88_eq i).trans (by rw [hs]))) $$ H
  iintro H
  iapply wp_done
  iapply HK $$ H

/-- Part 14 of the body: copies 8 to 12 waited for. -/
theorem part14_run {t s : ℕ} (v49 : Elt F .i32) (k0_hw41 : k0_chk41 v49) (v53 : Elt F .i32) (k0_hw42 : k0_chk42 v53) (v57 : Elt F .i32) (k0_hw43 : k0_chk43 v57) (v61 : Elt F .i32) (k0_hw44 : k0_chk44 v61) (v65 : Elt F .i32) (k0_hw45 : k0_chk45 v65) (hs : (8 * (i 0).val + (i 1).val) % 2 = s) (hs2 : s < 2)
    {Q : (PUnit) → sProp 𝕄} :
    iprop(Waiting c tb C t s (8 * units))
    ⊢ iprop((Waiting c tb C t s (13 * units) -∗ Q ⟨⟩)
      -∗ wpk c (k0_part14 i (Memref.whole main_v13) h2 arg3 harg3 arg4 harg4 arg5 harg5 (Memref.whole main_v12) h6 arg7 harg7 arg8 harg8 (Memref.whole cc0_scratch0) h9 cc0_scratch1 v49 k0_hw41 v53 k0_hw42 v57 k0_hw43 v61 k0_hw44 v65 k0_hw45) Q) := by
  rw [k0_part14_eq_skeleton]
  unfold k0_part14_skel
  dsimp only
  iintro H HK
  iapply (wp_wait c tb C t s 8 (by decide) hs2 ((k0_off91_eq i).trans (by rw [hs]))) $$ H
  iintro H
  iapply (wp_wait c tb C t s 9 (by decide) hs2 ((k0_off94_eq i).trans (by rw [hs]))) $$ H
  iintro H
  iapply (wp_wait c tb C t s 10 (by decide) hs2 ((k0_off97_eq i).trans (by rw [hs]))) $$ H
  iintro H
  iapply (wp_wait c tb C t s 11 (by decide) hs2 ((k0_off100_eq i).trans (by rw [hs]))) $$ H
  iintro H
  iapply (wp_wait c tb C t s 12 (by decide) hs2 ((k0_off103_eq i).trans (by rw [hs]))) $$ H
  iintro H
  iapply wp_done
  iapply HK $$ H

/-- Part 15 of the body: copies 13 to 15 waited for, landed pages read. -/
theorem part15_run {t s : ℕ} (v2 : BitVec 32) (v69 : Elt F .i32) (k0_hw46 : k0_chk46 v69) (v73 : Elt F .i32) (k0_hw47 : k0_chk47 v73) (v77 : Elt F .i32) (k0_hw48 : k0_chk48 v77) (hs : (8 * (i 0).val + (i 1).val) % 2 = s) (hs2 : s < 2)
    {Q : (Σ' (v177 : FVec F S64x128 .bf16) (v181 : FVec F S64x128 .bf16), FVec F S64x128 .bf16) → sProp 𝕄} :
    iprop(Waiting c tb C t s (13 * units))
    ⊢ iprop((Ready c tb C t s -∗ (∃ W, owes (c : Thread nD τ) 0 W) -∗ Q ⟨k0_pay6 (pageBlock tb C (16 * t + 0)), k0_pay7 (pageBlock tb C (16 * t + 1)), k0_pay8 (pageBlock tb C (16 * t + 2))⟩)
      -∗ wpk c (k0_part15 i (Memref.whole main_v13) h2 arg3 harg3 arg4 harg4 arg5 harg5 (Memref.whole main_v12) h6 arg7 harg7 arg8 harg8 (Memref.whole cc0_scratch0) h9 cc0_scratch1 v2 v69 k0_hw46 v73 k0_hw47 v77 k0_hw48) Q) := by
  rw [k0_part15_eq_skeleton]
  unfold k0_part15_skel
  dsimp only
  iintro H HK
  iapply (wp_wait c tb C t s 13 (by decide) hs2 ((k0_off106_eq i).trans (by rw [hs]))) $$ H
  iintro H
  iapply (wp_wait c tb C t s 14 (by decide) hs2 ((k0_off109_eq i).trans (by rw [hs]))) $$ H
  iintro H
  iapply (wp_wait_last c tb C t s hs2 ((k0_off112_eq i).trans (by rw [hs]))) $$ H
  iintro ⟨H, Ho⟩
  iapply (wp_landed c tb C t s 0 ((k0_off115_eq i).trans (by rw [hs]))) $$ H
  iintro H
  iapply (wp_landed c tb C t s 1 ((k0_off116_eq i).trans (by rw [hs]))) $$ H
  iintro H
  iapply (wp_landed c tb C t s 2 ((k0_off117_eq i).trans (by rw [hs]))) $$ H
  iintro H
  iapply wp_done
  iapply HK $$ H Ho

/-- Part 16 of the body: landed pages read. -/
theorem part16_run {t s : ℕ} (v2 : BitVec 32) (hs : (8 * (i 0).val + (i 1).val) % 2 = s)
    {Q : (Σ' (v189 : FVec F S64x128 .bf16) (v193 : FVec F S64x128 .bf16) (v197 : FVec F S64x128 .bf16) (v201 : FVec F S64x128 .bf16) (v205 : FVec F S64x128 .bf16) (v209 : FVec F S64x128 .bf16) (v213 : FVec F S64x128 .bf16) (v217 : FVec F S64x128 .bf16), FVec F S64x128 .bf16) → sProp 𝕄} :
    iprop(Ready c tb C t s)
    ⊢ iprop((Ready c tb C t s -∗ Q ⟨k0_pay9 (pageBlock tb C (16 * t + 3)), k0_pay10 (pageBlock tb C (16 * t + 4)), k0_pay11 (pageBlock tb C (16 * t + 5)), k0_pay12 (pageBlock tb C (16 * t + 6)), k0_pay13 (pageBlock tb C (16 * t + 7)), k0_pay14 (pageBlock tb C (16 * t + 8)), k0_pay15 (pageBlock tb C (16 * t + 9)), k0_pay16 (pageBlock tb C (16 * t + 10)), k0_pay17 (pageBlock tb C (16 * t + 11))⟩)
      -∗ wpk c (k0_part16 i (Memref.whole main_v13) h2 arg3 harg3 arg4 harg4 arg5 harg5 (Memref.whole main_v12) h6 arg7 harg7 arg8 harg8 (Memref.whole cc0_scratch0) h9 cc0_scratch1 v2) Q) := by
  rw [k0_part16_eq_skeleton]
  unfold k0_part16_skel
  dsimp only
  iintro H HK
  iapply (wp_landed c tb C t s 3 ((k0_off118_eq i).trans (by rw [hs]))) $$ H
  iintro H
  iapply (wp_landed c tb C t s 4 ((k0_off119_eq i).trans (by rw [hs]))) $$ H
  iintro H
  iapply (wp_landed c tb C t s 5 ((k0_off120_eq i).trans (by rw [hs]))) $$ H
  iintro H
  iapply (wp_landed c tb C t s 6 ((k0_off121_eq i).trans (by rw [hs]))) $$ H
  iintro H
  iapply (wp_landed c tb C t s 7 ((k0_off122_eq i).trans (by rw [hs]))) $$ H
  iintro H
  iapply (wp_landed c tb C t s 8 ((k0_off123_eq i).trans (by rw [hs]))) $$ H
  iintro H
  iapply (wp_landed c tb C t s 9 ((k0_off124_eq i).trans (by rw [hs]))) $$ H
  iintro H
  iapply (wp_landed c tb C t s 10 ((k0_off125_eq i).trans (by rw [hs]))) $$ H
  iintro H
  iapply (wp_landed c tb C t s 11 ((k0_off126_eq i).trans (by rw [hs]))) $$ H
  iintro H
  iapply wp_done
  iapply HK $$ H

end Cert.Pages

end
-- ==== Proof.Starts.lean ====
/-
  The start of the body: what it starts and what it holds then, at the first step, between, and at the last.
-/
module

public import proofs.«01_k».proof.Proof.Issues
public import proofs.«01_k».proof.Proof.Waits

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (tb : Table) (C : Cache F) (i : grid0.Coords)
variable (arg3 : Memref sig .tc .vmem S1x128x64 .bf16) (harg3 : arg3.IsWhole) (arg4 : Memref sig .tc .vmem S1x128x1 .f32) (harg4 : arg4.IsWhole) (arg5 : Memref sig .tc .vmem S1x64x128 .bf16) (harg5 : arg5.IsWhole) (arg7 : Memref sig .tc .vmem S1x8x2048 .f32) (harg7 : arg7.IsWhole) (arg8 : Memref sig .tc .vmem S1x8x128 .f32) (harg8 : arg8.IsWhole)
variable (h2 : (Memref.whole main_v13).IsWhole) (h6 : (Memref.whole main_v12).IsWhole) (h9 : (Memref.whole cc0_scratch0).IsWhole)

/-- The step's number is zero. -/
theorem cond1_iff (i : grid0.Coords) : k0_cond1 i = 1#1 ↔ 8 * (i 0).val + (i 1).val = 0 := by
  have key : ∀ (a : Fin 32) (b : Fin 8),
      Scalar.cmpi .ne (Scalar.extui (Scalar.cmpi .eq (Scalar.addi (Scalar.muli (BitVec.ofNat 32 a.val) 8#32) (BitVec.ofNat 32 b.val)) 0#32) : BitVec 32) 0#32 = 1#1
        ↔ 8 * a.val + b.val = 0 := by
    decide +kernel
  exact key (i 0) (i 1)

/-- There is a next step. -/
theorem cond2_iff (i : grid0.Coords) : k0_cond2 i = 1#1 ↔ 8 * (i 0).val + (i 1).val < 255 := by
  have key : ∀ (a : Fin 32) (b : Fin 8),
      Scalar.cmpi .ne (Scalar.extui (Scalar.cmpi .slt (Scalar.addi (Scalar.addi (Scalar.muli (BitVec.ofNat 32 a.val) 8#32) (BitVec.ofNat 32 b.val)) 1#32) 256#32) : BitVec 32) 0#32 = 1#1
        ↔ 8 * a.val + b.val < 255 := by
    decide +kernel
  exact key (i 0) (i 1)

/-- The first step of a sequence. -/
theorem cond3_iff (i : grid0.Coords) : k0_cond3 i = 1#1 ↔ (i 1).val = 0 := by
  have key : ∀ b : Fin 8,
      Scalar.cmpi .ne (Scalar.extui (Scalar.cmpi .eq (BitVec.ofNat 32 b.val) 0#32) : BitVec 32) 0#32 = 1#1 ↔ b.val = 0 := by
    decide +kernel
  exact key (i 1)

/-- A piece, then the rest. -/
theorem wp_seq {α β : Type} {p : Prog (TpuEff nD τ sig (Elt F) Λ₀ .tc) β} {K : β → Prog (TpuEff nD τ sig (Elt F) Λ₀ .tc) α} {Q : α → sProp 𝕄} :
    wpk c p (fun a => wpk c (K a) Q) ⊢ wpk c (p >>= K) Q := by
  unfold wpk
  rw [wp_bind]

include C

/-- The start of the body at step 0: the step's own sixteen copies started into slot 0, the next step's into slot 1. -/
theorem part10_first (t s : ℕ) {q q3 q4 : PosShare TreeShare} (x3 : Vec F S1x128x64 .bf16) (x4 : Vec F S1x128x1 .f32)
    (htb : ∀ i, (tb i).toNat < 5120) (ht : 8 * (i 0).val + (i 1).val = t) (h0 : t = 0) (hs : 1 - ((8 * (i 0).val + (i 1).val) % 2) = s) (hs2 : s < 2)
    {Q : (Σ' (arg1 : BitVec 32) (v1 : BitVec 32) (v2 : BitVec 32) (v4 : FVec F S128x64 .bf16) (v6 : FVec F S128x1 .f32) (v17 : Elt F .i32) (k0_hw33 : k0_chk33 v17) (v21 : Elt F .i32) (k0_hw34 : k0_chk34 v21) (v25 : Elt F .i32) (k0_hw35 : k0_chk35 v25) (v29 : Elt F .i32) (k0_hw36 : k0_chk36 v29), BitVec 32) → sProp 𝕄} :
    iprop((owns (c : Thread nD τ) arg3 q3 x3 : sProp 𝕄) ∗ owns (c : Thread nD τ) arg4 q4 x4 ∗ (tabLoc c ↦{q} tb) ∗ Free c C 0 ∗ Free c C s)
    ⊢ iprop((∀ (v17 : BitVec 32) (h17 : PLift (k0_chk33 v17)) (v21 : BitVec 32) (h21 : PLift (k0_chk34 v21)) (v25 : BitVec 32) (h25 : PLift (k0_chk35 v25))
        (v29 : BitVec 32) (h29 : PLift (k0_chk36 v29)), owns (c : Thread nD τ) arg3 q3 x3 -∗ owns (c : Thread nD τ) arg4 q4 x4 -∗ (tabLoc c ↦{q} tb) -∗ Issuing c tb C 0 0 16 -∗ Issuing c tb C (t + 1) s 16 -∗ Q ⟨BitVec.ofNat 32 (i 1).val, Scalar.addi (Scalar.muli (BitVec.ofNat 32 (i 0).val) 8#32) (BitVec.ofNat 32 (i 1).val), Scalar.remsi (Scalar.addi (Scalar.muli (BitVec.ofNat 32 (i 0).val) 8#32) (BitVec.ofNat 32 (i 1).val)) 2#32, k0_pay4 x3, k0_pay5 x4, v17, h17.down, v21, h21.down, v25, h25.down, v29, h29.down, 16#32⟩)
      -∗ wpk c (k0_part10 i (Memref.whole main_v13) h2 arg3 harg3 arg4 harg4 arg5 harg5 (Memref.whole main_v12) h6 arg7 harg7 arg8 harg8 (Memref.whole cc0_scratch0) h9 cc0_scratch1) Q) := by
  rw [k0_part10_eq_skeleton]
  unfold k0_part10_skel
  have hb0 : (i 0).val < 32 := (i 0).isLt
  have hb1 : (i 1).val < 8 := (i 1).isLt
  have hc1 : k0_cond1 i = 1#1 := (cond1_iff i).2 (by omega)
  simp only [dif_pos hc1]
  have hc2 : k0_cond2 i = 1#1 := (cond2_iff i).2 (by omega)
  simp only [dif_pos hc2]
  iintro ⟨H3, H4, Ht, H0, H1⟩ HK
  iapply (wp_whole_load c arg3 (by intro a; fin_cases a <;> rfl)) $$ H3
  iintro H3
  iapply (wp_whole_load c arg4 (by intro a; fin_cases a <;> rfl)) $$ H4
  iintro H4
  imod (start c tb C 0 0) $$ H0 with H
  iapply (wp_seq c)
  iapply (part1_run c tb C i arg3 harg3 arg4 harg4 arg5 harg5 arg7 harg7 arg8 harg8 h2 h6 h9 hc1 htb) $$ Ht
  iintro %v252 %hv252 %v253 %hv253 %v254 %hv254 %v255 %hv255 %v256 %hv256 %v257 %hv257 %v258 %hv258 %v259 %hv259 %v260 %hv260 %v261 %hv261 %v262 %hv262 %v263 %hv263 %v264 %hv264 %v265 %hv265 %v266 %hv266 %v267 %hv267 %he Ht
  obtain ⟨ev252, ev253, ev254, ev255, ev256, ev257, ev258, ev259, ev260, ev261, ev262, ev263, ev264, ev265, ev266, ev267⟩ := he
  dsimp only
  iapply (wp_seq c)
  iapply (part2_run c tb C i arg3 harg3 arg4 harg4 arg5 harg5 arg7 harg7 arg8 harg8 h2 h6 h9 hc1 v252 hv252.down v253 hv253.down v254 hv254.down v255 hv255.down v256 hv256.down ev252 ev253 ev254 ev255 ev256) $$ H
  iintro H
  iapply (wp_seq c)
  iapply (part3_run c tb C i arg3 harg3 arg4 harg4 arg5 harg5 arg7 harg7 arg8 harg8 h2 h6 h9 hc1 v257 hv257.down v258 hv258.down v259 hv259.down v260 hv260.down ev257 ev258 ev259 ev260) $$ H
  iintro H
  iapply (wp_seq c)
  iapply (part4_run c tb C i arg3 harg3 arg4 harg4 arg5 harg5 arg7 harg7 arg8 harg8 h2 h6 h9 hc1 v261 hv261.down v262 hv262.down v263 hv263.down v264 hv264.down ev261 ev262 ev263 ev264) $$ H
  iintro H
  iapply (wp_issue c tb C 0 0 13 (by decide) (by decide) (page_off tb ev265) rfl rfl) $$ H
  iintro H
  iapply (wp_issue c tb C 0 0 14 (by decide) (by decide) (page_off tb ev266) rfl rfl) $$ H
  iintro H
  iapply (wp_issue c tb C 0 0 15 (by decide) (by decide) (page_off tb ev267) rfl rfl) $$ H
  iintro H
  imod (start c tb C (t + 1) s) $$ H1 with HN
  iapply (wp_seq c)
  iapply (part5_run c tb C i arg3 harg3 arg4 harg4 arg5 harg5 arg7 harg7 arg8 harg8 h2 h6 h9 _ _ hc2 hs2 htb ht (by omega)) $$ Ht
  iintro %v257 %hv257 %v261 %hv261 %v265 %hv265 %v269 %hv269 %v273 %hv273 %v277 %hv277 %v281 %hv281 %v285 %hv285 %he Ht
  obtain ⟨ev257, ev261, ev265, ev269, ev273, ev277, ev281, ev285⟩ := he
  dsimp only
  iapply (wp_seq c)
  iapply (part6_run c tb C i arg3 harg3 arg4 harg4 arg5 harg5 arg7 harg7 arg8 harg8 h2 h6 h9 hc2 _ hs2 htb ht (by omega)) $$ Ht
  iintro %v289 %hv289 %v293 %hv293 %v297 %hv297 %v301 %hv301 %v305 %hv305 %v309 %hv309 %v313 %hv313 %v317 %hv317 %he Ht
  obtain ⟨ev289, ev293, ev297, ev301, ev305, ev309, ev313, ev317⟩ := he
  dsimp only
  iapply (wp_seq c)
  iapply (part7_run c tb C i arg3 harg3 arg4 harg4 arg5 harg5 arg7 harg7 arg8 harg8 h2 h6 h9 hc2 v257 hv257.down v261 hv261.down v265 hv265.down v269 hv269.down v273 hv273.down hs2 hs ev257 ev261 ev265 ev269 ev273) $$ HN
  iintro HN
  iapply (wp_seq c)
  iapply (part8_run c tb C i arg3 harg3 arg4 harg4 arg5 harg5 arg7 harg7 arg8 harg8 h2 h6 h9 hc2 v277 hv277.down v281 hv281.down v285 hv285.down v289 hv289.down v293 hv293.down hs2 hs ev277 ev281 ev285 ev289 ev293) $$ HN
  iintro HN
  iapply (wp_seq c)
  iapply (part9_run c tb C i arg3 harg3 arg4 harg4 arg5 harg5 arg7 harg7 arg8 harg8 h2 h6 h9 hc2 v297 hv297.down v301 hv301.down v305 hv305.down v309 hv309.down v313 hv313.down hs2 hs ev297 ev301 ev305 ev309 ev313) $$ HN
  iintro HN
  iapply (wp_issue c tb C (t + 1) s 15 (by decide) hs2 (page_off tb ev317) ((k0_off64_eq i).trans (by rw [hs])) ((k0_off63_eq i).trans (by rw [hs]))) $$ HN
  iintro HN
  iapply (wp_word c tb (16 * t + 0) (by omega) htb (word_this ht 0) (P := k0_chk33) (fun w hw => (page_ok w hw : k0_chk33 w))) $$ Ht
  iintro %v17 %hv17 %ev17 Ht
  iapply (wp_word c tb (16 * t + 1) (by omega) htb (word_this ht 1) (P := k0_chk34) (fun w hw => (page_ok w hw : k0_chk34 w))) $$ Ht
  iintro %v21 %hv21 %ev21 Ht
  iapply (wp_word c tb (16 * t + 2) (by omega) htb (word_this ht 2) (P := k0_chk35) (fun w hw => (page_ok w hw : k0_chk35 w))) $$ Ht
  iintro %v25 %hv25 %ev25 Ht
  iapply (wp_word c tb (16 * t + 3) (by omega) htb (word_this ht 3) (P := k0_chk36) (fun w hw => (page_ok w hw : k0_chk36 w))) $$ Ht
  iintro %v29 %hv29 %ev29 Ht
  iapply wp_done
  iapply HK $$ %v17 %hv17 %v21 %hv21 %v25 %hv25 %v29 %hv29 H3 H4 Ht H HN

/-- The start of the body between: the next step's sixteen copies started into the other slot. -/
theorem part10_mid (t s : ℕ) {q q3 q4 : PosShare TreeShare} (x3 : Vec F S1x128x64 .bf16) (x4 : Vec F S1x128x1 .f32)
    (htb : ∀ i, (tb i).toNat < 5120) (ht : 8 * (i 0).val + (i 1).val = t) (h0 : 0 < t) (h1 : t < 255) (hs : 1 - ((8 * (i 0).val + (i 1).val) % 2) = s) (hs2 : s < 2)
    {Q : (Σ' (arg1 : BitVec 32) (v1 : BitVec 32) (v2 : BitVec 32) (v4 : FVec F S128x64 .bf16) (v6 : FVec F S128x1 .f32) (v17 : Elt F .i32) (k0_hw33 : k0_chk33 v17) (v21 : Elt F .i32) (k0_hw34 : k0_chk34 v21) (v25 : Elt F .i32) (k0_hw35 : k0_chk35 v25) (v29 : Elt F .i32) (k0_hw36 : k0_chk36 v29), BitVec 32) → sProp 𝕄} :
    iprop((owns (c : Thread nD τ) arg3 q3 x3 : sProp 𝕄) ∗ owns (c : Thread nD τ) arg4 q4 x4 ∗ (tabLoc c ↦{q} tb) ∗ Free c C s)
    ⊢ iprop((∀ (v17 : BitVec 32) (h17 : PLift (k0_chk33 v17)) (v21 : BitVec 32) (h21 : PLift (k0_chk34 v21)) (v25 : BitVec 32) (h25 : PLift (k0_chk35 v25))
        (v29 : BitVec 32) (h29 : PLift (k0_chk36 v29)), owns (c : Thread nD τ) arg3 q3 x3 -∗ owns (c : Thread nD τ) arg4 q4 x4 -∗ (tabLoc c ↦{q} tb) -∗ Issuing c tb C (t + 1) s 16 -∗ Q ⟨BitVec.ofNat 32 (i 1).val, Scalar.addi (Scalar.muli (BitVec.ofNat 32 (i 0).val) 8#32) (BitVec.ofNat 32 (i 1).val), Scalar.remsi (Scalar.addi (Scalar.muli (BitVec.ofNat 32 (i 0).val) 8#32) (BitVec.ofNat 32 (i 1).val)) 2#32, k0_pay4 x3, k0_pay5 x4, v17, h17.down, v21, h21.down, v25, h25.down, v29, h29.down, 16#32⟩)
      -∗ wpk c (k0_part10 i (Memref.whole main_v13) h2 arg3 harg3 arg4 harg4 arg5 harg5 (Memref.whole main_v12) h6 arg7 harg7 arg8 harg8 (Memref.whole cc0_scratch0) h9 cc0_scratch1) Q) := by
  rw [k0_part10_eq_skeleton]
  unfold k0_part10_skel
  have hb0 : (i 0).val < 32 := (i 0).isLt
  have hb1 : (i 1).val < 8 := (i 1).isLt
  have hc1 : ¬ k0_cond1 i = 1#1 := fun h => absurd ((cond1_iff i).1 h) (by omega)
  simp only [dif_neg hc1]
  have hc2 : k0_cond2 i = 1#1 := (cond2_iff i).2 (by omega)
  simp only [dif_pos hc2]
  iintro ⟨H3, H4, Ht, H1⟩ HK
  iapply (wp_whole_load c arg3 (by intro a; fin_cases a <;> rfl)) $$ H3
  iintro H3
  iapply (wp_whole_load c arg4 (by intro a; fin_cases a <;> rfl)) $$ H4
  iintro H4
  imod (start c tb C (t + 1) s) $$ H1 with HN
  iapply (wp_seq c)
  iapply (part5_run c tb C i arg3 harg3 arg4 harg4 arg5 harg5 arg7 harg7 arg8 harg8 h2 h6 h9 _ _ hc2 hs2 htb ht (by omega)) $$ Ht
  iintro %v257 %hv257 %v261 %hv261 %v265 %hv265 %v269 %hv269 %v273 %hv273 %v277 %hv277 %v281 %hv281 %v285 %hv285 %he Ht
  obtain ⟨ev257, ev261, ev265, ev269, ev273, ev277, ev281, ev285⟩ := he
  dsimp only
  iapply (wp_seq c)
  iapply (part6_run c tb C i arg3 harg3 arg4 harg4 arg5 harg5 arg7 harg7 arg8 harg8 h2 h6 h9 hc2 _ hs2 htb ht (by omega)) $$ Ht
  iintro %v289 %hv289 %v293 %hv293 %v297 %hv297 %v301 %hv301 %v305 %hv305 %v309 %hv309 %v313 %hv313 %v317 %hv317 %he Ht
  obtain ⟨ev289, ev293, ev297, ev301, ev305, ev309, ev313, ev317⟩ := he
  dsimp only
  iapply (wp_seq c)
  iapply (part7_run c tb C i arg3 harg3 arg4 harg4 arg5 harg5 arg7 harg7 arg8 harg8 h2 h6 h9 hc2 v257 hv257.down v261 hv261.down v265 hv265.down v269 hv269.down v273 hv273.down hs2 hs ev257 ev261 ev265 ev269 ev273) $$ HN
  iintro HN
  iapply (wp_seq c)
  iapply (part8_run c tb C i arg3 harg3 arg4 harg4 arg5 harg5 arg7 harg7 arg8 harg8 h2 h6 h9 hc2 v277 hv277.down v281 hv281.down v285 hv285.down v289 hv289.down v293 hv293.down hs2 hs ev277 ev281 ev285 ev289 ev293) $$ HN
  iintro HN
  iapply (wp_seq c)
  iapply (part9_run c tb C i arg3 harg3 arg4 harg4 arg5 harg5 arg7 harg7 arg8 harg8 h2 h6 h9 hc2 v297 hv297.down v301 hv301.down v305 hv305.down v309 hv309.down v313 hv313.down hs2 hs ev297 ev301 ev305 ev309 ev313) $$ HN
  iintro HN
  iapply (wp_issue c tb C (t + 1) s 15 (by decide) hs2 (page_off tb ev317) ((k0_off64_eq i).trans (by rw [hs])) ((k0_off63_eq i).trans (by rw [hs]))) $$ HN
  iintro HN
  iapply (wp_word c tb (16 * t + 0) (by omega) htb (word_this ht 0) (P := k0_chk33) (fun w hw => (page_ok w hw : k0_chk33 w))) $$ Ht
  iintro %v17 %hv17 %ev17 Ht
  iapply (wp_word c tb (16 * t + 1) (by omega) htb (word_this ht 1) (P := k0_chk34) (fun w hw => (page_ok w hw : k0_chk34 w))) $$ Ht
  iintro %v21 %hv21 %ev21 Ht
  iapply (wp_word c tb (16 * t + 2) (by omega) htb (word_this ht 2) (P := k0_chk35) (fun w hw => (page_ok w hw : k0_chk35 w))) $$ Ht
  iintro %v25 %hv25 %ev25 Ht
  iapply (wp_word c tb (16 * t + 3) (by omega) htb (word_this ht 3) (P := k0_chk36) (fun w hw => (page_ok w hw : k0_chk36 w))) $$ Ht
  iintro %v29 %hv29 %ev29 Ht
  iapply wp_done
  iapply HK $$ %v17 %hv17 %v21 %hv21 %v25 %hv25 %v29 %hv29 H3 H4 Ht HN

/-- The start of the body at the last step: nothing more to start. -/
theorem part10_last (t s : ℕ) {q q3 q4 : PosShare TreeShare} (x3 : Vec F S1x128x64 .bf16) (x4 : Vec F S1x128x1 .f32)
    (htb : ∀ i, (tb i).toNat < 5120) (ht : 8 * (i 0).val + (i 1).val = t) (h1 : t = 255)
    {Q : (Σ' (arg1 : BitVec 32) (v1 : BitVec 32) (v2 : BitVec 32) (v4 : FVec F S128x64 .bf16) (v6 : FVec F S128x1 .f32) (v17 : Elt F .i32) (k0_hw33 : k0_chk33 v17) (v21 : Elt F .i32) (k0_hw34 : k0_chk34 v21) (v25 : Elt F .i32) (k0_hw35 : k0_chk35 v25) (v29 : Elt F .i32) (k0_hw36 : k0_chk36 v29), BitVec 32) → sProp 𝕄} :
    iprop((owns (c : Thread nD τ) arg3 q3 x3 : sProp 𝕄) ∗ owns (c : Thread nD τ) arg4 q4 x4 ∗ (tabLoc c ↦{q} tb))
    ⊢ iprop((∀ (v17 : BitVec 32) (h17 : PLift (k0_chk33 v17)) (v21 : BitVec 32) (h21 : PLift (k0_chk34 v21)) (v25 : BitVec 32) (h25 : PLift (k0_chk35 v25))
        (v29 : BitVec 32) (h29 : PLift (k0_chk36 v29)), owns (c : Thread nD τ) arg3 q3 x3 -∗ owns (c : Thread nD τ) arg4 q4 x4 -∗ (tabLoc c ↦{q} tb) -∗ Q ⟨BitVec.ofNat 32 (i 1).val, Scalar.addi (Scalar.muli (BitVec.ofNat 32 (i 0).val) 8#32) (BitVec.ofNat 32 (i 1).val), Scalar.remsi (Scalar.addi (Scalar.muli (BitVec.ofNat 32 (i 0).val) 8#32) (BitVec.ofNat 32 (i 1).val)) 2#32, k0_pay4 x3, k0_pay5 x4, v17, h17.down, v21, h21.down, v25, h25.down, v29, h29.down, 16#32⟩)
      -∗ wpk c (k0_part10 i (Memref.whole main_v13) h2 arg3 harg3 arg4 harg4 arg5 harg5 (Memref.whole main_v12) h6 arg7 harg7 arg8 harg8 (Memref.whole cc0_scratch0) h9 cc0_scratch1) Q) := by
  rw [k0_part10_eq_skeleton]
  unfold k0_part10_skel
  have hb0 : (i 0).val < 32 := (i 0).isLt
  have hb1 : (i 1).val < 8 := (i 1).isLt
  have hc1 : ¬ k0_cond1 i = 1#1 := fun h => absurd ((cond1_iff i).1 h) (by omega)
  simp only [dif_neg hc1]
  have hc2 : ¬ k0_cond2 i = 1#1 := fun h => absurd ((cond2_iff i).1 h) (by omega)
  simp only [dif_neg hc2]
  iintro ⟨H3, H4, Ht⟩ HK
  iapply (wp_whole_load c arg3 (by intro a; fin_cases a <;> rfl)) $$ H3
  iintro H3
  iapply (wp_whole_load c arg4 (by intro a; fin_cases a <;> rfl)) $$ H4
  iintro H4
  iapply (wp_word c tb (16 * t + 0) (by omega) htb (word_this ht 0) (P := k0_chk33) (fun w hw => (page_ok w hw : k0_chk33 w))) $$ Ht
  iintro %v17 %hv17 %ev17 Ht
  iapply (wp_word c tb (16 * t + 1) (by omega) htb (word_this ht 1) (P := k0_chk34) (fun w hw => (page_ok w hw : k0_chk34 w))) $$ Ht
  iintro %v21 %hv21 %ev21 Ht
  iapply (wp_word c tb (16 * t + 2) (by omega) htb (word_this ht 2) (P := k0_chk35) (fun w hw => (page_ok w hw : k0_chk35 w))) $$ Ht
  iintro %v25 %hv25 %ev25 Ht
  iapply (wp_word c tb (16 * t + 3) (by omega) htb (word_this ht 3) (P := k0_chk36) (fun w hw => (page_ok w hw : k0_chk36 w))) $$ Ht
  iintro %v29 %hv29 %ev29 Ht
  iapply wp_done
  iapply HK $$ %v17 %hv17 %v21 %hv21 %v25 %hv25 %v29 %hv29 H3 H4 Ht

end Cert.Pages

end
-- ==== Proof.Body.lean ====
/-
  The whole body of the page-reading kernel, and what its steps hand to each other.
-/
module

public import proofs.«01_k».proof.Proof.Starts

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (tb : Table) (C : Cache F) (i : grid0.Coords)
variable (arg3 : Memref sig .tc .vmem S1x128x64 .bf16) (harg3 : arg3.IsWhole) (arg4 : Memref sig .tc .vmem S1x128x1 .f32) (harg4 : arg4.IsWhole) (arg5 : Memref sig .tc .vmem S1x64x128 .bf16) (harg5 : arg5.IsWhole) (arg7 : Memref sig .tc .vmem S1x8x2048 .f32) (harg7 : arg7.IsWhole) (arg8 : Memref sig .tc .vmem S1x8x128 .f32) (harg8 : arg8.IsWhole)
variable (h2 : (Memref.whole main_v13).IsWhole) (h6 : (Memref.whole main_v12).IsWhole) (h9 : (Memref.whole cc0_scratch0).IsWhole)

/-- The scores of a step: sixteen pages' keys against a sequence's queries, weighted. -/
def scoreBlock (t : ℕ) (x3 : Vec F S1x128x64 .bf16) (x4 : Vec F S1x128x1 .f32) : Vec F S1x8x2048 .f32 :=
  k0_pay2 (k0_pay4 x3) (k0_pay5 x4) (k0_pay1 (k0_pay6 (pageBlock tb C (16 * t + 0))) (k0_pay7 (pageBlock tb C (16 * t + 1))) (k0_pay8 (pageBlock tb C (16 * t + 2))) (k0_pay9 (pageBlock tb C (16 * t + 3))) (k0_pay10 (pageBlock tb C (16 * t + 4))) (k0_pay11 (pageBlock tb C (16 * t + 5))) (k0_pay12 (pageBlock tb C (16 * t + 6))) (k0_pay13 (pageBlock tb C (16 * t + 7))) (k0_pay14 (pageBlock tb C (16 * t + 8))) (k0_pay15 (pageBlock tb C (16 * t + 9))) (k0_pay16 (pageBlock tb C (16 * t + 10))) (k0_pay17 (pageBlock tb C (16 * t + 11))) (pageBlock tb C (16 * t + 12)) (pageBlock tb C (16 * t + 13)) (pageBlock tb C (16 * t + 14)) (pageBlock tb C (16 * t + 15)))

/-- The scores of a sequence's new keys. -/
def newBlock (x3 : Vec F S1x128x64 .bf16) (x4 : Vec F S1x128x1 .f32) (x5 : Vec F S1x64x128 .bf16) : Vec F S1x8x128 .f32 :=
  k0_pay3 (k0_pay4 x3) (k0_pay5 x4) x5

/-- A step's sixteen copies in flight into slot `s`. -/
def Flying (n s : ℕ) : sProp 𝕄 := iprop(batch c tb C n s 16 0 ∗ bigSep Finset.univ (kept c tb C n s))

/-- What the body leaves for its next step, besides its own slot. -/
def Onward (t : ℕ) : sProp 𝕄 := if t < 255 then Flying c tb C (t + 1) ((t + 1) % 2) else Free c C (1 - t % 2)

/-- What the steps hand to each other: before step `n`, and after the last, both slots free; else the step's copies in flight into its slot, and the other free. -/
def Inv (n : ℕ) : sProp 𝕄 :=
  if n = 0 ∨ n = 256 then iprop(Free c C 0 ∗ Free c C 1) else iprop(Flying c tb C n (n % 2) ∗ Free c C (1 - n % 2))

omit i in
theorem flying_of (t s : ℕ) : Issuing c tb C t s 16 ⊢ Flying c tb C t s := by
  unfold Issuing Flying
  rw [Transfers.issued_all rfl]
  iintro ⟨HB, Hk, -⟩
  isplitl [HB]; · iexact HB
  iexact Hk

theorem waiting_of (t s : ℕ) : iprop(Flying c tb C t s ∗ ∃ W, owes (c : Thread nD τ) 0 W) ⊢ Waiting c tb C t s (0 * units) := by
  unfold Waiting Flying
  rw [Nat.zero_mul]
  iintro ⟨⟨HB, Hk⟩, Ho⟩
  isplitl [HB]; · iexact HB
  isplitl [Hk]; · iexact Hk
  iexact Ho

/-- A step done, the next step's copies in flight or none left. -/
theorem inv_next (t : ℕ) (ht : t < 256) : iprop(Free c C (t % 2) ∗ Onward c tb C t) ⊢ Inv c tb C (t + 1) := by
  unfold Onward Inv
  by_cases h : t < 255
  · rw [if_pos h, if_neg (by omega), show 1 - (t + 1) % 2 = t % 2 by omega]
    iintro ⟨H1, H2⟩
    isplitl [H2]; · iexact H2
    iexact H1
  · obtain rfl : t = 255 := by omega
    rw [if_neg h, if_pos (by omega)]
    iintro ⟨H1, H2⟩
    isplitl [H2]; · iexact H2
    iexact H1

include C

/-- The start of the body, at any step. -/
theorem part10_run (t : ℕ) {q q3 q4 : PosShare TreeShare} (x3 : Vec F S1x128x64 .bf16) (x4 : Vec F S1x128x1 .f32)
    (htb : ∀ i, (tb i).toNat < 5120) (ht : 8 * (i 0).val + (i 1).val = t)
    {Q : (Σ' (arg1 : BitVec 32) (v1 : BitVec 32) (v2 : BitVec 32) (v4 : FVec F S128x64 .bf16) (v6 : FVec F S128x1 .f32) (v17 : Elt F .i32) (k0_hw33 : k0_chk33 v17) (v21 : Elt F .i32) (k0_hw34 : k0_chk34 v21) (v25 : Elt F .i32) (k0_hw35 : k0_chk35 v25) (v29 : Elt F .i32) (k0_hw36 : k0_chk36 v29), BitVec 32) → sProp 𝕄} :
    iprop((owns (c : Thread nD τ) arg3 q3 x3 : sProp 𝕄) ∗ owns (c : Thread nD τ) arg4 q4 x4 ∗ (tabLoc c ↦{q} tb) ∗ Inv c tb C t ∗ (∃ W, owes (c : Thread nD τ) 0 W))
    ⊢ iprop((∀ (v17 : BitVec 32) (h17 : PLift (k0_chk33 v17)) (v21 : BitVec 32) (h21 : PLift (k0_chk34 v21)) (v25 : BitVec 32) (h25 : PLift (k0_chk35 v25))
        (v29 : BitVec 32) (h29 : PLift (k0_chk36 v29)), owns (c : Thread nD τ) arg3 q3 x3 -∗ owns (c : Thread nD τ) arg4 q4 x4 -∗ (tabLoc c ↦{q} tb) -∗ Waiting c tb C t (t % 2) (0 * units) -∗ Onward c tb C t -∗ Q ⟨BitVec.ofNat 32 (i 1).val, Scalar.addi (Scalar.muli (BitVec.ofNat 32 (i 0).val) 8#32) (BitVec.ofNat 32 (i 1).val), Scalar.remsi (Scalar.addi (Scalar.muli (BitVec.ofNat 32 (i 0).val) 8#32) (BitVec.ofNat 32 (i 1).val)) 2#32, k0_pay4 x3, k0_pay5 x4, v17, h17.down, v21, h21.down, v25, h25.down, v29, h29.down, 16#32⟩)
      -∗ wpk c (k0_part10 i (Memref.whole main_v13) h2 arg3 harg3 arg4 harg4 arg5 harg5 (Memref.whole main_v12) h6 arg7 harg7 arg8 harg8 (Memref.whole cc0_scratch0) h9 cc0_scratch1) Q) := by
  have hb0 : (i 0).val < 32 := (i 0).isLt
  have hb1 : (i 1).val < 8 := (i 1).isLt
  unfold Onward Inv
  by_cases h0 : t = 0
  · subst h0
    rw [if_pos (Or.inl rfl), if_pos (by omega)]
    iintro ⟨H3, H4, Ht, ⟨H0, H1⟩, Ho⟩ HK
    iapply (part10_first c tb C i arg3 harg3 arg4 harg4 arg5 harg5 arg7 harg7 arg8 harg8 h2 h6 h9 0 1 x3 x4 htb ht rfl (by omega) (by omega)) $$ [H3 H4 Ht H0 H1]
    · isplitl [H3]; · iexact H3
      isplitl [H4]; · iexact H4
      isplitl [Ht]; · iexact Ht
      isplitl [H0]; · iexact H0
      iexact H1
    iintro %v17 %h17 %v21 %h21 %v25 %h25 %v29 %h29 H3 H4 Ht HA HB
    ihave HA := (flying_of c tb C 0 0) $$ HA
    ihave HB := (flying_of c tb C (0 + 1) 1) $$ HB
    ihave HA := (waiting_of c tb C 0 0) $$ [HA Ho]
    · isplitl [HA]; · iexact HA
      iexact Ho
    iapply HK $$ %v17 %h17 %v21 %h21 %v25 %h25 %v29 %h29 H3 H4 Ht HA HB
  · rw [if_neg (by omega)]
    by_cases h1 : t < 255
    · rw [if_pos h1]
      iintro ⟨H3, H4, Ht, ⟨HA, H1⟩, Ho⟩ HK
      iapply (part10_mid c tb C i arg3 harg3 arg4 harg4 arg5 harg5 arg7 harg7 arg8 harg8 h2 h6 h9 t (1 - t % 2) x3 x4 htb ht (by omega) h1 (by omega) (by omega)) $$ [H3 H4 Ht H1]
      · isplitl [H3]; · iexact H3
        isplitl [H4]; · iexact H4
        isplitl [Ht]; · iexact Ht
        iexact H1
      iintro %v17 %h17 %v21 %h21 %v25 %h25 %v29 %h29 H3 H4 Ht HB
      rw [show 1 - t % 2 = (t + 1) % 2 by omega]
      ihave HB := (flying_of c tb C (t + 1) ((t + 1) % 2)) $$ HB
      ihave HA := (waiting_of c tb C t (t % 2)) $$ [HA Ho]
      · isplitl [HA]; · iexact HA
        iexact Ho
      iapply HK $$ %v17 %h17 %v21 %h21 %v25 %h25 %v29 %h29 H3 H4 Ht HA HB
    · rw [if_neg h1]
      iintro ⟨H3, H4, Ht, ⟨HA, H1⟩, Ho⟩ HK
      iapply (part10_last c tb C i arg3 harg3 arg4 harg4 arg5 harg5 arg7 harg7 arg8 harg8 h2 h6 h9 t 0 x3 x4 htb ht (by omega)) $$ [H3 H4 Ht]
      · isplitl [H3]; · iexact H3
        isplitl [H4]; · iexact H4
        iexact Ht
      iintro %v17 %h17 %v21 %h21 %v25 %h25 %v29 %h29 H3 H4 Ht
      ihave HA := (waiting_of c tb C t (t % 2)) $$ [HA Ho]
      · isplitl [HA]; · iexact HA
        iexact Ho
      iapply HK $$ %v17 %h17 %v21 %h21 %v25 %h25 %v29 %h29 H3 H4 Ht HA H1

/-- The whole body at step `t`: it takes what the step before handed over, leaves the step's scores, and at a sequence's first step its new keys' scores. -/
theorem body_run (t : ℕ) {q q3 q4 q5 : PosShare TreeShare} (x3 : Vec F S1x128x64 .bf16) (x4 : Vec F S1x128x1 .f32) (x5 : Vec F S1x64x128 .bf16)
    (x7 : Vec F S1x8x2048 .f32) (x8 : Vec F S1x8x128 .f32)
    (htb : ∀ i, (tb i).toNat < 5120) (ht : 8 * (i 0).val + (i 1).val = t) {Q : PUnit → sProp 𝕄} :
    iprop((owns (c : Thread nD τ) arg3 q3 x3 : sProp 𝕄) ∗ owns (c : Thread nD τ) arg4 q4 x4 ∗ owns (c : Thread nD τ) arg5 q5 x5
      ∗ owns (c : Thread nD τ) arg7 fullShare x7 ∗ owns (c : Thread nD τ) arg8 fullShare x8
      ∗ (tabLoc c ↦{q} tb) ∗ Inv c tb C t ∗ (∃ W, owes (c : Thread nD τ) 0 W))
    ⊢ iprop((owns (c : Thread nD τ) arg3 q3 x3 -∗ owns (c : Thread nD τ) arg4 q4 x4 -∗ owns (c : Thread nD τ) arg5 q5 x5
      -∗ owns (c : Thread nD τ) arg7 fullShare (scoreBlock tb C t x3 x4) -∗ owns (c : Thread nD τ) arg8 fullShare (if (i 1).val = 0 then newBlock x3 x4 x5 else x8)
      -∗ (tabLoc c ↦{q} tb) -∗ Inv c tb C (t + 1) -∗ (∃ W, owes (c : Thread nD τ) 0 W) -∗ Q ⟨⟩)
      -∗ wpk c (cc0_sample_scores i (Memref.whole main_v13) h2 arg3 harg3 arg4 harg4 arg5 harg5 (Memref.whole main_v12) h6 arg7 harg7 arg8 harg8 (Memref.whole cc0_scratch0) h9 cc0_scratch1) Q) := by
  have hb0 : (i 0).val < 32 := (i 0).isLt
  have hb1 : (i 1).val < 8 := (i 1).isLt
  have hs : (8 * (i 0).val + (i 1).val) % 2 = t % 2 := by rw [ht]
  have hs2 : t % 2 < 2 := Nat.mod_lt _ (by decide)
  rw [cc0_sample_scores_eq_skeleton]
  unfold cc0_sample_scores_skel scoreBlock newBlock
  iintro ⟨H3, H4, H5, H7, H8, Ht, HI, Ho⟩ HK
  iapply (wp_seq c)
  iapply (part10_run c tb C i arg3 harg3 arg4 harg4 arg5 harg5 arg7 harg7 arg8 harg8 h2 h6 h9 t x3 x4 htb ht) $$ [H3 H4 Ht HI Ho]
  · isplitl [H3]; · iexact H3
    isplitl [H4]; · iexact H4
    isplitl [Ht]; · iexact Ht
    isplitl [HI]; · iexact HI
    iexact Ho
  iintro %v17 %hv17 %v21 %hv21 %v25 %hv25 %v29 %hv29 H3 H4 Ht H HN
  dsimp only
  iapply (wp_seq c)
  iapply (part11_run c tb C i arg3 harg3 arg4 harg4 arg5 harg5 arg7 harg7 arg8 harg8 h2 h6 h9 _ _ hs2 htb ht (by omega)) $$ Ht
  iintro %v33 %hv33 %v37 %hv37 %v41 %hv41 %v45 %hv45 %v49 %hv49 %v53 %hv53 %v57 %hv57 %v61 %hv61 %he Ht
  dsimp only
  iapply (wp_seq c)
  iapply (part12_run c tb C i arg3 harg3 arg4 harg4 arg5 harg5 arg7 harg7 arg8 harg8 h2 h6 h9 _ v17 hv17.down v21 hv21.down v25 hv25.down htb ht (by omega) hs hs2) $$ [Ht H]
  · isplitl [Ht]; · iexact Ht
    iexact H
  iintro %v65 %hv65 %v69 %hv69 %v73 %hv73 %v77 %hv77 %he' Ht H
  dsimp only
  iapply (wp_seq c)
  iapply (part13_run c tb C i arg3 harg3 arg4 harg4 arg5 harg5 arg7 harg7 arg8 harg8 h2 h6 h9 v29 hv29.down v33 hv33.down v37 hv37.down v41 hv41.down v45 hv45.down hs hs2) $$ H
  iintro H
  iapply (wp_seq c)
  iapply (part14_run c tb C i arg3 harg3 arg4 harg4 arg5 harg5 arg7 harg7 arg8 harg8 h2 h6 h9 v49 hv49.down v53 hv53.down v57 hv57.down v61 hv61.down v65 hv65.down hs hs2) $$ H
  iintro H
  iapply (wp_seq c)
  iapply (part15_run c tb C i arg3 harg3 arg4 harg4 arg5 harg5 arg7 harg7 arg8 harg8 h2 h6 h9 _ v69 hv69.down v73 hv73.down v77 hv77.down hs hs2) $$ H
  iintro H Ho
  dsimp only
  iapply (wp_seq c)
  iapply (part16_run c tb C i arg3 harg3 arg4 harg4 arg5 harg5 arg7 harg7 arg8 harg8 h2 h6 h9 _ hs) $$ H
  iintro H
  dsimp only
  iapply (wp_landed c tb C t (t % 2) 12 ((k0_off127_eq i).trans (by rw [hs]))) $$ H
  iintro H
  iapply (wp_landed c tb C t (t % 2) 13 ((k0_off128_eq i).trans (by rw [hs]))) $$ H
  iintro H
  iapply (wp_landed c tb C t (t % 2) 14 ((k0_off129_eq i).trans (by rw [hs]))) $$ H
  iintro H
  iapply (wp_landed c tb C t (t % 2) 15 ((k0_off130_eq i).trans (by rw [hs]))) $$ H
  iintro H
  iapply (wp_whole_load c arg7 (by intro a; fin_cases a <;> rfl)) $$ H7
  iintro H7
  iapply (wp_whole_store c arg7 (by intro a; fin_cases a <;> rfl)) $$ H7
  iintro H7
  ihave H := (finish c tb C t (t % 2)) $$ H
  ihave HI := (inv_next c tb C t (by omega)) $$ [H HN]
  · isplitl [H]; · iexact H
    iexact HN
  by_cases h0 : (i 1).val = 0
  · have hc3 : k0_cond3 i = 1#1 := (cond3_iff i).2 h0
    simp only [dif_pos hc3]
    rw [if_pos h0]
    iapply (wp_whole_load c arg5 (by intro a; fin_cases a <;> rfl)) $$ H5
    iintro H5
    iapply (wp_whole_load c arg8 (by intro a; fin_cases a <;> rfl)) $$ H8
    iintro H8
    iapply (wp_whole_store c arg8 (by intro a; fin_cases a <;> rfl)) $$ H8
    iintro H8
    iapply wp_done
    iapply HK $$ H3 H4 H5 H7 H8 Ht HI Ho
  · have hc3 : ¬ k0_cond3 i = 1#1 := fun h => h0 ((cond3_iff i).1 h)
    simp only [dif_neg hc3]
    rw [if_neg h0]
    iapply wp_done
    iapply HK $$ H3 H4 H5 H7 H8 Ht HI Ho

end Cert.Pages

end
-- ==== Proof.Ends.lean ====
/-
  What the region hands the first step, and what the last hands back: the ring whole against its two slots, and the
  cache whole against the thirty-two shares the copies borrow.
-/
module

public import proofs.«01_k».proof.Proof.Body

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (C : Cache F)

/-- The cache whole is any number of shares of it, listed. -/
theorem whole_shares (n k : ℕ) (e : n + 1 = k) : (cacheLoc c ↦{fullShare} C : sProp 𝕄)
    ⊣⊢ bigSepL (List.finRange k) (fun s => (cacheLoc c ↦{Idealize.ShloMosaic.Ring.sharesN k fullShare s} C : sProp 𝕄)) := by
  subst e
  exact Idealize.ShloMosaic.Ring.pointsTo_nths (ℓ := cacheLoc c) (I := Finset.univ) C n fullShare

/-- The cache whole is the shares of the two slots' rows. -/
theorem cache_shares : (cacheLoc c ↦{fullShare} C : sProp 𝕄)
    ⊣⊢ iprop(bigSep Finset.univ (lent c C 0) ∗ bigSep Finset.univ (lent c C 1)) := by
  have e : bigSep Finset.univ (fun k : Fin 32 => (cacheLoc c ↦{Idealize.ShloMosaic.Ring.sharesN 32 fullShare k} C : sProp 𝕄))
      = iprop(bigSep Finset.univ (lent c C 0) ∗ bigSep Finset.univ (lent c C 1)) := by
    rw [bigSep_univ_equiv (finProdFinEquiv : Fin 2 × Fin 16 ≃ Fin 32), bigSep_univ_prod, bigSep_fin_two]
    have h (s : Fin 2) : (bigSep Finset.univ fun r : Fin 16 => (cacheLoc c ↦{Idealize.ShloMosaic.Ring.sharesN 32 fullShare (finProdFinEquiv (s, r))} C : sProp 𝕄))
        = bigSep Finset.univ (lent c C s.val) := by
      refine bigSep_congr fun r _ => ?_
      unfold lent share
      congr 2
      apply Fin.ext
      have hs := s.isLt
      have hr := r.isLt
      show r.val + 16 * s.val = (16 * s.val + r.val) % 32
      omega
    exact congrArg₂ _ (h 0) (h 1)
  rw [← e, bigSep_univ_eq_bigSepL (List.finRange 32) (by decide) (List.nodup_finRange 32)]
  exact whole_shares c C 31 32 rfl

theorem slots_disjoint (b b' : Fin 2) (h : b ≠ b') : Disjoint (slot b.val) (slot b'.val) := by
  rw [Finset.disjoint_left]
  intro x h1 h2
  exact h (Fin.ext ((Finset.mem_filter.mp h1).2.symm.trans (Finset.mem_filter.mp h2).2))

theorem slots_cover : Finset.univ.biUnion (fun b : Fin 2 => slot b.val) = Finset.univ := by
  ext x
  simp only [Finset.mem_biUnion, Finset.mem_univ, true_and, iff_true]
  exact ⟨x 0, Finset.mem_filter.mpr ⟨Finset.mem_univ _, rfl⟩⟩

/-- Everything whole and both cells at zero: both slots are free. -/
theorem free_of : iprop((∃ f : Ring F, ringLoc c ↦{fullShare} f)
      ∗ (semVal ((c : Thread nD τ), .dma (cell 0)) 0 ∗ semVal ((c : Thread nD τ), .dma (cell 1)) 0) ∗ (cacheLoc c ↦{fullShare} C))
    ⊢ (iprop(Free c C 0 ∗ Free c C 1) : sProp 𝕄) := by
  have hring (f : Ring F) : (ringLoc c ↦{fullShare} f : sProp 𝕄) = iprop((ringLoc c ↦[slot 0]{fullShare} f) ∗ (ringLoc c ↦[slot 1]{fullShare} f)) := by
    rw [Idealize.ShloMosaic.Ring.pointsTo_blocks (ℓ := ringLoc c) (fun b : Fin 2 => slot b.val) slots_disjoint slots_cover, bigSep_fin_two]
    rfl
  unfold Free
  iintro ⟨⟨%f, HR⟩, ⟨H0, H1⟩, HC⟩
  ihave HR := (Entails.of_eq (hring f)) $$ HR
  icases HR with ⟨HR0, HR1⟩
  ihave HC := (cache_shares c C).1 $$ HC
  icases HC with ⟨HC0, HC1⟩
  isplitl [HR0 H0 HC0]
  · isplitl [HR0]; · iexists f; iexact HR0
    isplitl [H0]; · iexact H0
    iexact HC0
  · isplitl [HR1]; · iexists f; iexact HR1
    isplitl [H1]; · iexact H1
    iexact HC1

/-- And back. -/
theorem of_free : (iprop(Free c C 0 ∗ Free c C 1) : sProp 𝕄)
    ⊢ iprop((∃ f : Ring F, ringLoc c ↦{fullShare} f)
      ∗ (semVal ((c : Thread nD τ), .dma (cell 0)) 0 ∗ semVal ((c : Thread nD τ), .dma (cell 1)) 0) ∗ (cacheLoc c ↦{fullShare} C)) := by
  have hring (f0 f1 : Ring F) : iprop((ringLoc c ↦[slot 0]{fullShare} f0) ∗ (ringLoc c ↦[slot 1]{fullShare} f1)) ⊢ (iprop(∃ g : Ring F, ringLoc c ↦{fullShare} g) : sProp 𝕄) := by
    have h := Idealize.ShloMosaic.Ring.pointsTo_blocks_join (nD := nD) (τ := τ) (sig := sig) (Ix := Unit) (Val := Elt F) (Name := ℕ) (U := Pipeline.UD sig nD τ) (Lvl := ℕ)
      (ℓ := ringLoc c) (fun b : Fin 2 => slot b.val) slots_disjoint slots_cover (q := fullShare) (fun b : Fin 2 => if b = 0 then f0 else f1) f0
    rw [bigSep_fin_two] at h
    exact h
  unfold Free
  iintro ⟨⟨⟨%f0, HR0⟩, H0, HC0⟩, ⟨⟨%f1, HR1⟩, H1, HC1⟩⟩
  isplitl [HR0 HR1]
  · iapply (hring f0 f1)
    isplitl [HR0]; · iexact HR0
    iexact HR1
  isplitl [H0 H1]
  · isplitl [H0]; · iexact H0
    iexact H1
  iapply (cache_shares c C).2
  isplitl [HC0]; · iexact HC0
  iexact HC1

end Cert.Pages

end
-- ==== Proof.Launched.lean ====
/-
  The launch: the contents the region is entered with, what every window's buffer holds after each grid point, the body
  at a grid point, and the run of the whole program.
-/
module

public import proofs.«01_k».proof.Proof.Ends
public import proofs.«01_k».proof.Proof.Gen.KernelIdeal.Launch
public import Idealize.ShloMosaic.Lib.Pipeline.FrameSuffix
public import Idealize.ShloMosaic.Lib.Pipeline.TableIdle
public import Idealize.ShloMosaic.Lib.Pipeline.FrameBody
public import Idealize.ShloMosaic.Lib.Tactic

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

open Cert.KernelIdeal.Gen
open Idealize.ShloMosaic.Pipeline (Dat Cfg Window BodyObligation)

variable (m : (ℓ : Loc nD τ sig) → Buf (Elt F) ℓ) (ρ : Dev nD → PrngReg)

/-! ## At the region's entry -/

/-- The host operations before the region. -/
abbrev before : List (List (HloOp τ sig (Elt F))) :=
  [hostOps0, hostOps0_1, hostOps0_2, hostOps0_3, hostOps0_4, hostOps0_5, hostOps0_6]

/-- Core `c`'s buffers when the region is entered. -/
def V (c : Dev nD) : Valuation τ sig (Elt F) := StableHlo.after (before (F := F)).flatten (fun b => m (c, b))

/-- The page table the kernel is given. -/
def table : Table := V m 0 (Proc.devRef .tc main_v13)
/-- The cache the copies read. -/
def cache : Cache F := V m 0 (Proc.devRef .tc main_v12)

/-- The pipeline's table. -/
def adm : (p : Fin 1) → (pcfgs (F := F) p).Adm := fun _ =>
  ⟨fun | 0 => table m | ⟨_ + 1, h⟩ => absurd h (Nat.not_lt.2 (Nat.le_add_left _ _)), trivial⟩

/-- The pipeline at that table. -/
abbrev cfgA : Cfg sig Λ₀ := Pipeline.pin (pcfgs (F := F)) (adm m) 0

/-- Window `w`'s block at grid point `t`. -/
def iblk (c : Dev nD) (w : Fin 5) (t : Fin grid0.N) : ((cfgA m).win w).block.Idx → Elt F ((cfgA m).win w).elt :=
  (((cfgA m).win w).blk t).view.read (Elt F) (V m c (Proc.devRef .tc (Pipeline.arrRef spec0 w)))

/-- The first grid point of `t`'s sequence. -/
def first (t : Fin grid0.N) : Fin grid0.N := ⟨8 * (t.val / 8), lt_of_le_of_lt (Nat.mul_div_le _ _) t.isLt⟩

/-- What core `c` holds at each point: the inputs' blocks as fetched, the scores of the point's pages, and the scores of
    the new keys as the sequence's first point left them. -/
def dats (_ : Fin 1) (c : Dev nD) : Dat τ (Elt F) Unit ℕ (Pipeline.UD sig nD τ) ℕ (cfgA m) c where
  A w := V m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => scoreBlock (table m) (cache m) t.val (iblk m c 0 t) (iblk m c 1 t)
    | ⟨4, _⟩ => newBlock (iblk m c 0 (first t)) (iblk m c 1 (first t)) (iblk m c 2 (first t))
  Φ n := iprop(Inv c (table m) (cache m) n.val ∗ (∃ r, prngReg c r) ∗ (tabLoc c ↦{fullShare.right} table m))
  q _ := fullShare
  owed _ := 0

/-! ## The grid -/

theorem coord0 (t : Fin grid0.N) : ((grid0.coords t) 0).val = t.val / 8 := by
  have h := Pipeline.Grid.coords_val (G := grid0) t 0 (S := 8) (B := 32) (by decide) (by decide)
  have ht : t.val < 256 := lt_of_lt_of_eq t.isLt N_0
  omega

theorem coord1 (t : Fin grid0.N) : ((grid0.coords t) 1).val = t.val % 8 := by
  have h := Pipeline.Grid.coords_val (G := grid0) t 1 (S := 1) (B := 8) (by decide) (by decide)
  rw [h, Nat.div_one]

theorem flush_new (t : Fin grid0.N) : ((cfgA m).win 4).flush t = true ↔ t.val % 8 = 7 :=
  Pipeline.Window.flush_reads ((cfgA m).win 4) rfl (0 : Fin grid0.rank) (show 1 < grid0.bound 0 by decide)
    (show grid0.fixedAfter reads0_4 0 = true by decide)
    (Pipeline.Window.sep_of_coord cc0_transform_5 0 0 (fun _ => rfl) (by decide)) (P := 8) (m := 7) (show grid0.stride 0 = 8 by decide) rfl t

theorem idle_new (t : Fin grid0.N) : (cfgA m).idle 4 ((cfgA m).grid.coords t) = true ↔ t.val % 8 ≠ 0 := by
  have h := cond3_iff (grid0.coords t)
  rw [coord1] at h
  show (!(k0_cond3 (grid0.coords t) == 1#1)) = true ↔ _
  rw [Bool.not_eq_true', beq_eq_false_iff_ne, ne_eq, h]

theorem fresh_new (t : ℕ) (ht : t ≤ grid0.N) : (cfgA m).fresh 4 t = decide (t % 8 = 0) := by
  refine Pipeline.Cfg.fresh_tab (cfgA m) 4 (fun t => decide (t % 8 = 0)) rfl (fun t => ?_) t ht
  have hf := flush_new m t
  have hi := idle_new m t
  have e : ∀ b : Bool, ∀ P : Prop, [Decidable P] → (b = true ↔ P) → b = decide P := by
    intro b P _ h; by_cases hP : P <;> simp_all
  rw [e _ _ hf, e _ _ hi]
  by_cases h0 : t.val % 8 = 0
  · have h7 : ¬ t.val % 8 = 7 := by omega
    have h1 : ¬ (t.val + 1) % 8 = 0 := by omega
    simp [h0, h1]
  · by_cases h7 : t.val % 8 = 7
    · have h1 : (t.val + 1) % 8 = 0 := by omega
      simp [h7, h1]
    · have h1 : ¬ (t.val + 1) % 8 = 0 := by omega
      simp [h7, h1, h0]

/-! ## What the buffers hold before each point -/

variable (c : Dev nD)

theorem before0 (t : Fin grid0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; rfl)
theorem before1 (t : Fin grid0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; rfl)
theorem before2 (t : Fin grid0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; rfl)

theorem after3 (t : Fin grid0.N) : (dats m 0 c).after 3 t = scoreBlock (table m) (cache m) t.val (iblk m c 0 t) (iblk m c 1 t) := rfl
theorem after4 (t : Fin grid0.N) : (dats m 0 c).after 4 t = newBlock (iblk m c 0 (first t)) (iblk m c 1 (first t)) (iblk m c 2 (first t)) := rfl

/-- The scores of the new keys are the first point's throughout the sequence. -/
theorem carried (t : Fin grid0.N) (h : t.val % 8 ≠ 0) :
    (dats m 0 c).after 4 t = (dats m 0 c).after 4 ⟨t.val - 1, lt_of_le_of_lt (Nat.sub_le _ _) t.isLt⟩ := by
  rw [after4, after4]
  have e : first t = first ⟨t.val - 1, lt_of_le_of_lt (Nat.sub_le _ _) t.isLt⟩ := by
    unfold first
    apply Fin.ext
    show 8 * (t.val / 8) = 8 * ((t.val - 1) / 8)
    omega
  rw [← e]

/-- Past the sequence's first point the buffer of the new keys' scores holds what that point left. -/
theorem before4 (t : Fin grid0.N) (h : t.val % 8 ≠ 0) (d) : (dats m 0 c).before 4 t d = (dats m 0 c).after 4 t := by
  have hb := Pipeline.Dat.before_out_traj (dats m 0 c) 4 rfl (fun _ _ => rfl)
    (fun t _ hi _ => carried m c t ((idle_new m t).mp hi)) t.val t rfl d
  rw [fresh_new m t.val (le_of_lt t.isLt), if_neg (by simpa using h)] at hb
  rw [hb, carried m c t h]

/-! ## The body at a grid point -/

/-- Window `w`'s buffer at point `t`. -/
abbrev buf (t : Fin grid0.N) (w : Fin 5) := ((cfgA m).win w).stage ((cfgA m).slots t w)

/-- What the body is given at point `t`. -/
def bodyPre (t : Fin grid0.N) : sProp 𝕄 :=
  iprop((dats m 0 c).Φ t.castSucc ∗ (dats m 0 c).owesAt () t.castSucc
    ∗ (∃ d, owns (c : Thread nD τ) (buf m t 0) fullShare ((dats m 0 c).before 0 t d))
    ∗ (∃ d, owns (c : Thread nD τ) (buf m t 1) fullShare ((dats m 0 c).before 1 t d))
    ∗ (∃ d, owns (c : Thread nD τ) (buf m t 2) fullShare ((dats m 0 c).before 2 t d))
    ∗ (∃ d, owns (c : Thread nD τ) (buf m t 3) fullShare ((dats m 0 c).before 3 t d))
    ∗ (∃ d, owns (c : Thread nD τ) (buf m t 4) fullShare ((dats m 0 c).before 4 t d)))

/-- What it leaves. -/
def bodyPost (t : Fin grid0.N) : sProp 𝕄 :=
  iprop((dats m 0 c).Φ t.succ ∗ (dats m 0 c).owesAt () t.succ
    ∗ owns (c : Thread nD τ) (buf m t 0) fullShare ((dats m 0 c).after 0 t)
    ∗ owns (c : Thread nD τ) (buf m t 1) fullShare ((dats m 0 c).after 1 t)
    ∗ owns (c : Thread nD τ) (buf m t 2) fullShare ((dats m 0 c).after 2 t)
    ∗ owns (c : Thread nD τ) (buf m t 3) fullShare ((dats m 0 c).after 3 t)
    ∗ owns (c : Thread nD τ) (buf m t 4) fullShare ((dats m 0 c).after 4 t))

/-- The body at point `t`. -/
abbrev bodyAt (t : Fin grid0.N) : Prog (TpuEff nD τ sig (Elt F) Λ₀ .tc) PUnit :=
  cc0_sample_scores (grid0.coords t) (Memref.whole main_v13) (Memref.isWhole_whole _) (buf m t 0) (hstage0_0 (((cfgA m).slots t 0).cast nbuf0_0))
    (buf m t 1) (hstage0_1 (((cfgA m).slots t 1).cast nbuf0_1)) (buf m t 2) (hstage0_2 (((cfgA m).slots t 2).cast nbuf0_2))
    (Memref.whole main_v12) (Memref.isWhole_whole _) (buf m t 3) (hstage0_3 (((cfgA m).slots t 3).cast nbuf0_3))
    (buf m t 4) (hstage0_4 (((cfgA m).slots t 4).cast nbuf0_4)) (Memref.whole cc0_scratch0) (Memref.isWhole_whole _) cc0_scratch1

/-- The new keys' scores the body leaves at point `t`: computed at the sequence's first point, kept at the others. -/
theorem left4 (t : Fin grid0.N) (d) :
    (if ((grid0.coords t) 1).val = 0 then newBlock (iblk m c 0 t) (iblk m c 1 t) (iblk m c 2 t) else (dats m 0 c).before 4 t d)
      = (dats m 0 c).after 4 t := by
  rw [coord1]
  by_cases h : t.val % 8 = 0
  · refine (if_pos h).trans ?_
    rw [after4]
    have e : first t = t := Fin.ext (show 8 * (t.val / 8) = t.val by omega)
    rw [e]
  · exact (if_neg h).trans (before4 m c t h d)

theorem body_sound (htb : ∀ i, (table m i).toNat < 5120) (t : Fin grid0.N) :
    bodyPre m c t ⊢ wpk c (bodyAt m t) (fun _ => bodyPost m c t) := by
  have hcs : 8 * ((grid0.coords t) 0).val + ((grid0.coords t) 1).val = t.val := by rw [coord0, coord1]; omega
  unfold bodyPre bodyPost bodyAt
  rw [show (dats m 0 c).Φ t.castSucc = iprop(Inv c (table m) (cache m) t.val ∗ (∃ r, prngReg c r) ∗ (tabLoc c ↦{fullShare.right} table m)) from rfl,
    show (dats m 0 c).Φ t.succ = iprop(Inv c (table m) (cache m) (t.val + 1) ∗ (∃ r, prngReg c r) ∗ (tabLoc c ↦{fullShare.right} table m)) from rfl]
  unfold Dat.owesAt Pipeline.owesWithin
  rw [show (dats m 0 c).owed t.castSucc = 0 from rfl, show (dats m 0 c).owed t.succ = 0 from rfl]
  iintro ⟨⟨HI, Hg, Ht⟩, ⟨%W, -, HW⟩, ⟨%d0, H0⟩, ⟨%d1, H1⟩, ⟨%d2, H2⟩, ⟨%d3, H3⟩, ⟨%d4, H4⟩⟩
  rw [before0, before1, before2]
  iapply (body_run c (table m) (cache m) (grid0.coords t) _ _ _ _ _ _ _ _ _ _ _ _ _ t.val (iblk m c 0 t) (iblk m c 1 t) (iblk m c 2 t)
    ((dats m 0 c).before 3 t d3) ((dats m 0 c).before 4 t d4) htb hcs) $$ [HI Ht HW H0 H1 H2 H3 H4]
  · isplitl [H0]; · iexact H0
    isplitl [H1]; · iexact H1
    isplitl [H2]; · iexact H2
    isplitl [H3]; · iexact H3
    isplitl [H4]; · iexact H4
    isplitl [Ht]; · iexact Ht
    isplitl [HI]; · iexact HI
    iexists W; iexact HW
  rw [left4]
  iintro H0 H1 H2 H3 H4 Ht HI ⟨%W', HW'⟩
  isplitl [HI Hg Ht]
  · isplitl [HI]; · iexact HI
    isplitl [Hg]; · iexact Hg
    iexact Ht
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem body_row (t : Fin grid0.N) :
    defs₀ (F := F) .tc (cfgA m).body ((cfgA m).bodyArgs t ((cfgA m).slots t)) = bodyAt m t := by
  unfold defs₀; rw [Defs.onTc_tc]

/-- The buffer of the new keys' scores as the schedule describes it after point `t`. -/
theorem handed4 (t : Fin grid0.N) :
    owns (c : Thread nD τ) (buf m t 4) fullShare ((dats m 0 c).after 4 t) ⊢
      (match (cfgA m).idle 4 ((cfgA m).grid.coords t) with
        | true =>
          match ((cfgA m).win 4).flush t with
          | false => iprop(∃ d, owns (c : Thread nD τ) (buf m t 4) fullShare ((dats m 0 c).before 4 t d))
          | true => owns (c : Thread nD τ) (buf m t 4) fullShare ((dats m 0 c).after 4 t)
        | false => owns (c : Thread nD τ) (buf m t 4) fullShare ((dats m 0 c).after 4 t) : sProp 𝕄) := by
  cases hi : (cfgA m).idle 4 ((cfgA m).grid.coords t)
  · exact .rfl
  cases hf : ((cfgA m).win 4).flush t
  · have h := before4 m c t ((idle_new m t).mp hi) ((dats m 0 c).after 4 t)
    show _ ⊢ iprop(∃ d, owns (c : Thread nD τ) (buf m t 4) fullShare ((dats m 0 c).before 4 t d))
    iintro H
    iexists ((dats m 0 c).after 4 t)
    rw [h]
    iexact H
  · exact .rfl

theorem body_obligation (htb : ∀ i, (table m i).toNat < 5120) :
    BodyObligation (dats (F := F) m 0 c) (defs₀ (F := F)) Variants.none () Set.univ := fun t => by
  rw [bigSep_W0, bigSep_W0, body_row]
  refine triple_restated (body_sound m c htb t) rfl .rfl fun _ => ?_
  unfold bodyPost
  exact sep_mono .rfl (sep_mono .rfl (sep_mono .rfl (sep_mono .rfl (sep_mono .rfl (sep_mono .rfl (handed4 m c t))))))

/-! ## The region's two ends -/

/-- The two cells the copies count on. -/
def cells : Fin 2 → SemLoc sig := fun k => .dma (cell k.val)

theorem cells_own : Pipeline.OwnSemFacts spec0 cells := by decide

/-- The array the kernel copies from itself. -/
abbrev moved : Finset (Ref sig .tc) := {main_v12}

theorem moved_sub : moved ⊆ Pipeline.restRefsP sig pre0 spec0 := by decide

theorem enter : iprop(Pipeline.ΦD cells spec0 moved (fun c b => V m c (Proc.devRef .tc b)) c ∗ Pipeline.ΦT pre0 (adm m 0).1 c)
    ⊢ ((dats m 0 c).Φ 0 : sProp 𝕄) := by
  have hc : c = 0 := Subsingleton.elim _ _
  subst hc
  rw [Pipeline.ΦD_eq, scopedRest0_eq]
  have hT : (Pipeline.ΦT pre0 (adm m 0).1 0 : sProp 𝕄) = iprop(tabLoc 0 ↦{fullShare.right} table m) := by
    show bigSep Finset.univ _ = _
    rw [bigSep_univ_of_subsingleton (0 : Fin 1)]
    rfl
  have hS : (Pipeline.ownSems0 cells 0 : sProp 𝕄)
      = iprop(semVal (((0 : Dev nD) : Thread nD τ), .dma (cell 0)) 0 ∗ semVal (((0 : Dev nD) : Thread nD τ), .dma (cell 1)) 0) := by
    unfold Pipeline.ownSems0
    rw [bigSep_fin_two]
    rfl
  rw [hT, hS, bigSep_singleton]
  show _ ⊢ iprop(Inv 0 (table m) (cache m) 0 ∗ (∃ r, prngReg 0 r) ∗ (tabLoc 0 ↦{fullShare.right} table m))
  iintro ⟨⟨HR, Hg, HS, HC⟩, HT⟩
  isplitl [HR HS HC]
  · unfold Inv
    rw [if_pos (Or.inl rfl)]
    iapply (free_of 0 (cache m))
    isplitl [HR]; · iexact HR
    isplitl [HS]; · iexact HS
    iexact HC
  isplitl [Hg]; · iexact Hg
  iexact HT

theorem leave : ((dats m 0 c).Φ (Fin.last (cfgA m).N) : sProp 𝕄)
    ⊢ Pipeline.ΦD cells spec0 moved (fun c b => V m c (Proc.devRef .tc b)) c := by
  have hc : c = 0 := Subsingleton.elim _ _
  subst hc
  rw [Pipeline.ΦD_eq, scopedRest0_eq]
  have hS : (Pipeline.ownSems0 cells 0 : sProp 𝕄)
      = iprop(semVal (((0 : Dev nD) : Thread nD τ), .dma (cell 0)) 0 ∗ semVal (((0 : Dev nD) : Thread nD τ), .dma (cell 1)) 0) := by
    unfold Pipeline.ownSems0
    rw [bigSep_fin_two]
    rfl
  rw [hS, bigSep_singleton]
  show iprop(Inv 0 (table m) (cache m) grid0.N ∗ (∃ r, prngReg 0 r) ∗ (tabLoc 0 ↦{fullShare.right} table m)) ⊢ _
  rw [N_0]
  unfold Inv
  rw [if_pos (Or.inr rfl)]
  iintro ⟨HI, Hg, -⟩
  ihave HI := (of_free 0 (cache m)) $$ HI
  icases HI with ⟨HR, HS, HC⟩
  isplitl [HR]; · iexact HR
  isplitl [Hg]; · iexact Hg
  isplitl [HS]; · iexact HS
  iexact HC

end Cert.Pages

end
-- ==== Proof.Ran.lean ====
/-
  The run of the whole program, and what it leaves in the arguments.
-/
module

public import proofs.«01_k».proof.Proof.Launched

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

open Cert.KernelIdeal.Gen
open Idealize.ShloMosaic.Pipeline (Dat Cfg Window BodyObligation)

variable (m : (ℓ : Loc nD τ sig) → Buf (Elt F) ℓ) (ρ : Dev nD → PrngReg)

/-! ## The host operations around the region -/

/-- The host operations before the region touch TensorCore buffers. -/
theorem before_sub : (before (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

/-- None of them allocates. -/
theorem before_fresh : (before (F := F)).Forall fun ops => ops.Forall fun op => op.fresh = ∅ := by
  simp only [List.Forall]
  repeat' constructor

/-- The program is the host operations, the region, the host operations after it. -/
theorem around : Pipeline.HMainPK (Ix := Unit) (Name := ℕ) (U := Pipeline.UD sig nD τ) (Lvl := ℕ) (pcfgs (F := F)) 0 defs₀ Variants.none m main
    (fun c b => V m c (Proc.devRef .tc b)) (fun _ => Pipeline.chain ([hostOps1].map StableHlo.seq)) :=
  Pipeline.hmainP_around pcfgs 0 defs₀ Variants.none m main before [hostOps1] before_sub before_fresh main_chain

set_option maxHeartbeats 800000 in
theorem after_sub : ∀ ops ∈ ([hostOps1] : List (List (HloOp τ sig (Elt F)))), ∀ op ∈ ops,
    op.bufs ⊆ Pipeline.tailRefsBut sig pre0 spec0 moved := by
  intro ops hops op hop
  rw [List.mem_singleton] at hops
  subst hops
  refine Pipeline.sub_tailRefsBut pre0 spec0 moved op ((List.forall_iff_forall_mem.mp hostOps1_sub) op hop) ?_ ?_
  · simp only [hostOps1, List.mem_cons, List.mem_nil_iff, or_false] at hop
    rcases hop with rfl | rfl | rfl
    all_goals
      intro k
      fin_cases k
      simp only [StableHlo.unary_bufs, StableHlo.binary_bufs, Finset.mem_insert, Finset.mem_singleton, not_or]
      refine ⟨?_, ?_⟩ <;> (try refine ⟨?_, ?_⟩) <;> exact StableHlo.devRef_ne_of_ne (by decide)
  · simp only [hostOps1, List.mem_cons, List.mem_nil_iff, or_false] at hop
    rcases hop with rfl | rfl | rfl
    all_goals
      intro b hb
      rw [Finset.mem_singleton] at hb
      subst hb
      simp only [StableHlo.unary_bufs, StableHlo.binary_bufs, Finset.mem_insert, Finset.mem_singleton, not_or]
      refine ⟨?_, ?_⟩ <;> (try refine ⟨?_, ?_⟩) <;> exact StableHlo.devRef_ne_of_ne (by decide)

theorem after_fresh : ∀ ops ∈ ([hostOps1] : List (List (HloOp τ sig (Elt F)))), ∀ op ∈ ops, op.fresh = ∅ := by
  intro ops hops op hop
  rw [List.mem_singleton] at hops
  subst hops
  simp only [hostOps1, List.mem_cons, List.mem_nil_iff, or_false] at hop
  rcases hop with rfl | rfl | rfl <;> rfl

theorem after_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops
  subst hops
  simp only [hostOps1, List.mem_cons, List.mem_nil_iff, or_false] at hop
  rcases hop with rfl | rfl | rfl
  all_goals
    intro w
    fin_cases w <;> simp only [StableHlo.unary_writes, StableHlo.binary_writes, Finset.mem_singleton] <;> exact StableHlo.devRef_ne_of_ne (by decide)

/-! ## The run -/

/-- What the program leaves: the arrays as the schedule leaves them, every other buffer as the host operations after the
    region leave it. -/
abbrev Left : PUnit × MemSt nD τ sig (Elt F) → Prop :=
  Pipeline.FramePost (Pipeline.pin (pcfgs (F := F)) (adm m)) (dats m) 0
    (Pipeline.afterTail (pcfgs (F := F)) (adm m) (dats m) 0 (V m) [hostOps1])

set_option backward.isDefEq.respectTransparency.types false in
theorem run_main (htb : ∀ i, (table m i).toNat < 5120) :
    θ_run defs (onTc (τ := τ) (main (F := F))) (s₀ m ρ) (fun r => Left m r ∧ r.2.sem = fun _ => 0) :=
  Pipeline.θ_run_frameP_dma_around (Q' := fun r => Left m r ∧ r.2.sem = fun _ => 0) (pcfgs (F := F)) (adm m) (dats m) 0 launch0 cells defs₀ Variants.none
    cells_own moved moved_sub m ρ main
    (hbody := fun c => (body_obligation m c htb).loose) (hshare := fun c => (dats m 0 c).share_full fun _ => rfl)
    (howed := fun _ _ => rfl) (V₀ := V m) (opss := [hostOps1]) (hsub := after_sub) (hfresh := after_fresh) (hkeep := after_keeps)
    (hmain := around m) (hA := fun _ _ => rfl)
    (hpf := fun c k => by
      have hc : c = 0 := Subsingleton.elim _ _
      subst hc
      fin_cases k
      rfl)
    (hin := fun c => enter m c) (hout := fun c => leave m c) (hQ' := fun _ h => h)

end Cert.Pages

end
-- ==== Proof.Frames.lean ====
/-
  What the run leaves in the arguments, and what the host operations before the region hand it.
-/
module

public import proofs.«01_k».proof.Proof.Ran
public import Idealize.ShloMosaic.Lib.StableHlo.Run
public import Idealize.ShloMosaic.Lib.StableHlo.Predicate

@[expose] public section

noncomputable section

namespace Cert.Pages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Batch pending issued)
open Idealize.ShloMosaic.Pipeline (Dat Cfg Window BodyObligation cellOf)

variable {F : FTy → Type} [FloatOps F]

local notation "𝕄" => MT nD τ sig Unit (Elt F) ℕ (Pipeline.UD sig nD τ) ℕ

open Cert.KernelIdeal.Gen
open Idealize.ShloMosaic.Pipeline (Dat Cfg Window BodyObligation)

variable (m : (ℓ : Loc nD τ sig) → Buf (Elt F) ℓ) (ρ : Dev nD → PrngReg) (c : Dev nD)

/-! ## The buffers no host operation writes -/

/-- What the host operations before the region write. -/
def written : List (Ref sig .tc) :=
  [main_cst, main_v0, main_v1, main_v2, main_c, main_call0_v0, main_v3, main_v4, main_v5, main_c_0, main_call1_v0, main_v6, main_v7, main_v8, main_v9,
    main_c_1, main_call2_v0, main_v10, main_v11, main_v12, main_v13]

theorem written_all : ((before (F := F)).flatten).Forall fun op => op.writes ⊆ (written.map (Proc.devRef (τ := τ) .tc)).toFinset :=
  StableHlo.forall_writes_sub_of_map rfl

theorem kept_before (b : Ref sig .tc) (hb : b ∉ written) : V m c (Proc.devRef .tc b) = m ((c : Thread nD τ).loc b) :=
  StableHlo.after_of_writes_sub _ _ written_all hb

/-- A buffer neither the host operations nor the region write holds at the end what it held at the start. -/
theorem kept_all (b : Ref sig .tc) (hb : b ∉ written) (hb' : b ∉ [main_v15, main_v16, main_v17]) (hw : ∀ w, Pipeline.arrRef spec0 w ≠ b) :
    Pipeline.afterTail (pcfgs (F := F)) (adm m) (dats m) 0 (V m) [hostOps1] c b = m ((c : Thread nD τ).loc b) := by
  unfold Pipeline.afterTail
  have h : (([hostOps1] : List (List (HloOp τ sig (Elt F)))).flatten).Forall fun op => op.writes ⊆ ([main_v15, main_v16, main_v17].map (Proc.devRef (τ := τ) .tc)).toFinset :=
    StableHlo.forall_writes_sub_of_map rfl
  rw [StableHlo.after_of_writes_sub _ _ h hb']
  exact (Pipeline.withArrays_of_ne spec0 c (V m c) _ b hw).trans (kept_before m c b hb)

theorem left_arg (r : PUnit × MemSt nD τ sig (Elt F)) (h : Left m r) (b : Ref sig .tc) (hr : b ∈ Pipeline.restRefs sig spec0)
    (hb : b ∉ written) (hb' : b ∉ [main_v15, main_v16, main_v17]) (hw : ∀ w, Pipeline.arrRef spec0 w ≠ b) :
    r.2.mem ((c.tc : Thread nD τ).loc b) = m ((c.tc : Thread nD τ).loc b) :=
  ((h c).2 b hr).trans (kept_all m c b hb hb' hw)

/-- The arguments end as they started. -/
theorem args_left (r : PUnit × MemSt nD τ sig (Elt F)) (h : Left m r) : ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := fun c =>
  ⟨left_arg m c r h main_arg0 (Pipeline.mem_restRefs_of main_arg0 (by decide) (by decide)) (by decide) (by decide) (by decide),
    left_arg m c r h main_arg1 (Pipeline.mem_restRefs_of main_arg1 (by decide) (by decide)) (by decide) (by decide) (by decide),
    left_arg m c r h main_arg2 (Pipeline.mem_restRefs_of main_arg2 (by decide) (by decide)) (by decide) (by decide) (by decide),
    left_arg m c r h main_arg3 (Pipeline.mem_restRefs_of main_arg3 (by decide) (by decide)) (by decide) (by decide) (by decide),
    left_arg m c r h main_arg4 (Pipeline.mem_restRefs_of main_arg4 (by decide) (by decide)) (by decide) (by decide) (by decide)⟩

/-! ## What the region is handed -/

theorem table_eq : table m = shapeCast S4096 (m (((0 : Dev nD) : Thread nD τ).loc main_arg0)) shapeCasts_S32x128_S4096 := by
  unfold table V
  simp only [before, List.flatten_cons, List.flatten_nil, List.append_nil, List.cons_append, List.nil_append,
    StableHlo.TRef.binary, StableHlo.TRef.unary, StableHlo.TRef.toBuf, StableHlo.TRef.ofBuf, cast_eq]
  after_results_simp <;> rfl

theorem cache_eq : cache m = transpose S5120x64x128 [0, 2, 1] (m (((0 : Dev nD) : Thread nD τ).loc main_arg4)) transposes_S5120x128x64_S5120x64x128_0_2_1 := by
  unfold cache V
  simp only [before, List.flatten_cons, List.flatten_nil, List.append_nil, List.cons_append, List.nil_append,
    StableHlo.TRef.binary, StableHlo.TRef.unary, StableHlo.TRef.toBuf, StableHlo.TRef.ofBuf, cast_eq]
  after_results_simp <;> rfl

/-- The queries, head by head. -/
def queries (x : (⟨S32x4x16x64, .f32⟩ : BufTy).Contents (Elt F)) : (⟨S32x128x64, .bf16⟩ : BufTy).Contents (Elt F) :=
  shapeCast S32x128x64 (transpose S32x16x8x64 [0, 2, 1, 3] (pad S32x8x16x64 ![0, 0, 0, 0] ![0, 4, 0, 0] ![0, 0, 0, 0]
    (truncf .bf16 x bitsLt_bf16_f32) (sitofp .bf16 (constantI S_ 32 0#32)) pads_S32x4x16x64_S32x8x16x64_000_040_000_000 h_S_) transposes_S32x8x16x64_S32x16x8x64_0_2_1_3) shapeCasts_S32x16x8x64_S32x128x64

/-- The heads' weights, scaled, head by head. -/
def weights (x : (⟨S32x4x16, .f32⟩ : BufTy).Contents (Elt F)) : (⟨S32x128x1, .f32⟩ : BufTy).Contents (Elt F) :=
  shapeCast S32x128x1 (transpose S32x16x8 [0, 2, 1] (pad S32x8x16 ![0, 0, 0] ![0, 4, 0] ![0, 0, 0]
    (mulf x (broadcastInDim S32x4x16 ![] bcast_S_S32x4x16 (constant S_ .f32 0x3D000000#32))) (sitofp .f32 (constantI S_ 32 0#32)) pads_S32x4x16_S32x8x16_000_040_000 h_S_) transposes_S32x8x16_S32x16x8_0_2_1) shapeCasts_S32x16x8_S32x128x1

/-- The new keys, as columns. -/
def newKeys (x : (⟨S32x4x64, .f32⟩ : BufTy).Contents (Elt F)) : (⟨S32x64x128, .bf16⟩ : BufTy).Contents (Elt F) :=
  transpose S32x64x128 [0, 2, 1] (pad S32x128x64 ![0, 0, 0] ![0, 124, 0] ![0, 0, 0]
    (truncf .bf16 x bitsLt_bf16_f32) (sitofp .bf16 (constantI S_ 32 0#32)) pads_S32x4x64_S32x128x64_000_01240_000 h_S_) transposes_S32x128x64_S32x64x128_0_2_1

theorem queries_eq : V m c (Proc.devRef .tc main_v5) = queries (m ((c : Thread nD τ).loc main_arg1)) := by
  unfold V queries
  simp only [before, List.flatten_cons, List.flatten_nil, List.append_nil, List.cons_append, List.nil_append,
    StableHlo.TRef.binary, StableHlo.TRef.unary, StableHlo.TRef.toBuf, StableHlo.TRef.ofBuf, cast_eq]
  after_results_simp <;> rfl

theorem weights_eq : V m c (Proc.devRef .tc main_v8) = weights (m ((c : Thread nD τ).loc main_arg2)) := by
  unfold V weights
  simp only [before, List.flatten_cons, List.flatten_nil, List.append_nil, List.cons_append, List.nil_append,
    StableHlo.TRef.binary, StableHlo.TRef.unary, StableHlo.TRef.toBuf, StableHlo.TRef.ofBuf, cast_eq]
  after_results_simp <;> rfl

theorem newKeys_eq : V m c (Proc.devRef .tc main_v11) = newKeys (m ((c : Thread nD τ).loc main_arg3)) := by
  unfold V newKeys
  simp only [before, List.flatten_cons, List.flatten_nil, List.append_nil, List.cons_append, List.nil_append,
    StableHlo.TRef.binary, StableHlo.TRef.unary, StableHlo.TRef.toBuf, StableHlo.TRef.ofBuf, cast_eq]
  after_results_simp <;> rfl

/-! ## The page table's words -/

theorem table_lt (h : ∀ i, (m (((0 : Dev nD) : Thread nD τ).loc main_arg0) i).toNat < 5120) (i) : (table m i).toNat < 5120 := by
  rw [table_eq]
  unfold shapeCast
  exact h _

end Cert.Pages

end
-- ==== Proof.Same.lean ====
/-
  The kernel and its idealization are one text: their parts are equal by definition.
-/
module

public import proofs.«01_k».proof.Proof.Gen.KernelIdeal
public import proofs.«01_k».proof.Proof.Gen.Kernel

@[expose] public section

set_option maxHeartbeats 2000000

noncomputable section

namespace Cert.Pages

open Idealize.ShloMosaic Idealize.SL.Sem

variable {F : FTy → Type} [FloatOps F]

theorem same_body : Cert.Kernel.cc0_sample_scores (F := F) = Cert.KernelIdeal.cc0_sample_scores (F := F) := rfl

theorem same_main : Cert.Kernel.main (F := F) = Cert.KernelIdeal.main (F := F) := rfl

theorem same_defs₀ : Cert.Kernel.defs₀ (F := F) = Cert.KernelIdeal.defs₀ (F := F) := by
  refine congrArg Defs.onTc (funext fun l => funext fun a => ?_)
  match l, a with
  | 0, (t, s) =>
    show Cert.Kernel.cc0_sample_scores (F := F) (Cert.Kernel.grid0.coords t) (Memref.whole Cert.Kernel.main_v13) (Memref.isWhole_whole _) (Cert.Kernel.spec0_0.stage (s 0)) (Cert.Kernel.Facts₀.hstage0_0 ((s 0).cast Cert.Kernel.Facts₀.nbuf0_0)) (Cert.Kernel.spec0_1.stage (s 1)) (Cert.Kernel.Facts₀.hstage0_1 ((s 1).cast Cert.Kernel.Facts₀.nbuf0_1)) (Cert.Kernel.spec0_2.stage (s 2)) (Cert.Kernel.Facts₀.hstage0_2 ((s 2).cast Cert.Kernel.Facts₀.nbuf0_2)) (Memref.whole Cert.Kernel.main_v12) (Memref.isWhole_whole _) (Cert.Kernel.spec0_3.stage (s 3)) (Cert.Kernel.Facts₀.hstage0_3 ((s 3).cast Cert.Kernel.Facts₀.nbuf0_3)) (Cert.Kernel.spec0_4.stage (s 4)) (Cert.Kernel.Facts₀.hstage0_4 ((s 4).cast Cert.Kernel.Facts₀.nbuf0_4)) (Memref.whole Cert.Kernel.cc0_scratch0) (Memref.isWhole_whole _) Cert.Kernel.cc0_scratch1 = _
    rw [same_body]
    rfl
  | ⟨n + 1, h⟩, _ => exact absurd h (Nat.not_lt.2 (Nat.le_add_left _ _))

theorem same_defs : Cert.Kernel.defs (F := F) = Cert.KernelIdeal.defs (F := F) :=
  congrArg (Pipeline.defs (Cert.KernelIdeal.pcfgs (F := F))) same_defs₀

end Cert.Pages

end
-- ==== Proof.Range.lean ====
/-
  The precondition read as a bound on the page table's words, and the frames of the kernel and of the reference.
-/
module

public import proofs.«01_k».proof.Defs
public import proofs.«01_k».proof.Proof.Frames
public import proofs.«01_k».proof.Proof.Same
public import proofs.«01_k».proof.Proof.Gen.Kernel
public import proofs.«01_k».proof.Proof.Gen.Pre_pages
public import proofs.«01_k».proof.Proof.Gen.ReferenceIdeal.Read
public import Idealize.ShloMosaic.Adequacy
public import Idealize.ShloMosaic.Init

@[expose] public section

noncomputable section

namespace Cert.Pages

open Idealize.ShloMosaic Idealize.SL.Sem

/-- A word that the two signed comparisons find between 0 and 5120 is below 5120 as a natural number. -/
theorem word_lt (w : BitVec 32) (h : IntOp.andi (IntOp.cmpi .sge w 0#32) (IntOp.cmpi .slt w 5120#32) = 1#1) : w.toNat < 5120 := by
  have h' : BitVec.ofBool ((0#32).sle w) &&& BitVec.ofBool (w.slt 5120#32) = 1#1 := h
  have h1 : ∀ a b : Bool, BitVec.ofBool a &&& BitVec.ofBool b = 1#1 → a = true ∧ b = true := by decide
  obtain ⟨h0, h1⟩ := h1 _ _ h'
  rw [BitVec.sle_iff_toInt_le] at h0
  rw [BitVec.slt_iff_toInt_lt] at h1
  rw [show (0#32).toInt = 0 by decide] at h0
  rw [show (5120#32).toInt = 5120 by decide] at h1
  rw [BitVec.toInt_eq_toNat_cond] at h0 h1
  have := w.isLt
  split at h0 <;> omega

/-- The precondition at a floating-point reading: every word of the page table names one of the 5120 pages. -/
theorem pages_lt {F : FTy → Type} [FloatOps F] (x0 : IVec Cert.Pre_pages.S32x128 32) (x1 : FVec F Cert.Pre_pages.S32x4x16x64 .f32) (x2 : FVec F Cert.Pre_pages.S32x4x16 .f32)
    (x3 : FVec F Cert.Pre_pages.S32x4x64 .f32) (x4 : FVec F Cert.Pre_pages.S5120x128x64 .f32)
    (h : Cert.Pre_pages.fn x0 x1 x2 x3 x4 = fun _ => 1#1) (i) : (x0 i).toNat < 5120 := by
  have e := congrFun h i
  exact word_lt _ e

variable {F : FTy → Type} [FloatOps F]

/-- The kernel's frame at any reading of the floats, from the bound on the page table. -/
theorem frame_of (m : (ℓ : Loc Cert.KernelIdeal.nD Cert.KernelIdeal.τ Cert.KernelIdeal.sig) → Buf (Elt F) ℓ) (ρ : Dev Cert.KernelIdeal.nD → PrngReg)
    (h : ∀ i, (m (((0 : Dev Cert.KernelIdeal.nD).tc : Thread Cert.KernelIdeal.nD Cert.KernelIdeal.τ).loc Cert.KernelIdeal.main_arg0) i).toNat < 5120) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun r hr => And.intro (args_left m r hr.1) hr.2) (run_main m ρ (table_lt m h))

theorem frame_kernelIdeal : Cert.quiescent_KernelIdeal := fun m ρ hp => frame_of m ρ (pages_lt _ _ _ _ _ (hp 0))

/-- What holds of the idealization's runs from every memory holds of the kernel's: the two are one text. -/
theorem run_same (m : (ℓ : Loc Cert.KernelIdeal.nD Cert.KernelIdeal.τ Cert.KernelIdeal.sig) → Buf (Elt F) ℓ) (ρ : Dev Cert.KernelIdeal.nD → PrngReg) (Q)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q :=
  Eq.mpr (congrArg₂ (fun d p => θ_run d (onTc (τ := Cert.KernelIdeal.τ) p) ⟨m, fun _ => 0, ρ⟩ Q) same_defs same_main) h

theorem frame_kernel : Cert.quiescent_Kernel := fun m ρ hp =>
  run_same (F := Bits) m ρ _ (frame_of (F := Bits) m ρ (pages_lt _ _ _ _ _ (hp 0)))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Pages

end
-- ==== Proof.Scores.lean ====
/-
  The body's scores read at an index, at the ideal values: a sum over the sixteen heads of the head's weight times the
  clipped product of its query with the key.
-/
module

public import proofs.«01_k».proof.Proof.Range
public import Idealize.ShloMosaic.PureOps.Ideal.Laws
public import Idealize.ShloMosaic.Lib.Pipeline.Value
public import Idealize.ShloMosaic.Lib.ValueIdx

@[expose] public section

noncomputable section

namespace Cert.Pages

open Cert.KernelIdeal Cert.KernelIdeal.Gen
open Idealize.ShloMosaic Idealize.ShloMosaic.TcCoe
open Idealize.ShloMosaic.ValueIdx (contrEquiv1 contrEquiv1_symm_val mulf_apply maximumf_apply select_apply select_one select_zero)

/-- One key's score: over the heads, the weight times the clipped product of the query with the key. -/
def score (q : Fin 16 → Fin 64 → EReal) (w : Fin 16 → EReal) (k : Fin 64 → EReal) : EReal :=
  ∑ h : Fin 16, w h * max (∑ j : Fin 64, q h j * k j) 0

/-- The word the hidden scores are written with stands for −∞. -/
theorem minus_inf : Ideal.ofBits .f32 0xFF800000#32 = (⊥ : EReal) := by simp [Ideal.ofBits, Ideal.ieee]

/-- The row of a block of 128 that holds head `h`'s token `q`. -/
def headRow (h : Fin 16) (q : Fin 8) : Fin 128 := ⟨8 * h.val + q.val, by omega⟩

/-- The product of a page's step, at a row and a column. -/
theorem product_apply (a : FVec Ideal S128x64 .bf16) (b : FVec Ideal S64x2048 .bf16) (i : Fin 128) (j : Fin 2048) :
    matmul dot_S128x64_S64x2048_S128x2048_1_0_0_1_n_n none a b (constant S128x2048 .f32 0x00000000#32) (ix2 i j)
      = ∑ k : Fin 64, (a (ix2 i k) : EReal) * b (ix2 k j) := by
  let d := dot_S128x64_S64x2048_S128x2048_1_0_0_1_n_n
  simp only [matmul]
  rw [Ideal.matmul_constant_zero_apply, ← Equiv.sum_comp (contrEquiv1 d 64 rfl rfl).symm]
  refine Finset.sum_congr rfl fun k _ => ?_
  have hk := contrEquiv1_symm_val d 64 rfl rfl k
  have el : d.lhsIdx (ix2 i j) ((contrEquiv1 d 64 rfl rfl).symm k) = ix2 i k := funext fun x => Fin.ext (by
    match x with
    | ⟨0, _⟩ =>
      show (d.lhsIdx (ix2 i j) _ 0).val = _
      unfold DotDims.lhsIdx
      rw [dif_neg (show ¬(0 : Fin S128x64.rank) ∈ d.lhsBatch by decide), dif_pos (show (0 : Fin S128x64.rank) ∈ d.lhsNonContracting by decide)]
      rfl
    | ⟨1, _⟩ =>
      refine Eq.trans ?_ hk
      show (d.lhsIdx (ix2 i j) _ 1).val = _
      unfold DotDims.lhsIdx
      rw [dif_neg (show ¬(1 : Fin S128x64.rank) ∈ d.lhsBatch by decide), dif_neg (show ¬(1 : Fin S128x64.rank) ∈ d.lhsNonContracting by decide)]
      rfl)
  have er : d.rhsIdx (ix2 i j) ((contrEquiv1 d 64 rfl rfl).symm k) = ix2 k j := funext fun x => Fin.ext (by
    match x with
    | ⟨0, _⟩ =>
      refine Eq.trans ?_ hk
      show (d.rhsIdx (ix2 i j) _ 0).val = _
      unfold DotDims.rhsIdx
      rw [dif_neg (show ¬(0 : Fin S64x2048.rank) ∈ d.rhsBatch by decide), dif_neg (show ¬(0 : Fin S64x2048.rank) ∈ d.rhsNonContracting by decide)]
      rfl
    | ⟨1, _⟩ =>
      show (d.rhsIdx (ix2 i j) _ 1).val = _
      unfold DotDims.rhsIdx
      rw [dif_neg (show ¬(1 : Fin S64x2048.rank) ∈ d.rhsBatch by decide), dif_pos (show (1 : Fin S64x2048.rank) ∈ d.rhsNonContracting by decide)]
      rfl)
  rw [el, er]

/-- The same product for the new keys' block. -/
theorem newProduct_apply (a : FVec Ideal S128x64 .bf16) (b : FVec Ideal S64x128 .bf16) (i : Fin 128) (j : Fin 128) :
    matmul dot_S128x64_S64x128_S128x128_1_0_0_1_n_n none a b (constant S128x128 .f32 0x00000000#32) (ix2 i j)
      = ∑ k : Fin 64, (a (ix2 i k) : EReal) * b (ix2 k j) := by
  let d := dot_S128x64_S64x128_S128x128_1_0_0_1_n_n
  simp only [matmul]
  rw [Ideal.matmul_constant_zero_apply, ← Equiv.sum_comp (contrEquiv1 d 64 rfl rfl).symm]
  refine Finset.sum_congr rfl fun k _ => ?_
  have hk := contrEquiv1_symm_val d 64 rfl rfl k
  have el : d.lhsIdx (ix2 i j) ((contrEquiv1 d 64 rfl rfl).symm k) = ix2 i k := funext fun x => Fin.ext (by
    match x with
    | ⟨0, _⟩ =>
      show (d.lhsIdx (ix2 i j) _ 0).val = _
      unfold DotDims.lhsIdx
      rw [dif_neg (show ¬(0 : Fin S128x64.rank) ∈ d.lhsBatch by decide), dif_pos (show (0 : Fin S128x64.rank) ∈ d.lhsNonContracting by decide)]
      rfl
    | ⟨1, _⟩ =>
      refine Eq.trans ?_ hk
      show (d.lhsIdx (ix2 i j) _ 1).val = _
      unfold DotDims.lhsIdx
      rw [dif_neg (show ¬(1 : Fin S128x64.rank) ∈ d.lhsBatch by decide), dif_neg (show ¬(1 : Fin S128x64.rank) ∈ d.lhsNonContracting by decide)]
      rfl)
  have er : d.rhsIdx (ix2 i j) ((contrEquiv1 d 64 rfl rfl).symm k) = ix2 k j := funext fun x => Fin.ext (by
    match x with
    | ⟨0, _⟩ =>
      refine Eq.trans ?_ hk
      show (d.rhsIdx (ix2 i j) _ 0).val = _
      unfold DotDims.rhsIdx
      rw [dif_neg (show ¬(0 : Fin S64x128.rank) ∈ d.rhsBatch by decide), dif_neg (show ¬(0 : Fin S64x128.rank) ∈ d.rhsNonContracting by decide)]
      rfl
    | ⟨1, _⟩ =>
      show (d.rhsIdx (ix2 i j) _ 1).val = _
      unfold DotDims.rhsIdx
      rw [dif_neg (show ¬(1 : Fin S64x128.rank) ∈ d.rhsBatch by decide), dif_pos (show (1 : Fin S64x128.rank) ∈ d.rhsNonContracting by decide)]
      rfl)
  rw [el, er]

/-- A leading unit axis does not change an element's position. -/
theorem unit_front (a b : ℕ) (i : Fin a) (j : Fin b) :
    ((⟨3, ![1, a, b]⟩ : Shape).rowMajor (ix3 0 i j)).val = ((⟨2, ![a, b]⟩ : Shape).rowMajor (ix2 i j)).val := by
  refine (Shape.rowMajor_val_three _).trans (Eq.trans ?_ (Shape.rowMajor_val_two _).symm)
  show (0 * a + i.val) * b + j.val = i.val * b + j.val
  rw [Nat.zero_mul, Nat.zero_add]

/-- A sequence's queries without their leading unit axis. -/
theorem pay4_apply (x : Vec Ideal S1x128x64 .bf16) (i : Fin 128) (k : Fin 64) : k0_pay4 x (ix2 i k) = x (ix3 0 i k) :=
  shapeCast_apply x _ _ _ (unit_front 128 64 i k)

/-- A sequence's weights without their leading unit axis. -/
theorem pay5_apply (x : Vec Ideal S1x128x1 .f32) (i : Fin 128) : k0_pay5 x (ix2 i 0) = x (ix3 0 i 0) :=
  shapeCast_apply x _ _ _ (unit_front 128 1 i 0)

/-- A step's scores at a token and a column. -/
theorem pay2_apply (a : FVec Ideal S128x64 .bf16) (w : FVec Ideal S128x1 .f32) (b : FVec Ideal S64x2048 .bf16) (q : Fin 8) (j : Fin 2048) :
    k0_pay2 a w b (ix3 0 q j) = score (fun h k => a (ix2 (headRow h q) k)) (fun h => w (ix2 (headRow h q) 0)) (fun k => b (ix2 k j)) := by
  unfold k0_pay2 score
  refine (shapeCast_apply _ _ (ix3 0 q j) (ix2 q j) (unit_front 8 2048 q j).symm).trans ?_
  refine (Ideal.multiReduction_add_single _ _ _ _ _ _).trans ?_
  refine Finset.sum_congr rfl fun h _ => ?_
  refine (shapeCast_apply _ _ _ (ix2 (headRow h q) j) ?_).trans ?_
  · have e : Shape.Reduces.lift reduces_S16x8x2048_S8x2048 (ix2 q j) h = ix3 h q j := by
      funext x; match x with | ⟨0, _⟩ => rfl | ⟨1, _⟩ => rfl | ⟨2, _⟩ => rfl
    rw [e]
    refine (Shape.rowMajor_val_two _).trans (Eq.trans ?_ (Shape.rowMajor_val_three _).symm)
    show (8 * h.val + q.val) * 2048 + j.val = (h.val * 8 + q.val) * 2048 + j.val
    ring
  · rw [mulf_apply, maximumf_apply, product_apply, broadcastTo_apply w _ _ (ix2 (headRow h q) 0) (fun x => by
      match x with | ⟨0, _⟩ => rfl | ⟨1, _⟩ => rfl)]
    exact congrArg (fun z : EReal => w (ix2 (headRow h q) 0) * max (∑ k : Fin 64, (a (ix2 (headRow h q) k) : EReal) * b (ix2 k j)) z) Ideal.ofBits_zero_f32

/-- The new keys' scores at a token and a column: a key after the token is hidden. -/
theorem pay3_apply (a : FVec Ideal S128x64 .bf16) (w : FVec Ideal S128x1 .f32) (b : Vec Ideal S1x64x128 .bf16) (q : Fin 8) (j : Fin 128) :
    k0_pay3 a w b (ix3 0 q j) = if j.val ≤ q.val then score (fun h k => a (ix2 (headRow h q) k)) (fun h => w (ix2 (headRow h q) 0)) (fun k => b (ix3 0 k j)) else ⊥ := by
  unfold k0_pay3 score
  refine (shapeCast_apply _ _ (ix3 0 q j) (ix2 q j) (unit_front 8 128 q j).symm).trans ?_
  rw [select_apply]
  have hm : (cmpi .sle (iota .tc S8x128 32 [1] iota_S8x128_d1_w32) (iota .tc S8x128 32 [0] iota_S8x128_d0_w32) (ix2 q j)) = 1#1 ↔ j.val ≤ q.val := by
    have e : (cmpi .sle (iota .tc S8x128 32 [1] iota_S8x128_d1_w32) (iota .tc S8x128 32 [0] iota_S8x128_d0_w32) (ix2 q j))
        = BitVec.ofBool ((BitVec.ofNat 32 j.val).sle (BitVec.ofNat 32 q.val)) := by
      refine congrArg₂ (fun x y : BitVec 32 => BitVec.ofBool (x.sle y)) ?_ ?_
      · exact iota_single_apply _ _ _ _ _ _
      · exact iota_single_apply _ _ _ _ _ _
    have hs : ((BitVec.ofNat 32 j.val).sle (BitVec.ofNat 32 q.val)) = decide (j.val ≤ q.val) := by
      have hj := j.isLt; have hq := q.isLt
      rw [BitVec.sle_eq_decide, BitVec.toInt_eq_toNat_of_lt (by simp; omega), BitVec.toInt_eq_toNat_of_lt (by simp; omega)]
      simp only [BitVec.toNat_ofNat]
      rw [Nat.mod_eq_of_lt (by omega), Nat.mod_eq_of_lt (by omega)]
      simp
    rw [e, hs]
    by_cases h : j.val ≤ q.val <;> simp [h]
  by_cases h : j.val ≤ q.val
  · rw [if_pos h, hm.2 h, select_one]
    refine (Ideal.multiReduction_add_single _ _ _ _ _ _).trans ?_
    refine Finset.sum_congr rfl fun h _ => ?_
    refine (shapeCast_apply _ _ _ (ix2 (headRow h q) j) ?_).trans ?_
    · have e : Shape.Reduces.lift reduces_S16x8x128_S8x128 (ix2 q j) h = ix3 h q j := by
        funext x; match x with | ⟨0, _⟩ => rfl | ⟨1, _⟩ => rfl | ⟨2, _⟩ => rfl
      rw [e]
      refine (Shape.rowMajor_val_two _).trans (Eq.trans ?_ (Shape.rowMajor_val_three _).symm)
      show (8 * h.val + q.val) * 128 + j.val = (h.val * 8 + q.val) * 128 + j.val
      ring
    · rw [mulf_apply, maximumf_apply, newProduct_apply, broadcastTo_apply w _ _ (ix2 (headRow h q) 0) (fun x => by
        match x with | ⟨0, _⟩ => rfl | ⟨1, _⟩ => rfl)]
      have hb : ∀ k : Fin 64, shapeCast S64x128 b shapeCasts_S1x64x128_S64x128 (ix2 k j) = b (ix3 0 k j) :=
        fun k => shapeCast_apply _ _ _ _ (unit_front 64 128 k j)
      simp only [hb]
      exact congrArg (fun z : EReal => w (ix2 (headRow h q) 0) * max (∑ k : Fin 64, (a (ix2 (headRow h q) k) : EReal) * b (ix3 0 k j)) z) Ideal.ofBits_zero_f32
  · rw [if_neg h, Idealize.ShloMosaic.ValueIdx.eq_zero_of_ne_one fun e => h (hm.1 e), select_zero]
    exact minus_inf

/-- Sixteen blocks, in order. -/
def blocks (f : Fin 16 → FVec Ideal S64x128 .bf16) : List ((s : Shape) × (s.Idx → Ideal .bf16)) :=
  [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩, ⟨S64x128, f 8⟩, ⟨S64x128, f 9⟩, ⟨S64x128, f 10⟩, ⟨S64x128, f 11⟩, ⟨S64x128, f 12⟩, ⟨S64x128, f 13⟩, ⟨S64x128, f 14⟩, ⟨S64x128, f 15⟩]

theorem block_at (f : Fin 16 → FVec Ideal S64x128 .bf16) (p : ℕ) (hp : p < 16) :
    (blocks f)[p]'hp = ⟨S64x128, f ⟨p, hp⟩⟩ := by
  interval_cases p <;> rfl

theorem blocks_before (f : Fin 16 → FVec Ideal S64x128 .bf16) (p : ℕ) (hp : p < 16) :
    ((((blocks f).take p).map (·.1)).map fun s : Shape => if h : s.rank = S64x2048.rank then s.size ((1 : Fin S64x2048.rank).cast h.symm) else 0).sum = 128 * p := by
  have e : (blocks f).map (·.1) = List.replicate 16 S64x128 := rfl
  rw [List.map_take, e, List.take_replicate, List.map_replicate, List.sum_replicate, Nat.min_eq_left hp.le]
  exact Nat.mul_comm p 128

/-- Sixteen blocks side by side, read at a column. -/
theorem sixteen_apply (f : Fin 16 → FVec Ideal S64x128 .bf16) (k : Fin 64) (j : Fin 2048) :
    concatenate S64x2048 1 (blocks f) concatenates_S64x128_S64x128_S64x128_S64x128_S64x128_S64x128_S64x128_S64x128_S64x128_S64x128_S64x128_S64x128_S64x128_S64x128_S64x128_S64x128_S64x2048_d1 (ix2 k j)
      = f ⟨j.val / 128, by omega⟩ (ix2 k ⟨j.val % 128, by omega⟩) := by
  have hp : j.val / 128 < 16 := by omega
  refine concatenate_apply_piece (t := S64x2048) 1 (blocks f) _ _ (j.val / 128) hp S64x128 _ ?_ rfl (128 * (j.val / 128)) ?_ _ ?_ ?_
  · exact block_at f _ hp
  · exact blocks_before f _ hp
  · intro b hb
    match b with
    | ⟨0, _⟩ => rfl
    | ⟨1, _⟩ => exact absurd rfl hb
  · exact Nat.div_add_mod j.val 128

variable (tb : Table) (C : Cache Ideal)

/-- A page's block, rounded, read at an index. -/
theorem page_apply (n : ℕ) (k : Fin 64) (r : Fin 128) :
    (truncf .bf16 (shapeCast S64x128 (pageBlock tb C n) shapeCasts_S1x1x64x128_S64x128 : FVec Ideal S64x128 .f32) bitsLt_bf16_f32 : FVec Ideal S64x128 .bf16) (ix2 k r)
      = C (ix3 (pageAt tb n) k r) := by
  refine (shapeCast_apply (pageBlock tb C n) _ _ (ix4 0 0 k r) ?_).trans rfl
  refine (Shape.rowMajor_val_four _).trans (Eq.trans ?_ (Shape.rowMajor_val_two _).symm)
  show ((0 * 1 + 0) * 64 + k.val) * 128 + r.val = k.val * 128 + r.val
  omega

/-- A step's scores, read at a token and a column. -/
theorem scoreBlock_apply (t : ℕ) (x3 : Vec Ideal S1x128x64 .bf16) (x4 : Vec Ideal S1x128x1 .f32) (q : Fin 8) (j : Fin 2048) :
    scoreBlock tb C t x3 x4 (ix3 0 q j)
      = score (fun h k => x3 (ix3 0 (headRow h q) k)) (fun h => x4 (ix3 0 (headRow h q) 0))
          (fun k => C (ix3 (pageAt tb (16 * t + j.val / 128)) k ⟨j.val % 128, by omega⟩)) := by
  unfold scoreBlock
  rw [pay2_apply]
  simp only [pay4_apply, pay5_apply]
  congr 1
  funext k
  exact (sixteen_apply (fun p => truncf .bf16 (shapeCast S64x128 (pageBlock tb C (16 * t + p.val)) shapeCasts_S1x1x64x128_S64x128 : FVec Ideal S64x128 .f32) bitsLt_bf16_f32) k j).trans
    (page_apply tb C _ _ _)

/-- The new keys' scores, read at a token and a column. -/
theorem newBlock_apply (x3 : Vec Ideal S1x128x64 .bf16) (x4 : Vec Ideal S1x128x1 .f32) (x5 : Vec Ideal S1x64x128 .bf16) (q : Fin 8) (j : Fin 128) :
    newBlock x3 x4 x5 (ix3 0 q j)
      = if j.val ≤ q.val then score (fun h k => x3 (ix3 0 (headRow h q) k)) (fun h => x4 (ix3 0 (headRow h q) 0)) (fun k => x5 (ix3 0 k j)) else ⊥ := by
  unfold newBlock
  rw [pay3_apply]
  simp only [pay4_apply, pay5_apply]

end Cert.Pages
-- ==== Proof.Arrays.lean ====
/-
  The windows' blocks and the two arrays of scores, read at an index.
-/
module

public import proofs.«01_k».proof.Proof.Scores
public import Idealize.ShloMosaic.Lib.Pipeline.ValueKit
public import Idealize.ShloMosaic.Lib.Pipeline.Covers

@[expose] public section

noncomputable section

namespace Cert.Pages

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (c : Dev nD)

/-- A grid point's sequence. -/
def seqOf (t : Fin grid0.N) : Fin 32 := ⟨t.val / 8, by have := lt_of_lt_of_eq t.isLt N_0; omega⟩

/-- The word a grid coordinate is computed with holds it. -/
theorem seq_word (t : Fin grid0.N) : (BitVec.ofNat 32 ((grid0.coords t) 0).val).toNat = t.val / 8 := by
  have := lt_of_lt_of_eq t.isLt N_0
  rw [coord0, BitVec.toNat_ofNat]; omega

theorem step_word (t : Fin grid0.N) : (BitVec.ofNat 32 ((grid0.coords t) 1).val).toNat = t.val % 8 := by
  rw [coord1, BitVec.toNat_ofNat]; omega

/-- A step's queries are its sequence's. -/
theorem iblk0_apply (t : Fin grid0.N) (r : Fin 128) (k : Fin 64) :
    iblk m c 0 t (ix3 0 r k) = V m c (Proc.devRef .tc main_v5) (ix3 (seqOf t) r k) := by
  have e0 : ((cfgA m).win 0).index t (0 : Fin 3) = t.val / 8 := seq_word t
  have e1 : ((cfgA m).win 0).index t (1 : Fin 3) = 0 := rfl
  have e2 : ((cfgA m).win 0).index t (2 : Fin 3) = 0 := rfl
  unfold iblk
  refine congrArg (V m c (Proc.devRef .tc main_v5)) (funext fun a => Fin.ext ?_)
  match a with
  | ⟨0, _⟩ => exact (((cfgA m).win 0).rect_emb_val t (ix3 0 r k) (0 : Fin 3)).trans ((congrArg (fun z : ℕ => z * 1 + 0) e0).trans (show t.val / 8 * 1 + 0 = t.val / 8 by omega))
  | ⟨1, _⟩ => exact (((cfgA m).win 0).rect_emb_val t (ix3 0 r k) (1 : Fin 3)).trans ((congrArg (fun z : ℕ => z * 128 + r.val) e1).trans (show 0 * 128 + r.val = r.val by omega))
  | ⟨2, _⟩ => exact (((cfgA m).win 0).rect_emb_val t (ix3 0 r k) (2 : Fin 3)).trans ((congrArg (fun z : ℕ => z * 64 + k.val) e2).trans (show 0 * 64 + k.val = k.val by omega))

/-- A step's weights are its sequence's. -/
theorem iblk1_apply (t : Fin grid0.N) (r : Fin 128) (k : Fin 1) :
    iblk m c 1 t (ix3 0 r k) = V m c (Proc.devRef .tc main_v8) (ix3 (seqOf t) r k) := by
  have e0 : ((cfgA m).win 1).index t (0 : Fin 3) = t.val / 8 := seq_word t
  have e1 : ((cfgA m).win 1).index t (1 : Fin 3) = 0 := rfl
  have e2 : ((cfgA m).win 1).index t (2 : Fin 3) = 0 := rfl
  unfold iblk
  refine congrArg (V m c (Proc.devRef .tc main_v8)) (funext fun a => Fin.ext ?_)
  match a with
  | ⟨0, _⟩ => exact (((cfgA m).win 1).rect_emb_val t (ix3 0 r k) (0 : Fin 3)).trans ((congrArg (fun z : ℕ => z * 1 + 0) e0).trans (show t.val / 8 * 1 + 0 = t.val / 8 by omega))
  | ⟨1, _⟩ => exact (((cfgA m).win 1).rect_emb_val t (ix3 0 r k) (1 : Fin 3)).trans ((congrArg (fun z : ℕ => z * 128 + r.val) e1).trans (show 0 * 128 + r.val = r.val by omega))
  | ⟨2, _⟩ => exact (((cfgA m).win 1).rect_emb_val t (ix3 0 r k) (2 : Fin 3)).trans ((congrArg (fun z : ℕ => z * 1 + k.val) e2).trans (show 0 * 1 + k.val = k.val by omega))

/-- A step's new keys are its sequence's. -/
theorem iblk2_apply (t : Fin grid0.N) (r : Fin 64) (k : Fin 128) :
    iblk m c 2 t (ix3 0 r k) = V m c (Proc.devRef .tc main_v11) (ix3 (seqOf t) r k) := by
  have e0 : ((cfgA m).win 2).index t (0 : Fin 3) = t.val / 8 := seq_word t
  have e1 : ((cfgA m).win 2).index t (1 : Fin 3) = 0 := rfl
  have e2 : ((cfgA m).win 2).index t (2 : Fin 3) = 0 := rfl
  unfold iblk
  refine congrArg (V m c (Proc.devRef .tc main_v11)) (funext fun a => Fin.ext ?_)
  match a with
  | ⟨0, _⟩ => exact (((cfgA m).win 2).rect_emb_val t (ix3 0 r k) (0 : Fin 3)).trans ((congrArg (fun z : ℕ => z * 1 + 0) e0).trans (show t.val / 8 * 1 + 0 = t.val / 8 by omega))
  | ⟨1, _⟩ => exact (((cfgA m).win 2).rect_emb_val t (ix3 0 r k) (1 : Fin 3)).trans ((congrArg (fun z : ℕ => z * 64 + r.val) e1).trans (show 0 * 64 + r.val = r.val by omega))
  | ⟨2, _⟩ => exact (((cfgA m).win 2).rect_emb_val t (ix3 0 r k) (2 : Fin 3)).trans ((congrArg (fun z : ℕ => z * 128 + k.val) e2).trans (show 0 * 128 + k.val = k.val by omega))

/-- Where a step's scores go. -/
theorem blk3_emb (t : Fin grid0.N) (q : Fin 8) (j : Fin 2048) :
    (((cfgA m).win 3).blk t).view.emb (ix3 0 q j) = ix3 (seqOf t) q ⟨2048 * (t.val % 8) + j.val, by omega⟩ := by
  have e0 : ((cfgA m).win 3).index t (0 : Fin 3) = t.val / 8 := seq_word t
  have e1 : ((cfgA m).win 3).index t (1 : Fin 3) = 0 := rfl
  have e2 : ((cfgA m).win 3).index t (2 : Fin 3) = t.val % 8 := step_word t
  refine (funext fun a => Fin.ext ?_)
  match a with
  | ⟨0, _⟩ => exact (((cfgA m).win 3).rect_emb_val t (ix3 0 q j) (0 : Fin 3)).trans ((congrArg (fun z : ℕ => z * 1 + 0) e0).trans (show t.val / 8 * 1 + 0 = t.val / 8 by omega))
  | ⟨1, _⟩ => exact (((cfgA m).win 3).rect_emb_val t (ix3 0 q j) (1 : Fin 3)).trans ((congrArg (fun z : ℕ => z * 8 + q.val) e1).trans (show 0 * 8 + q.val = q.val by omega))
  | ⟨2, _⟩ => exact (((cfgA m).win 3).rect_emb_val t (ix3 0 q j) (2 : Fin 3)).trans ((congrArg (fun z : ℕ => z * 2048 + j.val) e2).trans (show t.val % 8 * 2048 + j.val = 2048 * (t.val % 8) + j.val by omega))

/-- Where a sequence's new scores go. -/
theorem blk4_emb (t : Fin grid0.N) (q : Fin 8) (j : Fin 128) :
    (((cfgA m).win 4).blk t).view.emb (ix3 0 q j) = ix3 (seqOf t) q j := by
  have e0 : ((cfgA m).win 4).index t (0 : Fin 3) = t.val / 8 := seq_word t
  have e1 : ((cfgA m).win 4).index t (1 : Fin 3) = 0 := rfl
  have e2 : ((cfgA m).win 4).index t (2 : Fin 3) = 0 := rfl
  refine (funext fun a => Fin.ext ?_)
  match a with
  | ⟨0, _⟩ => exact (((cfgA m).win 4).rect_emb_val t (ix3 0 q j) (0 : Fin 3)).trans ((congrArg (fun z : ℕ => z * 1 + 0) e0).trans (show t.val / 8 * 1 + 0 = t.val / 8 by omega))
  | ⟨1, _⟩ => exact (((cfgA m).win 4).rect_emb_val t (ix3 0 q j) (1 : Fin 3)).trans ((congrArg (fun z : ℕ => z * 8 + q.val) e1).trans (show 0 * 8 + q.val = q.val by omega))
  | ⟨2, _⟩ => exact (((cfgA m).win 4).rect_emb_val t (ix3 0 q j) (2 : Fin 3)).trans ((congrArg (fun z : ℕ => z * 128 + j.val) e2).trans (show 0 * 128 + j.val = j.val by omega))

/-- The scores of the past keys that a step leaves. -/
def pastAt (t : Fin grid0.N) (q : Fin 8) (j : Fin 2048) : Elt F .f32 :=
  scoreBlock (table m) (cache m) t.val (iblk m c 0 t) (iblk m c 1 t) (ix3 0 q j)

/-- The scores of the new keys that a sequence's last step leaves. -/
def newAt (t : Fin grid0.N) (q : Fin 8) (j : Fin 128) : Elt F .f32 :=
  newBlock (iblk m c 0 (first t)) (iblk m c 1 (first t)) (iblk m c 2 (first t)) (ix3 0 q j)

/-- The grid point of a sequence's step. -/
def point (b : Fin 32) (p : ℕ) (hp : p < 8) : Fin grid0.N := ⟨8 * b.val + p, by rw [N_0]; omega⟩

/-- All the past keys' scores. -/
def pastScores : (⟨S32x8x16384, .f32⟩ : BufTy).Contents (Elt F) := fun i =>
  pastAt m c (point (i 0) ((i 2).val / 2048) (by have h : (i 2).val < 16384 := (i 2).isLt; omega)) (i 1) ⟨(i 2).val % 2048, Nat.mod_lt _ (by decide)⟩

/-- All the new keys' scores. -/
def newScores : (⟨S32x8x128, .f32⟩ : BufTy).Contents (Elt F) := fun i =>
  newAt m c (point (i 0) 7 (by decide)) (i 1) (i 2)

theorem pastScores_at (t : Fin grid0.N) (q : Fin 8) (j : Fin 2048) :
    pastScores m c (ix3 (seqOf t) q ⟨2048 * (t.val % 8) + j.val, by omega⟩) = pastAt m c t q j := by
  unfold pastScores
  have e : ∀ (t' : Fin grid0.N) (j' : Fin 2048), t' = t → j' = j → pastAt m c t' q j' = pastAt m c t q j := fun _ _ h h' => by rw [h, h']
  refine e _ _ (Fin.ext ?_) (Fin.ext ?_)
  · show 8 * (t.val / 8) + (2048 * (t.val % 8) + j.val) / 2048 = t.val
    omega
  · show (2048 * (t.val % 8) + j.val) % 2048 = j.val
    omega

theorem newScores_at (t : Fin grid0.N) (ht : t.val % 8 = 7) (q : Fin 8) (j : Fin 128) :
    newScores m c (ix3 (seqOf t) q j) = newAt m c t q j := by
  unfold newScores
  have e : ∀ (t' : Fin grid0.N), t' = t → newAt m c t' q j = newAt m c t q j := fun _ h => by rw [h]
  refine e _ (Fin.ext ?_)
  show 8 * (t.val / 8) + 7 = t.val
  omega

theorem arr3 : (dats m 0 c).arrAt 3 (cfgA m).N = pastScores m c := by
  refine (dats m 0 c).arrAt_eq_of_covers 3 (pastScores m c) ?_ fun t _ y => ?_
  · refine ((cfgA m).win 3).covers_of_indexMap_surj rfl (fun a => (by decide : ∀ a : Fin 3, 0 < (![1, 8, 2048] : Fin 3 → ℕ) a) a) fun β => ?_
    have h0 : (β (0 : Fin 3)).val < 32 := lt_of_lt_of_eq (β (0 : Fin 3)).isLt (show (32 + 1 - 1) / 1 = 32 by decide)
    have h1 : (β (1 : Fin 3)).val < 1 := lt_of_lt_of_eq (β (1 : Fin 3)).isLt (show (8 + 8 - 1) / 8 = 1 by decide)
    have h2 : (β (2 : Fin 3)).val < 8 := lt_of_lt_of_eq (β (2 : Fin 3)).isLt (show (16384 + 2048 - 1) / 2048 = 8 by decide)
    refine ⟨fun a => match a with | ⟨0, _⟩ => ⟨(β (0 : Fin 3)).val, h0⟩ | ⟨1, _⟩ => ⟨(β (2 : Fin 3)).val, h2⟩, fun a => ?_⟩
    match a with
    | ⟨0, _⟩ =>
      show (BitVec.ofNat 32 (β (0 : Fin 3)).val).toNat = (β (0 : Fin 3)).val
      rw [BitVec.toNat_ofNat]; omega
    | ⟨1, _⟩ =>
      show 0 = (β (1 : Fin 3)).val
      omega
    | ⟨2, _⟩ =>
      show (BitVec.ofNat 32 (β (2 : Fin 3)).val).toNat = (β (2 : Fin 3)).val
      rw [BitVec.toNat_ofNat]; omega
  · obtain ⟨q, j, rfl⟩ : ∃ (q : Fin 8) (j : Fin 2048), y = ix3 0 q j := ⟨y (1 : Fin 3), y (2 : Fin 3), by
      funext a; match a with | ⟨0, _⟩ => exact Subsingleton.elim (α := Fin 1) _ _ | ⟨1, _⟩ => rfl | ⟨2, _⟩ => rfl⟩
    refine Eq.trans ?_ (congrArg (pastScores m c) (blk3_emb m t q j)).symm
    rw [pastScores_at]
    rfl

theorem arr4 : (dats m 0 c).arrAt 4 (cfgA m).N = newScores m c := by
  refine (dats m 0 c).arrAt_eq_of_covers 4 (newScores m c) ?_ fun t ht y => ?_
  · refine ((cfgA m).win 4).covers_of_indexMap_surj rfl (fun a => (by decide : ∀ a : Fin 3, 0 < (![1, 8, 128] : Fin 3 → ℕ) a) a) fun β => ?_
    have h0 : (β (0 : Fin 3)).val < 32 := lt_of_lt_of_eq (β (0 : Fin 3)).isLt (show (32 + 1 - 1) / 1 = 32 by decide)
    have h1 : (β (1 : Fin 3)).val < 1 := lt_of_lt_of_eq (β (1 : Fin 3)).isLt (show (8 + 8 - 1) / 8 = 1 by decide)
    have h2 : (β (2 : Fin 3)).val < 1 := lt_of_lt_of_eq (β (2 : Fin 3)).isLt (show (128 + 128 - 1) / 128 = 1 by decide)
    refine ⟨fun a => match a with | ⟨0, _⟩ => ⟨(β (0 : Fin 3)).val, h0⟩ | ⟨1, _⟩ => ⟨0, show 0 < 8 by decide⟩, fun a => ?_⟩
    match a with
    | ⟨0, _⟩ =>
      show (BitVec.ofNat 32 (β (0 : Fin 3)).val).toNat = (β (0 : Fin 3)).val
      rw [BitVec.toNat_ofNat]; omega
    | ⟨1, _⟩ =>
      show 0 = (β (1 : Fin 3)).val
      omega
    | ⟨2, _⟩ =>
      show 0 = (β (2 : Fin 3)).val
      omega
  · obtain ⟨q, j, rfl⟩ : ∃ (q : Fin 8) (j : Fin 128), y = ix3 0 q j := ⟨y (1 : Fin 3), y (2 : Fin 3), by
      funext a; match a with | ⟨0, _⟩ => exact Subsingleton.elim (α := Fin 1) _ _ | ⟨1, _⟩ => rfl | ⟨2, _⟩ => rfl⟩
    refine Eq.trans ?_ (congrArg (newScores m c) (blk4_emb m t q j)).symm
    rw [newScores_at m c t ((flush_new m t).1 ht)]
    rfl

end Cert.Pages
-- ==== Proof.Wanted.lean ====
/-
  The reference's result read at an index, at the ideal values.
-/
module

public import proofs.«01_k».proof.Proof.Scores
public import proofs.«01_k».proof.Proof.Gen.ReferenceIdeal.Read
public import Idealize.ShloMosaic.Lib.KernelVsHost

@[expose] public section

noncomputable section

namespace Cert.Pages

open Cert.ReferenceIdeal Cert.ReferenceIdeal.Gen Cert.ReferenceIdeal.Read
open Idealize.ShloMosaic

/-- The reference's score of one key. -/
def plainScore (q : Fin 16 → Fin 64 → EReal) (w : Fin 16 → EReal) (k : Fin 64 → EReal) : EReal :=
  ∑ h : Fin 16, (w h * Ideal.ofBits .f32 0x3E800000#32) * max ((∑ j : Fin 64, q h j * k j) * Ideal.ofBits .f32 0x3E000000#32) 0

theorem quarter : Ideal.ofBits .f32 0x3E800000#32 = ((1 / 4 : ℝ) : EReal) := by
  simp [Ideal.ofBits, Ideal.ieee]
  exact_mod_cast (by norm_num : (8388608 : ℝ) * (2 ^ 25)⁻¹ = (4)⁻¹)

theorem eighth : Ideal.ofBits .f32 0x3E000000#32 = ((1 / 8 : ℝ) : EReal) := by
  simp [Ideal.ofBits, Ideal.ieee]
  exact_mod_cast (by norm_num : (8388608 : ℝ) * (2 ^ 26)⁻¹ = (8)⁻¹)

theorem thirtySecond : Ideal.ofBits .f32 0x3D000000#32 = ((1 / 32 : ℝ) : EReal) := by
  simp [Ideal.ofBits, Ideal.ieee]
  exact_mod_cast (by norm_num : (8388608 : ℝ) * (2 ^ 28)⁻¹ = (32)⁻¹)

/-- A positive scale passes through the clip, so scaling the product is scaling the weight. -/
theorem plainScore_eq (q : Fin 16 → Fin 64 → EReal) (w : Fin 16 → EReal) (k : Fin 64 → EReal) :
    plainScore q w k = score q (fun h => w h * Ideal.ofBits .f32 0x3D000000#32) k := by
  unfold plainScore score
  refine Finset.sum_congr rfl fun h _ => ?_
  rw [quarter, eighth, thirtySecond]
  generalize (∑ j : Fin 64, q h j * k j) = s
  have hc : (0 : EReal) ≤ ((1 / 8 : ℝ) : EReal) := by exact_mod_cast (by norm_num : (0 : ℝ) ≤ 1 / 8)
  have hm : max (s * ((1 / 8 : ℝ) : EReal)) 0 = max s 0 * ((1 / 8 : ℝ) : EReal) := by
    have := (monotone_mul_right_of_nonneg hc).map_max (a := s) (b := 0)
    simpa using this.symm
  rw [hm, mul_comm (max s 0), ← mul_assoc, mul_assoc (w h)]
  congr 2
  rw [← EReal.coe_mul]
  norm_num

variable (x0 : (⟨S32x128, .i32⟩ : BufTy).Contents (Elt Ideal)) (x1 : (⟨S32x4x16x64, .f32⟩ : BufTy).Contents (Elt Ideal))
  (x2 : (⟨S32x4x16, .f32⟩ : BufTy).Contents (Elt Ideal)) (x3 : (⟨S32x4x64, .f32⟩ : BufTy).Contents (Elt Ideal))
  (x4 : (⟨S5120x128x64, .f32⟩ : BufTy).Contents (Elt Ideal))

/-- The pool's page that holds the sequence's page `p`. -/
def pageOf (hp : ∀ i, (x0 i).toNat < 5120) (b : Fin 32) (p : Fin 128) : Fin 5120 := ⟨(x0 (ix2 b p)).toNat, hp _⟩

/-- A table word in range is not moved by the reference's index arithmetic. -/
theorem word_kept (hp : ∀ i, (x0 i).toNat < 5120) (b : Fin 32) (p : Fin 128) :
    val_main_v7 (F := Ideal) x0 (ix3 b p 0) = x0 (ix2 b p) := by
  rw [val_main_v7_apply]
  have e : idx_main_v7 (ix3 b p 0) = ix2 b p := by
    funext a; match a with | ⟨0, _⟩ => rfl | ⟨1, _⟩ => rfl
  rw [e, val_main_v6_apply, val_main_v3_apply, val_main_v2_apply, val_main_c_apply]
  have h := hp (ix2 b p)
  generalize x0 (ix2 b p) = w at h ⊢
  have hn : IntOp.cmpi .slt w 0#32 ≠ 1#1 := by
    show BitVec.ofBool (w.slt 0#32) ≠ 1#1
    have : w.slt 0#32 = false := by
      rw [BitVec.slt_eq_decide, BitVec.toInt_eq_toNat_of_lt (by omega)]
      simp
    rw [this]; decide
  rw [Idealize.ShloMosaic.ValueIdx.eq_zero_of_ne_one hn, Idealize.ShloMosaic.ValueIdx.select_zero]

/-- The gathered pool, read at an index. -/
theorem gathered_apply (hp : ∀ i, (x0 i).toNat < 5120) (b : Fin 32) (p : Fin 128) (r : Fin 128) (k : Fin 64) :
    val_main_v8 (F := Ideal) x0 x4 (ix4 b p r k) = x4 (ix3 (pageOf x0 hp b p) r k) := by
  let d := gather_S5120x128x64_S32x128x1_S32x128x128x64_23_0_n_n_0_2_112864
  show x4 (d.operandIdx (ix4 b p r k) (val_main_v7 (F := Ideal) x0)) = _
  refine congrArg x4 (funext fun a => Fin.ext ?_)
  show d.start _ _ a + d.batchCoord _ a + d.offCoord _ a = _
  rw [d.batchCoord_eq_zero _ _ (by simp [d, gather_S5120x128x64_S32x128x1_S32x128x128x64_23_0_n_n_0_2_112864]), Nat.add_zero]
  match a with
  | ⟨0, _⟩ =>
    have e : d.siIdx (ix4 b p r k) ⟨0, by decide⟩ = ix3 b p 0 := by
      funext c; match c with | ⟨0, _⟩ => rfl | ⟨1, _⟩ => rfl | ⟨2, _⟩ => rfl
    have hs : d.start (ix4 b p r k) (val_main_v7 (F := Ideal) x0) 0 = (x0 (ix2 b p)).toNat := by
      unfold GatherDims.start
      rw [dif_pos (show (0 : Fin S5120x128x64.rank) ∈ d.startIndexMap by decide)]
      have h := hp (ix2 b p)
      refine Eq.trans (congrArg (fun z => min (val_main_v7 (F := Ideal) x0 z).toInt.toNat 5119) e) ?_
      show min (val_main_v7 (F := Ideal) x0 (ix3 b p 0)).toInt.toNat 5119 = _
      rw [word_kept x0 hp, BitVec.toInt_eq_toNat_of_lt (by omega)]
      simp only [Int.toNat_natCast]
      omega
    exact (congrArg (· + _) hs).trans rfl
  | ⟨1, _⟩ => exact (Nat.zero_add _).trans rfl
  | ⟨2, _⟩ => exact (Nat.zero_add _).trans rfl

/-- A sequence's past key `j`. -/
theorem past_apply (hp : ∀ i, (x0 i).toNat < 5120) (b : Fin 32) (j : Fin 16388) (hj : j.val < 16384) (k : Fin 64) :
    val_main_v10 (F := Ideal) x0 x3 x4 (ix3 b j k) = x4 (ix3 (pageOf x0 hp b ⟨j.val / 128, by omega⟩) ⟨j.val % 128, by omega⟩ k) := by
  unfold val_main_v10
  refine (concatenate_pair_apply_left (t := S32x16388x64) (s₁ := S32x16384x64) (s₂ := S32x4x64) 1 _ _ _ _ rfl (ix3 b ⟨j.val, hj⟩ k) fun a => ?_).trans ?_
  · match a with | ⟨0, _⟩ => rfl | ⟨1, _⟩ => rfl | ⟨2, _⟩ => rfl
  rw [val_main_v9_apply, ← gathered_apply x0 x4 hp]
  congr 1
  funext a
  have hb := b.isLt; have hk := k.isLt
  match a with
  | ⟨0, _⟩ => refine Fin.ext ?_; show ((b.val * 16384 + j.val) * 64 + k.val) / 1048576 = b.val; omega
  | ⟨1, _⟩ => refine Fin.ext ?_; show ((b.val * 16384 + j.val) * 64 + k.val) / 8192 % 128 = j.val / 128; omega
  | ⟨2, _⟩ => refine Fin.ext ?_; show ((b.val * 16384 + j.val) * 64 + k.val) / 64 % 128 = j.val % 128; omega
  | ⟨3, _⟩ => refine Fin.ext ?_; show ((b.val * 16384 + j.val) * 64 + k.val) % 64 = k.val; omega

/-- A sequence's new key. -/
theorem fresh_apply (b : Fin 32) (j : Fin 16388) (hj : 16384 ≤ j.val) (k : Fin 64) :
    val_main_v10 (F := Ideal) x0 x3 x4 (ix3 b j k) = x3 (ix3 b ⟨j.val - 16384, by omega⟩ k) := by
  unfold val_main_v10
  refine concatenate_pair_apply_right (t := S32x16388x64) (s₁ := S32x16384x64) (s₂ := S32x4x64) 1 _ _ _ _ rfl rfl (ix3 b ⟨j.val - 16384, by omega⟩ k) (fun a ha => ?_) ?_
  · match a with | ⟨0, _⟩ => rfl | ⟨1, _⟩ => exact absurd rfl ha | ⟨2, _⟩ => rfl
  · exact Nat.sub_add_cancel hj

/-- The reference's unmasked score. -/
theorem unmasked_apply (b : Fin 32) (q : Fin 4) (j : Fin 16388) :
    val_main_v18 (F := Ideal) x0 x1 x2 x3 x4 (ix3 b q j)
      = plainScore (fun h k => x1 (ix4 b q h k)) (fun h => x2 (ix3 b q h)) (fun k => val_main_v10 (F := Ideal) x0 x3 x4 (ix3 b j k)) := by
  rw [val_main_v18_apply]
  unfold plainScore
  refine Finset.sum_congr rfl fun h _ => ?_
  rw [val_main_v1_apply, val_main_v0_apply, val_main_cst_apply, val_main_v17_apply, val_main_v16_apply, val_main_v15_apply, val_main_cst_2_apply,
    val_main_call0_v0_apply, val_main_call0_cst_apply, val_main_v14_apply]
  have e1 : lidx_main_v18 (ix3 b q j) h = ix3 b q h := by
    funext a; match a with | ⟨0, _⟩ => rfl | ⟨1, _⟩ => rfl | ⟨2, _⟩ => rfl
  have e2 : ∀ k, lidx_main_v14 (ridx_main_v18 (ix3 b q j) h) k = ix4 b q h k := fun k => by
    funext a; match a with | ⟨0, _⟩ => rfl | ⟨1, _⟩ => rfl | ⟨2, _⟩ => rfl | ⟨3, _⟩ => rfl
  have e3 : ∀ k, ridx_main_v14 (ridx_main_v18 (ix3 b q j) h) k = ix3 b j k := fun k => by
    funext a; match a with | ⟨0, _⟩ => rfl | ⟨1, _⟩ => rfl | ⟨2, _⟩ => rfl
  simp only [e1, e2, e3]
  exact congrArg (fun z : EReal => (x2 (ix3 b q h) * Ideal.ofBits .f32 0x3E800000#32) * max ((∑ k : Fin 64, x1 (ix4 b q h k) * val_main_v10 (F := Ideal) x0 x3 x4 (ix3 b j k)) * Ideal.ofBits .f32 0x3E000000#32) z) Ideal.ofBits_zero_f32

/-- The reference's mask: a key at or before the token's position. -/
theorem mask_apply (b : Fin 32) (q : Fin 4) (j : Fin 16388) :
    val_main_call1_v1 (F := Ideal) (ix3 b q j) = 1#1 ↔ j.val ≤ 16384 + q.val := by
  have e : val_main_call1_v1 (F := Ideal) (ix3 b q j) = BitVec.ofBool ((BitVec.ofNat 32 j.val).sle (16384#32 + BitVec.ofNat 32 q.val)) := by
    rw [val_main_call1_v1_apply, val_main_v25_apply, val_main_v24_apply, val_main_v22_apply, val_main_v20_apply, val_main_v19_apply,
      val_main_v23_apply, val_main_v21_apply, val_main_v13_apply, val_main_v12_apply, val_main_v11_apply, val_main_c_1_apply]
    rfl
  have hs : ((BitVec.ofNat 32 j.val).sle (16384#32 + BitVec.ofNat 32 q.val)) = decide (j.val ≤ 16384 + q.val) := by
    have hj := j.isLt; have hq := q.isLt
    have e1 : (16384#32 + BitVec.ofNat 32 q.val).toNat = 16384 + q.val := by
      simp only [BitVec.toNat_add, BitVec.toNat_ofNat]; omega
    have e2 : (BitVec.ofNat 32 j.val).toNat = j.val := by simp only [BitVec.toNat_ofNat]; omega
    rw [BitVec.sle_eq_decide, BitVec.toInt_eq_toNat_of_lt (by omega), BitVec.toInt_eq_toNat_of_lt (by omega), e1, e2]
    exact decide_eq_decide.2 (by omega)
  rw [e, hs]
  by_cases h : j.val ≤ 16384 + q.val <;> simp [h]

/-- What the reference holds at a token and a key. -/
theorem wanted_apply (b : Fin 32) (q : Fin 4) (j : Fin 16512) (hj : j.val < 16388) :
    val_main_v27 (F := Ideal) x0 x1 x2 x3 x4 (ix3 b q j)
      = if j.val ≤ 16384 + q.val then
          score (fun h k => x1 (ix4 b q h k)) (fun h => x2 (ix3 b q h) * Ideal.ofBits .f32 0x3D000000#32)
            (fun k => val_main_v10 (F := Ideal) x0 x3 x4 (ix3 b ⟨j.val, hj⟩ k))
        else ⊥ := by
  unfold val_main_v27
  refine (pad_apply_of_inside _ _ _ _ _ _ _ _ (ix3 b q ⟨j.val, hj⟩) fun a => ?_).trans ?_
  · match a with
    | ⟨0, _⟩ => show b.val = 0 + b.val * (0 + 1); omega
    | ⟨1, _⟩ => show q.val = 0 + q.val * (0 + 1); omega
    | ⟨2, _⟩ => show j.val = 0 + j.val * (0 + 1); omega
  rw [val_main_v26_apply, unmasked_apply, plainScore_eq]
  by_cases h : j.val ≤ 16384 + q.val
  · rw [if_pos h, (mask_apply b q ⟨j.val, hj⟩).2 h, Idealize.ShloMosaic.ValueIdx.select_one]
  · rw [if_neg h, Idealize.ShloMosaic.ValueIdx.eq_zero_of_ne_one fun e => h ((mask_apply b q ⟨j.val, hj⟩).1 e), Idealize.ShloMosaic.ValueIdx.select_zero,
      val_main_call1_v2_apply]
    exact minus_inf

/-- Past the last key the reference holds −∞. -/
theorem wanted_pad (b : Fin 32) (q : Fin 4) (j : Fin 16512) (hj : 16388 ≤ j.val) :
    val_main_v27 (F := Ideal) x0 x1 x2 x3 x4 (ix3 b q j) = (⊥ : EReal) := by
  unfold val_main_v27 pad
  rw [dif_neg]
  · exact minus_inf
  · intro h
    have := (h 2).2.2
    have e : ((ix3 b q j) 2).val = j.val := rfl
    simp at this
    omega

end Cert.Pages
-- ==== Proof.Equal.lean ====
/-
  The kernel's result read at an index, at the ideal values, and its equality with the reference's.
-/
module

public import proofs.«01_k».proof.Proof.Arrays
public import proofs.«01_k».proof.Proof.Wanted
public import proofs.«01_k».proof.Proof.Gen.ReferenceIdeal.Run
public import proofs.«01_k».proof.Defs

@[expose] public section

noncomputable section

namespace Cert.Pages

open Cert.KernelIdeal Cert.KernelIdeal.Gen
open Idealize.ShloMosaic Idealize.ShloMosaic.TcCoe Idealize.ShloMosaic.Tactic
open Idealize.ShloMosaic.Pipeline (Dat Cfg Window)

section

variable {F : FTy → Type} [FloatOps F]
variable (m : (ℓ : Loc nD τ sig) → Buf (Elt F) ℓ) (c : Dev nD)

/-- The result: the past keys' scores, then the new keys'. -/
def joined : (⟨S32x4x16512, .f32⟩ : BufTy).Contents (Elt F) :=
  concatenate S32x4x16512 2 [⟨S32x4x16384, extractStridedSlice S32x4x16384 ![0, 0, 0] (pastScores m c) slices_S32x8x16384_S32x4x16384_0_0_0⟩,
    ⟨S32x4x128, extractStridedSlice S32x4x128 ![0, 0, 0] (newScores m c) slices_S32x8x128_S32x4x128_0_0_0⟩] concatenates_S32x4x16384_S32x4x128_S32x4x16512_d2

theorem joined_left (r : PUnit × MemSt nD τ sig (Elt F)) (h : Left m r) : r.2.mem ((c : Thread nD τ).loc main_v17) = joined m c := by
  refine ((h c).2 main_v17 (show main_v17 ∈ Pipeline.restRefs sig spec0 from Pipeline.mem_restRefs_of main_v17 (by decide) (by decide))).trans ?_
  unfold Pipeline.afterTail
  have e3 := (Pipeline.withArrays_arr spec0 winFacts0.arr_inj c (V m c) (fun w => (dats m 0 c).arrAt w (cfgA m).N) 3).trans (arr3 m c)
  have e4 := (Pipeline.withArrays_arr spec0 winFacts0.arr_inj c (V m c) (fun w => (dats m 0 c).arrAt w (cfgA m).N) 4).trans (arr4 m c)
  have key : ∀ W : Valuation τ sig (Elt F), W (Proc.devRef .tc main_v14_0) = pastScores m c → W (Proc.devRef .tc main_v14_1) = newScores m c →
      StableHlo.after (List.flatten [hostOps1]) W (Proc.devRef .tc main_v17) = joined m c := by
    intro W h0 h1
    unfold joined
    rw [← h0, ← h1]
    simp only [hostOps1, List.flatten_cons, List.flatten_nil, List.append_nil,
      StableHlo.TRef.binary, StableHlo.TRef.unary, StableHlo.TRef.toBuf, StableHlo.TRef.ofBuf, cast_eq]
    after_results_simp <;> rfl
  exact key _ e3 e4

theorem joined_past (b : Fin 32) (q : Fin 4) (j : Fin 16512) (hj : j.val < 16384) :
    joined m c (ix3 b q j) = pastAt m c (point b (j.val / 2048) (by omega)) ⟨q.val, by omega⟩ ⟨j.val % 2048, by omega⟩ := by
  unfold joined
  refine (concatenate_pair_apply_left (t := S32x4x16512) (s₁ := S32x4x16384) (s₂ := S32x4x128) 2 _ _ _ _ rfl (ix3 b q ⟨j.val, hj⟩) fun a => ?_).trans ?_
  · match a with | ⟨0, _⟩ => rfl | ⟨1, _⟩ => rfl | ⟨2, _⟩ => rfl
  refine (extractStridedSlice_apply _ _ _ _ (ix3 b ⟨q.val, by omega⟩ ⟨j.val, hj⟩) fun a => ?_).trans rfl
  match a with | ⟨0, _⟩ => exact (Nat.zero_add _).symm | ⟨1, _⟩ => exact (Nat.zero_add _).symm | ⟨2, _⟩ => exact (Nat.zero_add _).symm

theorem joined_new (b : Fin 32) (q : Fin 4) (j : Fin 16512) (hj : 16384 ≤ j.val) :
    joined m c (ix3 b q j) = newAt m c (point b 7 (by decide)) ⟨q.val, by omega⟩ ⟨j.val - 16384, by omega⟩ := by
  unfold joined
  refine (concatenate_pair_apply_right (t := S32x4x16512) (s₁ := S32x4x16384) (s₂ := S32x4x128) 2 _ _ _ _ rfl rfl (ix3 b q ⟨j.val - 16384, by omega⟩) (fun a ha => ?_) ?_).trans ?_
  · match a with | ⟨0, _⟩ => rfl | ⟨1, _⟩ => rfl | ⟨2, _⟩ => exact absurd rfl ha
  · exact Nat.sub_add_cancel hj
  refine (extractStridedSlice_apply _ _ _ _ (ix3 b ⟨q.val, by omega⟩ ⟨j.val - 16384, by omega⟩) fun a => ?_).trans rfl
  match a with | ⟨0, _⟩ => exact (Nat.zero_add _).symm | ⟨1, _⟩ => exact (Nat.zero_add _).symm | ⟨2, _⟩ => exact (Nat.zero_add _).symm

end

/-! ## The prepared arrays -/

theorem queries_apply (x : (⟨S32x4x16x64, .f32⟩ : BufTy).Contents (Elt Ideal)) (b : Fin 32) (q : Fin 4) (h : Fin 16) (k : Fin 64) :
    queries x (ix3 b (headRow h ⟨q.val, by omega⟩) k) = x (ix4 b q h k) := by
  unfold queries
  refine (shapeCast_apply _ _ _ (ix4 b h ⟨q.val, by omega⟩ k) ?_).trans ?_
  · refine (Shape.rowMajor_val_four _).trans (Eq.trans ?_ (Shape.rowMajor_val_three _).symm)
    show ((b.val * 16 + h.val) * 8 + q.val) * 64 + k.val = (b.val * 128 + (8 * h.val + q.val)) * 64 + k.val
    omega
  refine (transpose_apply _ _ _ _ (ix4 b ⟨q.val, by omega⟩ h k) fun a => ?_).trans ?_
  · match a with | ⟨0, _⟩ => rfl | ⟨1, _⟩ => rfl | ⟨2, _⟩ => rfl | ⟨3, _⟩ => rfl
  refine (pad_apply_of_inside _ _ _ _ _ _ _ _ (ix4 b q h k) fun a => ?_).trans rfl
  match a with
  | ⟨0, _⟩ => show b.val = 0 + b.val * (0 + 1); omega
  | ⟨1, _⟩ => show q.val = 0 + q.val * (0 + 1); omega
  | ⟨2, _⟩ => show h.val = 0 + h.val * (0 + 1); omega
  | ⟨3, _⟩ => show k.val = 0 + k.val * (0 + 1); omega

theorem weights_apply (x : (⟨S32x4x16, .f32⟩ : BufTy).Contents (Elt Ideal)) (b : Fin 32) (q : Fin 4) (h : Fin 16) :
    weights x (ix3 b (headRow h ⟨q.val, by omega⟩) 0) = (x (ix3 b q h) : EReal) * Ideal.ofBits .f32 0x3D000000#32 := by
  unfold weights
  refine (shapeCast_apply _ _ _ (ix3 b h ⟨q.val, by omega⟩) ?_).trans ?_
  · refine (Shape.rowMajor_val_three _).trans (Eq.trans ?_ (Shape.rowMajor_val_three _).symm)
    show (b.val * 16 + h.val) * 8 + q.val = (b.val * 128 + (8 * h.val + q.val)) * 1 + 0
    omega
  refine (transpose_apply _ _ _ _ (ix3 b ⟨q.val, by omega⟩ h) fun a => ?_).trans ?_
  · match a with | ⟨0, _⟩ => rfl | ⟨1, _⟩ => rfl | ⟨2, _⟩ => rfl
  refine (pad_apply_of_inside _ _ _ _ _ _ _ _ (ix3 b q h) fun a => ?_).trans rfl
  match a with
  | ⟨0, _⟩ => show b.val = 0 + b.val * (0 + 1); omega
  | ⟨1, _⟩ => show q.val = 0 + q.val * (0 + 1); omega
  | ⟨2, _⟩ => show h.val = 0 + h.val * (0 + 1); omega

theorem newKeys_apply (x : (⟨S32x4x64, .f32⟩ : BufTy).Contents (Elt Ideal)) (b : Fin 32) (k : Fin 64) (j : Fin 4) :
    newKeys x (ix3 b k ⟨j.val, by omega⟩) = x (ix3 b j k) := by
  unfold newKeys
  refine (transpose_apply _ _ _ _ (ix3 b ⟨j.val, by omega⟩ k) fun a => ?_).trans ?_
  · match a with | ⟨0, _⟩ => rfl | ⟨1, _⟩ => rfl | ⟨2, _⟩ => rfl
  refine (pad_apply_of_inside _ _ _ _ _ _ _ _ (ix3 b j k) fun a => ?_).trans rfl
  match a with
  | ⟨0, _⟩ => show b.val = 0 + b.val * (0 + 1); omega
  | ⟨1, _⟩ => show j.val = 0 + j.val * (0 + 1); omega
  | ⟨2, _⟩ => show k.val = 0 + k.val * (0 + 1); omega

variable (m : (ℓ : Loc nD τ sig) → Buf (Elt Ideal) ℓ)

/-- The page table. -/
abbrev pagesIn : (⟨S32x128, .i32⟩ : BufTy).Contents (Elt Ideal) := m (((0 : Dev nD) : Thread nD τ).loc main_arg0)
/-- The tokens' queries. -/
abbrev queriesIn : (⟨S32x4x16x64, .f32⟩ : BufTy).Contents (Elt Ideal) := m (((0 : Dev nD) : Thread nD τ).loc main_arg1)
/-- The heads' weights. -/
abbrev weightsIn : (⟨S32x4x16, .f32⟩ : BufTy).Contents (Elt Ideal) := m (((0 : Dev nD) : Thread nD τ).loc main_arg2)
/-- The new keys. -/
abbrev keysIn : (⟨S32x4x64, .f32⟩ : BufTy).Contents (Elt Ideal) := m (((0 : Dev nD) : Thread nD τ).loc main_arg3)
/-- The pool of pages. -/
abbrev poolIn : (⟨S5120x128x64, .f32⟩ : BufTy).Contents (Elt Ideal) := m (((0 : Dev nD) : Thread nD τ).loc main_arg4)

theorem cache_apply (p : Fin 5120) (k : Fin 64) (r : Fin 128) : cache m (ix3 p k r) = (poolIn m) (ix3 p r k) := by
  rw [cache_eq]
  refine transpose_apply _ _ _ _ (ix3 p r k) fun a => ?_
  match a with | ⟨0, _⟩ => rfl | ⟨1, _⟩ => rfl | ⟨2, _⟩ => rfl

/-- The page a step's piece reads is the sequence's page in the table. -/
theorem page_eq (hp : ∀ i, ((pagesIn m) i).toNat < 5120) (b : Fin 32) (p : Fin 128) :
    pageAt (table m) (128 * b.val + p.val) = pageOf (pagesIn m) hp b p := by
  refine Fin.ext ?_
  have hn : 128 * b.val + p.val < 4096 := by omega
  rw [pageAt_val (table m) _ hn (table_lt m hp)]
  show (table m (ix1 ⟨128 * b.val + p.val, hn⟩)).toNat = ((pagesIn m) (ix2 b p)).toNat
  rw [table_eq]
  refine congrArg BitVec.toNat (shapeCast_apply _ _ _ (ix2 b p) ?_)
  refine (Shape.rowMajor_val_two _).trans (Eq.trans ?_ (Shape.rowMajor_val_one _).symm)
  show b.val * 128 + p.val = 128 * b.val + p.val
  omega

/-- The sequence's queries and weights, as a step of it reads them. -/
theorem step_score (b : Fin 32) (t : Fin grid0.N) (ht : seqOf t = b) (q : Fin 4) (key : Fin 64 → EReal) :
    score (fun h k => iblk m 0 0 t (ix3 0 (headRow h ⟨q.val, by omega⟩) k)) (fun h => iblk m 0 1 t (ix3 0 (headRow h ⟨q.val, by omega⟩) 0)) key
      = score (fun h k => (queriesIn m) (ix4 b q h k)) (fun h => ((weightsIn m) (ix3 b q h) : EReal) * Ideal.ofBits .f32 0x3D000000#32) key := by
  have e1 : ∀ h k, iblk m 0 0 t (ix3 0 (headRow h ⟨q.val, by omega⟩) k) = (queriesIn m) (ix4 b q h k) := fun h k => by
    rw [iblk0_apply, ht, queries_eq]; exact queries_apply _ _ _ _ _
  have e2 : ∀ h, iblk m 0 1 t (ix3 0 (headRow h ⟨q.val, by omega⟩) 0) = ((weightsIn m) (ix3 b q h) : EReal) * Ideal.ofBits .f32 0x3D000000#32 := fun h => by
    rw [iblk1_apply, ht, weights_eq]; exact weights_apply _ _ _ _
  exact congrArg₂ (fun f g => score f g key) (funext fun h => funext fun k => e1 h k) (funext fun h => e2 h)

theorem seq_point (b : Fin 32) (p : ℕ) (hp : p < 8) : seqOf (point b p hp) = b := by
  refine Fin.ext ?_
  show (8 * b.val + p) / 8 = b.val
  omega

theorem seq_first (t : Fin grid0.N) : seqOf (first t) = seqOf t := by
  refine Fin.ext ?_
  show 8 * (t.val / 8) / 8 = t.val / 8
  omega

/-- The kernel's result is the reference's. -/
theorem joined_eq (hp : ∀ i, ((pagesIn m) i).toNat < 5120) :
    joined m 0 = Cert.ReferenceIdeal.Read.val_main_v27 (F := Ideal) (pagesIn m) (queriesIn m) (weightsIn m) (keysIn m) (poolIn m) := by
  funext i
  obtain ⟨b, q, j, rfl⟩ : ∃ (b : Fin 32) (q : Fin 4) (j : Fin 16512), i = ix3 b q j := ⟨i 0, i 1, i 2, by
    funext a; match a with | ⟨0, _⟩ => rfl | ⟨1, _⟩ => rfl | ⟨2, _⟩ => rfl⟩
  have hbq := b.isLt; have hq := q.isLt; have hj := j.isLt
  by_cases h1 : j.val < 16384
  · rw [joined_past m 0 b q j h1, wanted_apply _ _ _ _ _ b q j (by omega), if_pos (by omega)]
    unfold pastAt
    rw [scoreBlock_apply, step_score m b _ (seq_point b _ _)]
    refine congrArg (score _ _) (funext fun k => ?_)
    rw [past_apply _ _ _ hp b _ h1, cache_apply]
    have e : 16 * (point b (j.val / 2048) (by omega)).val + j.val % 2048 / 128 = 128 * b.val + (⟨j.val / 128, by omega⟩ : Fin 128).val := by
      show 16 * (8 * b.val + j.val / 2048) + j.val % 2048 / 128 = 128 * b.val + j.val / 128
      omega
    refine congrArg (poolIn m) ?_
    refine congrArg₂ (fun p r => ix3 p r k) ?_ (Fin.ext ?_)
    · exact (congrArg (pageAt (table m)) e).trans (page_eq m hp b _)
    · show j.val % 2048 % 128 = j.val % 128
      omega
  · have h2 : 16384 ≤ j.val := by omega
    rw [joined_new m 0 b q j h2]
    unfold newAt
    rw [newBlock_apply]
    by_cases h3 : j.val < 16388
    · rw [wanted_apply _ _ _ _ _ b q j h3]
      by_cases h4 : j.val ≤ 16384 + q.val
      · rw [if_pos h4, if_pos (show j.val - 16384 ≤ q.val by omega), step_score m b _ ((seq_first _).trans (seq_point b _ _))]
        refine congrArg (score _ _) (funext fun k => ?_)
        rw [fresh_apply _ _ _ b _ h2, iblk2_apply, (seq_first _).trans (seq_point b _ _), newKeys_eq]
        exact newKeys_apply _ b k ⟨j.val - 16384, by omega⟩
      · rw [if_neg h4, if_neg (show ¬ j.val - 16384 ≤ q.val by omega)]
    · rw [wanted_pad _ _ _ _ _ b q j (by omega), if_neg (show ¬ j.val - 16384 ≤ q.val by omega)]

/-- The two programs leave one result. -/
theorem same_result : Cert.algebraic_KernelIdeal_ReferenceIdeal := by
  intro m g m' g' hp hargs
  have hpages := pages_lt _ _ _ _ _ (hp 0)
  refine ⟨fun c => joined m c, ?_, ?_⟩
  · exact (θ_run _ _ _).mono (fun r h c => ⟨joined_left m c r h.1, args_left m r h.1 c⟩) (run_main m g (table_lt m hpages))
  · refine (θ_run _ _ _).mono (fun r h c => ?_) (Cert.ReferenceIdeal.Value.run m' g')
    obtain rfl : c = 0 := Subsingleton.elim _ _
    refine ⟨(h 0).1.trans ?_, (h 0).2⟩
    obtain ⟨a0, a1, a2, a3, a4⟩ := hargs 0
    rw [Cert.ReferenceIdeal.Read.val_main_v27_eq]
    refine Eq.trans ?_ (joined_eq m hpages).symm
    rw [a0, a1, a2, a3, a4]

end Cert.Pages
-- ==== Proof.Gate.lean ====
/-
  The gated half of the feed-forward network at the ideal values: what the pallas_call leaves, read at an index, and the
  reference's result at the same index.
-/
module

public import proofs.«01_k».proof.Proof.Gen.Kernel2Ideal.Value
public import proofs.«01_k».proof.Proof.Gen.Reference2Ideal.Read
public import proofs.«01_k».proof.Defs
public import Idealize.ShloMosaic.PureOps.Ideal.Laws
public import Idealize.ShloMosaic.Lib.Pipeline.Value
public import Idealize.ShloMosaic.Lib.Pipeline.ValueKit
public import Idealize.ShloMosaic.Lib.Pipeline.Covers
public import Idealize.ShloMosaic.Lib.ValueIdx

@[expose] public section

noncomputable section

namespace Cert.Gate

open Cert.Kernel2Ideal Cert.Kernel2Ideal.Gen
open Idealize.ShloMosaic Idealize.ShloMosaic.TcCoe Idealize.SL.Sem
open Idealize.ShloMosaic.ValueIdx (contrEquiv1 contrEquiv1_symm_val)

/-- A gated pair of products. -/
def gate (a b : EReal) : EReal := a * Ideal.logistic a * b

/-- A cast to the shape a value has is no change. -/
theorem cast_same {s : Shape} {α : Type} (x : s.Idx → α) (h : s.numel = s.numel) : shapeCast s x h = x :=
  funext fun i => shapeCast_apply x h i i rfl

/-- The product of a tile, at a row and a column. -/
theorem product_apply (a : FVec Ideal S1024x2048 .bf16) (b : FVec Ideal S2048x512 .bf16) (i : Fin 1024) (j : Fin 512) :
    matmul dot_S1024x2048_S2048x512_S1024x512_1_0_0_1_n_n none a b (constant S1024x512 .f32 0x00000000#32) (ix2 i j)
      = ∑ k : Fin 2048, (a (ix2 i k) : EReal) * b (ix2 k j) := by
  let d := dot_S1024x2048_S2048x512_S1024x512_1_0_0_1_n_n
  simp only [matmul]
  rw [Ideal.matmul_constant_zero_apply, ← Equiv.sum_comp (contrEquiv1 d 2048 rfl rfl).symm]
  refine Finset.sum_congr rfl fun k _ => ?_
  have hk := contrEquiv1_symm_val d 2048 rfl rfl k
  have el : d.lhsIdx (ix2 i j) ((contrEquiv1 d 2048 rfl rfl).symm k) = ix2 i k := funext fun x => Fin.ext (by
    match x with
    | ⟨0, _⟩ =>
      show (d.lhsIdx (ix2 i j) _ 0).val = _
      unfold DotDims.lhsIdx
      rw [dif_neg (show ¬(0 : Fin S1024x2048.rank) ∈ d.lhsBatch by decide), dif_pos (show (0 : Fin S1024x2048.rank) ∈ d.lhsNonContracting by decide)]
      rfl
    | ⟨1, _⟩ => exact (d.lhsIdx_val_of_single rfl _ _).trans hk)
  have er : d.rhsIdx (ix2 i j) ((contrEquiv1 d 2048 rfl rfl).symm k) = ix2 k j := funext fun x => Fin.ext (by
    match x with
    | ⟨0, _⟩ => exact (d.rhsIdx_val_of_single rfl _ _).trans hk
    | ⟨1, _⟩ =>
      show (d.rhsIdx (ix2 i j) _ 1).val = _
      unfold DotDims.rhsIdx
      rw [dif_neg (show ¬(1 : Fin S2048x512.rank) ∈ d.rhsBatch by decide), dif_pos (show (1 : Fin S2048x512.rank) ∈ d.rhsNonContracting by decide)]
      rfl)
  rw [el, er]

/-- A tile's result, at a row and a column. -/
theorem tile_apply (x : Vec Ideal S1024x2048 .bf16) (y z : Vec Ideal S2048x512 .bf16) (i : Fin 1024) (j : Fin 512) :
    k0_pay1 x y z (ix2 i j)
      = gate (∑ k : Fin 2048, (x (ix2 i k) : EReal) * y (ix2 k j)) (∑ k : Fin 2048, (x (ix2 i k) : EReal) * z (ix2 k j)) := by
  rw [← product_apply x y, ← product_apply x z]
  unfold k0_pay1
  rw [cast_same x, cast_same y, cast_same z]
  rfl

/-! ## The arrays the call reads -/

section
variable {F : FTy → Type} [FloatOps F] (m : (ℓ : Loc nD τ sig) → Buf (Elt F) ℓ) (c : Dev nD)

theorem rows_eq : V m c (Pipeline.arrRef spec0 0)
    = truncf .bf16 (shapeCast S16384x2048 (m ((c : Thread nD τ).loc main_arg0)) shapeCasts_S4x4096x2048_S16384x2048) bitsLt_bf16_f32 := by
  show StableHlo.after hostOps0 _ _ = _
  simp only [hostOps0]
  after_results_simp <;> rfl

theorem first_eq : V m c (Pipeline.arrRef spec0 1)
    = truncf .bf16 (shapeCast S2048x5632 (m ((c : Thread nD τ).loc main_arg1)) shapeCasts_S1x2048x5632_S2048x5632) bitsLt_bf16_f32 := by
  show StableHlo.after hostOps0 _ _ = _
  simp only [hostOps0]
  after_results_simp <;> rfl

theorem second_eq : V m c (Pipeline.arrRef spec0 2)
    = truncf .bf16 (shapeCast S2048x5632 (m ((c : Thread nD τ).loc main_arg2)) shapeCasts_S1x2048x5632_S2048x5632) bitsLt_bf16_f32 := by
  show StableHlo.after hostOps0 _ _ = _
  simp only [hostOps0]
  after_results_simp <;> rfl

end

/-! ## The blocks -/

theorem coord0 (t : Fin grid0.N) : ((grid0.coords t) 0).val = t.val / 11 := by
  have h := Pipeline.Grid.coords_val (G := grid0) t 0 (S := 11) (B := 16) (by decide) (by decide)
  have ht : t.val < 176 := lt_of_lt_of_eq t.isLt N_0
  omega

theorem coord1 (t : Fin grid0.N) : ((grid0.coords t) 1).val = t.val % 11 := by
  have h := Pipeline.Grid.coords_val (G := grid0) t 1 (S := 1) (B := 11) (by decide) (by decide)
  rw [h, Nat.div_one]

theorem row_word (t : Fin grid0.N) : (BitVec.ofNat 32 ((grid0.coords t) 0).val).toNat = t.val / 11 := by
  have := lt_of_lt_of_eq t.isLt N_0
  rw [coord0, BitVec.toNat_ofNat]; omega

theorem col_word (t : Fin grid0.N) : (BitVec.ofNat 32 ((grid0.coords t) 1).val).toNat = t.val % 11 := by
  rw [coord1, BitVec.toNat_ofNat]; omega

/-- A tile's row of the result. -/
def rowOf (t : Fin grid0.N) (i : Fin 1024) : Fin 16384 := ⟨1024 * (t.val / 11) + i.val, by have := lt_of_lt_of_eq t.isLt N_0; omega⟩
/-- A tile's column of the result. -/
def colOf (t : Fin grid0.N) (j : Fin 512) : Fin 5632 := ⟨512 * (t.val % 11) + j.val, by omega⟩

section
variable {F : FTy → Type} [FloatOps F] (m : (ℓ : Loc nD τ sig) → Buf (Elt F) ℓ) (c : Dev nD)

theorem iblk0_apply (t : Fin grid0.N) (i : Fin 1024) (k : Fin 2048) :
    iblk m c 0 t (ix2 i k) = V m c (Pipeline.arrRef spec0 0) (ix2 (rowOf t i) k) := by
  have e0 : (cfg0.win 0).index t (0 : Fin 2) = t.val / 11 := row_word t
  have e1 : (cfg0.win 0).index t (1 : Fin 2) = 0 := rfl
  unfold iblk
  refine congrArg (V m c (Pipeline.arrRef spec0 0)) (funext fun a => Fin.ext ?_)
  match a with
  | ⟨0, _⟩ => exact ((cfg0.win 0).rect_emb_val t (ix2 i k) (0 : Fin 2)).trans ((congrArg (fun z : ℕ => z * 1024 + i.val) e0).trans (show t.val / 11 * 1024 + i.val = 1024 * (t.val / 11) + i.val by omega))
  | ⟨1, _⟩ => exact ((cfg0.win 0).rect_emb_val t (ix2 i k) (1 : Fin 2)).trans ((congrArg (fun z : ℕ => z * 2048 + k.val) e1).trans (show 0 * 2048 + k.val = k.val by omega))

theorem iblk1_apply (t : Fin grid0.N) (k : Fin 2048) (j : Fin 512) :
    iblk m c 1 t (ix2 k j) = V m c (Pipeline.arrRef spec0 1) (ix2 k (colOf t j)) := by
  have e0 : (cfg0.win 1).index t (0 : Fin 2) = 0 := rfl
  have e1 : (cfg0.win 1).index t (1 : Fin 2) = t.val % 11 := col_word t
  unfold iblk
  refine congrArg (V m c (Pipeline.arrRef spec0 1)) (funext fun a => Fin.ext ?_)
  match a with
  | ⟨0, _⟩ => exact ((cfg0.win 1).rect_emb_val t (ix2 k j) (0 : Fin 2)).trans ((congrArg (fun z : ℕ => z * 2048 + k.val) e0).trans (show 0 * 2048 + k.val = k.val by omega))
  | ⟨1, _⟩ => exact ((cfg0.win 1).rect_emb_val t (ix2 k j) (1 : Fin 2)).trans ((congrArg (fun z : ℕ => z * 512 + j.val) e1).trans (show t.val % 11 * 512 + j.val = 512 * (t.val % 11) + j.val by omega))

theorem iblk2_apply (t : Fin grid0.N) (k : Fin 2048) (j : Fin 512) :
    iblk m c 2 t (ix2 k j) = V m c (Pipeline.arrRef spec0 2) (ix2 k (colOf t j)) := by
  have e0 : (cfg0.win 2).index t (0 : Fin 2) = 0 := rfl
  have e1 : (cfg0.win 2).index t (1 : Fin 2) = t.val % 11 := col_word t
  unfold iblk
  refine congrArg (V m c (Pipeline.arrRef spec0 2)) (funext fun a => Fin.ext ?_)
  match a with
  | ⟨0, _⟩ => exact ((cfg0.win 2).rect_emb_val t (ix2 k j) (0 : Fin 2)).trans ((congrArg (fun z : ℕ => z * 2048 + k.val) e0).trans (show 0 * 2048 + k.val = k.val by omega))
  | ⟨1, _⟩ => exact ((cfg0.win 2).rect_emb_val t (ix2 k j) (1 : Fin 2)).trans ((congrArg (fun z : ℕ => z * 512 + j.val) e1).trans (show t.val % 11 * 512 + j.val = 512 * (t.val % 11) + j.val by omega))

theorem blk3_emb (t : Fin grid0.N) (i : Fin 1024) (j : Fin 512) : ((cfg0.win 3).blk t).view.emb (ix2 i j) = ix2 (rowOf t i) (colOf t j) := by
  have e0 : (cfg0.win 3).index t (0 : Fin 2) = t.val / 11 := row_word t
  have e1 : (cfg0.win 3).index t (1 : Fin 2) = t.val % 11 := col_word t
  refine funext fun a => Fin.ext ?_
  match a with
  | ⟨0, _⟩ => exact ((cfg0.win 3).rect_emb_val t (ix2 i j) (0 : Fin 2)).trans ((congrArg (fun z : ℕ => z * 1024 + i.val) e0).trans (show t.val / 11 * 1024 + i.val = 1024 * (t.val / 11) + i.val by omega))
  | ⟨1, _⟩ => exact ((cfg0.win 3).rect_emb_val t (ix2 i j) (1 : Fin 2)).trans ((congrArg (fun z : ℕ => z * 512 + j.val) e1).trans (show t.val % 11 * 512 + j.val = 512 * (t.val % 11) + j.val by omega))

end

/-! ## The result -/

/-- Row `i` of the flattened tokens. -/
abbrev tokenOf (i : Fin 16384) : Fin 4 := ⟨i.val / 4096, by omega⟩
/-- And its place in its sequence. -/
abbrev placeOf (i : Fin 16384) : Fin 4096 := ⟨i.val % 4096, by omega⟩

/-- The gated products of the arguments. -/
def gated (x : (⟨S4x4096x2048, .f32⟩ : BufTy).Contents (Elt Ideal)) (y z : (⟨S1x2048x5632, .f32⟩ : BufTy).Contents (Elt Ideal)) :
    (⟨S16384x5632, .bf16⟩ : BufTy).Contents (Elt Ideal) := fun i =>
  gate (∑ k : Fin 2048, (x (ix3 (tokenOf (i 0)) (placeOf (i 0)) k) : EReal) * y (ix3 0 k (i 1)))
    (∑ k : Fin 2048, (x (ix3 (tokenOf (i 0)) (placeOf (i 0)) k) : EReal) * z (ix3 0 k (i 1)))

theorem flat_apply (x : (⟨S4x4096x2048, .f32⟩ : BufTy).Contents (Elt Ideal)) (i : Fin 16384) (k : Fin 2048) :
    truncf (F := Ideal) .bf16 (shapeCast S16384x2048 x shapeCasts_S4x4096x2048_S16384x2048) bitsLt_bf16_f32 (ix2 i k) = x (ix3 (tokenOf i) (placeOf i) k) := by
  refine (show _ = shapeCast S16384x2048 x shapeCasts_S4x4096x2048_S16384x2048 (ix2 i k) from rfl).trans (shapeCast_apply _ _ _ _ ?_)
  refine (Shape.rowMajor_val_three _).trans (Eq.trans ?_ (Shape.rowMajor_val_two _).symm)
  show (i.val / 4096 * 4096 + i.val % 4096) * 2048 + k.val = i.val * 2048 + k.val
  omega

theorem weight_apply (y : (⟨S1x2048x5632, .f32⟩ : BufTy).Contents (Elt Ideal)) (k : Fin 2048) (j : Fin 5632) :
    truncf (F := Ideal) .bf16 (shapeCast S2048x5632 y shapeCasts_S1x2048x5632_S2048x5632) bitsLt_bf16_f32 (ix2 k j) = y (ix3 0 k j) := by
  refine (show _ = shapeCast S2048x5632 y shapeCasts_S1x2048x5632_S2048x5632 (ix2 k j) from rfl).trans (shapeCast_apply _ _ _ _ ?_)
  refine (Shape.rowMajor_val_three _).trans (Eq.trans ?_ (Shape.rowMajor_val_two _).symm)
  show (0 * 2048 + k.val) * 5632 + j.val = k.val * 5632 + j.val
  omega

variable (m : (ℓ : Loc nD τ sig) → Buf (Elt Ideal) ℓ) (c : Dev nD)

/-- What the call leaves. -/
theorem left_eq : (dats m 0 c).arrAt 3 cfg0.N
    = gated (m ((c : Thread nD τ).loc main_arg0)) (m ((c : Thread nD τ).loc main_arg1)) (m ((c : Thread nD τ).loc main_arg2)) := by
  refine (dats m 0 c).arrAt_eq_of_covers 3 (gated _ _ _) ?_ fun t _ y => ?_
  · refine (cfg0.win 3).covers_of_indexMap_surj rfl (fun a => (by decide : ∀ a : Fin 2, 0 < (![1024, 512] : Fin 2 → ℕ) a) a) fun β => ?_
    have h0 : (β (0 : Fin 2)).val < 16 := lt_of_lt_of_eq (β (0 : Fin 2)).isLt (show (16384 + 1024 - 1) / 1024 = 16 by decide)
    have h1 : (β (1 : Fin 2)).val < 11 := lt_of_lt_of_eq (β (1 : Fin 2)).isLt (show (5632 + 512 - 1) / 512 = 11 by decide)
    refine ⟨fun a => match a with | ⟨0, _⟩ => ⟨(β (0 : Fin 2)).val, h0⟩ | ⟨1, _⟩ => ⟨(β (1 : Fin 2)).val, h1⟩, fun a => ?_⟩
    match a with
    | ⟨0, _⟩ =>
      show (BitVec.ofNat 32 (β (0 : Fin 2)).val).toNat = (β (0 : Fin 2)).val
      rw [BitVec.toNat_ofNat]; omega
    | ⟨1, _⟩ =>
      show (BitVec.ofNat 32 (β (1 : Fin 2)).val).toNat = (β (1 : Fin 2)).val
      rw [BitVec.toNat_ofNat]; omega
  · obtain ⟨i, j, rfl⟩ : ∃ (i : Fin 1024) (j : Fin 512), y = ix2 i j := ⟨y (0 : Fin 2), y (1 : Fin 2), by
      funext a; match a with | ⟨0, _⟩ => rfl | ⟨1, _⟩ => rfl⟩
    refine Eq.trans ?_ (congrArg (gated _ _ _) (blk3_emb t i j)).symm
    show (dats m 0 c).after 3 t (ix2 i j) = _
    rw [after0_3]
    unfold out0_3
    rw [View.canon_cons_unit_lit _ _ _ (by decide), View.ld_unit_lit _ _ (by decide), View.ld_unit_lit _ _ (by decide), View.ld_unit_lit _ _ (by decide), tile_apply]
    refine congrArg₂ gate (Finset.sum_congr rfl fun k _ => ?_) (Finset.sum_congr rfl fun k _ => ?_)
    · rw [iblk0_apply, iblk1_apply, rows_eq, first_eq]
      exact congrArg₂ (fun a b : EReal => a * b) (flat_apply _ _ _) (weight_apply _ _ _)
    · rw [iblk0_apply, iblk2_apply, rows_eq, second_eq]
      exact congrArg₂ (fun a b : EReal => a * b) (flat_apply _ _ _) (weight_apply _ _ _)

/-! ## The reference -/

theorem one_word : Ideal.ofBits .f32 0x3F800000#32 = (1 : EReal) := by
  simp [Ideal.ofBits, Ideal.ieee]
  exact_mod_cast (by norm_num : (8388608 : ℝ) * (2 ^ 23)⁻¹ = 1)

open Cert.Reference2Ideal.Read in
/-- What the reference leaves. -/
theorem wanted_eq (x : (⟨S4x4096x2048, .f32⟩ : BufTy).Contents (Elt Ideal)) (y z : (⟨S1x2048x5632, .f32⟩ : BufTy).Contents (Elt Ideal)) :
    val_main_v7 (F := Ideal) x y z = gated x y z := by
  funext i
  obtain ⟨r, j, rfl⟩ : ∃ (r : Fin 16384) (j : Fin 5632), i = ix2 r j := ⟨i 0, i 1, by
    funext a; match a with | ⟨0, _⟩ => rfl | ⟨1, _⟩ => rfl⟩
  have hj := j.isLt
  have e : idx_main_v6 (ix2 r j) = ix3 (tokenOf r) (placeOf r) j := by
    funext a
    match a with
    | ⟨0, _⟩ => refine Fin.ext ?_; show (r.val * 5632 + j.val) / 23068672 = r.val / 4096; omega
    | ⟨1, _⟩ => refine Fin.ext ?_; show (r.val * 5632 + j.val) / 5632 % 4096 = r.val % 4096; omega
    | ⟨2, _⟩ => refine Fin.ext ?_; show (r.val * 5632 + j.val) % 5632 = j.val; omega
  have e1 : val_main_v1 (F := Ideal) x y (ix3 (tokenOf r) (placeOf r) j) = ∑ k : Fin 2048, (x (ix3 (tokenOf r) (placeOf r) k) : EReal) * y (ix3 0 k j) := by
    rw [val_main_v1_apply]
    refine Finset.sum_congr rfl fun k _ => congrArg₂ (fun a b : EReal => a * b) (congrArg x ?_) ((val_main_v0_apply y _).trans (congrArg y ?_))
    · funext a; match a with | ⟨0, _⟩ => rfl | ⟨1, _⟩ => rfl | ⟨2, _⟩ => rfl
    · have hk := k.isLt
      funext a
      match a with
      | ⟨0, _⟩ => rfl
      | ⟨1, _⟩ => refine Fin.ext ?_; show (k.val * 5632 + j.val) / 5632 % 2048 = k.val; omega
      | ⟨2, _⟩ => refine Fin.ext ?_; show (k.val * 5632 + j.val) % 5632 = j.val; omega
  have e2 : val_main_v4 (F := Ideal) x z (ix3 (tokenOf r) (placeOf r) j) = ∑ k : Fin 2048, (x (ix3 (tokenOf r) (placeOf r) k) : EReal) * z (ix3 0 k j) := by
    rw [val_main_v4_apply]
    refine Finset.sum_congr rfl fun k _ => congrArg₂ (fun a b : EReal => a * b) (congrArg x ?_) ((val_main_v3_apply z _).trans (congrArg z ?_))
    · funext a; match a with | ⟨0, _⟩ => rfl | ⟨1, _⟩ => rfl | ⟨2, _⟩ => rfl
    · have hk := k.isLt
      funext a
      match a with
      | ⟨0, _⟩ => rfl
      | ⟨1, _⟩ => refine Fin.ext ?_; show (k.val * 5632 + j.val) / 5632 % 2048 = k.val; omega
      | ⟨2, _⟩ => refine Fin.ext ?_; show (k.val * 5632 + j.val) % 5632 = j.val; omega
  rw [val_main_v7_apply, val_main_v6_apply, e, val_main_v5_apply, val_main_v2_apply, val_main_call0_v5_apply, val_main_call0_v4_apply,
    val_main_call0_cst_0_apply, val_main_call0_v3_apply, val_main_call0_v2_apply, val_main_call0_cst_apply, val_main_call0_v1_apply,
    val_main_call0_v0_apply, e1, e2]
  show _ * (Ideal.div (Ideal.ofBits .f32 0x3F800000#32) (Ideal.ofBits .f32 0x3F800000#32 + Ideal.exp (-_))) * _ = gate _ _
  rw [one_word]
  rfl

/-- The reference's run ends with every argument as launched and every counter at zero. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two programs leave one result. -/
theorem same_result : Cert.algebraic_Kernel2Ideal_Reference2Ideal := by
  intro m g m' g' _ hargs
  refine ⟨fun c => gated (m ((c : Thread nD τ).loc main_arg0)) (m ((c : Thread nD τ).loc main_arg1)) (m ((c : Thread nD τ).loc main_arg2)), ?_, ?_⟩
  · exact (θ_run _ _ _).mono (fun r h c => ⟨(h c).1.trans (left_eq m c), (h c).2⟩) (Value.run_blocks m g)
  · refine (θ_run _ _ _).mono (fun r h c => ?_) (Cert.Reference2Ideal.Value.run m' g')
    refine ⟨(h c).1.trans ?_, (h c).2⟩
    obtain ⟨a0, a1, a2⟩ := hargs c
    rw [Cert.Reference2Ideal.Read.val_main_v7_eq, wanted_eq, a0, a1, a2]

end Cert.Gate
-- ==== Proof.Glu.lean ====
/-
  The gated linear unit of the convolution group at the ideal values: what the pallas_call leaves, read at an index, and
  the reference's result at the same index.
-/
module

public import proofs.«01_k».proof.Proof.Gen.Kernel4Ideal.Value
public import proofs.«01_k».proof.Proof.Gen.Reference4Ideal.Read
public import proofs.«01_k».proof.Defs
public import Idealize.ShloMosaic.PureOps.Ideal.Laws
public import Idealize.ShloMosaic.Lib.Pipeline.Value
public import Idealize.ShloMosaic.Lib.Pipeline.ValueKit
public import Idealize.ShloMosaic.Lib.Pipeline.Covers
public import Idealize.ShloMosaic.Lib.ValueIdx

@[expose] public section

noncomputable section

namespace Cert.Glu

open Cert.Kernel4Ideal Cert.Kernel4Ideal.Gen
open Idealize.ShloMosaic Idealize.ShloMosaic.TcCoe Idealize.SL.Sem
open Idealize.ShloMosaic.ValueIdx (contrEquiv1 contrEquiv1_symm_val)

/-- A row divided by its root mean square, times a weight. -/
def normed (r g : Fin 2048 → EReal) (k : Fin 2048) : EReal :=
  r k * Ideal.rsqrt (Ideal.div (∑ l : Fin 2048, r l * r l) (Ideal.ofBits .f32 0x45000000#32) + Ideal.ofBits .f32 0x358637BD#32) * g k

/-- A product gated by another. -/
def glu (a b : EReal) : EReal := a * Ideal.logistic b

/-- A cast to the shape a value has is no change. -/
theorem cast_same {s : Shape} {α : Type} (x : s.Idx → α) (h : s.numel = s.numel) : shapeCast s x h = x :=
  funext fun i => shapeCast_apply x h i i rfl

/-- The normed rows of a tile. -/
theorem normed_apply (x : Vec Ideal S512x2048 .f32) (g : Vec Ideal S1x2048 .f32) (i : Fin 512) (k : Fin 2048) :
    k0_pay1 x g (ix2 i k) = normed (fun l => x (ix2 i l)) (fun l => g (ix2 0 l)) k := by
  unfold k0_pay1
  rw [cast_same x, cast_same g, cast_same]
  unfold normed
  refine congrArg₂ (fun a b : EReal => a * b) (congrArg (fun b : EReal => x (ix2 i k) * b) ?_) ?_
  · refine (broadcastTo_apply _ _ _ (ix2 i 0) (fun a => by match a with | ⟨0, _⟩ => rfl | ⟨1, _⟩ => rfl)).trans ?_
    show Ideal.rsqrt (Ideal.div (shapeCast S512x1 _ _ (ix2 i 0)) _ + _) = _
    refine congrArg (fun s : EReal => Ideal.rsqrt (Ideal.div s (Ideal.ofBits .f32 0x45000000#32) + Ideal.ofBits .f32 0x358637BD#32)) ?_
    refine (shapeCast_apply _ _ _ (ix1 i) ?_).trans ?_
    · refine (Shape.rowMajor_val_one _).trans (Eq.trans ?_ (Shape.rowMajor_val_two _).symm)
      show i.val = i.val * 1 + 0
      omega
    · refine (Ideal.multiReduction_add_single _ _ _ _ _ _).trans ?_
      refine Finset.sum_congr rfl fun l _ => ?_
      have e : Shape.Reduces.lift reduces_S512x2048_S512 (ix1 i) l = ix2 i l := by
        funext a; match a with | ⟨0, _⟩ => rfl | ⟨1, _⟩ => rfl
      rw [e]
      rfl
  · exact broadcastTo_apply _ _ _ (ix2 0 k) (fun a => by match a with | ⟨0, _⟩ => rfl | ⟨1, _⟩ => rfl)

/-- The product of a tile, at a row and a column. -/
theorem product_apply (a : FVec Ideal S512x2048 .bf16) (b : FVec Ideal S2048x1024 .bf16) (i : Fin 512) (j : Fin 1024) :
    matmul dot_S512x2048_S2048x1024_S512x1024_1_0_0_1_n_n none a b (constant S512x1024 .f32 0x00000000#32) (ix2 i j)
      = ∑ k : Fin 2048, (a (ix2 i k) : EReal) * b (ix2 k j) := by
  let d := dot_S512x2048_S2048x1024_S512x1024_1_0_0_1_n_n
  simp only [matmul]
  rw [Ideal.matmul_constant_zero_apply, ← Equiv.sum_comp (contrEquiv1 d 2048 rfl rfl).symm]
  refine Finset.sum_congr rfl fun k _ => ?_
  have hk := contrEquiv1_symm_val d 2048 rfl rfl k
  have el : d.lhsIdx (ix2 i j) ((contrEquiv1 d 2048 rfl rfl).symm k) = ix2 i k := funext fun x => Fin.ext (by
    match x with
    | ⟨0, _⟩ =>
      show (d.lhsIdx (ix2 i j) _ 0).val = _
      unfold DotDims.lhsIdx
      rw [dif_neg (show ¬(0 : Fin S512x2048.rank) ∈ d.lhsBatch by decide), dif_pos (show (0 : Fin S512x2048.rank) ∈ d.lhsNonContracting by decide)]
      rfl
    | ⟨1, _⟩ => exact (d.lhsIdx_val_of_single rfl _ _).trans hk)
  have er : d.rhsIdx (ix2 i j) ((contrEquiv1 d 2048 rfl rfl).symm k) = ix2 k j := funext fun x => Fin.ext (by
    match x with
    | ⟨0, _⟩ => exact (d.rhsIdx_val_of_single rfl _ _).trans hk
    | ⟨1, _⟩ =>
      show (d.rhsIdx (ix2 i j) _ 1).val = _
      unfold DotDims.rhsIdx
      rw [dif_neg (show ¬(1 : Fin S2048x1024.rank) ∈ d.rhsBatch by decide), dif_pos (show (1 : Fin S2048x1024.rank) ∈ d.rhsNonContracting by decide)]
      rfl)
  rw [el, er]

/-- A tile's result, at a row and a column. -/
theorem tile_apply (x : Vec Ideal S512x2048 .bf16) (y z : Vec Ideal S2048x1024 .bf16) (i : Fin 512) (j : Fin 1024) :
    k0_pay2 x y z (ix2 i j)
      = glu (∑ k : Fin 2048, (x (ix2 i k) : EReal) * y (ix2 k j)) (∑ k : Fin 2048, (x (ix2 i k) : EReal) * z (ix2 k j)) := by
  rw [← product_apply x y, ← product_apply x z]
  unfold k0_pay2
  rw [cast_same y, cast_same z]
  rfl

/-! ## The arrays the call reads -/

section
variable {F : FTy → Type} [FloatOps F] (m : (ℓ : Loc nD τ sig) → Buf (Elt F) ℓ) (c : Dev nD)

theorem rows_eq : V m c (Pipeline.arrRef spec0 0)
    = shapeCast S16384x2048 (m ((c : Thread nD τ).loc main_arg0)) shapeCasts_S4x4096x2048_S16384x2048 := by
  show StableHlo.after hostOps0 _ _ = _
  simp only [hostOps0]
  after_results_simp <;> rfl

theorem norm_eq : V m c (Pipeline.arrRef spec0 1)
    = broadcastInDim S1x2048 ![1] bcast_S2048_S1x2048_1 (shapeCast S2048 (m ((c : Thread nD τ).loc main_arg1)) shapeCasts_S1x2048_S2048) := by
  show StableHlo.after hostOps0 _ _ = _
  simp only [hostOps0]
  after_results_simp <;> rfl

theorem first_eq : V m c (Pipeline.arrRef spec0 2)
    = truncf .bf16 (extractStridedSlice S2048x1024 ![0, 2640] (shapeCast S2048x4688 (m ((c : Thread nD τ).loc main_arg2)) shapeCasts_S1x2048x4688_S2048x4688)
        slices_S2048x4688_S2048x1024_0_2640) bitsLt_bf16_f32 := by
  show StableHlo.after hostOps0 _ _ = _
  simp only [hostOps0]
  after_results_simp <;> rfl

theorem second_eq : V m c (Pipeline.arrRef spec0 3)
    = truncf .bf16 (extractStridedSlice S2048x1024 ![0, 3664] (shapeCast S2048x4688 (m ((c : Thread nD τ).loc main_arg2)) shapeCasts_S1x2048x4688_S2048x4688)
        slices_S2048x4688_S2048x1024_0_3664) bitsLt_bf16_f32 := by
  show StableHlo.after hostOps0 _ _ = _
  simp only [hostOps0]
  after_results_simp <;> rfl

end

/-! ## The blocks -/

theorem coord0 (t : Fin grid0.N) : ((grid0.coords t) 0).val = t.val := by
  have h := Pipeline.Grid.coords_val (G := grid0) t 0 (S := 1) (B := 32) (by decide) (by decide)
  have ht : t.val < 32 := lt_of_lt_of_eq t.isLt N_0
  omega

theorem coord1 (t : Fin grid0.N) : ((grid0.coords t) 1).val = 0 := by
  have h := Pipeline.Grid.coords_val (G := grid0) t 1 (S := 1) (B := 1) (by decide) (by decide)
  omega

theorem row_word (t : Fin grid0.N) : (BitVec.ofNat 32 ((grid0.coords t) 0).val).toNat = t.val := by
  have := lt_of_lt_of_eq t.isLt N_0
  rw [coord0, BitVec.toNat_ofNat]; omega

theorem col_word (t : Fin grid0.N) : (BitVec.ofNat 32 ((grid0.coords t) 1).val).toNat = 0 := by
  rw [coord1, BitVec.toNat_ofNat]

/-- A tile's row of the result. -/
def rowOf (t : Fin grid0.N) (i : Fin 512) : Fin 16384 := ⟨512 * t.val + i.val, by have := lt_of_lt_of_eq t.isLt N_0; omega⟩

section
variable {F : FTy → Type} [FloatOps F] (m : (ℓ : Loc nD τ sig) → Buf (Elt F) ℓ) (c : Dev nD)

theorem iblk0_apply (t : Fin grid0.N) (i : Fin 512) (k : Fin 2048) :
    iblk m c 0 t (ix2 i k) = V m c (Pipeline.arrRef spec0 0) (ix2 (rowOf t i) k) := by
  have e0 : (cfg0.win 0).index t (0 : Fin 2) = t.val := row_word t
  have e1 : (cfg0.win 0).index t (1 : Fin 2) = 0 := rfl
  unfold iblk
  refine congrArg (V m c (Pipeline.arrRef spec0 0)) (funext fun a => Fin.ext ?_)
  match a with
  | ⟨0, _⟩ => exact ((cfg0.win 0).rect_emb_val t (ix2 i k) (0 : Fin 2)).trans ((congrArg (fun z : ℕ => z * 512 + i.val) e0).trans (show t.val * 512 + i.val = 512 * t.val + i.val by omega))
  | ⟨1, _⟩ => exact ((cfg0.win 0).rect_emb_val t (ix2 i k) (1 : Fin 2)).trans ((congrArg (fun z : ℕ => z * 2048 + k.val) e1).trans (show 0 * 2048 + k.val = k.val by omega))

theorem iblk1_apply (t : Fin grid0.N) (z0 : Fin 1) (k : Fin 2048) :
    iblk m c 1 t (ix2 z0 k) = V m c (Pipeline.arrRef spec0 1) (ix2 z0 k) := by
  have e0 : (cfg0.win 1).index t (0 : Fin 2) = 0 := rfl
  have e1 : (cfg0.win 1).index t (1 : Fin 2) = 0 := rfl
  unfold iblk
  refine congrArg (V m c (Pipeline.arrRef spec0 1)) (funext fun a => Fin.ext ?_)
  match a with
  | ⟨0, _⟩ => exact ((cfg0.win 1).rect_emb_val t (ix2 z0 k) (0 : Fin 2)).trans ((congrArg (fun z : ℕ => z * 1 + z0.val) e0).trans (show 0 * 1 + z0.val = z0.val by rw [Nat.zero_mul, Nat.zero_add]))
  | ⟨1, _⟩ => exact ((cfg0.win 1).rect_emb_val t (ix2 z0 k) (1 : Fin 2)).trans ((congrArg (fun z : ℕ => z * 2048 + k.val) e1).trans (show 0 * 2048 + k.val = k.val by omega))

theorem iblk2_apply (t : Fin grid0.N) (k : Fin 2048) (j : Fin 1024) :
    iblk m c 2 t (ix2 k j) = V m c (Pipeline.arrRef spec0 2) (ix2 k j) := by
  have e0 : (cfg0.win 2).index t (0 : Fin 2) = 0 := rfl
  have e1 : (cfg0.win 2).index t (1 : Fin 2) = 0 := col_word t
  unfold iblk
  refine congrArg (V m c (Pipeline.arrRef spec0 2)) (funext fun a => Fin.ext ?_)
  match a with
  | ⟨0, _⟩ => exact ((cfg0.win 2).rect_emb_val t (ix2 k j) (0 : Fin 2)).trans ((congrArg (fun z : ℕ => z * 2048 + k.val) e0).trans (show 0 * 2048 + k.val = k.val by omega))
  | ⟨1, _⟩ => exact ((cfg0.win 2).rect_emb_val t (ix2 k j) (1 : Fin 2)).trans ((congrArg (fun z : ℕ => z * 1024 + j.val) e1).trans (show 0 * 1024 + j.val = j.val by omega))

theorem iblk3_apply (t : Fin grid0.N) (k : Fin 2048) (j : Fin 1024) :
    iblk m c 3 t (ix2 k j) = V m c (Pipeline.arrRef spec0 3) (ix2 k j) := by
  have e0 : (cfg0.win 3).index t (0 : Fin 2) = 0 := rfl
  have e1 : (cfg0.win 3).index t (1 : Fin 2) = 0 := col_word t
  unfold iblk
  refine congrArg (V m c (Pipeline.arrRef spec0 3)) (funext fun a => Fin.ext ?_)
  match a with
  | ⟨0, _⟩ => exact ((cfg0.win 3).rect_emb_val t (ix2 k j) (0 : Fin 2)).trans ((congrArg (fun z : ℕ => z * 2048 + k.val) e0).trans (show 0 * 2048 + k.val = k.val by omega))
  | ⟨1, _⟩ => exact ((cfg0.win 3).rect_emb_val t (ix2 k j) (1 : Fin 2)).trans ((congrArg (fun z : ℕ => z * 1024 + j.val) e1).trans (show 0 * 1024 + j.val = j.val by omega))

theorem blk4_emb (t : Fin grid0.N) (i : Fin 512) (j : Fin 1024) : ((cfg0.win 4).blk t).view.emb (ix2 i j) = ix2 (rowOf t i) j := by
  have e0 : (cfg0.win 4).index t (0 : Fin 2) = t.val := row_word t
  have e1 : (cfg0.win 4).index t (1 : Fin 2) = 0 := col_word t
  refine funext fun a => Fin.ext ?_
  match a with
  | ⟨0, _⟩ => exact ((cfg0.win 4).rect_emb_val t (ix2 i j) (0 : Fin 2)).trans ((congrArg (fun z : ℕ => z * 512 + i.val) e0).trans (show t.val * 512 + i.val = 512 * t.val + i.val by omega))
  | ⟨1, _⟩ => exact ((cfg0.win 4).rect_emb_val t (ix2 i j) (1 : Fin 2)).trans ((congrArg (fun z : ℕ => z * 1024 + j.val) e1).trans (show 0 * 1024 + j.val = j.val by omega))

end

/-! ## The result -/

/-- Row `i` of the flattened tokens. -/
abbrev tokenOf (i : Fin 16384) : Fin 4 := ⟨i.val / 4096, by omega⟩
/-- And its place in its sequence. -/
abbrev placeOf (i : Fin 16384) : Fin 4096 := ⟨i.val % 4096, by omega⟩

/-- A token's normed row. -/
def rowNormed (x : (⟨S4x4096x2048, .f32⟩ : BufTy).Contents (Elt Ideal)) (g : (⟨S1x2048, .f32⟩ : BufTy).Contents (Elt Ideal)) (i : Fin 16384) : Fin 2048 → EReal :=
  normed (fun l => x (ix3 (tokenOf i) (placeOf i) l)) (fun l => g (ix2 0 l))

/-- The first half's column. -/
abbrev lowCol (j : Fin 1024) : Fin 4688 := ⟨2640 + j.val, by omega⟩
/-- The gate's column. -/
abbrev highCol (j : Fin 1024) : Fin 4688 := ⟨3664 + j.val, by omega⟩

/-- The gated linear unit of the arguments. -/
def gated (x : (⟨S4x4096x2048, .f32⟩ : BufTy).Contents (Elt Ideal)) (g : (⟨S1x2048, .f32⟩ : BufTy).Contents (Elt Ideal))
    (w : (⟨S1x2048x4688, .f32⟩ : BufTy).Contents (Elt Ideal)) : (⟨S16384x1024, .f32⟩ : BufTy).Contents (Elt Ideal) := fun i =>
  glu (∑ k : Fin 2048, rowNormed x g (i 0) k * w (ix3 0 k (lowCol (i 1))))
    (∑ k : Fin 2048, rowNormed x g (i 0) k * w (ix3 0 k (highCol (i 1))))

theorem flat_apply (x : (⟨S4x4096x2048, .f32⟩ : BufTy).Contents (Elt Ideal)) (i : Fin 16384) (k : Fin 2048) :
    shapeCast S16384x2048 x shapeCasts_S4x4096x2048_S16384x2048 (ix2 i k) = x (ix3 (tokenOf i) (placeOf i) k) := by
  refine shapeCast_apply _ _ _ _ ?_
  refine (Shape.rowMajor_val_three _).trans (Eq.trans ?_ (Shape.rowMajor_val_two _).symm)
  show (i.val / 4096 * 4096 + i.val % 4096) * 2048 + k.val = i.val * 2048 + k.val
  omega

theorem scale_apply (g : (⟨S1x2048, .f32⟩ : BufTy).Contents (Elt Ideal)) (k : Fin 2048) :
    broadcastInDim S1x2048 ![1] bcast_S2048_S1x2048_1 (shapeCast S2048 g shapeCasts_S1x2048_S2048) (ix2 0 k) = g (ix2 0 k) := by
  refine (broadcastInDim_apply _ _ _ _ (ix1 k) (fun a => by match a with | ⟨0, _⟩ => rfl)).trans ?_
  refine shapeCast_apply _ _ _ _ ?_
  refine (Shape.rowMajor_val_two _).trans (Eq.trans ?_ (Shape.rowMajor_val_one _).symm)
  show 0 * 2048 + k.val = k.val
  omega

theorem flatWeight_apply (w : (⟨S1x2048x4688, .f32⟩ : BufTy).Contents (Elt Ideal)) (k : Fin 2048) (j : Fin 4688) :
    shapeCast S2048x4688 w shapeCasts_S1x2048x4688_S2048x4688 (ix2 k j) = w (ix3 0 k j) := by
  refine shapeCast_apply _ _ _ _ ?_
  refine (Shape.rowMajor_val_three _).trans (Eq.trans ?_ (Shape.rowMajor_val_two _).symm)
  show (0 * 2048 + k.val) * 4688 + j.val = k.val * 4688 + j.val
  omega

theorem low_apply (w : (⟨S1x2048x4688, .f32⟩ : BufTy).Contents (Elt Ideal)) (k : Fin 2048) (j : Fin 1024) :
    truncf (F := Ideal) .bf16 (extractStridedSlice S2048x1024 ![0, 2640] (shapeCast S2048x4688 w shapeCasts_S1x2048x4688_S2048x4688) slices_S2048x4688_S2048x1024_0_2640)
      bitsLt_bf16_f32 (ix2 k j) = w (ix3 0 k (lowCol j)) := by
  refine (show _ = extractStridedSlice S2048x1024 ![0, 2640] (shapeCast S2048x4688 w shapeCasts_S1x2048x4688_S2048x4688) slices_S2048x4688_S2048x1024_0_2640 (ix2 k j) from rfl).trans ?_
  exact (extractStridedSlice_apply _ _ _ _ (ix2 k (lowCol j)) (fun a => by
    match a with | ⟨0, _⟩ => exact (Nat.zero_add _).symm | ⟨1, _⟩ => rfl)).trans (flatWeight_apply w k _)

theorem high_apply (w : (⟨S1x2048x4688, .f32⟩ : BufTy).Contents (Elt Ideal)) (k : Fin 2048) (j : Fin 1024) :
    truncf (F := Ideal) .bf16 (extractStridedSlice S2048x1024 ![0, 3664] (shapeCast S2048x4688 w shapeCasts_S1x2048x4688_S2048x4688) slices_S2048x4688_S2048x1024_0_3664)
      bitsLt_bf16_f32 (ix2 k j) = w (ix3 0 k (highCol j)) := by
  refine (show _ = extractStridedSlice S2048x1024 ![0, 3664] (shapeCast S2048x4688 w shapeCasts_S1x2048x4688_S2048x4688) slices_S2048x4688_S2048x1024_0_3664 (ix2 k j) from rfl).trans ?_
  exact (extractStridedSlice_apply _ _ _ _ (ix2 k (highCol j)) (fun a => by
    match a with | ⟨0, _⟩ => exact (Nat.zero_add _).symm | ⟨1, _⟩ => rfl)).trans (flatWeight_apply w k _)

variable (m : (ℓ : Loc nD τ sig) → Buf (Elt Ideal) ℓ) (c : Dev nD)

/-- A point's normed row is the tokens'. -/
theorem normed_block (t : Fin grid0.N) (i : Fin 512) (k : Fin 2048) :
    k0_pay1 (iblk m c 0 t) (iblk m c 1 t) (ix2 i k) = rowNormed (m ((c : Thread nD τ).loc main_arg0)) (m ((c : Thread nD τ).loc main_arg1)) (rowOf t i) k := by
  refine (normed_apply _ _ i k).trans ?_
  unfold rowNormed
  refine congrArg₂ (fun r g => normed r g k) (funext fun l => ?_) (funext fun l => ?_)
  · rw [iblk0_apply, rows_eq]; exact flat_apply _ _ _
  · rw [iblk1_apply, norm_eq]; exact scale_apply _ _

/-- What the call leaves. -/
theorem left_eq : (dats m 0 c).arrAt 4 cfg0.N
    = gated (m ((c : Thread nD τ).loc main_arg0)) (m ((c : Thread nD τ).loc main_arg1)) (m ((c : Thread nD τ).loc main_arg2)) := by
  refine (dats m 0 c).arrAt_eq_of_covers 4 (gated _ _ _) ?_ fun t _ y => ?_
  · refine (cfg0.win 4).covers_of_indexMap_surj rfl (fun a => (by decide : ∀ a : Fin 2, 0 < (![512, 1024] : Fin 2 → ℕ) a) a) fun β => ?_
    have h0 : (β (0 : Fin 2)).val < 32 := lt_of_lt_of_eq (β (0 : Fin 2)).isLt (show (16384 + 512 - 1) / 512 = 32 by decide)
    have h1 : (β (1 : Fin 2)).val < 1 := lt_of_lt_of_eq (β (1 : Fin 2)).isLt (show (1024 + 1024 - 1) / 1024 = 1 by decide)
    refine ⟨fun a => match a with | ⟨0, _⟩ => ⟨(β (0 : Fin 2)).val, h0⟩ | ⟨1, _⟩ => ⟨(β (1 : Fin 2)).val, h1⟩, fun a => ?_⟩
    match a with
    | ⟨0, _⟩ =>
      show (BitVec.ofNat 32 (β (0 : Fin 2)).val).toNat = (β (0 : Fin 2)).val
      rw [BitVec.toNat_ofNat]; omega
    | ⟨1, _⟩ =>
      show (BitVec.ofNat 32 (β (1 : Fin 2)).val).toNat = (β (1 : Fin 2)).val
      rw [BitVec.toNat_ofNat]; omega
  · obtain ⟨i, j, rfl⟩ : ∃ (i : Fin 512) (j : Fin 1024), y = ix2 i j := ⟨y (0 : Fin 2), y (1 : Fin 2), by
      funext a; match a with | ⟨0, _⟩ => rfl | ⟨1, _⟩ => rfl⟩
    refine Eq.trans ?_ (congrArg (gated _ _ _) (blk4_emb t i j)).symm
    show (dats m 0 c).after 4 t (ix2 i j) = _
    rw [after0_4]
    unfold outsAt0
    frame_out
    rw [tile_apply]
    refine congrArg₂ glu (Finset.sum_congr rfl fun k _ => ?_) (Finset.sum_congr rfl fun k _ => ?_)
    · rw [normed_block, iblk2_apply, first_eq]
      exact congrArg (fun b : EReal => _ * b) (low_apply _ _ _)
    · rw [normed_block, iblk3_apply, second_eq]
      exact congrArg (fun b : EReal => _ * b) (high_apply _ _ _)

/-! ## The reference -/

theorem one_word : Ideal.ofBits .f32 0x3F800000#32 = (1 : EReal) := by
  simp [Ideal.ofBits, Ideal.ieee]
  exact_mod_cast (by norm_num : (8388608 : ℝ) * (2 ^ 23)⁻¹ = 1)

section
open Cert.Reference4Ideal.Read

variable (x : (⟨S4x4096x2048, .f32⟩ : BufTy).Contents (Elt Ideal)) (g : (⟨S1x2048, .f32⟩ : BufTy).Contents (Elt Ideal))
  (w : (⟨S1x2048x4688, .f32⟩ : BufTy).Contents (Elt Ideal))

theorem mean_apply (a : Fin 4) (b : Fin 4096) : val_main_v2 (F := Ideal) x (ix2 a b) = ∑ l : Fin 2048, (x (ix3 a b l) : EReal) * x (ix3 a b l) := by
  rw [val_main_v2_apply, val_main_cst_apply]
  refine (congrArg (fun z : EReal => z + _) Ideal.ofBits_zero_f32).trans ((zero_add _).trans ?_)
  refine Finset.sum_congr rfl fun l _ => ?_
  rw [val_main_v1_apply]
  have e : idx_main_v2 (ix2 a b) l = ix3 a b l := by
    funext q; match q with | ⟨0, _⟩ => rfl | ⟨1, _⟩ => rfl | ⟨2, _⟩ => rfl
  rw [e]
  rfl

theorem norm_apply (r : Fin 16384) (k : Fin 2048) : val_main_v13 (F := Ideal) x g (ix3 (tokenOf r) (placeOf r) k) = rowNormed x g r k := by
  have hk := k.isLt
  have e9 : idx_main_v3 (idx_main_v9 (ix3 (tokenOf r) (placeOf r) k)) = ix2 (tokenOf r) (placeOf r) := by
    funext q; match q with | ⟨0, _⟩ => rfl | ⟨1, _⟩ => rfl
  have e0 : idx_main_v0 (idx_main_v11 (idx_main_v12 (ix3 (tokenOf r) (placeOf r) k))) = ix2 0 k := by
    funext q
    match q with
    | ⟨0, _⟩ => rfl
    | ⟨1, _⟩ => refine Fin.ext ?_; show k.val % 2048 = k.val; omega
  rw [val_main_v13_apply, val_main_v10_apply, val_main_v9_apply, val_main_v8_apply, val_main_v7_apply, val_main_v6_apply, val_main_cst_1_apply,
    val_main_v5_apply, val_main_v4_apply, val_main_cst_0_apply, val_main_v3_apply, e9, mean_apply, val_main_v12_apply, val_main_v11_apply,
    val_main_v0_apply, e0]
  rfl

theorem column_apply (r : Fin 16384) (j : Fin 4688) :
    val_main_v15 (F := Ideal) x g w (ix3 (tokenOf r) (placeOf r) j) = ∑ k : Fin 2048, rowNormed x g r k * w (ix3 0 k j) := by
  rw [val_main_v15_apply]
  have hj := j.isLt
  refine Finset.sum_congr rfl fun k _ => congrArg₂ (fun a b : EReal => a * b) ?_ ((val_main_v14_apply w _).trans (congrArg w ?_))
  · refine (congrArg (val_main_v13 (F := Ideal) x g) ?_).trans (norm_apply x g r k)
    funext a; match a with | ⟨0, _⟩ => rfl | ⟨1, _⟩ => rfl | ⟨2, _⟩ => rfl
  · have hk := k.isLt
    funext a
    match a with
    | ⟨0, _⟩ => rfl
    | ⟨1, _⟩ => refine Fin.ext ?_; show (k.val * 4688 + j.val) / 4688 % 2048 = k.val; omega
    | ⟨2, _⟩ => refine Fin.ext ?_; show (k.val * 4688 + j.val) % 4688 = j.val; omega

/-- What the reference leaves. -/
theorem wanted_eq : val_main_v26 (F := Ideal) x g w = gated x g w := by
  funext i
  obtain ⟨r, j, rfl⟩ : ∃ (r : Fin 16384) (j : Fin 1024), i = ix2 r j := ⟨i 0, i 1, by
    funext a; match a with | ⟨0, _⟩ => rfl | ⟨1, _⟩ => rfl⟩
  have hj := j.isLt
  have e : idx_main_v26 (ix2 r j) = ix3 (tokenOf r) (placeOf r) j := by
    funext a
    match a with
    | ⟨0, _⟩ => refine Fin.ext ?_; show (r.val * 1024 + j.val) / 4194304 = r.val / 4096; omega
    | ⟨1, _⟩ => refine Fin.ext ?_; show (r.val * 1024 + j.val) / 1024 % 4096 = r.val % 4096; omega
    | ⟨2, _⟩ => refine Fin.ext ?_; show (r.val * 1024 + j.val) % 1024 = j.val; omega
  have eLow : idx_main_v16 (idx_main_v17 (ix3 (tokenOf r) (placeOf r) j)) = ix3 (tokenOf r) (placeOf r) (lowCol j) := by
    funext a; match a with | ⟨0, _⟩ => rfl | ⟨1, _⟩ => rfl | ⟨2, _⟩ => rfl
  have eHigh : idx_main_v16 (idx_main_v18 (ix3 (tokenOf r) (placeOf r) j)) = ix3 (tokenOf r) (placeOf r) (highCol j) := by
    funext a
    match a with
    | ⟨0, _⟩ => rfl
    | ⟨1, _⟩ => rfl
    | ⟨2, _⟩ => refine Fin.ext ?_; show 2640 + (1024 + j.val) = 3664 + j.val; omega
  rw [val_main_v26_apply, e, val_main_v25_apply, val_main_v17_apply, val_main_v16_apply, eLow, column_apply, val_main_v24_apply, val_main_v23_apply,
    val_main_cst_3_apply, val_main_v22_apply, val_main_v21_apply, val_main_cst_2_apply, val_main_v20_apply, val_main_v19_apply, val_main_v18_apply,
    val_main_v16_apply, eHigh, column_apply]
  show _ * (Ideal.div (Ideal.ofBits .f32 0x3F800000#32) (Ideal.ofBits .f32 0x3F800000#32 + Ideal.exp (-_))) = glu _ _
  rw [one_word]
  rfl

end

/-- The reference's run ends with every argument as launched and every counter at zero. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two programs leave one result. -/
theorem same_result : Cert.algebraic_Kernel4Ideal_Reference4Ideal := by
  intro m g m' g' _ hargs
  refine ⟨fun c => gated (m ((c : Thread nD τ).loc main_arg0)) (m ((c : Thread nD τ).loc main_arg1)) (m ((c : Thread nD τ).loc main_arg2)), ?_, ?_⟩
  · exact (θ_run _ _ _).mono (fun r h c => ⟨(h c).1.trans (left_eq m c), (h c).2⟩) (Value.run_blocks m g)
  · refine (θ_run _ _ _).mono (fun r h c => ?_) (Cert.Reference4Ideal.Value.run m' g')
    refine ⟨(h c).1.trans ?_, (h c).2⟩
    obtain ⟨a0, a1, a2⟩ := hargs c
    rw [Cert.Reference4Ideal.Read.val_main_v26_eq, wanted_eq, a0, a1, a2]

end Cert.Glu
-- ==== Proof.FrontForms.lean ====
/-
  The projections and the rotary embedding of the attention group: the functions of the arguments that both programs are
  shown to leave.
-/
module

public import proofs.«01_k».proof.Proof.Glu

@[expose] public section

noncomputable section

namespace Cert.Front

open Cert.Kernel4Ideal
open Idealize.ShloMosaic
open Cert.Glu (rowNormed placeOf tokenOf)

/-- The angle at a position and a frequency, for a head whose half width is the word `h`. -/
def angle (h : BitVec 32) (p j : ℕ) : Ideal .f32 :=
  FloatOps.mulf (FloatOps.sitofp .f32 (BitVec.ofNat 32 p) : Ideal .f32)
    (FloatOps.hostPowf (FloatOps.ofBits .f32 0x461C4000#32)
      (FloatOps.hostDivf (FloatOps.hostNegf (FloatOps.sitofp .f32 (BitVec.ofNat 32 j))) (FloatOps.ofBits .f32 h)))

/-- Its cosine. -/
def cosAt (h : BitVec 32) (p j : ℕ) : EReal := (FloatOps.hostUnary .cos (angle h p j) : Ideal .f32)
/-- Its sine. -/
def sinAt (h : BitVec 32) (p j : ℕ) : EReal := (FloatOps.hostUnary .sin (angle h p j) : Ideal .f32)

/-- A head's lane, turned by the position's angles: `P` is the head's row, which starts at column `base`. -/
def turn (h : BitVec 32) (half : ℕ) (P : ℕ → EReal) (p base l : ℕ) : EReal :=
  if l < half then P (base + l) * cosAt h p l - P (base + l + half) * sinAt h p l
  else P (base + l) * cosAt h p (l - half) + P (base + l - half) * sinAt h p (l - half)

variable (x : (⟨S4x4096x2048, .f32⟩ : BufTy).Contents (Elt Ideal)) (g : (⟨S1x2048, .f32⟩ : BufTy).Contents (Elt Ideal))
  (w : (⟨S1x2048x4688, .f32⟩ : BufTy).Contents (Elt Ideal))

/-- A token's projection to a column. -/
def proj (r : Fin 16384) (j : Fin 4688) : EReal := ∑ k : Fin 2048, rowNormed x g r k * w (ix3 0 k j)

/-- The same over every natural number, zero past the columns. -/
def projAt (r : Fin 16384) (n : ℕ) : EReal := if h : n < 4688 then proj x g w r ⟨n, h⟩ else 0

theorem projAt_of (r : Fin 16384) (n : ℕ) (h : n < 4688) : projAt x g w r n = proj x g w r ⟨n, h⟩ := dif_pos h

/-- The keys. -/
def keys : (⟨2, ![16384, 256]⟩ : Shape).Idx → EReal := fun i =>
  turn 0x42800000#32 64 (projAt x g w (i 0)) ((i 0).val % 4096) (1024 + (i 1).val / 128 * 128) ((i 1).val % 128)

/-- The values. -/
def values : (⟨2, ![16384, 256]⟩ : Shape).Idx → EReal := fun i => projAt x g w (i 0) (1280 + (i 1).val)

/-- The indexer's keys. -/
def idxKeys : (⟨2, ![16384, 64]⟩ : Shape).Idx → EReal := fun i =>
  turn 0x42000000#32 32 (projAt x g w (i 0)) ((i 0).val % 4096) 2560 (i 1).val

end Cert.Front
-- ==== Proof.FrontHost.lean ====
/-
  The arrays the attention group's call reads, at an index: the tables of cosines and sines of the two head widths, and
  the weights' columns with their padding.
-/
module

public import proofs.«01_k».proof.Proof.Gen.Kernel5Ideal.Value
public import proofs.«01_k».proof.Proof.FrontForms
public import Idealize.ShloMosaic.Lib.IdealHost
public import Idealize.ShloMosaic.Lib.Pipeline.Value
public import Idealize.ShloMosaic.Lib.ValueIdx

@[expose] public section

noncomputable section

namespace Cert.Front

open Cert.Kernel5Ideal Cert.Kernel5Ideal.Gen
open Idealize.ShloMosaic Idealize.ShloMosaic.TcCoe Idealize.SL.Sem
open Cert.Glu (rowNormed placeOf tokenOf flat_apply scale_apply flatWeight_apply)

section
variable {F : FTy → Type} [FloatOps F]

/-- The frequencies of a head of 128 lanes. -/
def freq64 : FVec F S64 .f32 :=
  Host.powf (broadcastInDim S64 ![] bcast_S_S64 (constant S_ .f32 0x461C4000#32))
    (Host.divf (Host.negf (sitofp .f32 (iotaInDim S64 32 0))) (broadcastInDim S64 ![] bcast_S_S64 (constant S_ .f32 0x42800000#32)))

/-- The angles of a head of 128 lanes. -/
def angles64 : FVec F S4096x64 .f32 :=
  mulf (broadcastInDim S4096x64 ![0, 1] bcast_S4096x1_S4096x64_0_1 (broadcastInDim S4096x1 ![0] bcast_S4096_S4096x1_0 (sitofp .f32 (iotaInDim S4096 32 0))))
    (broadcastInDim S4096x64 ![0, 1] bcast_S1x64_S4096x64_0_1 (broadcastInDim S1x64 ![1] bcast_S64_S1x64_1 freq64))

/-- Two halves side by side, laid out as a table of 128 lanes. -/
def table64 (a b : FVec F S4096x64 .f32) : FVec F S4096x128 .f32 :=
  shapeCast S4096x128 (broadcastInDim S1x4096x1x128 ![0, 1, 2, 3] bcast_S1x4096x1x128_S1x4096x1x128_0_1_2_3
    (shapeCast S1x4096x1x128 (concatenate S4096x128 1 [⟨S4096x64, a⟩, ⟨S4096x64, b⟩] concatenates_S4096x64_S4096x64_S4096x128_d1) shapeCasts_S4096x128_S1x4096x1x128))
    shapeCasts_S1x4096x1x128_S4096x128

/-- The frequencies of a head of 64 lanes. -/
def freq32 : FVec F S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles of a head of 64 lanes. -/
def angles32 : FVec F S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1 freq32))

/-- Two halves side by side, laid out as a table of 128 lanes. -/
def table32 (a b : FVec F S4096x32 .f32) : FVec F S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, a⟩, ⟨S4096x32, b⟩] concatenates_S4096x32_S4096x32_S4096x64_d1) shapeCasts_S4096x64_S1x4096x1x64))
    shapeCasts_S1x4096x2x64_S4096x128

variable (m : (ℓ : Loc nD τ sig) → Buf (Elt F) ℓ) (c : Dev nD)

theorem rows_eq : V m c (Pipeline.arrRef spec0 0)
    = shapeCast S16384x2048 (m ((c : Thread nD τ).loc main_arg0)) shapeCasts_S4x4096x2048_S16384x2048 := by
  show StableHlo.after hostOps0 _ _ = _
  simp only [hostOps0]
  after_results_simp <;> rfl

theorem norm_eq : V m c (Pipeline.arrRef spec0 1)
    = broadcastInDim S1x2048 ![1] bcast_S2048_S1x2048_1 (shapeCast S2048 (m ((c : Thread nD τ).loc main_arg1)) shapeCasts_S1x2048_S2048) := by
  show StableHlo.after hostOps0 _ _ = _
  simp only [hostOps0]
  after_results_simp <;> rfl

theorem weight_eq : V m c (Pipeline.arrRef spec0 2)
    = truncf .bf16 (concatenate S2048x2688 1 [⟨S2048x2640, extractStridedSlice S2048x2640 ![0, 0] (shapeCast S2048x4688 (m ((c : Thread nD τ).loc main_arg2)) shapeCasts_S1x2048x4688_S2048x4688) slices_S2048x4688_S2048x2640_0_0⟩,
        ⟨S2048x48, broadcastInDim S2048x48 ![] bcast_S_S2048x48 (constant S_ .f32 0x00000000#32)⟩] concatenates_S2048x2640_S2048x48_S2048x2688_d1) bitsLt_bf16_f32 := by
  show StableHlo.after hostOps0 _ _ = _
  simp only [hostOps0]
  after_results_simp <;> rfl

theorem cos64_eq : V m c (Pipeline.arrRef spec0 3)
    = table64 (Host.cos angles64) (Host.cos angles64) := by
  show StableHlo.after hostOps0 _ _ = _
  simp only [hostOps0]
  after_results_simp <;> rfl

theorem sin64_eq : V m c (Pipeline.arrRef spec0 4)
    = table64 (Host.negf (Host.sin angles64)) (Host.sin angles64) := by
  show StableHlo.after hostOps0 _ _ = _
  simp only [hostOps0]
  after_results_simp <;> rfl

theorem cos32_eq : V m c (Pipeline.arrRef spec0 5)
    = table32 (Host.cos angles32) (Host.cos angles32) := by
  show StableHlo.after hostOps0 _ _ = _
  simp only [hostOps0]
  after_results_simp <;> rfl

theorem sin32_eq : V m c (Pipeline.arrRef spec0 6)
    = table32 (Host.negf (Host.sin angles32)) (Host.sin angles32) := by
  show StableHlo.after hostOps0 _ _ = _
  simp only [hostOps0]
  after_results_simp <;> rfl

end

theorem freq64_apply (j : Fin 64) : freq64 (F := Ideal) (ix1 j)
    = FloatOps.hostPowf (FloatOps.ofBits .f32 0x461C4000#32 : Ideal .f32)
      (FloatOps.hostDivf (FloatOps.hostNegf (FloatOps.sitofp .f32 (BitVec.ofNat 32 j.val))) (FloatOps.ofBits .f32 0x42800000#32)) := rfl

theorem angles64_apply (p : Fin 4096) (j : Fin 64) : angles64 (F := Ideal) (ix2 p j) = angle 0x42800000#32 p.val j.val := by
  refine congrArg₂ (fun a b : Ideal .f32 => FloatOps.mulf a b) ?_ ?_
  · refine (broadcastInDim_apply _ _ _ _ (ix2 p 0) (fun a => by match a with | ⟨0, _⟩ => rfl | ⟨1, _⟩ => rfl)).trans ?_
    exact (broadcastInDim_apply _ _ _ _ (ix1 p) (fun a => by match a with | ⟨0, _⟩ => rfl)).trans rfl
  · refine (broadcastInDim_apply _ _ _ _ (ix2 0 j) (fun a => by match a with | ⟨0, _⟩ => rfl | ⟨1, _⟩ => rfl)).trans ?_
    exact (broadcastInDim_apply _ _ _ _ (ix1 j) (fun a => by match a with | ⟨0, _⟩ => rfl)).trans (freq64_apply j)

theorem table64_inner (a b : FVec Ideal S4096x64 .f32) (p : Fin 4096) (l : Fin 128) :
    table64 a b (ix2 p ⟨l.val, by omega⟩)
      = concatenate S4096x128 1 [⟨S4096x64, a⟩, ⟨S4096x64, b⟩] concatenates_S4096x64_S4096x64_S4096x128_d1 (ix2 p l) := by
  have hl := l.isLt
  unfold table64
  refine (shapeCast_apply _ _ _ (ix4 0 p 0 l) ?_).trans ?_
  · refine (Shape.rowMajor_val_four _).trans (Eq.trans ?_ (Shape.rowMajor_val_two _).symm)
    show ((0 * 4096 + p.val) * 1 + 0) * 128 + l.val = p.val * 128 + l.val
    omega
  refine (broadcastInDim_apply _ _ _ _ (ix4 0 p 0 l) (fun a => by match a with | ⟨0, _⟩ => rfl | ⟨1, _⟩ => rfl | ⟨2, _⟩ => rfl | ⟨3, _⟩ => rfl)).trans ?_
  refine shapeCast_apply _ _ _ _ ?_
  refine (Shape.rowMajor_val_two _).trans (Eq.trans ?_ (Shape.rowMajor_val_four _).symm)
  show p.val * 128 + l.val = ((0 * 4096 + p.val) * 1 + 0) * 128 + l.val
  omega

theorem table64_low (a b : FVec Ideal S4096x64 .f32) (p : Fin 4096) (l : Fin 128) (hl : l.val < 64) :
    table64 a b (ix2 p l) = a (ix2 p ⟨l.val, hl⟩) := by
  refine (table64_inner a b p ⟨l.val, by omega⟩).trans ?_
  refine concatenate_pair_apply_left (t := S4096x128) (s₁ := S4096x64) (s₂ := S4096x64) 1 _ _ _ _ rfl (ix2 p ⟨l.val, hl⟩) fun a => ?_
  match a with | ⟨0, _⟩ => rfl | ⟨1, _⟩ => rfl

theorem table64_high (a b : FVec Ideal S4096x64 .f32) (p : Fin 4096) (l : Fin 128) (hl : 64 ≤ l.val) (hu : l.val < 128) :
    table64 a b (ix2 p l) = b (ix2 p ⟨l.val - 64, by omega⟩) := by
  refine (table64_inner a b p ⟨l.val, hu⟩).trans ?_
  refine concatenate_pair_apply_right (t := S4096x128) (s₁ := S4096x64) (s₂ := S4096x64) 1 _ _ _ _ rfl rfl (ix2 p ⟨l.val - 64, by omega⟩) (fun a ha => ?_) ?_
  · match a with | ⟨0, _⟩ => rfl | ⟨1, _⟩ => exact absurd rfl ha
  · exact Nat.sub_add_cancel hl

theorem freq32_apply (j : Fin 32) : freq32 (F := Ideal) (ix1 j)
    = FloatOps.hostPowf (FloatOps.ofBits .f32 0x461C4000#32 : Ideal .f32)
      (FloatOps.hostDivf (FloatOps.hostNegf (FloatOps.sitofp .f32 (BitVec.ofNat 32 j.val))) (FloatOps.ofBits .f32 0x42000000#32)) := rfl

theorem angles32_apply (p : Fin 4096) (j : Fin 32) : angles32 (F := Ideal) (ix2 p j) = angle 0x42000000#32 p.val j.val := by
  refine congrArg₂ (fun a b : Ideal .f32 => FloatOps.mulf a b) ?_ ?_
  · refine (broadcastInDim_apply _ _ _ _ (ix2 p 0) (fun a => by match a with | ⟨0, _⟩ => rfl | ⟨1, _⟩ => rfl)).trans ?_
    exact (broadcastInDim_apply _ _ _ _ (ix1 p) (fun a => by match a with | ⟨0, _⟩ => rfl)).trans rfl
  · refine (broadcastInDim_apply _ _ _ _ (ix2 0 j) (fun a => by match a with | ⟨0, _⟩ => rfl | ⟨1, _⟩ => rfl)).trans ?_
    exact (broadcastInDim_apply _ _ _ _ (ix1 j) (fun a => by match a with | ⟨0, _⟩ => rfl)).trans (freq32_apply j)

theorem table32_inner (a b : FVec Ideal S4096x32 .f32) (p : Fin 4096) (l : Fin 64) :
    table32 a b (ix2 p ⟨l.val, by omega⟩)
      = concatenate S4096x64 1 [⟨S4096x32, a⟩, ⟨S4096x32, b⟩] concatenates_S4096x32_S4096x32_S4096x64_d1 (ix2 p l) := by
  have hl := l.isLt
  unfold table32
  refine (shapeCast_apply _ _ _ (ix4 0 p 0 l) ?_).trans ?_
  · refine (Shape.rowMajor_val_four _).trans (Eq.trans ?_ (Shape.rowMajor_val_two _).symm)
    show ((0 * 4096 + p.val) * 2 + 0) * 64 + l.val = p.val * 128 + l.val
    omega
  refine (broadcastInDim_apply _ _ _ _ (ix4 0 p 0 l) (fun a => by match a with | ⟨0, _⟩ => rfl | ⟨1, _⟩ => rfl | ⟨2, _⟩ => rfl | ⟨3, _⟩ => rfl)).trans ?_
  refine shapeCast_apply _ _ _ _ ?_
  refine (Shape.rowMajor_val_two _).trans (Eq.trans ?_ (Shape.rowMajor_val_four _).symm)
  show p.val * 64 + l.val = ((0 * 4096 + p.val) * 1 + 0) * 64 + l.val
  omega

theorem table32_low (a b : FVec Ideal S4096x32 .f32) (p : Fin 4096) (l : Fin 128) (hl : l.val < 32) :
    table32 a b (ix2 p l) = a (ix2 p ⟨l.val, hl⟩) := by
  refine (table32_inner a b p ⟨l.val, by omega⟩).trans ?_
  refine concatenate_pair_apply_left (t := S4096x64) (s₁ := S4096x32) (s₂ := S4096x32) 1 _ _ _ _ rfl (ix2 p ⟨l.val, hl⟩) fun a => ?_
  match a with | ⟨0, _⟩ => rfl | ⟨1, _⟩ => rfl

theorem table32_high (a b : FVec Ideal S4096x32 .f32) (p : Fin 4096) (l : Fin 128) (hl : 32 ≤ l.val) (hu : l.val < 64) :
    table32 a b (ix2 p l) = b (ix2 p ⟨l.val - 32, by omega⟩) := by
  refine (table32_inner a b p ⟨l.val, hu⟩).trans ?_
  refine concatenate_pair_apply_right (t := S4096x64) (s₁ := S4096x32) (s₂ := S4096x32) 1 _ _ _ _ rfl rfl (ix2 p ⟨l.val - 32, by omega⟩) (fun a ha => ?_) ?_
  · match a with | ⟨0, _⟩ => rfl | ⟨1, _⟩ => exact absurd rfl ha
  · exact Nat.sub_add_cancel hl

/-- A weight column of the call's. -/
theorem column_apply (w : (⟨S1x2048x4688, .f32⟩ : BufTy).Contents (Elt Ideal)) (k : Fin 2048) (j : Fin 2688) (hj : j.val < 2640) :
    truncf (F := Ideal) .bf16 (concatenate S2048x2688 1 [⟨S2048x2640, extractStridedSlice S2048x2640 ![0, 0] (shapeCast S2048x4688 w shapeCasts_S1x2048x4688_S2048x4688) slices_S2048x4688_S2048x2640_0_0⟩,
        ⟨S2048x48, broadcastInDim S2048x48 ![] bcast_S_S2048x48 (constant S_ .f32 0x00000000#32)⟩] concatenates_S2048x2640_S2048x48_S2048x2688_d1) bitsLt_bf16_f32 (ix2 k j)
      = w (ix3 0 k ⟨j.val, by omega⟩) := by
  refine (concatenate_pair_apply_left (t := S2048x2688) (s₁ := S2048x2640) (s₂ := S2048x48) 1 _ _ concatenates_S2048x2640_S2048x48_S2048x2688_d1 (ix2 k j) rfl (ix2 k ⟨j.val, hj⟩) fun a => ?_).trans ?_
  · match a with | ⟨0, _⟩ => rfl | ⟨1, _⟩ => rfl
  refine (extractStridedSlice_apply _ _ _ _ (ix2 k ⟨j.val, by omega⟩) (fun a => by
    match a with | ⟨0, _⟩ => exact (Nat.zero_add _).symm | ⟨1, _⟩ => exact (Nat.zero_add _).symm)).trans ?_
  exact flatWeight_apply w k _

end Cert.Front
-- ==== Proof.FrontTile.lean ====
/-
  The attention group's call: a point's tile at an index, the blocks it reads, and what the call leaves.
-/
module

public import proofs.«01_k».proof.Proof.FrontHost
public import Idealize.ShloMosaic.PureOps.Ideal.Laws
public import Idealize.ShloMosaic.Lib.Pipeline.ValueKit
public import Idealize.ShloMosaic.Lib.Pipeline.Covers
public import Idealize.ShloMosaic.Lib.KernelVsHost

@[expose] public section

noncomputable section

namespace Cert.Front

open Cert.Kernel5Ideal Cert.Kernel5Ideal.Gen
open Idealize.ShloMosaic Idealize.ShloMosaic.TcCoe Idealize.SL.Sem
open Idealize.ShloMosaic.ValueIdx (contrEquiv1 contrEquiv1_symm_val)
open Cert.Glu (normed rowNormed placeOf tokenOf cast_same flat_apply scale_apply)

/-- The normed rows of a tile. -/
theorem normed_apply (x : FVec Ideal S256x2048 .f32) (g : FVec Ideal S1x2048 .f32) (i : Fin 256) (k : Fin 2048) :
    mulf (mulf x (broadcastTo S256x2048 (rsqrt (addf (divf (shapeCast S256x1 (multiReduction .add [1] S256 (mulf x x) 0x00000000#32 reduces_S256x2048_S256 (.inl rfl) rfl) shapeCasts_S256_S256x1)
      (broadcast S256x1 (Scalar.ofBits .f32 0x45000000#32))) (broadcast S256x1 (Scalar.ofBits .f32 0x358637BD#32)))) broadcasts_S256x1_S256x2048))
      (broadcastTo S256x2048 g broadcasts_S1x2048_S256x2048) (ix2 i k) = normed (fun l => x (ix2 i l)) (fun l => g (ix2 0 l)) k := by
  unfold normed
  refine congrArg₂ (fun a b : EReal => a * b) (congrArg (fun b : EReal => x (ix2 i k) * b) ?_) ?_
  · refine (broadcastTo_apply _ _ _ (ix2 i 0) (fun a => by match a with | ⟨0, _⟩ => rfl | ⟨1, _⟩ => rfl)).trans ?_
    show Ideal.rsqrt (Ideal.div (shapeCast S256x1 _ _ (ix2 i 0)) _ + _) = _
    refine congrArg (fun s : EReal => Ideal.rsqrt (Ideal.div s (Ideal.ofBits .f32 0x45000000#32) + Ideal.ofBits .f32 0x358637BD#32)) ?_
    refine (shapeCast_apply _ _ _ (ix1 i) ?_).trans ?_
    · refine (Shape.rowMajor_val_one _).trans (Eq.trans ?_ (Shape.rowMajor_val_two _).symm)
      show i.val = i.val * 1 + 0
      omega
    · refine (Ideal.multiReduction_add_single _ _ _ _ _ _).trans ?_
      refine Finset.sum_congr rfl fun l _ => ?_
      have e : Shape.Reduces.lift reduces_S256x2048_S256 (ix1 i) l = ix2 i l := by
        funext a; match a with | ⟨0, _⟩ => rfl | ⟨1, _⟩ => rfl
      rw [e]
      rfl
  · exact broadcastTo_apply _ _ _ (ix2 0 k) (fun a => by match a with | ⟨0, _⟩ => rfl | ⟨1, _⟩ => rfl)

/-- The product of a tile, at a row and a column. -/
theorem product_apply (a : FVec Ideal S256x2048 .bf16) (b : FVec Ideal S2048x2688 .bf16) (i : Fin 256) (j : Fin 2688) :
    matmul dot_S256x2048_S2048x2688_S256x2688_1_0_0_1_n_n none a b (constant S256x2688 .f32 0x00000000#32) (ix2 i j)
      = ∑ k : Fin 2048, (a (ix2 i k) : EReal) * b (ix2 k j) := by
  let d := dot_S256x2048_S2048x2688_S256x2688_1_0_0_1_n_n
  simp only [matmul]
  rw [Ideal.matmul_constant_zero_apply, ← Equiv.sum_comp (contrEquiv1 d 2048 rfl rfl).symm]
  refine Finset.sum_congr rfl fun k _ => ?_
  have hk := contrEquiv1_symm_val d 2048 rfl rfl k
  have el : d.lhsIdx (ix2 i j) ((contrEquiv1 d 2048 rfl rfl).symm k) = ix2 i k := funext fun x => Fin.ext (by
    match x with
    | ⟨0, _⟩ =>
      show (d.lhsIdx (ix2 i j) _ 0).val = _
      unfold DotDims.lhsIdx
      rw [dif_neg (show ¬(0 : Fin S256x2048.rank) ∈ d.lhsBatch by decide), dif_pos (show (0 : Fin S256x2048.rank) ∈ d.lhsNonContracting by decide)]
      rfl
    | ⟨1, _⟩ => exact (d.lhsIdx_val_of_single rfl _ _).trans hk)
  have er : d.rhsIdx (ix2 i j) ((contrEquiv1 d 2048 rfl rfl).symm k) = ix2 k j := funext fun x => Fin.ext (by
    match x with
    | ⟨0, _⟩ => exact (d.rhsIdx_val_of_single rfl _ _).trans hk
    | ⟨1, _⟩ =>
      show (d.rhsIdx (ix2 i j) _ 1).val = _
      unfold DotDims.rhsIdx
      rw [dif_neg (show ¬(1 : Fin S2048x2688.rank) ∈ d.rhsBatch by decide), dif_pos (show (1 : Fin S2048x2688.rank) ∈ d.rhsNonContracting by decide)]
      rfl)
  rw [el, er]

/-- A tile's projection, at a row and a column. -/
theorem tile_apply (x : Vec Ideal S256x2048 .f32) (g : Vec Ideal S1x2048 .f32) (y : Vec Ideal S2048x2688 .bf16) (i : Fin 256) (j : Fin 2688) :
    k0_pay1 x g y (ix2 i j) = ∑ k : Fin 2048, normed (fun l => x (ix2 i l)) (fun l => g (ix2 0 l)) k * y (ix2 k j) := by
  unfold k0_pay1
  rw [cast_same x, cast_same g, cast_same y]
  refine (product_apply _ _ i j).trans (Finset.sum_congr rfl fun k _ => ?_)
  exact congrArg (fun a : EReal => a * y (ix2 k j)) (normed_apply x g i k)

theorem pay16_apply (v : FVec Ideal S256x2688 .f32) (a b : FVec Ideal S256x128 .f32) (i : Fin 256) (l : Fin 128) :
    k0_pay16 v a b (ix2 i l) = (v (ix2 i ⟨1024 + l.val, by omega⟩) : EReal) * a (ix2 i l) + v (ix2 i ⟨1024 + (l.val + 64) % 128, by omega⟩) * b (ix2 i l) := by
  unfold k0_pay16
  refine congrArg₂ (fun p q : EReal => p + q) (congrArg (fun p : EReal => p * a (ix2 i l)) ?_) (congrArg (fun p : EReal => p * b (ix2 i l)) ?_)
  · exact extractStridedSlice_apply _ _ _ _ _ (fun a => by match a with | ⟨0, _⟩ => exact (Nat.zero_add _).symm | ⟨1, _⟩ => rfl)
  · refine (dynamicRotate_apply _ _ _ _ _ (ix2 i ⟨(l.val + 64) % 128, by omega⟩) (fun a => ?_)).trans ?_
    · match a with
      | ⟨0, _⟩ => rfl
      | ⟨1, _⟩ => exact (show (l.val + 64) % 128 = (l.val + 128 - 64 % 128) % 128 by omega).trans (if_pos rfl).symm
    · exact extractStridedSlice_apply _ _ _ _ _ (fun a => by match a with | ⟨0, _⟩ => exact (Nat.zero_add _).symm | ⟨1, _⟩ => rfl)

theorem pay18_apply (v : FVec Ideal S256x2688 .f32) (a b : FVec Ideal S256x128 .f32) (i : Fin 256) (l : Fin 128) :
    k0_pay18 v a b (ix2 i l) = (v (ix2 i ⟨1152 + l.val, by omega⟩) : EReal) * a (ix2 i l) + v (ix2 i ⟨1152 + (l.val + 64) % 128, by omega⟩) * b (ix2 i l) := by
  unfold k0_pay18
  refine congrArg₂ (fun p q : EReal => p + q) (congrArg (fun p : EReal => p * a (ix2 i l)) ?_) (congrArg (fun p : EReal => p * b (ix2 i l)) ?_)
  · exact extractStridedSlice_apply _ _ _ _ _ (fun a => by match a with | ⟨0, _⟩ => exact (Nat.zero_add _).symm | ⟨1, _⟩ => rfl)
  · refine (dynamicRotate_apply _ _ _ _ _ (ix2 i ⟨(l.val + 64) % 128, by omega⟩) (fun a => ?_)).trans ?_
    · match a with
      | ⟨0, _⟩ => rfl
      | ⟨1, _⟩ => exact (show (l.val + 64) % 128 = (l.val + 128 - 64 % 128) % 128 by omega).trans (if_pos rfl).symm
    · exact extractStridedSlice_apply _ _ _ _ _ (fun a => by match a with | ⟨0, _⟩ => exact (Nat.zero_add _).symm | ⟨1, _⟩ => rfl)

theorem pay20_apply (v : FVec Ideal S256x2688 .f32) (i : Fin 256) (l : Fin 256) :
    k0_pay20 v (ix2 i l) = v (ix2 i ⟨1280 + l.val, by omega⟩) := by
  unfold k0_pay20
  exact extractStridedSlice_apply _ _ _ _ _ (fun a => by match a with | ⟨0, _⟩ => exact (Nat.zero_add _).symm | ⟨1, _⟩ => rfl)

theorem pay54_apply (v : FVec Ideal S256x2688 .f32) (i : Fin 256) (l : Fin 128) :
    k0_pay54 v (ix2 i l) = v (ix2 i ⟨2560 + l.val, by omega⟩) := by
  unfold k0_pay54
  exact extractStridedSlice_apply _ _ _ _ _ (fun a => by match a with | ⟨0, _⟩ => exact (Nat.zero_add _).symm | ⟨1, _⟩ => rfl)

theorem lane_word : ∀ l : Fin 64, Scalar.cmpi .slt (BitVec.ofNat 32 (0 * 128 + l.val) &&& 63#32) 32#32 = if l.val < 32 then 1#1 else 0#1 := by
  decide +kernel

theorem pay56_apply (v : FVec Ideal S256x2688 .f32) (a b : FVec Ideal S256x128 .f32) (h : S256x128.Iotas .tc 32 [1]) (i : Fin 256) (l : Fin 64) :
    k0_pay56 v a b (iota .tc S256x128 32 [1] h) (ix2 i l)
      = (v (ix2 i ⟨2560 + l.val, by omega⟩) : EReal) * a (ix2 i ⟨l.val, by omega⟩)
        + (if l.val < 32 then v (ix2 i ⟨2560 + (l.val + 32), by omega⟩) else v (ix2 i ⟨2560 + (l.val - 32), by omega⟩) : EReal) * b (ix2 i ⟨l.val, by omega⟩) := by
  have hl := l.isLt
  unfold k0_pay56
  refine (extractStridedSlice_apply _ _ _ _ (ix2 i ⟨l.val, by omega⟩) (fun a => by match a with | ⟨0, _⟩ => exact (Nat.zero_add _).symm | ⟨1, _⟩ => exact (Nat.zero_add _).symm)).trans ?_
  unfold k0_pay55
  refine congrArg₂ (fun p q : EReal => p + q) (congrArg (fun p : EReal => p * a _) (pay54_apply v i _)) (congrArg (fun p : EReal => p * b _) ?_)
  show (if Scalar.cmpi .slt (BitVec.ofNat 32 (0 * 128 + l.val) &&& 63#32) 32#32 = 1 then dynamicRotate 1 96#32 none (k0_pay54 v) rotates_S256x128_d1 (ix2 i ⟨l.val, by omega⟩)
    else dynamicRotate 1 32#32 none (k0_pay54 v) rotates_S256x128_d1 (ix2 i ⟨l.val, by omega⟩)) = _
  rw [lane_word l]
  by_cases hlt : l.val < 32
  · rw [if_pos hlt, if_pos hlt]
    refine Eq.trans (if_pos rfl) ?_
    refine (dynamicRotate_apply _ _ _ _ _ (ix2 i ⟨l.val + 32, by omega⟩) (fun a => ?_)).trans (pay54_apply v i _)
    match a with
    | ⟨0, _⟩ => rfl
    | ⟨1, _⟩ => exact (show l.val + 32 = (l.val + 128 - 96 % 128) % 128 by omega).trans (if_pos rfl).symm
  · rw [if_neg hlt, if_neg hlt]
    refine Eq.trans (if_neg (by decide)) ?_
    refine (dynamicRotate_apply _ _ _ _ _ (ix2 i ⟨l.val - 32, by omega⟩) (fun a => ?_)).trans (pay54_apply v i _)
    match a with
    | ⟨0, _⟩ => rfl
    | ⟨1, _⟩ => exact (show l.val - 32 = (l.val + 128 - 32 % 128) % 128 by omega).trans (if_pos rfl).symm

/-! ## The blocks -/

/-- A tile's row of the tokens. -/
def rowOf (t : Fin grid0.N) (i : Fin 256) : Fin 16384 := ⟨256 * t.val + i.val, by have := lt_of_lt_of_eq t.isLt N_0; omega⟩

theorem index0 : ∀ t : Fin cfg0.N, (cfg0.win 0).index t (0 : Fin 2) = t.val ∧ (cfg0.win 0).index t (1 : Fin 2) = 0 :=
  (by decide +kernel : ∀ t : Fin grid0.N, win0_0.index t (0 : Fin 2) = t.val ∧ win0_0.index t (1 : Fin 2) = 0)

theorem index1 : ∀ t : Fin cfg0.N, (cfg0.win 1).index t (0 : Fin 2) = 0 ∧ (cfg0.win 1).index t (1 : Fin 2) = 0 :=
  (by decide +kernel : ∀ t : Fin grid0.N, win0_1.index t (0 : Fin 2) = 0 ∧ win0_1.index t (1 : Fin 2) = 0)

theorem index2 : ∀ t : Fin cfg0.N, (cfg0.win 2).index t (0 : Fin 2) = 0 ∧ (cfg0.win 2).index t (1 : Fin 2) = 0 :=
  (by decide +kernel : ∀ t : Fin grid0.N, win0_2.index t (0 : Fin 2) = 0 ∧ win0_2.index t (1 : Fin 2) = 0)

theorem index3 : ∀ t : Fin cfg0.N, (cfg0.win 3).index t (0 : Fin 2) = t.val % 16 ∧ (cfg0.win 3).index t (1 : Fin 2) = 0 :=
  (by decide +kernel : ∀ t : Fin grid0.N, win0_3.index t (0 : Fin 2) = t.val % 16 ∧ win0_3.index t (1 : Fin 2) = 0)

theorem index4 : ∀ t : Fin cfg0.N, (cfg0.win 4).index t (0 : Fin 2) = t.val % 16 ∧ (cfg0.win 4).index t (1 : Fin 2) = 0 :=
  (by decide +kernel : ∀ t : Fin grid0.N, win0_4.index t (0 : Fin 2) = t.val % 16 ∧ win0_4.index t (1 : Fin 2) = 0)

theorem index5 : ∀ t : Fin cfg0.N, (cfg0.win 5).index t (0 : Fin 2) = t.val % 16 ∧ (cfg0.win 5).index t (1 : Fin 2) = 0 :=
  (by decide +kernel : ∀ t : Fin grid0.N, win0_5.index t (0 : Fin 2) = t.val % 16 ∧ win0_5.index t (1 : Fin 2) = 0)

theorem index6 : ∀ t : Fin cfg0.N, (cfg0.win 6).index t (0 : Fin 2) = t.val % 16 ∧ (cfg0.win 6).index t (1 : Fin 2) = 0 :=
  (by decide +kernel : ∀ t : Fin grid0.N, win0_6.index t (0 : Fin 2) = t.val % 16 ∧ win0_6.index t (1 : Fin 2) = 0)

theorem index8 : ∀ t : Fin cfg0.N, (cfg0.win 8).index t (0 : Fin 2) = t.val ∧ (cfg0.win 8).index t (1 : Fin 2) = 0 :=
  (by decide +kernel : ∀ t : Fin grid0.N, win0_8.index t (0 : Fin 2) = t.val ∧ win0_8.index t (1 : Fin 2) = 0)

theorem index10 : ∀ t : Fin cfg0.N, (cfg0.win 10).index t (0 : Fin 2) = t.val ∧ (cfg0.win 10).index t (1 : Fin 2) = 0 :=
  (by decide +kernel : ∀ t : Fin grid0.N, win0_10.index t (0 : Fin 2) = t.val ∧ win0_10.index t (1 : Fin 2) = 0)

theorem index13 : ∀ t : Fin cfg0.N, (cfg0.win 13).index t (0 : Fin 2) = t.val ∧ (cfg0.win 13).index t (1 : Fin 2) = 0 :=
  (by decide +kernel : ∀ t : Fin grid0.N, win0_13.index t (0 : Fin 2) = t.val ∧ win0_13.index t (1 : Fin 2) = 0)

section
variable {F : FTy → Type} [FloatOps F] (m : (ℓ : Loc nD τ sig) → Buf (Elt F) ℓ) (c : Dev nD)

theorem iblk0_apply (t : Fin grid0.N) (i : Fin 256) (k : Fin 2048) :
    iblk m c 0 t (ix2 i k) = V m c (Pipeline.arrRef spec0 0) (ix2 (rowOf t i) k) := by
  obtain ⟨e0, e1⟩ := index0 t
  have ht := lt_of_lt_of_eq t.isLt N_0
  have hi := i.isLt
  unfold iblk
  refine congrArg (V m c (Pipeline.arrRef spec0 0)) (funext fun a => Fin.ext ?_)
  match a with
  | ⟨0, _⟩ => exact ((cfg0.win 0).rect_emb_val t (ix2 i k) (0 : Fin 2)).trans ((congrArg (fun z : ℕ => z * 256 + i.val) e0).trans (show t.val * 256 + i.val = 256 * t.val + i.val by omega))
  | ⟨1, _⟩ => exact ((cfg0.win 0).rect_emb_val t (ix2 i k) (1 : Fin 2)).trans ((congrArg (fun z : ℕ => z * 2048 + k.val) e1).trans (show 0 * 2048 + k.val = k.val by omega))

theorem iblk1_apply (t : Fin grid0.N) (i : Fin 1) (k : Fin 2048) :
    iblk m c 1 t (ix2 i k) = V m c (Pipeline.arrRef spec0 1) (ix2 i k) := by
  obtain ⟨e0, e1⟩ := index1 t
  have ht := lt_of_lt_of_eq t.isLt N_0
  have hi := i.isLt
  unfold iblk
  refine congrArg (V m c (Pipeline.arrRef spec0 1)) (funext fun a => Fin.ext ?_)
  match a with
  | ⟨0, _⟩ => exact ((cfg0.win 1).rect_emb_val t (ix2 i k) (0 : Fin 2)).trans ((congrArg (fun z : ℕ => z * 1 + i.val) e0).trans (show 0 * 1 + i.val = i.val by omega))
  | ⟨1, _⟩ => exact ((cfg0.win 1).rect_emb_val t (ix2 i k) (1 : Fin 2)).trans ((congrArg (fun z : ℕ => z * 2048 + k.val) e1).trans (show 0 * 2048 + k.val = k.val by omega))

theorem iblk2_apply (t : Fin grid0.N) (i : Fin 2048) (k : Fin 2688) :
    iblk m c 2 t (ix2 i k) = V m c (Pipeline.arrRef spec0 2) (ix2 i k) := by
  obtain ⟨e0, e1⟩ := index2 t
  have ht := lt_of_lt_of_eq t.isLt N_0
  have hi := i.isLt
  unfold iblk
  refine congrArg (V m c (Pipeline.arrRef spec0 2)) (funext fun a => Fin.ext ?_)
  match a with
  | ⟨0, _⟩ => exact ((cfg0.win 2).rect_emb_val t (ix2 i k) (0 : Fin 2)).trans ((congrArg (fun z : ℕ => z * 2048 + i.val) e0).trans (show 0 * 2048 + i.val = i.val by omega))
  | ⟨1, _⟩ => exact ((cfg0.win 2).rect_emb_val t (ix2 i k) (1 : Fin 2)).trans ((congrArg (fun z : ℕ => z * 2688 + k.val) e1).trans (show 0 * 2688 + k.val = k.val by omega))

theorem iblk3_apply (t : Fin grid0.N) (i : Fin 256) (k : Fin 128) :
    iblk m c 3 t (ix2 i k) = V m c (Pipeline.arrRef spec0 3) (ix2 (placeOf (rowOf t i)) k) := by
  obtain ⟨e0, e1⟩ := index3 t
  have ht := lt_of_lt_of_eq t.isLt N_0
  have hi := i.isLt
  unfold iblk
  refine congrArg (V m c (Pipeline.arrRef spec0 3)) (funext fun a => Fin.ext ?_)
  match a with
  | ⟨0, _⟩ => exact ((cfg0.win 3).rect_emb_val t (ix2 i k) (0 : Fin 2)).trans ((congrArg (fun z : ℕ => z * 256 + i.val) e0).trans (show t.val % 16 * 256 + i.val = (256 * t.val + i.val) % 4096 by omega))
  | ⟨1, _⟩ => exact ((cfg0.win 3).rect_emb_val t (ix2 i k) (1 : Fin 2)).trans ((congrArg (fun z : ℕ => z * 128 + k.val) e1).trans (show 0 * 128 + k.val = k.val by omega))

theorem iblk4_apply (t : Fin grid0.N) (i : Fin 256) (k : Fin 128) :
    iblk m c 4 t (ix2 i k) = V m c (Pipeline.arrRef spec0 4) (ix2 (placeOf (rowOf t i)) k) := by
  obtain ⟨e0, e1⟩ := index4 t
  have ht := lt_of_lt_of_eq t.isLt N_0
  have hi := i.isLt
  unfold iblk
  refine congrArg (V m c (Pipeline.arrRef spec0 4)) (funext fun a => Fin.ext ?_)
  match a with
  | ⟨0, _⟩ => exact ((cfg0.win 4).rect_emb_val t (ix2 i k) (0 : Fin 2)).trans ((congrArg (fun z : ℕ => z * 256 + i.val) e0).trans (show t.val % 16 * 256 + i.val = (256 * t.val + i.val) % 4096 by omega))
  | ⟨1, _⟩ => exact ((cfg0.win 4).rect_emb_val t (ix2 i k) (1 : Fin 2)).trans ((congrArg (fun z : ℕ => z * 128 + k.val) e1).trans (show 0 * 128 + k.val = k.val by omega))

theorem iblk5_apply (t : Fin grid0.N) (i : Fin 256) (k : Fin 128) :
    iblk m c 5 t (ix2 i k) = V m c (Pipeline.arrRef spec0 5) (ix2 (placeOf (rowOf t i)) k) := by
  obtain ⟨e0, e1⟩ := index5 t
  have ht := lt_of_lt_of_eq t.isLt N_0
  have hi := i.isLt
  unfold iblk
  refine congrArg (V m c (Pipeline.arrRef spec0 5)) (funext fun a => Fin.ext ?_)
  match a with
  | ⟨0, _⟩ => exact ((cfg0.win 5).rect_emb_val t (ix2 i k) (0 : Fin 2)).trans ((congrArg (fun z : ℕ => z * 256 + i.val) e0).trans (show t.val % 16 * 256 + i.val = (256 * t.val + i.val) % 4096 by omega))
  | ⟨1, _⟩ => exact ((cfg0.win 5).rect_emb_val t (ix2 i k) (1 : Fin 2)).trans ((congrArg (fun z : ℕ => z * 128 + k.val) e1).trans (show 0 * 128 + k.val = k.val by omega))

theorem iblk6_apply (t : Fin grid0.N) (i : Fin 256) (k : Fin 128) :
    iblk m c 6 t (ix2 i k) = V m c (Pipeline.arrRef spec0 6) (ix2 (placeOf (rowOf t i)) k) := by
  obtain ⟨e0, e1⟩ := index6 t
  have ht := lt_of_lt_of_eq t.isLt N_0
  have hi := i.isLt
  unfold iblk
  refine congrArg (V m c (Pipeline.arrRef spec0 6)) (funext fun a => Fin.ext ?_)
  match a with
  | ⟨0, _⟩ => exact ((cfg0.win 6).rect_emb_val t (ix2 i k) (0 : Fin 2)).trans ((congrArg (fun z : ℕ => z * 256 + i.val) e0).trans (show t.val % 16 * 256 + i.val = (256 * t.val + i.val) % 4096 by omega))
  | ⟨1, _⟩ => exact ((cfg0.win 6).rect_emb_val t (ix2 i k) (1 : Fin 2)).trans ((congrArg (fun z : ℕ => z * 128 + k.val) e1).trans (show 0 * 128 + k.val = k.val by omega))

theorem blk8_emb (t : Fin grid0.N) (i : Fin 256) (j : Fin 256) : ((cfg0.win 8).blk t).view.emb (ix2 i j) = ix2 (rowOf t i) j := by
  obtain ⟨e0, e1⟩ := index8 t
  refine funext fun a => Fin.ext ?_
  match a with
  | ⟨0, _⟩ => exact ((cfg0.win 8).rect_emb_val t (ix2 i j) (0 : Fin 2)).trans ((congrArg (fun z : ℕ => z * 256 + i.val) e0).trans (show t.val * 256 + i.val = 256 * t.val + i.val by omega))
  | ⟨1, _⟩ => exact ((cfg0.win 8).rect_emb_val t (ix2 i j) (1 : Fin 2)).trans ((congrArg (fun z : ℕ => z * 256 + j.val) e1).trans (show 0 * 256 + j.val = j.val by omega))

theorem blk10_emb (t : Fin grid0.N) (i : Fin 256) (j : Fin 256) : ((cfg0.win 10).blk t).view.emb (ix2 i j) = ix2 (rowOf t i) j := by
  obtain ⟨e0, e1⟩ := index10 t
  refine funext fun a => Fin.ext ?_
  match a with
  | ⟨0, _⟩ => exact ((cfg0.win 10).rect_emb_val t (ix2 i j) (0 : Fin 2)).trans ((congrArg (fun z : ℕ => z * 256 + i.val) e0).trans (show t.val * 256 + i.val = 256 * t.val + i.val by omega))
  | ⟨1, _⟩ => exact ((cfg0.win 10).rect_emb_val t (ix2 i j) (1 : Fin 2)).trans ((congrArg (fun z : ℕ => z * 256 + j.val) e1).trans (show 0 * 256 + j.val = j.val by omega))

theorem blk13_emb (t : Fin grid0.N) (i : Fin 256) (j : Fin 64) : ((cfg0.win 13).blk t).view.emb (ix2 i j) = ix2 (rowOf t i) j := by
  obtain ⟨e0, e1⟩ := index13 t
  refine funext fun a => Fin.ext ?_
  match a with
  | ⟨0, _⟩ => exact ((cfg0.win 13).rect_emb_val t (ix2 i j) (0 : Fin 2)).trans ((congrArg (fun z : ℕ => z * 256 + i.val) e0).trans (show t.val * 256 + i.val = 256 * t.val + i.val by omega))
  | ⟨1, _⟩ => exact ((cfg0.win 13).rect_emb_val t (ix2 i j) (1 : Fin 2)).trans ((congrArg (fun z : ℕ => z * 64 + j.val) e1).trans (show 0 * 64 + j.val = j.val by omega))

end

variable (m : (ℓ : Loc nD τ sig) → Buf (Elt Ideal) ℓ) (c : Dev nD)

/-- A point's projection is the tokens'. -/
theorem proj_block (t : Fin grid0.N) (i : Fin 256) (j : Fin 2688) (hj : j.val < 2640) :
    k0_pay1 (iblk m c 0 t) (iblk m c 1 t) (iblk m c 2 t) (ix2 i j) = projAt (m ((c : Thread nD τ).loc main_arg0)) (m ((c : Thread nD τ).loc main_arg1)) (m ((c : Thread nD τ).loc main_arg2)) (rowOf t i) j.val := by
  rw [projAt_of (m ((c : Thread nD τ).loc main_arg0)) (m ((c : Thread nD τ).loc main_arg1)) (m ((c : Thread nD τ).loc main_arg2)) (rowOf t i) j.val (by omega)]
  refine (tile_apply _ _ _ i j).trans (Finset.sum_congr rfl fun k _ => congrArg₂ (fun a b : EReal => a * b) ?_ ?_)
  · unfold rowNormed
    refine congrArg₂ (fun r g => normed r g k) (funext fun l => ?_) (funext fun l => ?_)
    · rw [iblk0_apply, rows_eq]; exact flat_apply _ _ _
    · rw [iblk1_apply, norm_eq]; exact scale_apply _ _
  · rw [iblk2_apply, weight_eq]; exact column_apply _ k j hj

theorem cos64_low (t : Fin grid0.N) (i : Fin 256) (l : Fin 128) (hl : l.val < 64) :
    (iblk m c 3 t (ix2 i l) : EReal) = cosAt 0x42800000#32 ((rowOf t i).val % 4096) l.val := by
  rw [iblk3_apply, cos64_eq, table64_low _ _ _ l hl]
  exact congrArg (fun z : Ideal .f32 => (FloatOps.hostUnary .cos z : Ideal .f32)) (angles64_apply _ _)

theorem cos64_high (t : Fin grid0.N) (i : Fin 256) (l : Fin 128) (hl : 64 ≤ l.val) :
    (iblk m c 3 t (ix2 i l) : EReal) = cosAt 0x42800000#32 ((rowOf t i).val % 4096) (l.val - 64) := by
  rw [iblk3_apply, cos64_eq, table64_high _ _ _ l hl l.isLt]
  exact congrArg (fun z : Ideal .f32 => (FloatOps.hostUnary .cos z : Ideal .f32)) (angles64_apply _ _)

theorem sin64_low (t : Fin grid0.N) (i : Fin 256) (l : Fin 128) (hl : l.val < 64) :
    (iblk m c 4 t (ix2 i l) : EReal) = -sinAt 0x42800000#32 ((rowOf t i).val % 4096) l.val := by
  rw [iblk4_apply, sin64_eq, table64_low _ _ _ l hl]
  exact congrArg (fun z : Ideal .f32 => -(FloatOps.hostUnary .sin z : Ideal .f32)) (angles64_apply _ _)

theorem sin64_high (t : Fin grid0.N) (i : Fin 256) (l : Fin 128) (hl : 64 ≤ l.val) :
    (iblk m c 4 t (ix2 i l) : EReal) = sinAt 0x42800000#32 ((rowOf t i).val % 4096) (l.val - 64) := by
  rw [iblk4_apply, sin64_eq, table64_high _ _ _ l hl l.isLt]
  exact congrArg (fun z : Ideal .f32 => (FloatOps.hostUnary .sin z : Ideal .f32)) (angles64_apply _ _)

theorem cos32_low (t : Fin grid0.N) (i : Fin 256) (l : Fin 128) (hl : l.val < 32) :
    (iblk m c 5 t (ix2 i l) : EReal) = cosAt 0x42000000#32 ((rowOf t i).val % 4096) l.val := by
  rw [iblk5_apply, cos32_eq, table32_low _ _ _ l hl]
  exact congrArg (fun z : Ideal .f32 => (FloatOps.hostUnary .cos z : Ideal .f32)) (angles32_apply _ _)

theorem cos32_high (t : Fin grid0.N) (i : Fin 256) (l : Fin 128) (hl : 32 ≤ l.val) (hu : l.val < 64) :
    (iblk m c 5 t (ix2 i l) : EReal) = cosAt 0x42000000#32 ((rowOf t i).val % 4096) (l.val - 32) := by
  rw [iblk5_apply, cos32_eq, table32_high _ _ _ l hl hu]
  exact congrArg (fun z : Ideal .f32 => (FloatOps.hostUnary .cos z : Ideal .f32)) (angles32_apply _ _)

theorem sin32_low (t : Fin grid0.N) (i : Fin 256) (l : Fin 128) (hl : l.val < 32) :
    (iblk m c 6 t (ix2 i l) : EReal) = -sinAt 0x42000000#32 ((rowOf t i).val % 4096) l.val := by
  rw [iblk6_apply, sin32_eq, table32_low _ _ _ l hl]
  exact congrArg (fun z : Ideal .f32 => -(FloatOps.hostUnary .sin z : Ideal .f32)) (angles32_apply _ _)

theorem sin32_high (t : Fin grid0.N) (i : Fin 256) (l : Fin 128) (hl : 32 ≤ l.val) (hu : l.val < 64) :
    (iblk m c 6 t (ix2 i l) : EReal) = sinAt 0x42000000#32 ((rowOf t i).val % 4096) (l.val - 32) := by
  rw [iblk6_apply, sin32_eq, table32_high _ _ _ l hl hu]
  exact congrArg (fun z : Ideal .f32 => (FloatOps.hostUnary .sin z : Ideal .f32)) (angles32_apply _ _)

/-- A head of the keys, at a point. -/
theorem head16 (t : Fin grid0.N) (i : Fin 256) (l : Fin 128) :
    k0_pay16 (k0_pay1 (iblk m c 0 t) (iblk m c 1 t) (iblk m c 2 t)) (iblk m c 3 t) (iblk m c 4 t) (ix2 i l)
      = turn 0x42800000#32 64 (projAt (m ((c : Thread nD τ).loc main_arg0)) (m ((c : Thread nD τ).loc main_arg1)) (m ((c : Thread nD τ).loc main_arg2)) (rowOf t i)) ((rowOf t i).val % 4096) 1024 l.val := by
  have hl := l.isLt
  rw [pay16_apply, proj_block m c t i _ (show 1024 + l.val < 2640 by omega), proj_block m c t i _ (show 1024 + (l.val + 64) % 128 < 2640 by omega)]
  show projAt (m ((c : Thread nD τ).loc main_arg0)) (m ((c : Thread nD τ).loc main_arg1)) (m ((c : Thread nD τ).loc main_arg2)) (rowOf t i) (1024 + l.val) * _ + projAt (m ((c : Thread nD τ).loc main_arg0)) (m ((c : Thread nD τ).loc main_arg1)) (m ((c : Thread nD τ).loc main_arg2)) (rowOf t i) (1024 + (l.val + 64) % 128) * _ = _
  unfold turn
  by_cases hlt : l.val < 64
  · rw [if_pos hlt, cos64_low m c t i l hlt, sin64_low m c t i l hlt, mul_neg, ← sub_eq_add_neg, show 1024 + (l.val + 64) % 128 = 1024 + l.val + 64 by omega]
  · rw [if_neg hlt, cos64_high m c t i l (by omega), sin64_high m c t i l (by omega), show 1024 + (l.val + 64) % 128 = 1024 + l.val - 64 by omega]

/-- A head of the keys, at a point. -/
theorem head18 (t : Fin grid0.N) (i : Fin 256) (l : Fin 128) :
    k0_pay18 (k0_pay1 (iblk m c 0 t) (iblk m c 1 t) (iblk m c 2 t)) (iblk m c 3 t) (iblk m c 4 t) (ix2 i l)
      = turn 0x42800000#32 64 (projAt (m ((c : Thread nD τ).loc main_arg0)) (m ((c : Thread nD τ).loc main_arg1)) (m ((c : Thread nD τ).loc main_arg2)) (rowOf t i)) ((rowOf t i).val % 4096) 1152 l.val := by
  have hl := l.isLt
  rw [pay18_apply, proj_block m c t i _ (show 1152 + l.val < 2640 by omega), proj_block m c t i _ (show 1152 + (l.val + 64) % 128 < 2640 by omega)]
  show projAt (m ((c : Thread nD τ).loc main_arg0)) (m ((c : Thread nD τ).loc main_arg1)) (m ((c : Thread nD τ).loc main_arg2)) (rowOf t i) (1152 + l.val) * _ + projAt (m ((c : Thread nD τ).loc main_arg0)) (m ((c : Thread nD τ).loc main_arg1)) (m ((c : Thread nD τ).loc main_arg2)) (rowOf t i) (1152 + (l.val + 64) % 128) * _ = _
  unfold turn
  by_cases hlt : l.val < 64
  · rw [if_pos hlt, cos64_low m c t i l hlt, sin64_low m c t i l hlt, mul_neg, ← sub_eq_add_neg, show 1152 + (l.val + 64) % 128 = 1152 + l.val + 64 by omega]
  · rw [if_neg hlt, cos64_high m c t i l (by omega), sin64_high m c t i l (by omega), show 1152 + (l.val + 64) % 128 = 1152 + l.val - 64 by omega]

/-- The indexer's keys, at a point. -/
theorem head56 (h : S256x128.Iotas .tc 32 [1]) (t : Fin grid0.N) (i : Fin 256) (l : Fin 64) :
    k0_pay56 (k0_pay1 (iblk m c 0 t) (iblk m c 1 t) (iblk m c 2 t)) (iblk m c 5 t) (iblk m c 6 t) (iota .tc S256x128 32 [1] h) (ix2 i l)
      = turn 0x42000000#32 32 (projAt (m ((c : Thread nD τ).loc main_arg0)) (m ((c : Thread nD τ).loc main_arg1)) (m ((c : Thread nD τ).loc main_arg2)) (rowOf t i)) ((rowOf t i).val % 4096) 2560 l.val := by
  have hl := l.isLt
  rw [pay56_apply, proj_block m c t i _ (show 2560 + l.val < 2640 by omega)]
  unfold turn
  by_cases hlt : l.val < 32
  · rw [if_pos hlt, if_pos hlt, cos32_low m c t i _ hlt, sin32_low m c t i _ hlt, proj_block m c t i _ (show 2560 + (l.val + 32) < 2640 by omega), mul_neg, ← sub_eq_add_neg]
    rfl
  · rw [if_neg hlt, if_neg hlt, cos32_high m c t i _ (Nat.le_of_not_lt hlt) hl, sin32_high m c t i _ (Nat.le_of_not_lt hlt) hl, proj_block m c t i _ (show 2560 + (l.val - 32) < 2640 by omega),
      show 2560 + l.val - 32 = 2560 + (l.val - 32) by omega]

theorem same2 (x : Vec Ideal S256x128 .f32) : k0_pay2 x = x := cast_same x _

theorem same3 (x : Vec Ideal S256x128 .f32) : k0_pay3 x = x := cast_same x _

theorem same4 (x : Vec Ideal S256x128 .f32) : k0_pay4 x = x := cast_same x _

theorem same5 (x : Vec Ideal S256x128 .f32) : k0_pay5 x = x := cast_same x _

/-- What the call leaves. -/
theorem left_keys : (dats m 0 c).arrAt 8 cfg0.N = keys (m ((c : Thread nD τ).loc main_arg0)) (m ((c : Thread nD τ).loc main_arg1)) (m ((c : Thread nD τ).loc main_arg2)) := by
  refine (dats m 0 c).arrAt_eq_of_covers 8 (keys (m ((c : Thread nD τ).loc main_arg0)) (m ((c : Thread nD τ).loc main_arg1)) (m ((c : Thread nD τ).loc main_arg2))) ?_ fun t _ y => ?_
  · refine (cfg0.win 8).covers_of_indexMap_surj rfl (fun a => (by decide : ∀ a : Fin 2, 0 < (![256, 256] : Fin 2 → ℕ) a) a) fun β => ?_
    have h0 : (β (0 : Fin 2)).val < 64 := lt_of_lt_of_eq (β (0 : Fin 2)).isLt (show (16384 + 256 - 1) / 256 = 64 by decide)
    have h1 : (β (1 : Fin 2)).val < 1 := lt_of_lt_of_eq (β (1 : Fin 2)).isLt (show (256 + 256 - 1) / 256 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 256) (j : Fin 256), y = ix2 i j := ⟨y (0 : Fin 2), y (1 : Fin 2), by
      funext a; match a with | ⟨0, _⟩ => rfl | ⟨1, _⟩ => rfl⟩
    refine Eq.trans ?_ (congrArg (keys (m ((c : Thread nD τ).loc main_arg0)) (m ((c : Thread nD τ).loc main_arg1)) (m ((c : Thread nD τ).loc main_arg2))) (blk8_emb t i j)).symm
    show (dats m 0 c).after 8 t (ix2 i j) = _
    rw [after0_8]
    unfold out0_8 k0_pay62 k0_pay61 k0_pay60
    rw [View.ld_unit_lit _ _ (by decide), View.ld_unit_lit _ _ (by decide), View.ld_unit_lit _ _ (by decide), View.ld_unit_lit _ _ (by decide), View.ld_unit_lit _ _ (by decide)]
    rw [same2, same3]
    refine View.canon_apply_of_pieces (fun y : S256x256.Idx => (show Elt Ideal .f32 from keys (m ((c : Thread nD τ).loc main_arg0)) (m ((c : Thread nD τ).loc main_arg1)) (m ((c : Thread nD τ).loc main_arg2)) (ix2 (rowOf t (y (0 : Fin 2))) (y (1 : Fin 2))))) _ ?_ (ix2 i j) (cover0_8 _ _ (ix2 i j))
    intro pc hpc
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head18 m c t p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1024 + (128 + 1 * l.val) / 128 * 128) ((128 + 1 * l.val) % 128)
      rw [ep, show 1024 + (128 + 1 * l.val) / 128 * 128 = 1152 by omega, show (128 + 1 * l.val) % 128 = l.val by omega]
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head16 m c t p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1024 + (0 + 1 * l.val) / 128 * 128) ((0 + 1 * l.val) % 128)
      rw [ep, show 1024 + (0 + 1 * l.val) / 128 * 128 = 1024 by omega, show (0 + 1 * l.val) % 128 = l.val by omega]
    nomatch hpc

/-- What the call leaves. -/
theorem left_values : (dats m 0 c).arrAt 10 cfg0.N = values (m ((c : Thread nD τ).loc main_arg0)) (m ((c : Thread nD τ).loc main_arg1)) (m ((c : Thread nD τ).loc main_arg2)) := by
  refine (dats m 0 c).arrAt_eq_of_covers 10 (values (m ((c : Thread nD τ).loc main_arg0)) (m ((c : Thread nD τ).loc main_arg1)) (m ((c : Thread nD τ).loc main_arg2))) ?_ fun t _ y => ?_
  · refine (cfg0.win 10).covers_of_indexMap_surj rfl (fun a => (by decide : ∀ a : Fin 2, 0 < (![256, 256] : Fin 2 → ℕ) a) a) fun β => ?_
    have h0 : (β (0 : Fin 2)).val < 64 := lt_of_lt_of_eq (β (0 : Fin 2)).isLt (show (16384 + 256 - 1) / 256 = 64 by decide)
    have h1 : (β (1 : Fin 2)).val < 1 := lt_of_lt_of_eq (β (1 : Fin 2)).isLt (show (256 + 256 - 1) / 256 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 256) (j : Fin 256), y = ix2 i j := ⟨y (0 : Fin 2), y (1 : Fin 2), by
      funext a; match a with | ⟨0, _⟩ => rfl | ⟨1, _⟩ => rfl⟩
    refine Eq.trans ?_ (congrArg (values (m ((c : Thread nD τ).loc main_arg0)) (m ((c : Thread nD τ).loc main_arg1)) (m ((c : Thread nD τ).loc main_arg2))) (blk10_emb t i j)).symm
    show (dats m 0 c).after 10 t (ix2 i j) = _
    rw [after0_10]
    unfold out0_10 k0_pay60
    rw [View.canon_cons_unit_lit _ _ _ (by decide), View.ld_unit_lit _ _ (by decide), View.ld_unit_lit _ _ (by decide), View.ld_unit_lit _ _ (by decide), pay20_apply, proj_block m c t i _ (show 1280 + j.val < 2640 by omega)]
    rfl

/-- What the call leaves. -/
theorem left_idxKeys : (dats m 0 c).arrAt 13 cfg0.N = idxKeys (m ((c : Thread nD τ).loc main_arg0)) (m ((c : Thread nD τ).loc main_arg1)) (m ((c : Thread nD τ).loc main_arg2)) := by
  refine (dats m 0 c).arrAt_eq_of_covers 13 (idxKeys (m ((c : Thread nD τ).loc main_arg0)) (m ((c : Thread nD τ).loc main_arg1)) (m ((c : Thread nD τ).loc main_arg2))) ?_ fun t _ y => ?_
  · refine (cfg0.win 13).covers_of_indexMap_surj rfl (fun a => (by decide : ∀ a : Fin 2, 0 < (![256, 64] : Fin 2 → ℕ) a) a) fun β => ?_
    have h0 : (β (0 : Fin 2)).val < 64 := lt_of_lt_of_eq (β (0 : Fin 2)).isLt (show (16384 + 256 - 1) / 256 = 64 by decide)
    have h1 : (β (1 : Fin 2)).val < 1 := lt_of_lt_of_eq (β (1 : Fin 2)).isLt (show (64 + 64 - 1) / 64 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 256) (j : Fin 64), y = ix2 i j := ⟨y (0 : Fin 2), y (1 : Fin 2), by
      funext a; match a with | ⟨0, _⟩ => rfl | ⟨1, _⟩ => rfl⟩
    refine Eq.trans ?_ (congrArg (idxKeys (m ((c : Thread nD τ).loc main_arg0)) (m ((c : Thread nD τ).loc main_arg1)) (m ((c : Thread nD τ).loc main_arg2))) (blk13_emb t i j)).symm
    show (dats m 0 c).after 13 t (ix2 i j) = _
    rw [after0_13]
    unfold out0_13 k0_pay64 k0_pay63 k0_pay60 k0_pay59
    rw [View.canon_cons_unit_lit _ _ _ (by decide), View.ld_unit_lit _ _ (by decide), View.ld_unit_lit _ _ (by decide), View.ld_unit_lit _ _ (by decide), View.ld_unit_lit _ _ (by decide), View.ld_unit_lit _ _ (by decide)]
    rw [same4, same5]
    exact head56 m c _ t i j

end Cert.Front
-- ==== Proof.QueryForms.lean ====
/-
  The queries of the attention group and of the indexer, as the call and its reference leave them.
-/
module

public import proofs.«01_k».proof.Proof.FrontForms

@[expose] public section

noncomputable section

namespace Cert.Front

open Cert.Kernel4Ideal
open Idealize.ShloMosaic

variable (x : (⟨S4x4096x2048, .f32⟩ : BufTy).Contents (Elt Ideal)) (g : (⟨S1x2048, .f32⟩ : BufTy).Contents (Elt Ideal))
  (w : (⟨S1x2048x4688, .f32⟩ : BufTy).Contents (Elt Ideal))

/-- The queries. -/
def queries : (⟨2, ![16384, 1024]⟩ : Shape).Idx → EReal := fun i =>
  turn 0x42800000#32 64 (projAt x g w (i 0)) ((i 0).val % 4096) ((i 1).val / 128 * 128) ((i 1).val % 128)

/-- The indexer's queries, a head at a time. -/
def idxQueries : (⟨3, ![16, 16384, 64]⟩ : Shape).Idx → EReal := fun i =>
  turn 0x42000000#32 32 (projAt x g w (i 1)) ((i 1).val % 4096) (1536 + (i 0).val * 64) (i 2).val

end Cert.Front
-- ==== Proof.QueryTile.lean ====
/-
  The attention group's call: a tile's queries, and the array they make.
-/
module

public import proofs.«01_k».proof.Proof.FrontTile
public import proofs.«01_k».proof.Proof.QueryForms

@[expose] public section

noncomputable section

namespace Cert.Front

open Cert.Kernel5Ideal Cert.Kernel5Ideal.Gen
open Idealize.ShloMosaic Idealize.ShloMosaic.TcCoe Idealize.SL.Sem
open Cert.Glu (normed rowNormed placeOf tokenOf cast_same flat_apply scale_apply)

/-- A head's lane, from the projection's columns and the two tables. -/
theorem turned_slice (v : FVec Ideal S256x2688 .f32) (a b : FVec Ideal S256x128 .f32) (o : ℕ) (ho : o + 128 ≤ 2688) (hs : S256x2688.Slices ![0, o] S256x128) (i : Fin 256) (l : Fin 128) :
    addf (mulf (extractStridedSlice S256x128 ![0, o] v hs) a) (mulf (dynamicRotate 1 64#32 none (extractStridedSlice S256x128 ![0, o] v hs) rotates_S256x128_d1) b) (ix2 i l)
      = (v (ix2 i ⟨o + l.val, by omega⟩) : EReal) * a (ix2 i l) + v (ix2 i ⟨o + (l.val + 64) % 128, by omega⟩) * b (ix2 i l) := by
  refine congrArg₂ (fun p q : EReal => p + q) (congrArg (fun p : EReal => p * a (ix2 i l)) ?_) (congrArg (fun p : EReal => p * b (ix2 i l)) ?_)
  · exact extractStridedSlice_apply _ _ _ _ _ (fun a => by match a with | ⟨0, _⟩ => exact (Nat.zero_add _).symm | ⟨1, _⟩ => rfl)
  · refine (dynamicRotate_apply _ _ _ _ _ (ix2 i ⟨(l.val + 64) % 128, by omega⟩) (fun a => ?_)).trans ?_
    · match a with
      | ⟨0, _⟩ => rfl
      | ⟨1, _⟩ => exact (show (l.val + 64) % 128 = (l.val + 128 - 64 % 128) % 128 by omega).trans (if_pos rfl).symm
    · exact extractStridedSlice_apply _ _ _ _ _ (fun a => by match a with | ⟨0, _⟩ => exact (Nat.zero_add _).symm | ⟨1, _⟩ => rfl)

variable (m : (ℓ : Loc nD τ sig) → Buf (Elt Ideal) ℓ) (c : Dev nD)

/-- A head of the queries, at a point. -/
theorem head_slice (t : Fin grid0.N) (o : ℕ) (ho : o + 128 ≤ 2560) (hs : S256x2688.Slices ![0, o] S256x128) (i : Fin 256) (l : Fin 128) :
    addf (mulf (extractStridedSlice S256x128 ![0, o] (k0_pay1 (F := Ideal) (iblk m c 0 t) (iblk m c 1 t) (iblk m c 2 t)) hs) (iblk m c 3 t))
      (mulf (dynamicRotate 1 64#32 none (extractStridedSlice S256x128 ![0, o] (k0_pay1 (F := Ideal) (iblk m c 0 t) (iblk m c 1 t) (iblk m c 2 t)) hs) rotates_S256x128_d1) (iblk m c 4 t)) (ix2 i l)
      = turn 0x42800000#32 64 (projAt (m ((c : Thread nD τ).loc main_arg0)) (m ((c : Thread nD τ).loc main_arg1)) (m ((c : Thread nD τ).loc main_arg2)) (rowOf t i)) ((rowOf t i).val % 4096) o l.val := by
  have hl := l.isLt
  refine (turned_slice _ (iblk m c 3 t) (iblk m c 4 t) o (by omega) hs i l).trans ?_
  rw [proj_block m c t i _ (show o + l.val < 2640 by omega), proj_block m c t i _ (show o + (l.val + 64) % 128 < 2640 by omega)]
  show projAt (m ((c : Thread nD τ).loc main_arg0)) (m ((c : Thread nD τ).loc main_arg1)) (m ((c : Thread nD τ).loc main_arg2)) (rowOf t i) (o + l.val) * _ + projAt (m ((c : Thread nD τ).loc main_arg0)) (m ((c : Thread nD τ).loc main_arg1)) (m ((c : Thread nD τ).loc main_arg2)) (rowOf t i) (o + (l.val + 64) % 128) * _ = _
  unfold turn
  by_cases hlt : l.val < 64
  · rw [if_pos hlt, cos64_low m c t i l hlt, sin64_low m c t i l hlt, mul_neg, ← sub_eq_add_neg, show o + (l.val + 64) % 128 = o + l.val + 64 by omega]
  · rw [if_neg hlt, cos64_high m c t i l (by omega), sin64_high m c t i l (by omega), show o + (l.val + 64) % 128 = o + l.val - 64 by omega]

theorem index7 : ∀ t : Fin cfg0.N, (cfg0.win 7).index t (0 : Fin 2) = t.val ∧ (cfg0.win 7).index t (1 : Fin 2) = 0 :=
  (by decide +kernel : ∀ t : Fin grid0.N, win0_7.index t (0 : Fin 2) = t.val ∧ win0_7.index t (1 : Fin 2) = 0)

theorem blk7_emb (t : Fin grid0.N) (i : Fin 256) (j : Fin 1024) : ((cfg0.win 7).blk t).view.emb (ix2 i j) = ix2 (rowOf t i) j := by
  obtain ⟨e0, e1⟩ := index7 t
  refine funext fun a => Fin.ext ?_
  match a with
  | ⟨0, _⟩ => exact ((cfg0.win 7).rect_emb_val t (ix2 i j) (0 : Fin 2)).trans ((congrArg (fun z : ℕ => z * 256 + i.val) e0).trans (show t.val * 256 + i.val = 256 * t.val + i.val by omega))
  | ⟨1, _⟩ => exact ((cfg0.win 7).rect_emb_val t (ix2 i j) (1 : Fin 2)).trans ((congrArg (fun z : ℕ => z * 1024 + j.val) e1).trans (show 0 * 1024 + j.val = j.val by omega))

/-- What the call leaves. -/
theorem left_queries : (dats m 0 c).arrAt 7 cfg0.N = queries (m ((c : Thread nD τ).loc main_arg0)) (m ((c : Thread nD τ).loc main_arg1)) (m ((c : Thread nD τ).loc main_arg2)) := by
  refine (dats m 0 c).arrAt_eq_of_covers 7 (queries (m ((c : Thread nD τ).loc main_arg0)) (m ((c : Thread nD τ).loc main_arg1)) (m ((c : Thread nD τ).loc main_arg2))) ?_ fun t _ y => ?_
  · refine (cfg0.win 7).covers_of_indexMap_surj rfl (fun a => (by decide : ∀ a : Fin 2, 0 < (![256, 1024] : Fin 2 → ℕ) a) a) fun β => ?_
    have h0 : (β (0 : Fin 2)).val < 64 := lt_of_lt_of_eq (β (0 : Fin 2)).isLt (show (16384 + 256 - 1) / 256 = 64 by decide)
    have h1 : (β (1 : Fin 2)).val < 1 := lt_of_lt_of_eq (β (1 : Fin 2)).isLt (show (1024 + 1024 - 1) / 1024 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 256) (j : Fin 1024), y = ix2 i j := ⟨y (0 : Fin 2), y (1 : Fin 2), by
      funext a; match a with | ⟨0, _⟩ => rfl | ⟨1, _⟩ => rfl⟩
    refine Eq.trans ?_ (congrArg (queries (m ((c : Thread nD τ).loc main_arg0)) (m ((c : Thread nD τ).loc main_arg1)) (m ((c : Thread nD τ).loc main_arg2))) (blk7_emb t i j)).symm
    show (dats m 0 c).after 7 t (ix2 i j) = _
    rw [after0_7]
    unfold out0_7 k0_pay62 k0_pay61 k0_pay60 k0_pay6
    rw [View.ld_unit_lit _ _ (by decide), View.ld_unit_lit _ _ (by decide), View.ld_unit_lit _ _ (by decide), View.ld_unit_lit _ _ (by decide), View.ld_unit_lit _ _ (by decide)]
    rw [same2, same3]
    refine View.canon_apply_of_pieces (fun y : S256x1024.Idx => (show Elt Ideal .bf16 from queries (m ((c : Thread nD τ).loc main_arg0)) (m ((c : Thread nD τ).loc main_arg1)) (m ((c : Thread nD τ).loc main_arg2)) (ix2 (rowOf t (y (0 : Fin 2))) (y (1 : Fin 2))))) _ ?_ (ix2 i j) (cover0_7 _ _ _ _ _ _ _ _ (ix2 i j))
    intro pc hpc
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head_slice m c t 896 (by omega) slices_S256x2688_o0_896_S256x128 p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) ((896 + 1 * l.val) / 128 * 128) ((896 + 1 * l.val) % 128)
      rw [ep, show (896 + 1 * l.val) / 128 * 128 = 896 by omega, show (896 + 1 * l.val) % 128 = l.val by omega]
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head_slice m c t 768 (by omega) slices_S256x2688_o0_768_S256x128 p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) ((768 + 1 * l.val) / 128 * 128) ((768 + 1 * l.val) % 128)
      rw [ep, show (768 + 1 * l.val) / 128 * 128 = 768 by omega, show (768 + 1 * l.val) % 128 = l.val by omega]
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head_slice m c t 640 (by omega) slices_S256x2688_o0_640_S256x128 p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) ((640 + 1 * l.val) / 128 * 128) ((640 + 1 * l.val) % 128)
      rw [ep, show (640 + 1 * l.val) / 128 * 128 = 640 by omega, show (640 + 1 * l.val) % 128 = l.val by omega]
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head_slice m c t 512 (by omega) slices_S256x2688_o0_512_S256x128 p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) ((512 + 1 * l.val) / 128 * 128) ((512 + 1 * l.val) % 128)
      rw [ep, show (512 + 1 * l.val) / 128 * 128 = 512 by omega, show (512 + 1 * l.val) % 128 = l.val by omega]
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head_slice m c t 384 (by omega) slices_S256x2688_o0_384_S256x128 p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) ((384 + 1 * l.val) / 128 * 128) ((384 + 1 * l.val) % 128)
      rw [ep, show (384 + 1 * l.val) / 128 * 128 = 384 by omega, show (384 + 1 * l.val) % 128 = l.val by omega]
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head_slice m c t 256 (by omega) slices_S256x2688_o0_256_S256x128 p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) ((256 + 1 * l.val) / 128 * 128) ((256 + 1 * l.val) % 128)
      rw [ep, show (256 + 1 * l.val) / 128 * 128 = 256 by omega, show (256 + 1 * l.val) % 128 = l.val by omega]
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head_slice m c t 128 (by omega) slices_S256x2688_o0_128_S256x128 p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) ((128 + 1 * l.val) / 128 * 128) ((128 + 1 * l.val) % 128)
      rw [ep, show (128 + 1 * l.val) / 128 * 128 = 128 by omega, show (128 + 1 * l.val) % 128 = l.val by omega]
    rcases List.mem_cons.mp hpc with rfl | hpc
    · intro x
      obtain ⟨p, l, rfl⟩ : ∃ (p : Fin 256) (l : Fin 128), x = ix2 p l := ⟨x (0 : Fin 2), x (1 : Fin 2), by
        funext a; match a with | ⟨0, _⟩ => rfl | ⟨1, _⟩ => rfl⟩
      have hl := l.isLt
      refine (head_slice m c t 0 (by omega) slices_S256x2688_o0_0_S256x128 p l).trans ?_
      have ep : (⟨0 + 1 * p.val, by omega⟩ : Fin 256) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) ((0 + 1 * l.val) / 128 * 128) ((0 + 1 * l.val) % 128)
      rw [ep, show (0 + 1 * l.val) / 128 * 128 = 0 by omega, show (0 + 1 * l.val) % 128 = l.val by omega]
    nomatch hpc

end Cert.Front
-- ==== Proof.IdxQueryTile.lean ====
/-
  The attention group's call: a tile's indexer queries, and the array they make.
-/
module

public import proofs.«01_k».proof.Proof.FrontTile
public import proofs.«01_k».proof.Proof.QueryForms

@[expose] public section

noncomputable section

namespace Cert.Front

open Cert.Kernel5Ideal Cert.Kernel5Ideal.Gen
open Idealize.ShloMosaic Idealize.ShloMosaic.TcCoe Idealize.SL.Sem
open Cert.Glu (normed rowNormed placeOf tokenOf cast_same flat_apply scale_apply)

theorem pair_word : ∀ l : Fin 128, Scalar.cmpi .slt (BitVec.ofNat 32 (0 * 128 + l.val) &&& 63#32) 32#32 = if l.val % 64 < 32 then 1#1 else 0#1 := by
  decide +kernel

/-- The two heads of a slice, turned by the two tables. -/
def pairRow (v : FVec Ideal S256x2688 .f32) (a b : FVec Ideal S256x128 .f32) (h : S256x128.Iotas .tc 32 [1]) (o : ℕ) (hs : S256x2688.Slices ![0, o] S256x128) : FVec Ideal S256x128 .f32 :=
  addf (mulf (extractStridedSlice S256x128 ![0, o] v hs) a)
    (mulf (select (cmpi .slt (andi (iota .tc S256x128 32 [1] h) (broadcast S256x128 63#32)) (broadcast S256x128 32#32))
      (dynamicRotate 1 96#32 none (extractStridedSlice S256x128 ![0, o] v hs) rotates_S256x128_d1)
      (dynamicRotate 1 32#32 none (extractStridedSlice S256x128 ![0, o] v hs) rotates_S256x128_d1)) b)

theorem slice_apply (v : FVec Ideal S256x2688 .f32) (o : ℕ) (ho : o + 128 ≤ 2688) (hs : S256x2688.Slices ![0, o] S256x128) (i : Fin 256) (l : Fin 128) :
    extractStridedSlice S256x128 ![0, o] v hs (ix2 i l) = v (ix2 i ⟨o + l.val, by omega⟩) :=
  extractStridedSlice_apply _ _ _ _ _ (fun a => by match a with | ⟨0, _⟩ => exact (Nat.zero_add _).symm | ⟨1, _⟩ => rfl)

theorem pairRow_apply (v : FVec Ideal S256x2688 .f32) (a b : FVec Ideal S256x128 .f32) (h : S256x128.Iotas .tc 32 [1]) (o : ℕ) (ho : o + 128 ≤ 2688) (hs : S256x2688.Slices ![0, o] S256x128)
    (i : Fin 256) (l : Fin 128) :
    pairRow v a b h o hs (ix2 i l)
      = (v (ix2 i ⟨o + l.val, by omega⟩) : EReal) * a (ix2 i l)
        + (if l.val % 64 < 32 then v (ix2 i ⟨o + (l.val + 32) % 128, by omega⟩) else v (ix2 i ⟨o + (l.val + 96) % 128, by omega⟩) : EReal) * b (ix2 i l) := by
  have hl := l.isLt
  unfold pairRow
  refine congrArg₂ (fun p q : EReal => p + q) (congrArg (fun p : EReal => p * a _) (slice_apply v o ho hs i l)) (congrArg (fun p : EReal => p * b _) ?_)
  show (if Scalar.cmpi .slt (BitVec.ofNat 32 (0 * 128 + l.val) &&& 63#32) 32#32 = 1 then dynamicRotate 1 96#32 none (extractStridedSlice S256x128 ![0, o] v hs) rotates_S256x128_d1 (ix2 i l)
    else dynamicRotate 1 32#32 none (extractStridedSlice S256x128 ![0, o] v hs) rotates_S256x128_d1 (ix2 i l)) = _
  rw [pair_word l]
  by_cases hlt : l.val % 64 < 32
  · rw [if_pos hlt, if_pos hlt]
    refine Eq.trans (if_pos rfl) ?_
    refine (dynamicRotate_apply _ _ _ _ _ (ix2 i ⟨(l.val + 32) % 128, by omega⟩) (fun a => ?_)).trans (slice_apply v o ho hs i _)
    match a with
    | ⟨0, _⟩ => rfl
    | ⟨1, _⟩ => exact (show (l.val + 32) % 128 = (l.val + 128 - 96 % 128) % 128 by omega).trans (if_pos rfl).symm
  · rw [if_neg hlt, if_neg hlt]
    refine Eq.trans (if_neg (by decide)) ?_
    refine (dynamicRotate_apply _ _ _ _ _ (ix2 i ⟨(l.val + 96) % 128, by omega⟩) (fun a => ?_)).trans (slice_apply v o ho hs i _)
    match a with
    | ⟨0, _⟩ => rfl
    | ⟨1, _⟩ => exact (show (l.val + 96) % 128 = (l.val + 128 - 32 % 128) % 128 by omega).trans (if_pos rfl).symm

/-- Half of a row, as the call stores it. -/
theorem half_apply (R : FVec Ideal S256x128 .f32) (d : ℕ) (hd : d + 64 ≤ 128) (hs : S256x128.Slices ![0, d] S256x64) (p : Fin 256) (l : Fin 64) :
    shapeCast S1x256x64 (truncf (F := Ideal) .bf16 (extractStridedSlice S256x64 ![0, d] R hs) bitsLt_bf16_f32) shapeCasts_S256x64_S1x256x64 (ix3 0 p l)
      = R (ix2 p ⟨d + l.val, by omega⟩) := by
  refine (shapeCast_apply _ _ _ (ix2 p l) ?_).trans ?_
  · refine (Shape.rowMajor_val_two _).trans (Eq.trans ?_ (Shape.rowMajor_val_three _).symm)
    show p.val * 64 + l.val = (0 * 256 + p.val) * 64 + l.val
    omega
  show extractStridedSlice S256x64 ![0, d] R hs (ix2 p l) = _
  exact extractStridedSlice_apply _ _ _ _ _ (fun a => by match a with | ⟨0, _⟩ => exact (Nat.zero_add _).symm | ⟨1, _⟩ => rfl)

theorem table32_any (a b : FVec Ideal S4096x32 .f32) (p : Fin 4096) (l : Fin 128) :
    table32 a b (ix2 p l)
      = concatenate S4096x64 1 [⟨S4096x32, a⟩, ⟨S4096x32, b⟩] concatenates_S4096x32_S4096x32_S4096x64_d1 (ix2 p ⟨l.val % 64, by omega⟩) := by
  have hl := l.isLt
  unfold table32
  refine (shapeCast_apply _ _ _ (ix4 0 p ⟨l.val / 64, by omega⟩ ⟨l.val % 64, by omega⟩) ?_).trans ?_
  · refine (Shape.rowMajor_val_four _).trans (Eq.trans ?_ (Shape.rowMajor_val_two _).symm)
    show ((0 * 4096 + p.val) * 2 + l.val / 64) * 64 + l.val % 64 = p.val * 128 + l.val
    omega
  refine (broadcastInDim_apply _ _ _ _ (ix4 0 p 0 ⟨l.val % 64, by omega⟩) (fun a => by match a with | ⟨0, _⟩ => rfl | ⟨1, _⟩ => rfl | ⟨2, _⟩ => rfl | ⟨3, _⟩ => rfl)).trans ?_
  refine shapeCast_apply _ _ _ _ ?_
  refine (Shape.rowMajor_val_two _).trans (Eq.trans ?_ (Shape.rowMajor_val_four _).symm)
  show p.val * 64 + l.val % 64 = ((0 * 4096 + p.val) * 1 + 0) * 64 + l.val % 64
  omega

/-- A lane of the second head reads the first head's entry. -/
theorem table32_again (a b : FVec Ideal S4096x32 .f32) (p : Fin 4096) (l : Fin 128) :
    table32 a b (ix2 p l) = table32 a b (ix2 p ⟨l.val % 64, by omega⟩) := by
  refine (table32_any a b p l).trans (Eq.trans ?_ (table32_any a b p ⟨l.val % 64, by omega⟩).symm)
  exact congrArg (fun z => concatenate S4096x64 1 [⟨S4096x32, a⟩, ⟨S4096x32, b⟩] concatenates_S4096x32_S4096x32_S4096x64_d1 (ix2 p z)) (Fin.ext (Nat.mod_mod l.val 64).symm)

variable (m : (ℓ : Loc nD τ sig) → Buf (Elt Ideal) ℓ) (c : Dev nD)

theorem block5_again (t : Fin grid0.N) (i : Fin 256) (l : Fin 128) : (iblk m c 5 t (ix2 i l) : EReal) = iblk m c 5 t (ix2 i ⟨l.val % 64, by omega⟩) := by
  rw [iblk5_apply, iblk5_apply, cos32_eq]
  exact table32_again _ _ _ l

theorem block6_again (t : Fin grid0.N) (i : Fin 256) (l : Fin 128) : (iblk m c 6 t (ix2 i l) : EReal) = iblk m c 6 t (ix2 i ⟨l.val % 64, by omega⟩) := by
  rw [iblk6_apply, iblk6_apply, sin32_eq]
  exact table32_again _ _ _ l

/-- A head of the indexer's queries, at a point. -/
theorem pair_head (h : S256x128.Iotas .tc 32 [1]) (t : Fin grid0.N) (o : ℕ) (ho : o + 128 ≤ 2560) (hs : S256x2688.Slices ![0, o] S256x128)
    (d : ℕ) (hd : d = 0 ∨ d = 64) (hd' : S256x128.Slices ![0, d] S256x64) (i : Fin 256) (l : Fin 64) :
    shapeCast S1x256x64 (truncf (F := Ideal) .bf16 (extractStridedSlice S256x64 ![0, d]
      (pairRow (k0_pay1 (F := Ideal) (iblk m c 0 t) (iblk m c 1 t) (iblk m c 2 t)) (iblk m c 5 t) (iblk m c 6 t) h o hs) hd') bitsLt_bf16_f32) shapeCasts_S256x64_S1x256x64 (ix3 0 i l)
      = turn 0x42000000#32 32 (projAt (m ((c : Thread nD τ).loc main_arg0)) (m ((c : Thread nD τ).loc main_arg1)) (m ((c : Thread nD τ).loc main_arg2)) (rowOf t i)) ((rowOf t i).val % 4096) (o + d) l.val := by
  have hl := l.isLt
  have hmod : (d + l.val) % 64 = l.val := by omega
  have h5 : (iblk m c 5 t (ix2 i ⟨d + l.val, by omega⟩) : EReal) = iblk m c 5 t (ix2 i ⟨l.val, by omega⟩) :=
    (block5_again m c t i ⟨d + l.val, by omega⟩).trans (congrArg (fun z : Fin 128 => (iblk m c 5 t (ix2 i z) : EReal)) (Fin.ext hmod))
  have h6 : (iblk m c 6 t (ix2 i ⟨d + l.val, by omega⟩) : EReal) = iblk m c 6 t (ix2 i ⟨l.val, by omega⟩) :=
    (block6_again m c t i ⟨d + l.val, by omega⟩).trans (congrArg (fun z : Fin 128 => (iblk m c 6 t (ix2 i z) : EReal)) (Fin.ext hmod))
  refine (half_apply _ d (by omega) hd' i l).trans ((pairRow_apply _ (iblk m c 5 t) (iblk m c 6 t) h o (by omega) hs i ⟨d + l.val, by omega⟩).trans ?_)
  rw [h5, h6, proj_block m c t i _ (show o + (d + l.val) < 2640 by omega), proj_block m c t i _ (show o + (d + l.val + 32) % 128 < 2640 by omega),
    proj_block m c t i _ (show o + (d + l.val + 96) % 128 < 2640 by omega)]
  show projAt (m ((c : Thread nD τ).loc main_arg0)) (m ((c : Thread nD τ).loc main_arg1)) (m ((c : Thread nD τ).loc main_arg2)) (rowOf t i) (o + (d + l.val)) * _ + (if (d + l.val) % 64 < 32 then projAt (m ((c : Thread nD τ).loc main_arg0)) (m ((c : Thread nD τ).loc main_arg1)) (m ((c : Thread nD τ).loc main_arg2)) (rowOf t i) (o + (d + l.val + 32) % 128) else projAt (m ((c : Thread nD τ).loc main_arg0)) (m ((c : Thread nD τ).loc main_arg1)) (m ((c : Thread nD τ).loc main_arg2)) (rowOf t i) (o + (d + l.val + 96) % 128)) * _ = _
  unfold turn
  rw [hmod, show o + (d + l.val) = o + d + l.val by omega]
  by_cases hlt : l.val < 32
  · rw [if_pos hlt, if_pos hlt, cos32_low m c t i _ hlt, sin32_low m c t i _ hlt, mul_neg, ← sub_eq_add_neg, show o + (d + l.val + 32) % 128 = o + d + l.val + 32 by omega]
  · rw [if_neg hlt, if_neg hlt, cos32_high m c t i _ (Nat.le_of_not_lt hlt) hl, sin32_high m c t i _ (Nat.le_of_not_lt hlt) hl, show o + (d + l.val + 96) % 128 = o + d + l.val - 32 by omega]

theorem index12 : ∀ t : Fin cfg0.N, (cfg0.win 12).index t (0 : Fin 3) = 0 ∧ (cfg0.win 12).index t (1 : Fin 3) = t.val ∧ (cfg0.win 12).index t (2 : Fin 3) = 0 :=
  (by decide +kernel : ∀ t : Fin grid0.N, win0_12.index t (0 : Fin 3) = 0 ∧ win0_12.index t (1 : Fin 3) = t.val ∧ win0_12.index t (2 : Fin 3) = 0)

theorem blk12_emb (t : Fin grid0.N) (h : Fin 16) (i : Fin 256) (j : Fin 64) : ((cfg0.win 12).blk t).view.emb (ix3 h i j) = ix3 h (rowOf t i) j := by
  obtain ⟨e0, e1, e2⟩ := index12 t
  refine funext fun a => Fin.ext ?_
  match a with
  | ⟨0, _⟩ => exact ((cfg0.win 12).rect_emb_val t (ix3 h i j) (0 : Fin 3)).trans ((congrArg (fun z : ℕ => z * 16 + h.val) e0).trans (show 0 * 16 + h.val = h.val by omega))
  | ⟨1, _⟩ => exact ((cfg0.win 12).rect_emb_val t (ix3 h i j) (1 : Fin 3)).trans ((congrArg (fun z : ℕ => z * 256 + i.val) e1).trans (show t.val * 256 + i.val = 256 * t.val + i.val by omega))
  | ⟨2, _⟩ => exact ((cfg0.win 12).rect_emb_val t (ix3 h i j) (2 : Fin 3)).trans ((congrArg (fun z : ℕ => z * 64 + j.val) e2).trans (show 0 * 64 + j.val = j.val by omega))

/-- What the call leaves. -/
theorem left_idxQueries : (dats m 0 c).arrAt 12 cfg0.N = idxQueries (m ((c : Thread nD τ).loc main_arg0)) (m ((c : Thread nD τ).loc main_arg1)) (m ((c : Thread nD τ).loc main_arg2)) := by
  refine (dats m 0 c).arrAt_eq_of_covers 12 (idxQueries (m ((c : Thread nD τ).loc main_arg0)) (m ((c : Thread nD τ).loc main_arg1)) (m ((c : Thread nD τ).loc main_arg2))) ?_ fun t _ y => ?_
  · refine (cfg0.win 12).covers_of_indexMap_surj rfl (fun a => (by decide : ∀ a : Fin 3, 0 < (![16, 256, 64] : Fin 3 → ℕ) a) a) fun β => ?_
    have h0 : (β (0 : Fin 3)).val < 1 := lt_of_lt_of_eq (β (0 : Fin 3)).isLt (show (16 + 16 - 1) / 16 = 1 by decide)
    have h1 : (β (1 : Fin 3)).val < 64 := lt_of_lt_of_eq (β (1 : Fin 3)).isLt (show (16384 + 256 - 1) / 256 = 64 by decide)
    have h2 : (β (2 : Fin 3)).val < 1 := lt_of_lt_of_eq (β (2 : Fin 3)).isLt (show (64 + 64 - 1) / 64 = 1 by decide)
    refine ⟨fun a => match a with | ⟨0, _⟩ => ⟨(β (1 : Fin 3)).val, h1⟩, fun a => ?_⟩
    match a with
    | ⟨0, _⟩ => show 0 = (β (0 : Fin 3)).val; omega
    | ⟨1, _⟩ =>
      show (BitVec.ofNat 32 (β (1 : Fin 3)).val).toNat = (β (1 : Fin 3)).val
      rw [BitVec.toNat_ofNat]; omega
    | ⟨2, _⟩ => show 0 = (β (2 : Fin 3)).val; omega
  · obtain ⟨h, i, j, rfl⟩ : ∃ (h : Fin 16) (i : Fin 256) (j : Fin 64), y = ix3 h i j := ⟨y (0 : Fin 3), y (1 : Fin 3), y (2 : Fin 3), by
      funext a; match a with | ⟨0, _⟩ => rfl | ⟨1, _⟩ => rfl | ⟨2, _⟩ => rfl⟩
    refine Eq.trans ?_ (congrArg (idxQueries (m ((c : Thread nD τ).loc main_arg0)) (m ((c : Thread nD τ).loc main_arg1)) (m ((c : Thread nD τ).loc main_arg2))) (blk12_emb t h i j)).symm
    show (dats m 0 c).after 12 t (ix3 h i j) = _
    rw [after0_12]
    unfold out0_12 k0_pay68 k0_pay67 k0_pay66 k0_pay65 k0_pay64 k0_pay63 k0_pay60 k0_pay59
    rw [View.ld_unit_lit _ _ (by decide), View.ld_unit_lit _ _ (by decide), View.ld_unit_lit _ _ (by decide), View.ld_unit_lit _ _ (by decide), View.ld_unit_lit _ _ (by decide)]
    rw [same4, same5]
    refine View.canon_apply_of_pieces (fun y : S16x256x64.Idx => (show Elt Ideal .bf16 from idxQueries (m ((c : Thread nD τ).loc main_arg0)) (m ((c : Thread nD τ).loc main_arg1)) (m ((c : Thread nD τ).loc main_arg2)) (ix3 (y (0 : Fin 3)) (rowOf t (y (1 : Fin 3))) (y (2 : Fin 3))))) _ ?_ (ix3 h i j) (cover0_12 _ _ _ _ _ _ _ _ _ _ _ _ _ _ _ _ (ix3 h i j))
    intro pc hpc
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 2432 (by omega) slices_S256x2688_o0_2432_S256x128 64 (by omega) slices_S256x128_o0_64_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (15 + 1 * 0) * 64) (0 + 1 * l.val)
      rw [ep, show 1536 + (15 + 1 * 0) * 64 = 2432 + 64 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 2432 (by omega) slices_S256x2688_o0_2432_S256x128 0 (by omega) slices_S256x128_o0_0_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (14 + 1 * 0) * 64) (0 + 1 * l.val)
      rw [ep, show 1536 + (14 + 1 * 0) * 64 = 2432 + 0 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 2304 (by omega) slices_S256x2688_o0_2304_S256x128 64 (by omega) slices_S256x128_o0_64_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (13 + 1 * 0) * 64) (0 + 1 * l.val)
      rw [ep, show 1536 + (13 + 1 * 0) * 64 = 2304 + 64 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 2304 (by omega) slices_S256x2688_o0_2304_S256x128 0 (by omega) slices_S256x128_o0_0_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (12 + 1 * 0) * 64) (0 + 1 * l.val)
      rw [ep, show 1536 + (12 + 1 * 0) * 64 = 2304 + 0 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 2176 (by omega) slices_S256x2688_o0_2176_S256x128 64 (by omega) slices_S256x128_o0_64_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (11 + 1 * 0) * 64) (0 + 1 * l.val)
      rw [ep, show 1536 + (11 + 1 * 0) * 64 = 2176 + 64 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 2176 (by omega) slices_S256x2688_o0_2176_S256x128 0 (by omega) slices_S256x128_o0_0_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (10 + 1 * 0) * 64) (0 + 1 * l.val)
      rw [ep, show 1536 + (10 + 1 * 0) * 64 = 2176 + 0 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 2048 (by omega) slices_S256x2688_o0_2048_S256x128 64 (by omega) slices_S256x128_o0_64_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (9 + 1 * 0) * 64) (0 + 1 * l.val)
      rw [ep, show 1536 + (9 + 1 * 0) * 64 = 2048 + 64 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 2048 (by omega) slices_S256x2688_o0_2048_S256x128 0 (by omega) slices_S256x128_o0_0_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (8 + 1 * 0) * 64) (0 + 1 * l.val)
      rw [ep, show 1536 + (8 + 1 * 0) * 64 = 2048 + 0 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 1920 (by omega) slices_S256x2688_o0_1920_S256x128 64 (by omega) slices_S256x128_o0_64_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (7 + 1 * 0) * 64) (0 + 1 * l.val)
      rw [ep, show 1536 + (7 + 1 * 0) * 64 = 1920 + 64 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 1920 (by omega) slices_S256x2688_o0_1920_S256x128 0 (by omega) slices_S256x128_o0_0_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (6 + 1 * 0) * 64) (0 + 1 * l.val)
      rw [ep, show 1536 + (6 + 1 * 0) * 64 = 1920 + 0 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 1792 (by omega) slices_S256x2688_o0_1792_S256x128 64 (by omega) slices_S256x128_o0_64_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (5 + 1 * 0) * 64) (0 + 1 * l.val)
      rw [ep, show 1536 + (5 + 1 * 0) * 64 = 1792 + 64 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 1792 (by omega) slices_S256x2688_o0_1792_S256x128 0 (by omega) slices_S256x128_o0_0_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (4 + 1 * 0) * 64) (0 + 1 * l.val)
      rw [ep, show 1536 + (4 + 1 * 0) * 64 = 1792 + 0 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 1664 (by omega) slices_S256x2688_o0_1664_S256x128 64 (by omega) slices_S256x128_o0_64_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (3 + 1 * 0) * 64) (0 + 1 * l.val)
      rw [ep, show 1536 + (3 + 1 * 0) * 64 = 1664 + 64 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 1664 (by omega) slices_S256x2688_o0_1664_S256x128 0 (by omega) slices_S256x128_o0_0_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (2 + 1 * 0) * 64) (0 + 1 * l.val)
      rw [ep, show 1536 + (2 + 1 * 0) * 64 = 1664 + 0 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 1536 (by omega) slices_S256x2688_o0_1536_S256x128 64 (by omega) slices_S256x128_o0_64_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (1 + 1 * 0) * 64) (0 + 1 * l.val)
      rw [ep, show 1536 + (1 + 1 * 0) * 64 = 1536 + 64 by omega, show 0 + 1 * l.val = l.val by omega]
    rcases List.mem_cons.mp hpc with rfl | hpc
    · intro x
      obtain ⟨z, p, l, rfl⟩ : ∃ (z : Fin 1) (p : Fin 256) (l : Fin 64), x = ix3 z p l := ⟨x (0 : Fin 3), x (1 : Fin 3), x (2 : Fin 3), by
        funext a; match a with | ⟨0, _⟩ => rfl | ⟨1, _⟩ => rfl | ⟨2, _⟩ => rfl⟩
      obtain rfl : z = 0 := Subsingleton.elim _ _
      have hl := l.isLt
      refine (pair_head m c _ t 1536 (by omega) slices_S256x2688_o0_1536_S256x128 0 (by omega) slices_S256x128_o0_0_S256x64 p l).trans ?_
      have ep : (⟨0 + 1 * p.val, by omega⟩ : Fin 256) = p := Fin.ext (show 0 + 1 * p.val = p.val by omega)
      show _ = turn 0x42000000#32 32 (projAt (m ((c : Thread nD τ).loc main_arg0)) (m ((c : Thread nD τ).loc main_arg1)) (m ((c : Thread nD τ).loc main_arg2)) (rowOf t (⟨0 + 1 * p.val, by omega⟩ : Fin 256))) ((rowOf t (⟨0 + 1 * p.val, by omega⟩ : Fin 256)).val % 4096) (1536 + (0 + 1 * 0) * 64) (0 + 1 * l.val)
      rw [ep, show 1536 + (0 + 1 * 0) * 64 = 1536 + 0 by omega, show 0 + 1 * l.val = l.val by omega]
    nomatch hpc

end Cert.Front
-- ==== Proof.FrontWanted.lean ====
/-
  The attention group's reference, read at an index.
-/
module

public import proofs.«01_k».proof.Proof.Gen.Reference5Ideal.Read
public import proofs.«01_k».proof.Proof.FrontForms
public import Idealize.ShloMosaic.PureOps.Ideal.Laws
public import Idealize.ShloMosaic.Lib.IdealHost
public import Idealize.ShloMosaic.Lib.Pipeline.Value
public import Idealize.ShloMosaic.Lib.ValueIdx

@[expose] public section

noncomputable section

namespace Cert.FrontWanted

open Cert.Reference5Ideal Cert.Reference5Ideal.Read Cert.Front
open Idealize.ShloMosaic
open Cert.Glu (rowNormed placeOf tokenOf)

variable (x : (⟨S4x4096x2048, .f32⟩ : BufTy).Contents (Elt Ideal)) (g : (⟨S1x2048, .f32⟩ : BufTy).Contents (Elt Ideal))
  (w : (⟨S1x2048x4688, .f32⟩ : BufTy).Contents (Elt Ideal))

theorem mean_apply (a : Fin 4) (b : Fin 4096) : val_main_v3 (F := Ideal) x (ix2 a b) = ∑ l : Fin 2048, (x (ix3 a b l) : EReal) * x (ix3 a b l) := by
  rw [val_main_v3_apply, val_main_cst_apply]
  refine (congrArg (fun z : EReal => z + _) Ideal.ofBits_zero_f32).trans ((zero_add _).trans ?_)
  refine Finset.sum_congr rfl fun l _ => ?_
  rw [val_main_v2_apply]
  have e : idx_main_v3 (ix2 a b) l = ix3 a b l := by
    funext q; match q with | ⟨0, _⟩ => rfl | ⟨1, _⟩ => rfl | ⟨2, _⟩ => rfl
  rw [e]
  rfl

theorem norm_apply (r : Fin 16384) (k : Fin 2048) : val_main_v14 (F := Ideal) x g (ix3 (tokenOf r) (placeOf r) k) = rowNormed x g r k := by
  have hk := k.isLt
  have e9 : idx_main_v4 (idx_main_v10 (ix3 (tokenOf r) (placeOf r) k)) = ix2 (tokenOf r) (placeOf r) := by
    funext q; match q with | ⟨0, _⟩ => rfl | ⟨1, _⟩ => rfl
  have e0 : idx_main_v1 (idx_main_v12 (idx_main_v13 (ix3 (tokenOf r) (placeOf r) k))) = ix2 0 k := by
    funext q
    match q with
    | ⟨0, _⟩ => rfl
    | ⟨1, _⟩ => refine Fin.ext ?_; show k.val % 2048 = k.val; omega
  rw [val_main_v14_apply, val_main_v11_apply, val_main_v10_apply, val_main_v9_apply, val_main_v8_apply, val_main_v7_apply, val_main_cst_1_apply,
    val_main_v6_apply, val_main_v5_apply, val_main_cst_0_apply, val_main_v4_apply, e9, mean_apply, val_main_v13_apply, val_main_v12_apply,
    val_main_v1_apply, e0]
  rfl

theorem column_apply (r : Fin 16384) (j : Fin 4688) :
    val_main_v16 (F := Ideal) x g w (ix3 (tokenOf r) (placeOf r) j) = projAt x g w r j.val := by
  rw [val_main_v16_apply, projAt_of x g w r j.val j.isLt]
  have hj := j.isLt
  refine Finset.sum_congr rfl fun k _ => congrArg₂ (fun a b : EReal => a * b) ?_ ((val_main_v15_apply w _).trans (congrArg w ?_))
  · refine (congrArg (val_main_v14 (F := Ideal) x g) ?_).trans (norm_apply x g r k)
    funext a; match a with | ⟨0, _⟩ => rfl | ⟨1, _⟩ => rfl | ⟨2, _⟩ => rfl
  · have hk := k.isLt
    funext a
    match a with
    | ⟨0, _⟩ => rfl
    | ⟨1, _⟩ => refine Fin.ext ?_; show (k.val * 4688 + j.val) / 4688 % 2048 = k.val; omega
    | ⟨2, _⟩ => refine Fin.ext ?_; show (k.val * 4688 + j.val) % 4688 = j.val; omega

theorem cosA (a : Fin 4) (p : Fin 4096) (h : Fin 2) (l : Fin 64) :
    val_main_v38 (F := Ideal) (ix4 a p h l) = cosAt 0x42800000#32 p.val l.val := by
  rw [val_main_v38_apply, val_main_v37_apply, val_main_v32_apply, val_main_v31_apply, val_main_v30_apply, val_main_v28_apply, val_main_v26_apply, val_main_v25_apply, val_main_v0_apply, val_main_v29_apply, val_main_v27_apply, val_main_v24_apply, val_main_v23_apply, val_main_cst_3_apply, val_main_v22_apply, val_main_v21_apply, val_main_cst_2_apply, val_main_v20_apply]
  rfl

theorem sinA (a : Fin 4) (p : Fin 4096) (h : Fin 2) (l : Fin 64) :
    val_main_v41 (F := Ideal) (ix4 a p h l) = sinAt 0x42800000#32 p.val l.val := by
  rw [val_main_v41_apply, val_main_v40_apply, val_main_v34_apply, val_main_v33_apply, val_main_v30_apply, val_main_v28_apply, val_main_v26_apply, val_main_v25_apply, val_main_v0_apply, val_main_v29_apply, val_main_v27_apply, val_main_v24_apply, val_main_v23_apply, val_main_cst_3_apply, val_main_v22_apply, val_main_v21_apply, val_main_cst_2_apply, val_main_v20_apply]
  rfl

theorem cosB (a : Fin 4) (p : Fin 4096) (h : Fin 2) (l : Fin 64) :
    val_main_v45 (F := Ideal) (ix4 a p h l) = cosAt 0x42800000#32 p.val l.val := by
  rw [val_main_v45_apply, val_main_v44_apply, val_main_v32_apply, val_main_v31_apply, val_main_v30_apply, val_main_v28_apply, val_main_v26_apply, val_main_v25_apply, val_main_v0_apply, val_main_v29_apply, val_main_v27_apply, val_main_v24_apply, val_main_v23_apply, val_main_cst_3_apply, val_main_v22_apply, val_main_v21_apply, val_main_cst_2_apply, val_main_v20_apply]
  rfl

theorem sinB (a : Fin 4) (p : Fin 4096) (h : Fin 2) (l : Fin 64) :
    val_main_v48 (F := Ideal) (ix4 a p h l) = sinAt 0x42800000#32 p.val l.val := by
  rw [val_main_v48_apply, val_main_v47_apply, val_main_v34_apply, val_main_v33_apply, val_main_v30_apply, val_main_v28_apply, val_main_v26_apply, val_main_v25_apply, val_main_v0_apply, val_main_v29_apply, val_main_v27_apply, val_main_v24_apply, val_main_v23_apply, val_main_cst_3_apply, val_main_v22_apply, val_main_v21_apply, val_main_cst_2_apply, val_main_v20_apply]
  rfl

theorem cosC (a : Fin 4) (p : Fin 4096) (h : Fin 1) (l : Fin 32) :
    val_main_v75 (F := Ideal) (ix4 a p h l) = cosAt 0x42000000#32 p.val l.val := by
  rw [val_main_v75_apply, val_main_v74_apply, val_main_v69_apply, val_main_v68_apply, val_main_v67_apply, val_main_v65_apply, val_main_v63_apply, val_main_v62_apply, val_main_v0_apply, val_main_v66_apply, val_main_v64_apply, val_main_v61_apply, val_main_v60_apply, val_main_cst_5_apply, val_main_v59_apply, val_main_v58_apply, val_main_cst_4_apply, val_main_v57_apply]
  rfl

theorem sinC (a : Fin 4) (p : Fin 4096) (h : Fin 1) (l : Fin 32) :
    val_main_v78 (F := Ideal) (ix4 a p h l) = sinAt 0x42000000#32 p.val l.val := by
  rw [val_main_v78_apply, val_main_v77_apply, val_main_v71_apply, val_main_v70_apply, val_main_v67_apply, val_main_v65_apply, val_main_v63_apply, val_main_v62_apply, val_main_v0_apply, val_main_v66_apply, val_main_v64_apply, val_main_v61_apply, val_main_v60_apply, val_main_cst_5_apply, val_main_v59_apply, val_main_v58_apply, val_main_cst_4_apply, val_main_v57_apply]
  rfl

theorem cosD (a : Fin 4) (p : Fin 4096) (h : Fin 1) (l : Fin 32) :
    val_main_v82 (F := Ideal) (ix4 a p h l) = cosAt 0x42000000#32 p.val l.val := by
  rw [val_main_v82_apply, val_main_v81_apply, val_main_v69_apply, val_main_v68_apply, val_main_v67_apply, val_main_v65_apply, val_main_v63_apply, val_main_v62_apply, val_main_v0_apply, val_main_v66_apply, val_main_v64_apply, val_main_v61_apply, val_main_v60_apply, val_main_cst_5_apply, val_main_v59_apply, val_main_v58_apply, val_main_cst_4_apply, val_main_v57_apply]
  rfl

theorem sinD (a : Fin 4) (p : Fin 4096) (h : Fin 1) (l : Fin 32) :
    val_main_v85 (F := Ideal) (ix4 a p h l) = sinAt 0x42000000#32 p.val l.val := by
  rw [val_main_v85_apply, val_main_v84_apply, val_main_v71_apply, val_main_v70_apply, val_main_v67_apply, val_main_v65_apply, val_main_v63_apply, val_main_v62_apply, val_main_v0_apply, val_main_v66_apply, val_main_v64_apply, val_main_v61_apply, val_main_v60_apply, val_main_cst_5_apply, val_main_v59_apply, val_main_v58_apply, val_main_cst_4_apply, val_main_v57_apply]
  rfl

theorem low64 (r : Fin 16384) (h : Fin 2) (l : Fin 64) :
    val_main_v35 (F := Ideal) x g w (ix4 (tokenOf r) (placeOf r) h l) = projAt x g w r (1024 + h.val * 128 + l.val) := by
  have hh := h.isLt
  have hl := l.isLt
  have e : idx_main_v17 (idx_main_v18 (idx_main_v35 (ix4 (tokenOf r) (placeOf r) h l))) = ix3 (tokenOf r) (placeOf r) ⟨1024 + h.val * 128 + l.val, by omega⟩ := by
    funext a
    match a with
    | ⟨0, _⟩ => refine Fin.ext ?_; show (((r.val / 4096 * 4096 + r.val % 4096) * 2 + h.val) * 128 + (l.val)) / 1048576 = r.val / 4096; omega
    | ⟨1, _⟩ => refine Fin.ext ?_; show (((r.val / 4096 * 4096 + r.val % 4096) * 2 + h.val) * 128 + (l.val)) / 256 % 4096 = r.val % 4096; omega
    | ⟨2, _⟩ => refine Fin.ext ?_; show 1024 + ((((r.val / 4096 * 4096 + r.val % 4096) * 2 + h.val) * 128 + (l.val)) % 256) = 1024 + h.val * 128 + l.val; omega
  rw [val_main_v35_apply, val_main_v18_apply, val_main_v17_apply, e, column_apply]

theorem high64 (r : Fin 16384) (h : Fin 2) (l : Fin 64) :
    val_main_v36 (F := Ideal) x g w (ix4 (tokenOf r) (placeOf r) h l) = projAt x g w r (1024 + h.val * 128 + (64 + l.val)) := by
  have hh := h.isLt
  have hl := l.isLt
  have e : idx_main_v17 (idx_main_v18 (idx_main_v36 (ix4 (tokenOf r) (placeOf r) h l))) = ix3 (tokenOf r) (placeOf r) ⟨1024 + h.val * 128 + (64 + l.val), by omega⟩ := by
    funext a
    match a with
    | ⟨0, _⟩ => refine Fin.ext ?_; show (((r.val / 4096 * 4096 + r.val % 4096) * 2 + h.val) * 128 + (64 + l.val)) / 1048576 = r.val / 4096; omega
    | ⟨1, _⟩ => refine Fin.ext ?_; show (((r.val / 4096 * 4096 + r.val % 4096) * 2 + h.val) * 128 + (64 + l.val)) / 256 % 4096 = r.val % 4096; omega
    | ⟨2, _⟩ => refine Fin.ext ?_; show 1024 + ((((r.val / 4096 * 4096 + r.val % 4096) * 2 + h.val) * 128 + (64 + l.val)) % 256) = 1024 + h.val * 128 + (64 + l.val); omega
  rw [val_main_v36_apply, val_main_v18_apply, val_main_v17_apply, e, column_apply]

theorem low32 (r : Fin 16384) (h : Fin 1) (l : Fin 32) :
    val_main_v72 (F := Ideal) x g w (ix4 (tokenOf r) (placeOf r) h l) = projAt x g w r (2560 + l.val) := by
  have hh := h.isLt
  have hl := l.isLt
  have e : idx_main_v54 (idx_main_v55 (idx_main_v72 (ix4 (tokenOf r) (placeOf r) h l))) = ix3 (tokenOf r) (placeOf r) ⟨2560 + l.val, by omega⟩ := by
    funext a
    match a with
    | ⟨0, _⟩ => refine Fin.ext ?_; show (((r.val / 4096 * 4096 + r.val % 4096) * 1 + h.val) * 64 + (l.val)) / 262144 = r.val / 4096; omega
    | ⟨1, _⟩ => refine Fin.ext ?_; show (((r.val / 4096 * 4096 + r.val % 4096) * 1 + h.val) * 64 + (l.val)) / 64 % 4096 = r.val % 4096; omega
    | ⟨2, _⟩ => refine Fin.ext ?_; show 2560 + ((((r.val / 4096 * 4096 + r.val % 4096) * 1 + h.val) * 64 + (l.val)) % 64) = 2560 + l.val; omega
  rw [val_main_v72_apply, val_main_v55_apply, val_main_v54_apply, e, column_apply]

theorem high32 (r : Fin 16384) (h : Fin 1) (l : Fin 32) :
    val_main_v73 (F := Ideal) x g w (ix4 (tokenOf r) (placeOf r) h l) = projAt x g w r (2560 + (32 + l.val)) := by
  have hh := h.isLt
  have hl := l.isLt
  have e : idx_main_v54 (idx_main_v55 (idx_main_v73 (ix4 (tokenOf r) (placeOf r) h l))) = ix3 (tokenOf r) (placeOf r) ⟨2560 + (32 + l.val), by omega⟩ := by
    funext a
    match a with
    | ⟨0, _⟩ => refine Fin.ext ?_; show (((r.val / 4096 * 4096 + r.val % 4096) * 1 + h.val) * 64 + (32 + l.val)) / 262144 = r.val / 4096; omega
    | ⟨1, _⟩ => refine Fin.ext ?_; show (((r.val / 4096 * 4096 + r.val % 4096) * 1 + h.val) * 64 + (32 + l.val)) / 64 % 4096 = r.val % 4096; omega
    | ⟨2, _⟩ => refine Fin.ext ?_; show 2560 + ((((r.val / 4096 * 4096 + r.val % 4096) * 1 + h.val) * 64 + (32 + l.val)) % 64) = 2560 + (32 + l.val); omega
  rw [val_main_v73_apply, val_main_v55_apply, val_main_v54_apply, e, column_apply]

theorem value (r : Fin 16384) (h : Fin 2) (l : Fin 128) :
    val_main_v53 (F := Ideal) x g w (ix4 (tokenOf r) (placeOf r) h l) = projAt x g w r (1280 + h.val * 128 + l.val) := by
  have hh := h.isLt
  have hl := l.isLt
  have e : idx_main_v52 (idx_main_v53 (ix4 (tokenOf r) (placeOf r) h l)) = ix3 (tokenOf r) (placeOf r) ⟨1280 + h.val * 128 + l.val, by omega⟩ := by
    funext a
    match a with
    | ⟨0, _⟩ => refine Fin.ext ?_; show (((r.val / 4096 * 4096 + r.val % 4096) * 2 + h.val) * 128 + (l.val)) / 1048576 = r.val / 4096; omega
    | ⟨1, _⟩ => refine Fin.ext ?_; show (((r.val / 4096 * 4096 + r.val % 4096) * 2 + h.val) * 128 + (l.val)) / 256 % 4096 = r.val % 4096; omega
    | ⟨2, _⟩ => refine Fin.ext ?_; show 1280 + ((((r.val / 4096 * 4096 + r.val % 4096) * 2 + h.val) * 128 + (l.val)) % 256) = 1280 + h.val * 128 + l.val; omega
  rw [val_main_v53_apply, val_main_v52_apply, e, column_apply]

theorem turned64 (r : Fin 16384) (h : Fin 2) (l : Fin 128) :
    val_main_v51 (F := Ideal) x g w (ix4 (tokenOf r) (placeOf r) h l) = turn 0x42800000#32 64 (projAt x g w r) (r.val % 4096) (1024 + h.val * 128) l.val := by
  have hl := l.isLt
  unfold val_main_v51
  by_cases hlt : l.val < 64
  · refine (concatenate_pair_apply_left (t := S4x4096x2x128) (s₁ := S4x4096x2x64) (s₂ := S4x4096x2x64) 3 _ _ _ _ rfl (ix4 (tokenOf r) (placeOf r) h ⟨l.val, hlt⟩) fun a => ?_).trans ?_
    · match a with | ⟨0, _⟩ => rfl | ⟨1, _⟩ => rfl | ⟨2, _⟩ => rfl | ⟨3, _⟩ => rfl
    rw [val_main_v43_apply, val_main_v39_apply, val_main_v42_apply, low64, high64, cosA, sinA]
    unfold turn
    rw [if_pos hlt, show 1024 + h.val * 128 + l.val + 64 = 1024 + h.val * 128 + (64 + l.val) by omega]
    rfl
  · have hge : 64 ≤ l.val := Nat.le_of_not_lt hlt
    refine (concatenate_pair_apply_right (t := S4x4096x2x128) (s₁ := S4x4096x2x64) (s₂ := S4x4096x2x64) 3 _ _ _ _ rfl rfl (ix4 (tokenOf r) (placeOf r) h ⟨l.val - 64, by omega⟩) (fun a ha => ?_) ?_).trans ?_
    · match a with | ⟨0, _⟩ => rfl | ⟨1, _⟩ => rfl | ⟨2, _⟩ => rfl | ⟨3, _⟩ => exact absurd rfl ha
    · exact Nat.sub_add_cancel hge
    rw [val_main_v50_apply, val_main_v46_apply, val_main_v49_apply, low64, high64, cosB, sinB]
    unfold turn
    rw [if_neg hlt, show 1024 + h.val * 128 + l.val - 64 = 1024 + h.val * 128 + (l.val - 64) by omega]
    have e : 64 + (l.val - 64) = l.val := by omega
    show projAt x g w r (1024 + h.val * 128 + (64 + (l.val - 64))) * _ + _ = _
    rw [e]
    rfl

theorem turned32 (r : Fin 16384) (h : Fin 1) (l : Fin 64) :
    val_main_v88 (F := Ideal) x g w (ix4 (tokenOf r) (placeOf r) h l) = turn 0x42000000#32 32 (projAt x g w r) (r.val % 4096) (2560) l.val := by
  have hl := l.isLt
  unfold val_main_v88
  by_cases hlt : l.val < 32
  · refine (concatenate_pair_apply_left (t := S4x4096x1x64) (s₁ := S4x4096x1x32) (s₂ := S4x4096x1x32) 3 _ _ _ _ rfl (ix4 (tokenOf r) (placeOf r) h ⟨l.val, hlt⟩) fun a => ?_).trans ?_
    · match a with | ⟨0, _⟩ => rfl | ⟨1, _⟩ => rfl | ⟨2, _⟩ => rfl | ⟨3, _⟩ => rfl
    rw [val_main_v80_apply, val_main_v76_apply, val_main_v79_apply, low32, high32, cosC, sinC]
    unfold turn
    rw [if_pos hlt, show 2560 + l.val + 32 = 2560 + (32 + l.val) by omega]
    rfl
  · have hge : 32 ≤ l.val := Nat.le_of_not_lt hlt
    refine (concatenate_pair_apply_right (t := S4x4096x1x64) (s₁ := S4x4096x1x32) (s₂ := S4x4096x1x32) 3 _ _ _ _ rfl rfl (ix4 (tokenOf r) (placeOf r) h ⟨l.val - 32, by omega⟩) (fun a ha => ?_) ?_).trans ?_
    · match a with | ⟨0, _⟩ => rfl | ⟨1, _⟩ => rfl | ⟨2, _⟩ => rfl | ⟨3, _⟩ => exact absurd rfl ha
    · exact Nat.sub_add_cancel hge
    rw [val_main_v87_apply, val_main_v83_apply, val_main_v86_apply, low32, high32, cosD, sinD]
    unfold turn
    rw [if_neg hlt, show 2560 + l.val - 32 = 2560 + (l.val - 32) by omega]
    have e : 32 + (l.val - 32) = l.val := by omega
    show projAt x g w r (2560 + (32 + (l.val - 32))) * _ + _ = _
    rw [e]
    rfl

/-- What the reference leaves. -/
theorem keys_eq : val_main_v160 (F := Ideal) x g w = keys x g w := by
  funext i
  obtain ⟨r, j, rfl⟩ : ∃ (r : Fin 16384) (j : Fin 256), i = ix2 r j := ⟨i 0, i 1, by
    funext a; match a with | ⟨0, _⟩ => rfl | ⟨1, _⟩ => rfl⟩
  have hj := j.isLt
  have e : idx_main_v160 (ix2 r j) = ix4 (tokenOf r) (placeOf r) ⟨j.val / 128, by omega⟩ ⟨j.val % 128, by omega⟩ := by
    funext a
    match a with
    | ⟨0, _⟩ => refine Fin.ext ?_; show (r.val * 256 + j.val) / 1048576 = r.val / 4096; omega
    | ⟨1, _⟩ => refine Fin.ext ?_; show (r.val * 256 + j.val) / 256 % 4096 = r.val % 4096; omega
    | ⟨2, _⟩ => refine Fin.ext ?_; show (r.val * 256 + j.val) / 128 % 2 = j.val / 128; omega
    | ⟨3, _⟩ => refine Fin.ext ?_; show (r.val * 256 + j.val) % 128 = j.val % 128; omega
  rw [val_main_v160_apply, e, turned64]
  rfl

/-- What the reference leaves. -/
theorem values_eq : val_main_v161 (F := Ideal) x g w = values x g w := by
  funext i
  obtain ⟨r, j, rfl⟩ : ∃ (r : Fin 16384) (j : Fin 256), i = ix2 r j := ⟨i 0, i 1, by
    funext a; match a with | ⟨0, _⟩ => rfl | ⟨1, _⟩ => rfl⟩
  have hj := j.isLt
  have e : idx_main_v161 (ix2 r j) = ix4 (tokenOf r) (placeOf r) ⟨j.val / 128, by omega⟩ ⟨j.val % 128, by omega⟩ := by
    funext a
    match a with
    | ⟨0, _⟩ => refine Fin.ext ?_; show (r.val * 256 + j.val) / 1048576 = r.val / 4096; omega
    | ⟨1, _⟩ => refine Fin.ext ?_; show (r.val * 256 + j.val) / 256 % 4096 = r.val % 4096; omega
    | ⟨2, _⟩ => refine Fin.ext ?_; show (r.val * 256 + j.val) / 128 % 2 = j.val / 128; omega
    | ⟨3, _⟩ => refine Fin.ext ?_; show (r.val * 256 + j.val) % 128 = j.val % 128; omega
  rw [val_main_v161_apply, e, value]
  exact congrArg (projAt x g w r) (show 1280 + j.val / 128 * 128 + j.val % 128 = 1280 + j.val by omega)

/-- What the reference leaves. -/
theorem idxKeys_eq : val_main_v162 (F := Ideal) x g w = idxKeys x g w := by
  funext i
  obtain ⟨r, j, rfl⟩ : ∃ (r : Fin 16384) (j : Fin 64), i = ix2 r j := ⟨i 0, i 1, by
    funext a; match a with | ⟨0, _⟩ => rfl | ⟨1, _⟩ => rfl⟩
  have hj := j.isLt
  have e : idx_main_v89 (idx_main_v162 (ix2 r j)) = ix4 (tokenOf r) (placeOf r) 0 j := by
    have hr := r.isLt
    have e0 : (r.val * 64 + j.val) / 262144 = r.val / 4096 := by omega
    have e1 : (r.val * 64 + j.val) / 64 % 4096 = r.val % 4096 := by omega
    have e2 : (r.val * 64 + j.val) % 64 = j.val := by omega
    funext a
    match a with
    | ⟨0, _⟩ => refine Fin.ext ?_; show (((r.val * 64 + j.val) / 262144 * 4096 + (r.val * 64 + j.val) / 64 % 4096) * 64 + (r.val * 64 + j.val) % 64) / 262144 = r.val / 4096; omega
    | ⟨1, _⟩ => refine Fin.ext ?_; show (((r.val * 64 + j.val) / 262144 * 4096 + (r.val * 64 + j.val) / 64 % 4096) * 64 + (r.val * 64 + j.val) % 64) / 64 % 4096 = r.val % 4096; omega
    | ⟨2, _⟩ => rfl
    | ⟨3, _⟩ => refine Fin.ext ?_; show (((r.val * 64 + j.val) / 262144 * 4096 + (r.val * 64 + j.val) / 64 % 4096) * 64 + (r.val * 64 + j.val) % 64) % 64 = j.val; omega
  rw [val_main_v162_apply, val_main_v89_apply, e, turned32]
  rfl

end Cert.FrontWanted
-- ==== Proof.QueryWanted.lean ====
/-
  The queries of the attention group's reference, read at an index.
-/
module

public import proofs.«01_k».proof.Proof.FrontWanted
public import proofs.«01_k».proof.Proof.QueryForms

@[expose] public section

noncomputable section

namespace Cert.FrontWanted

open Cert.Reference5Ideal Cert.Reference5Ideal.Read Cert.Front
open Idealize.ShloMosaic
open Cert.Glu (rowNormed placeOf tokenOf)

variable (x : (⟨S4x4096x2048, .f32⟩ : BufTy).Contents (Elt Ideal)) (g : (⟨S1x2048, .f32⟩ : BufTy).Contents (Elt Ideal))
  (w : (⟨S1x2048x4688, .f32⟩ : BufTy).Contents (Elt Ideal))

theorem q_cosA (a : Fin 4) (p : Fin 4096) (h : Fin 8) (l : Fin 64) :
    val_main_v111 (F := Ideal) (ix4 a p h l) = cosAt 0x42800000#32 p.val l.val := by
  rw [val_main_v111_apply, val_main_v110_apply, val_main_v105_apply, val_main_v104_apply, val_main_v103_apply, val_main_v101_apply, val_main_v99_apply, val_main_v98_apply, val_main_v0_apply, val_main_v102_apply, val_main_v100_apply, val_main_v97_apply, val_main_v96_apply, val_main_cst_7_apply, val_main_v95_apply, val_main_v94_apply, val_main_cst_6_apply, val_main_v93_apply]
  rfl

theorem q_sinA (a : Fin 4) (p : Fin 4096) (h : Fin 8) (l : Fin 64) :
    val_main_v114 (F := Ideal) (ix4 a p h l) = sinAt 0x42800000#32 p.val l.val := by
  rw [val_main_v114_apply, val_main_v113_apply, val_main_v107_apply, val_main_v106_apply, val_main_v103_apply, val_main_v101_apply, val_main_v99_apply, val_main_v98_apply, val_main_v0_apply, val_main_v102_apply, val_main_v100_apply, val_main_v97_apply, val_main_v96_apply, val_main_cst_7_apply, val_main_v95_apply, val_main_v94_apply, val_main_cst_6_apply, val_main_v93_apply]
  rfl

theorem q_cosB (a : Fin 4) (p : Fin 4096) (h : Fin 8) (l : Fin 64) :
    val_main_v118 (F := Ideal) (ix4 a p h l) = cosAt 0x42800000#32 p.val l.val := by
  rw [val_main_v118_apply, val_main_v117_apply, val_main_v105_apply, val_main_v104_apply, val_main_v103_apply, val_main_v101_apply, val_main_v99_apply, val_main_v98_apply, val_main_v0_apply, val_main_v102_apply, val_main_v100_apply, val_main_v97_apply, val_main_v96_apply, val_main_cst_7_apply, val_main_v95_apply, val_main_v94_apply, val_main_cst_6_apply, val_main_v93_apply]
  rfl

theorem q_sinB (a : Fin 4) (p : Fin 4096) (h : Fin 8) (l : Fin 64) :
    val_main_v121 (F := Ideal) (ix4 a p h l) = sinAt 0x42800000#32 p.val l.val := by
  rw [val_main_v121_apply, val_main_v120_apply, val_main_v107_apply, val_main_v106_apply, val_main_v103_apply, val_main_v101_apply, val_main_v99_apply, val_main_v98_apply, val_main_v0_apply, val_main_v102_apply, val_main_v100_apply, val_main_v97_apply, val_main_v96_apply, val_main_cst_7_apply, val_main_v95_apply, val_main_v94_apply, val_main_cst_6_apply, val_main_v93_apply]
  rfl

theorem q_low64 (r : Fin 16384) (h : Fin 8) (l : Fin 64) :
    val_main_v108 (F := Ideal) x g w (ix4 (tokenOf r) (placeOf r) h l) = projAt x g w r (h.val * 128 + l.val) := by
  have hh := h.isLt
  have hl := l.isLt
  have e : idx_main_v90 (idx_main_v91 (idx_main_v108 (ix4 (tokenOf r) (placeOf r) h l))) = ix3 (tokenOf r) (placeOf r) ⟨h.val * 128 + l.val, by omega⟩ := by
    funext a
    match a with
    | ⟨0, _⟩ => refine Fin.ext ?_; show (((r.val / 4096 * 4096 + r.val % 4096) * 8 + h.val) * 128 + (l.val)) / 4194304 = r.val / 4096; omega
    | ⟨1, _⟩ => refine Fin.ext ?_; show (((r.val / 4096 * 4096 + r.val % 4096) * 8 + h.val) * 128 + (l.val)) / 1024 % 4096 = r.val % 4096; omega
    | ⟨2, _⟩ => refine Fin.ext ?_; show (((r.val / 4096 * 4096 + r.val % 4096) * 8 + h.val) * 128 + (l.val)) % 1024 = h.val * 128 + l.val; omega
  rw [val_main_v108_apply, val_main_v91_apply, val_main_v90_apply, e, column_apply]

theorem q_high64 (r : Fin 16384) (h : Fin 8) (l : Fin 64) :
    val_main_v109 (F := Ideal) x g w (ix4 (tokenOf r) (placeOf r) h l) = projAt x g w r (h.val * 128 + (64 + l.val)) := by
  have hh := h.isLt
  have hl := l.isLt
  have e : idx_main_v90 (idx_main_v91 (idx_main_v109 (ix4 (tokenOf r) (placeOf r) h l))) = ix3 (tokenOf r) (placeOf r) ⟨h.val * 128 + (64 + l.val), by omega⟩ := by
    funext a
    match a with
    | ⟨0, _⟩ => refine Fin.ext ?_; show (((r.val / 4096 * 4096 + r.val % 4096) * 8 + h.val) * 128 + (64 + l.val)) / 4194304 = r.val / 4096; omega
    | ⟨1, _⟩ => refine Fin.ext ?_; show (((r.val / 4096 * 4096 + r.val % 4096) * 8 + h.val) * 128 + (64 + l.val)) / 1024 % 4096 = r.val % 4096; omega
    | ⟨2, _⟩ => refine Fin.ext ?_; show (((r.val / 4096 * 4096 + r.val % 4096) * 8 + h.val) * 128 + (64 + l.val)) % 1024 = h.val * 128 + (64 + l.val); omega
  rw [val_main_v109_apply, val_main_v91_apply, val_main_v90_apply, e, column_apply]

theorem q_turned64 (r : Fin 16384) (h : Fin 8) (l : Fin 128) :
    val_main_v124 (F := Ideal) x g w (ix4 (tokenOf r) (placeOf r) h l) = turn 0x42800000#32 64 (projAt x g w r) (r.val % 4096) (h.val * 128) l.val := by
  have hl := l.isLt
  unfold val_main_v124
  by_cases hlt : l.val < 64
  · refine (concatenate_pair_apply_left (t := S4x4096x8x128) (s₁ := S4x4096x8x64) (s₂ := S4x4096x8x64) 3 _ _ _ _ rfl (ix4 (tokenOf r) (placeOf r) h ⟨l.val, hlt⟩) fun a => ?_).trans ?_
    · match a with | ⟨0, _⟩ => rfl | ⟨1, _⟩ => rfl | ⟨2, _⟩ => rfl | ⟨3, _⟩ => rfl
    rw [val_main_v116_apply, val_main_v112_apply, val_main_v115_apply, q_low64, q_high64, q_cosA, q_sinA]
    unfold turn
    rw [if_pos hlt, show h.val * 128 + l.val + 64 = h.val * 128 + (64 + l.val) by omega]
    rfl
  · have hge : 64 ≤ l.val := Nat.le_of_not_lt hlt
    refine (concatenate_pair_apply_right (t := S4x4096x8x128) (s₁ := S4x4096x8x64) (s₂ := S4x4096x8x64) 3 _ _ _ _ rfl rfl (ix4 (tokenOf r) (placeOf r) h ⟨l.val - 64, by omega⟩) (fun a ha => ?_) ?_).trans ?_
    · match a with | ⟨0, _⟩ => rfl | ⟨1, _⟩ => rfl | ⟨2, _⟩ => rfl | ⟨3, _⟩ => exact absurd rfl ha
    · exact Nat.sub_add_cancel hge
    rw [val_main_v123_apply, val_main_v119_apply, val_main_v122_apply, q_low64, q_high64, q_cosB, q_sinB]
    unfold turn
    rw [if_neg hlt, show h.val * 128 + l.val - 64 = h.val * 128 + (l.val - 64) by omega]
    have e : 64 + (l.val - 64) = l.val := by omega
    show projAt x g w r (h.val * 128 + (64 + (l.val - 64))) * _ + _ = _
    rw [e]
    rfl

/-- What the reference leaves. -/
theorem queries_eq : val_main_v164 (F := Ideal) x g w = queries x g w := by
  funext i
  obtain ⟨r, j, rfl⟩ : ∃ (r : Fin 16384) (j : Fin 1024), i = ix2 r j := ⟨i 0, i 1, by
    funext a; match a with | ⟨0, _⟩ => rfl | ⟨1, _⟩ => rfl⟩
  have hj := j.isLt
  have e : idx_main_v163 (ix2 r j) = ix4 (tokenOf r) (placeOf r) ⟨j.val / 128, by omega⟩ ⟨j.val % 128, by omega⟩ := by
    funext a
    match a with
    | ⟨0, _⟩ => refine Fin.ext ?_; show (r.val * 1024 + j.val) / 4194304 = r.val / 4096; omega
    | ⟨1, _⟩ => refine Fin.ext ?_; show (r.val * 1024 + j.val) / 1024 % 4096 = r.val % 4096; omega
    | ⟨2, _⟩ => refine Fin.ext ?_; show (r.val * 1024 + j.val) / 128 % 8 = j.val / 128; omega
    | ⟨3, _⟩ => refine Fin.ext ?_; show (r.val * 1024 + j.val) % 128 = j.val % 128; omega
  rw [val_main_v164_apply, val_main_v163_apply, e, q_turned64]
  rfl

end Cert.FrontWanted
-- ==== Proof.IdxQueryWanted.lean ====
/-
  The indexer's queries of the attention group's reference, read at an index.
-/
module

public import proofs.«01_k».proof.Proof.FrontWanted
public import proofs.«01_k».proof.Proof.QueryForms

@[expose] public section

noncomputable section

namespace Cert.FrontWanted

open Cert.Reference5Ideal Cert.Reference5Ideal.Read Cert.Front
open Idealize.ShloMosaic
open Cert.Glu (rowNormed placeOf tokenOf)

variable (x : (⟨S4x4096x2048, .f32⟩ : BufTy).Contents (Elt Ideal)) (g : (⟨S1x2048, .f32⟩ : BufTy).Contents (Elt Ideal))
  (w : (⟨S1x2048x4688, .f32⟩ : BufTy).Contents (Elt Ideal))

theorem i_cosC (a : Fin 4) (p : Fin 4096) (h : Fin 16) (l : Fin 32) :
    val_main_v146 (F := Ideal) (ix4 a p h l) = cosAt 0x42000000#32 p.val l.val := by
  rw [val_main_v146_apply, val_main_v145_apply, val_main_v140_apply, val_main_v139_apply, val_main_v138_apply, val_main_v136_apply, val_main_v134_apply, val_main_v133_apply, val_main_v0_apply, val_main_v137_apply, val_main_v135_apply, val_main_v132_apply, val_main_v131_apply, val_main_cst_9_apply, val_main_v130_apply, val_main_v129_apply, val_main_cst_8_apply, val_main_v128_apply]
  rfl

theorem i_sinC (a : Fin 4) (p : Fin 4096) (h : Fin 16) (l : Fin 32) :
    val_main_v149 (F := Ideal) (ix4 a p h l) = sinAt 0x42000000#32 p.val l.val := by
  rw [val_main_v149_apply, val_main_v148_apply, val_main_v142_apply, val_main_v141_apply, val_main_v138_apply, val_main_v136_apply, val_main_v134_apply, val_main_v133_apply, val_main_v0_apply, val_main_v137_apply, val_main_v135_apply, val_main_v132_apply, val_main_v131_apply, val_main_cst_9_apply, val_main_v130_apply, val_main_v129_apply, val_main_cst_8_apply, val_main_v128_apply]
  rfl

theorem i_cosD (a : Fin 4) (p : Fin 4096) (h : Fin 16) (l : Fin 32) :
    val_main_v153 (F := Ideal) (ix4 a p h l) = cosAt 0x42000000#32 p.val l.val := by
  rw [val_main_v153_apply, val_main_v152_apply, val_main_v140_apply, val_main_v139_apply, val_main_v138_apply, val_main_v136_apply, val_main_v134_apply, val_main_v133_apply, val_main_v0_apply, val_main_v137_apply, val_main_v135_apply, val_main_v132_apply, val_main_v131_apply, val_main_cst_9_apply, val_main_v130_apply, val_main_v129_apply, val_main_cst_8_apply, val_main_v128_apply]
  rfl

theorem i_sinD (a : Fin 4) (p : Fin 4096) (h : Fin 16) (l : Fin 32) :
    val_main_v156 (F := Ideal) (ix4 a p h l) = sinAt 0x42000000#32 p.val l.val := by
  rw [val_main_v156_apply, val_main_v155_apply, val_main_v142_apply, val_main_v141_apply, val_main_v138_apply, val_main_v136_apply, val_main_v134_apply, val_main_v133_apply, val_main_v0_apply, val_main_v137_apply, val_main_v135_apply, val_main_v132_apply, val_main_v131_apply, val_main_cst_9_apply, val_main_v130_apply, val_main_v129_apply, val_main_cst_8_apply, val_main_v128_apply]
  rfl

theorem i_low32 (r : Fin 16384) (h : Fin 16) (l : Fin 32) :
    val_main_v143 (F := Ideal) x g w (ix4 (tokenOf r) (placeOf r) h l) = projAt x g w r (1536 + h.val * 64 + l.val) := by
  have hh := h.isLt
  have hl := l.isLt
  have e : idx_main_v125 (idx_main_v126 (idx_main_v143 (ix4 (tokenOf r) (placeOf r) h l))) = ix3 (tokenOf r) (placeOf r) ⟨1536 + h.val * 64 + l.val, by omega⟩ := by
    funext a
    match a with
    | ⟨0, _⟩ => refine Fin.ext ?_; show (((r.val / 4096 * 4096 + r.val % 4096) * 16 + h.val) * 64 + (l.val)) / 4194304 = r.val / 4096; omega
    | ⟨1, _⟩ => refine Fin.ext ?_; show (((r.val / 4096 * 4096 + r.val % 4096) * 16 + h.val) * 64 + (l.val)) / 1024 % 4096 = r.val % 4096; omega
    | ⟨2, _⟩ => refine Fin.ext ?_; show 1536 + ((((r.val / 4096 * 4096 + r.val % 4096) * 16 + h.val) * 64 + (l.val)) % 1024) = 1536 + h.val * 64 + l.val; omega
  rw [val_main_v143_apply, val_main_v126_apply, val_main_v125_apply, e, column_apply]

theorem i_high32 (r : Fin 16384) (h : Fin 16) (l : Fin 32) :
    val_main_v144 (F := Ideal) x g w (ix4 (tokenOf r) (placeOf r) h l) = projAt x g w r (1536 + h.val * 64 + (32 + l.val)) := by
  have hh := h.isLt
  have hl := l.isLt
  have e : idx_main_v125 (idx_main_v126 (idx_main_v144 (ix4 (tokenOf r) (placeOf r) h l))) = ix3 (tokenOf r) (placeOf r) ⟨1536 + h.val * 64 + (32 + l.val), by omega⟩ := by
    funext a
    match a with
    | ⟨0, _⟩ => refine Fin.ext ?_; show (((r.val / 4096 * 4096 + r.val % 4096) * 16 + h.val) * 64 + (32 + l.val)) / 4194304 = r.val / 4096; omega
    | ⟨1, _⟩ => refine Fin.ext ?_; show (((r.val / 4096 * 4096 + r.val % 4096) * 16 + h.val) * 64 + (32 + l.val)) / 1024 % 4096 = r.val % 4096; omega
    | ⟨2, _⟩ => refine Fin.ext ?_; show 1536 + ((((r.val / 4096 * 4096 + r.val % 4096) * 16 + h.val) * 64 + (32 + l.val)) % 1024) = 1536 + h.val * 64 + (32 + l.val); omega
  rw [val_main_v144_apply, val_main_v126_apply, val_main_v125_apply, e, column_apply]

theorem i_turned32 (r : Fin 16384) (h : Fin 16) (l : Fin 64) :
    val_main_v159 (F := Ideal) x g w (ix4 (tokenOf r) (placeOf r) h l) = turn 0x42000000#32 32 (projAt x g w r) (r.val % 4096) (1536 + h.val * 64) l.val := by
  have hl := l.isLt
  unfold val_main_v159
  by_cases hlt : l.val < 32
  · refine (concatenate_pair_apply_left (t := S4x4096x16x64) (s₁ := S4x4096x16x32) (s₂ := S4x4096x16x32) 3 _ _ _ _ rfl (ix4 (tokenOf r) (placeOf r) h ⟨l.val, hlt⟩) fun a => ?_).trans ?_
    · match a with | ⟨0, _⟩ => rfl | ⟨1, _⟩ => rfl | ⟨2, _⟩ => rfl | ⟨3, _⟩ => rfl
    rw [val_main_v151_apply, val_main_v147_apply, val_main_v150_apply, i_low32, i_high32, i_cosC, i_sinC]
    unfold turn
    rw [if_pos hlt, show 1536 + h.val * 64 + l.val + 32 = 1536 + h.val * 64 + (32 + l.val) by omega]
    rfl
  · have hge : 32 ≤ l.val := Nat.le_of_not_lt hlt
    refine (concatenate_pair_apply_right (t := S4x4096x16x64) (s₁ := S4x4096x16x32) (s₂ := S4x4096x16x32) 3 _ _ _ _ rfl rfl (ix4 (tokenOf r) (placeOf r) h ⟨l.val - 32, by omega⟩) (fun a ha => ?_) ?_).trans ?_
    · match a with | ⟨0, _⟩ => rfl | ⟨1, _⟩ => rfl | ⟨2, _⟩ => rfl | ⟨3, _⟩ => exact absurd rfl ha
    · exact Nat.sub_add_cancel hge
    rw [val_main_v158_apply, val_main_v154_apply, val_main_v157_apply, i_low32, i_high32, i_cosD, i_sinD]
    unfold turn
    rw [if_neg hlt, show 1536 + h.val * 64 + l.val - 32 = 1536 + h.val * 64 + (l.val - 32) by omega]
    have e : 32 + (l.val - 32) = l.val := by omega
    show projAt x g w r (1536 + h.val * 64 + (32 + (l.val - 32))) * _ + _ = _
    rw [e]
    rfl

/-- What the reference leaves. -/
theorem idxQueries_eq : val_main_v167 (F := Ideal) x g w = idxQueries x g w := by
  funext i
  obtain ⟨h, r, l, rfl⟩ : ∃ (h : Fin 16) (r : Fin 16384) (l : Fin 64), i = ix3 h r l := ⟨i 0, i 1, i 2, by
    funext a; match a with | ⟨0, _⟩ => rfl | ⟨1, _⟩ => rfl | ⟨2, _⟩ => rfl⟩
  have hh := h.isLt
  have hl := l.isLt
  have e : idx_main_v165 (idx_main_v166 (ix3 h r l)) = ix4 (tokenOf r) (placeOf r) h l := by
    funext a
    match a with
    | ⟨0, _⟩ => refine Fin.ext ?_; show ((r.val * 16 + h.val) * 64 + l.val) / 4194304 = r.val / 4096; omega
    | ⟨1, _⟩ => refine Fin.ext ?_; show ((r.val * 16 + h.val) * 64 + l.val) / 1024 % 4096 = r.val % 4096; omega
    | ⟨2, _⟩ => refine Fin.ext ?_; show ((r.val * 16 + h.val) * 64 + l.val) / 64 % 16 = h.val; omega
    | ⟨3, _⟩ => refine Fin.ext ?_; show ((r.val * 16 + h.val) * 64 + l.val) % 64 = l.val; omega
  rw [val_main_v167_apply, val_main_v166_apply, val_main_v165_apply, e, i_turned32]
  rfl

end Cert.FrontWanted
-- ==== Proof.Front.lean ====
/-
  The attention group's projections: the kernel and the reference leave the same keys, values, indexer keys, queries and indexer queries.
-/
module

public import proofs.«01_k».proof.Proof.QueryTile
public import proofs.«01_k».proof.Proof.IdxQueryTile
public import proofs.«01_k».proof.Proof.QueryWanted
public import proofs.«01_k».proof.Proof.IdxQueryWanted
public import proofs.«01_k».proof.Defs

@[expose] public section

noncomputable section

namespace Cert.Front

open Cert.Kernel5Ideal Cert.Kernel5Ideal.Gen
open Idealize.ShloMosaic Idealize.ShloMosaic.TcCoe Idealize.SL.Sem

/-- The reference's run ends with every argument as launched and every counter at zero. -/
theorem frame_reference : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

/-- The two programs leave one set of results. -/
theorem same_result : Cert.algebraic_Kernel5Ideal_Reference5Ideal := by
  intro m g m' g' _ hargs
  refine ⟨fun c => keys (m ((c : Thread nD τ).loc main_arg0)) (m ((c : Thread nD τ).loc main_arg1)) (m ((c : Thread nD τ).loc main_arg2)),
    fun c => values (m ((c : Thread nD τ).loc main_arg0)) (m ((c : Thread nD τ).loc main_arg1)) (m ((c : Thread nD τ).loc main_arg2)),
    fun c => idxKeys (m ((c : Thread nD τ).loc main_arg0)) (m ((c : Thread nD τ).loc main_arg1)) (m ((c : Thread nD τ).loc main_arg2)),
    fun c => queries (m ((c : Thread nD τ).loc main_arg0)) (m ((c : Thread nD τ).loc main_arg1)) (m ((c : Thread nD τ).loc main_arg2)),
    fun c => idxQueries (m ((c : Thread nD τ).loc main_arg0)) (m ((c : Thread nD τ).loc main_arg1)) (m ((c : Thread nD τ).loc main_arg2)), ?_, ?_⟩
  · refine (θ_run _ _ _).mono (fun r h c => ?_) (Value.run_blocks m g)
    obtain ⟨h0, h1, _, h3, _, h5, h6, _, _, h9⟩ := h c
    exact ⟨h1.trans (left_keys m c), h3.trans (left_values m c), h6.trans (left_idxKeys m c), h0.trans (left_queries m c), h5.trans (left_idxQueries m c), h9⟩
  · refine (θ_run _ _ _).mono (fun r h c => ?_) (Cert.Reference5Ideal.Value.run m' g')
    obtain ⟨a0, a1, a2⟩ := hargs c
    obtain ⟨h0, h1, h2, h3, h4, h5⟩ := h c
    refine ⟨h0.trans ?_, h1.trans ?_, h2.trans ?_, h3.trans ?_, h4.trans ?_, h5⟩
    · rw [Cert.Reference5Ideal.Read.val_main_v160_eq, Cert.FrontWanted.keys_eq, a0, a1, a2]
    · rw [Cert.Reference5Ideal.Read.val_main_v161_eq, Cert.FrontWanted.values_eq, a0, a1, a2]
    · rw [Cert.Reference5Ideal.Read.val_main_v162_eq, Cert.FrontWanted.idxKeys_eq, a0, a1, a2]
    · rw [Cert.Reference5Ideal.Read.val_main_v164_eq, Cert.FrontWanted.queries_eq, a0, a1, a2]
    · rw [Cert.Reference5Ideal.Read.val_main_v167_eq, Cert.FrontWanted.idxQueries_eq, a0, a1, a2]

end Cert.Front
-- ==== Proof.Out.lean ====
/-
  The output projection with its residual and the norm that follows: what the pallas_call leaves, read at an index, and
  the reference's results at the same index.
-/
module

public import proofs.«01_k».proof.Proof.Gen.Kernel6Ideal.Value
public import proofs.«01_k».proof.Proof.Gen.Reference6Ideal.Read
public import proofs.«01_k».proof.Proof.Glu
public import proofs.«01_k».proof.Defs
public import Idealize.ShloMosaic.PureOps.Ideal.Laws
public import Idealize.ShloMosaic.Lib.Pipeline.Value
public import Idealize.ShloMosaic.Lib.Pipeline.ValueKit
public import Idealize.ShloMosaic.Lib.Pipeline.Covers
public import Idealize.ShloMosaic.Lib.ValueIdx

@[expose] public section

noncomputable section

namespace Cert.Out

open Cert.Kernel6Ideal Cert.Kernel6Ideal.Gen
open Idealize.ShloMosaic Idealize.ShloMosaic.TcCoe Idealize.SL.Sem
open Idealize.ShloMosaic.ValueIdx (contrEquiv1 contrEquiv1_symm_val)
open Cert.Glu (normed placeOf tokenOf cast_same flat_apply scale_apply)

/-- The normed rows of a tile. -/
theorem normed_apply (x : FVec Ideal S256x2048 .f32) (g : FVec Ideal S1x2048 .f32) (i : Fin 256) (k : Fin 2048) :
    mulf (mulf x (broadcastTo S256x2048 (rsqrt (addf (divf (shapeCast S256x1 (multiReduction .add [1] S256 (mulf x x) 0x00000000#32 reduces_S256x2048_S256 (.inl rfl) rfl) shapeCasts_S256_S256x1)
      (broadcast S256x1 (Scalar.ofBits .f32 0x45000000#32))) (broadcast S256x1 (Scalar.ofBits .f32 0x358637BD#32)))) broadcasts_S256x1_S256x2048))
      (broadcastTo S256x2048 g broadcasts_S1x2048_S256x2048) (ix2 i k) = normed (fun l => x (ix2 i l)) (fun l => g (ix2 0 l)) k := by
  unfold normed
  refine congrArg₂ (fun a b : EReal => a * b) (congrArg (fun b : EReal => x (ix2 i k) * b) ?_) ?_
  · refine (broadcastTo_apply _ _ _ (ix2 i 0) (fun a => by match a with | ⟨0, _⟩ => rfl | ⟨1, _⟩ => rfl)).trans ?_
    show Ideal.rsqrt (Ideal.div (shapeCast S256x1 _ _ (ix2 i 0)) _ + _) = _
    refine congrArg (fun s : EReal => Ideal.rsqrt (Ideal.div s (Ideal.ofBits .f32 0x45000000#32) + Ideal.ofBits .f32 0x358637BD#32)) ?_
    refine (shapeCast_apply _ _ _ (ix1 i) ?_).trans ?_
    · refine (Shape.rowMajor_val_one _).trans (Eq.trans ?_ (Shape.rowMajor_val_two _).symm)
      show i.val = i.val * 1 + 0
      omega
    · refine (Ideal.multiReduction_add_single _ _ _ _ _ _).trans ?_
      refine Finset.sum_congr rfl fun l _ => ?_
      have e : Shape.Reduces.lift reduces_S256x2048_S256 (ix1 i) l = ix2 i l := by
        funext a; match a with | ⟨0, _⟩ => rfl | ⟨1, _⟩ => rfl
      rw [e]
      rfl
  · exact broadcastTo_apply _ _ _ (ix2 0 k) (fun a => by match a with | ⟨0, _⟩ => rfl | ⟨1, _⟩ => rfl)

/-- The product of a tile, at a row and a column. -/
theorem product_apply (a : FVec Ideal S256x1024 .bf16) (b : FVec Ideal S1024x2048 .bf16) (i : Fin 256) (j : Fin 2048) :
    matmul dot_S256x1024_S1024x2048_S256x2048_1_0_0_1_n_n none a b (constant S256x2048 .f32 0x00000000#32) (ix2 i j)
      = ∑ k : Fin 1024, (a (ix2 i k) : EReal) * b (ix2 k j) := by
  let d := dot_S256x1024_S1024x2048_S256x2048_1_0_0_1_n_n
  simp only [matmul]
  rw [Ideal.matmul_constant_zero_apply, ← Equiv.sum_comp (contrEquiv1 d 1024 rfl rfl).symm]
  refine Finset.sum_congr rfl fun k _ => ?_
  have hk := contrEquiv1_symm_val d 1024 rfl rfl k
  have el : d.lhsIdx (ix2 i j) ((contrEquiv1 d 1024 rfl rfl).symm k) = ix2 i k := funext fun x => Fin.ext (by
    match x with
    | ⟨0, _⟩ =>
      show (d.lhsIdx (ix2 i j) _ 0).val = _
      unfold DotDims.lhsIdx
      rw [dif_neg (show ¬(0 : Fin S256x1024.rank) ∈ d.lhsBatch by decide), dif_pos (show (0 : Fin S256x1024.rank) ∈ d.lhsNonContracting by decide)]
      rfl
    | ⟨1, _⟩ => exact (d.lhsIdx_val_of_single rfl _ _).trans hk)
  have er : d.rhsIdx (ix2 i j) ((contrEquiv1 d 1024 rfl rfl).symm k) = ix2 k j := funext fun x => Fin.ext (by
    match x with
    | ⟨0, _⟩ => exact (d.rhsIdx_val_of_single rfl _ _).trans hk
    | ⟨1, _⟩ =>
      show (d.rhsIdx (ix2 i j) _ 1).val = _
      unfold DotDims.rhsIdx
      rw [dif_neg (show ¬(1 : Fin S1024x2048.rank) ∈ d.rhsBatch by decide), dif_pos (show (1 : Fin S1024x2048.rank) ∈ d.rhsNonContracting by decide)]
      rfl)
  rw [el, er]

/-- A tile's first result, at a row and a column. -/
theorem sum_apply (x : Vec Ideal S256x2048 .f32) (p : Vec Ideal S256x1024 .bf16) (y : Vec Ideal S1024x2048 .bf16) (q : Vec Ideal S256x1024 .bf16)
    (z : Vec Ideal S1024x2048 .bf16) (i : Fin 256) (j : Fin 2048) :
    k0_pay1 x p y q z (ix2 i j)
      = (x (ix2 i j) + ∑ k : Fin 1024, (p (ix2 i k) : EReal) * y (ix2 k j)) + ∑ k : Fin 1024, (q (ix2 i k) : EReal) * z (ix2 k j) := by
  rw [← product_apply p y, ← product_apply q z]
  unfold k0_pay1
  rw [cast_same x, cast_same p, cast_same y, cast_same q, cast_same z]
  rfl

/-- A tile's second result: the first's rows, normed. -/
theorem tile_apply (x : Vec Ideal S256x2048 .f32) (p : Vec Ideal S256x1024 .bf16) (y : Vec Ideal S1024x2048 .bf16) (q : Vec Ideal S256x1024 .bf16)
    (z : Vec Ideal S1024x2048 .bf16) (g : Vec Ideal S1x2048 .f32) (i : Fin 256) (j : Fin 2048) :
    k0_pay2 x p y q z g (ix2 i j) = normed (fun l => k0_pay1 x p y q z (ix2 i l)) (fun l => g (ix2 0 l)) j := by
  unfold k0_pay2
  rw [cast_same g]
  exact normed_apply (k0_pay1 x p y q z) g i j

/-! ## The arrays the call reads -/

section
variable {F : FTy → Type} [FloatOps F] (m : (ℓ : Loc nD τ sig) → Buf (Elt F) ℓ) (c : Dev nD)

theorem left_eq : V m c (Pipeline.arrRef spec0 0)
    = truncf .bf16 (shapeCast S16384x1024 (m ((c : Thread nD τ).loc main_arg0)) shapeCasts_S4x4096x1024_S16384x1024) bitsLt_bf16_f32 := by
  show StableHlo.after hostOps0 _ _ = _
  simp only [hostOps0]
  after_results_simp <;> rfl

theorem right_eq : V m c (Pipeline.arrRef spec0 1)
    = truncf .bf16 (shapeCast S16384x1024 (m ((c : Thread nD τ).loc main_arg1)) shapeCasts_S4x4096x1024_S16384x1024) bitsLt_bf16_f32 := by
  show StableHlo.after hostOps0 _ _ = _
  simp only [hostOps0]
  after_results_simp <;> rfl

theorem first_eq : V m c (Pipeline.arrRef spec0 2)
    = truncf .bf16 (extractStridedSlice S1024x2048 ![0, 0] (shapeCast S2048x2048 (m ((c : Thread nD τ).loc main_arg3)) shapeCasts_S1x2048x2048_S2048x2048) slices_S2048x2048_S1024x2048_0_0) bitsLt_bf16_f32 := by
  show StableHlo.after hostOps0 _ _ = _
  simp only [hostOps0]
  after_results_simp <;> rfl

theorem second_eq : V m c (Pipeline.arrRef spec0 3)
    = truncf .bf16 (extractStridedSlice S1024x2048 ![1024, 0] (shapeCast S2048x2048 (m ((c : Thread nD τ).loc main_arg3)) shapeCasts_S1x2048x2048_S2048x2048) slices_S2048x2048_S1024x2048_1024_0) bitsLt_bf16_f32 := by
  show StableHlo.after hostOps0 _ _ = _
  simp only [hostOps0]
  after_results_simp <;> rfl

theorem rows_eq : V m c (Pipeline.arrRef spec0 4)
    = shapeCast S16384x2048 (m ((c : Thread nD τ).loc main_arg2)) shapeCasts_S4x4096x2048_S16384x2048 := by
  show StableHlo.after hostOps0 _ _ = _
  simp only [hostOps0]
  after_results_simp <;> rfl

theorem norm_eq : V m c (Pipeline.arrRef spec0 5)
    = broadcastInDim S1x2048 ![1] bcast_S2048_S1x2048_1 (shapeCast S2048 (m ((c : Thread nD τ).loc main_arg4)) shapeCasts_S1x2048_S2048) := by
  show StableHlo.after hostOps0 _ _ = _
  simp only [hostOps0]
  after_results_simp <;> rfl

end

/-! ## The blocks -/

/-- A tile's row of the tokens. -/
def rowOf (t : Fin grid0.N) (i : Fin 256) : Fin 16384 := ⟨256 * t.val + i.val, by have := lt_of_lt_of_eq t.isLt N_0; omega⟩

theorem index0 : ∀ t : Fin cfg0.N, (cfg0.win 0).index t (0 : Fin 2) = t.val ∧ (cfg0.win 0).index t (1 : Fin 2) = 0 :=
  (by decide +kernel : ∀ t : Fin grid0.N, win0_0.index t (0 : Fin 2) = t.val ∧ win0_0.index t (1 : Fin 2) = 0)

theorem index1 : ∀ t : Fin cfg0.N, (cfg0.win 1).index t (0 : Fin 2) = t.val ∧ (cfg0.win 1).index t (1 : Fin 2) = 0 :=
  (by decide +kernel : ∀ t : Fin grid0.N, win0_1.index t (0 : Fin 2) = t.val ∧ win0_1.index t (1 : Fin 2) = 0)

theorem index2 : ∀ t : Fin cfg0.N, (cfg0.win 2).index t (0 : Fin 2) = 0 ∧ (cfg0.win 2).index t (1 : Fin 2) = 0 :=
  (by decide +kernel : ∀ t : Fin grid0.N, win0_2.index t (0 : Fin 2) = 0 ∧ win0_2.index t (1 : Fin 2) = 0)

theorem index3 : ∀ t : Fin cfg0.N, (cfg0.win 3).index t (0 : Fin 2) = 0 ∧ (cfg0.win 3).index t (1 : Fin 2) = 0 :=
  (by decide +kernel : ∀ t : Fin grid0.N, win0_3.index t (0 : Fin 2) = 0 ∧ win0_3.index t (1 : Fin 2) = 0)

theorem index4 : ∀ t : Fin cfg0.N, (cfg0.win 4).index t (0 : Fin 2) = t.val ∧ (cfg0.win 4).index t (1 : Fin 2) = 0 :=
  (by decide +kernel : ∀ t : Fin grid0.N, win0_4.index t (0 : Fin 2) = t.val ∧ win0_4.index t (1 : Fin 2) = 0)

theorem index5 : ∀ t : Fin cfg0.N, (cfg0.win 5).index t (0 : Fin 2) = 0 ∧ (cfg0.win 5).index t (1 : Fin 2) = 0 :=
  (by decide +kernel : ∀ t : Fin grid0.N, win0_5.index t (0 : Fin 2) = 0 ∧ win0_5.index t (1 : Fin 2) = 0)

theorem index6 : ∀ t : Fin cfg0.N, (cfg0.win 6).index t (0 : Fin 2) = t.val ∧ (cfg0.win 6).index t (1 : Fin 2) = 0 :=
  (by decide +kernel : ∀ t : Fin grid0.N, win0_6.index t (0 : Fin 2) = t.val ∧ win0_6.index t (1 : Fin 2) = 0)

theorem index7 : ∀ t : Fin cfg0.N, (cfg0.win 7).index t (0 : Fin 2) = t.val ∧ (cfg0.win 7).index t (1 : Fin 2) = 0 :=
  (by decide +kernel : ∀ t : Fin grid0.N, win0_7.index t (0 : Fin 2) = t.val ∧ win0_7.index t (1 : Fin 2) = 0)

section
variable {F : FTy → Type} [FloatOps F] (m : (ℓ : Loc nD τ sig) → Buf (Elt F) ℓ) (c : Dev nD)

theorem iblk0_apply (t : Fin grid0.N) (i : Fin 256) (k : Fin 1024) :
    iblk m c 0 t (ix2 i k) = V m c (Pipeline.arrRef spec0 0) (ix2 (rowOf t i) k) := by
  obtain ⟨e0, e1⟩ := index0 t
  unfold iblk
  refine congrArg (V m c (Pipeline.arrRef spec0 0)) (funext fun a => Fin.ext ?_)
  match a with
  | ⟨0, _⟩ => exact ((cfg0.win 0).rect_emb_val t (ix2 i k) (0 : Fin 2)).trans ((congrArg (fun z : ℕ => z * 256 + i.val) e0).trans (show t.val * 256 + i.val = 256 * t.val + i.val by omega))
  | ⟨1, _⟩ => exact ((cfg0.win 0).rect_emb_val t (ix2 i k) (1 : Fin 2)).trans ((congrArg (fun z : ℕ => z * 1024 + k.val) e1).trans (show 0 * 1024 + k.val = k.val by omega))

theorem iblk1_apply (t : Fin grid0.N) (i : Fin 256) (k : Fin 1024) :
    iblk m c 1 t (ix2 i k) = V m c (Pipeline.arrRef spec0 1) (ix2 (rowOf t i) k) := by
  obtain ⟨e0, e1⟩ := index1 t
  unfold iblk
  refine congrArg (V m c (Pipeline.arrRef spec0 1)) (funext fun a => Fin.ext ?_)
  match a with
  | ⟨0, _⟩ => exact ((cfg0.win 1).rect_emb_val t (ix2 i k) (0 : Fin 2)).trans ((congrArg (fun z : ℕ => z * 256 + i.val) e0).trans (show t.val * 256 + i.val = 256 * t.val + i.val by omega))
  | ⟨1, _⟩ => exact ((cfg0.win 1).rect_emb_val t (ix2 i k) (1 : Fin 2)).trans ((congrArg (fun z : ℕ => z * 1024 + k.val) e1).trans (show 0 * 1024 + k.val = k.val by omega))

theorem iblk2_apply (t : Fin grid0.N) (i : Fin 1024) (k : Fin 2048) :
    iblk m c 2 t (ix2 i k) = V m c (Pipeline.arrRef spec0 2) (ix2 i k) := by
  obtain ⟨e0, e1⟩ := index2 t
  unfold iblk
  refine congrArg (V m c (Pipeline.arrRef spec0 2)) (funext fun a => Fin.ext ?_)
  match a with
  | ⟨0, _⟩ => exact ((cfg0.win 2).rect_emb_val t (ix2 i k) (0 : Fin 2)).trans ((congrArg (fun z : ℕ => z * 1024 + i.val) e0).trans (show 0 * 1024 + i.val = i.val by omega))
  | ⟨1, _⟩ => exact ((cfg0.win 2).rect_emb_val t (ix2 i k) (1 : Fin 2)).trans ((congrArg (fun z : ℕ => z * 2048 + k.val) e1).trans (show 0 * 2048 + k.val = k.val by omega))

theorem iblk3_apply (t : Fin grid0.N) (i : Fin 1024) (k : Fin 2048) :
    iblk m c 3 t (ix2 i k) = V m c (Pipeline.arrRef spec0 3) (ix2 i k) := by
  obtain ⟨e0, e1⟩ := index3 t
  unfold iblk
  refine congrArg (V m c (Pipeline.arrRef spec0 3)) (funext fun a => Fin.ext ?_)
  match a with
  | ⟨0, _⟩ => exact ((cfg0.win 3).rect_emb_val t (ix2 i k) (0 : Fin 2)).trans ((congrArg (fun z : ℕ => z * 1024 + i.val) e0).trans (show 0 * 1024 + i.val = i.val by omega))
  | ⟨1, _⟩ => exact ((cfg0.win 3).rect_emb_val t (ix2 i k) (1 : Fin 2)).trans ((congrArg (fun z : ℕ => z * 2048 + k.val) e1).trans (show 0 * 2048 + k.val = k.val by omega))

theorem iblk4_apply (t : Fin grid0.N) (i : Fin 256) (k : Fin 2048) :
    iblk m c 4 t (ix2 i k) = V m c (Pipeline.arrRef spec0 4) (ix2 (rowOf t i) k) := by
  obtain ⟨e0, e1⟩ := index4 t
  unfold iblk
  refine congrArg (V m c (Pipeline.arrRef spec0 4)) (funext fun a => Fin.ext ?_)
  match a with
  | ⟨0, _⟩ => exact ((cfg0.win 4).rect_emb_val t (ix2 i k) (0 : Fin 2)).trans ((congrArg (fun z : ℕ => z * 256 + i.val) e0).trans (show t.val * 256 + i.val = 256 * t.val + i.val by omega))
  | ⟨1, _⟩ => exact ((cfg0.win 4).rect_emb_val t (ix2 i k) (1 : Fin 2)).trans ((congrArg (fun z : ℕ => z * 2048 + k.val) e1).trans (show 0 * 2048 + k.val = k.val by omega))

theorem iblk5_apply (t : Fin grid0.N) (i : Fin 1) (k : Fin 2048) :
    iblk m c 5 t (ix2 i k) = V m c (Pipeline.arrRef spec0 5) (ix2 i k) := by
  obtain ⟨e0, e1⟩ := index5 t
  unfold iblk
  refine congrArg (V m c (Pipeline.arrRef spec0 5)) (funext fun a => Fin.ext ?_)
  match a with
  | ⟨0, _⟩ => exact ((cfg0.win 5).rect_emb_val t (ix2 i k) (0 : Fin 2)).trans ((congrArg (fun z : ℕ => z * 1 + i.val) e0).trans (show 0 * 1 + i.val = i.val by omega))
  | ⟨1, _⟩ => exact ((cfg0.win 5).rect_emb_val t (ix2 i k) (1 : Fin 2)).trans ((congrArg (fun z : ℕ => z * 2048 + k.val) e1).trans (show 0 * 2048 + k.val = k.val by omega))

theorem blk6_emb (t : Fin grid0.N) (i : Fin 256) (j : Fin 2048) : ((cfg0.win 6).blk t).view.emb (ix2 i j) = ix2 (rowOf t i) j := by
  obtain ⟨e0, e1⟩ := index6 t
  refine funext fun a => Fin.ext ?_
  match a with
  | ⟨0, _⟩ => exact ((cfg0.win 6).rect_emb_val t (ix2 i j) (0 : Fin 2)).trans ((congrArg (fun z : ℕ => z * 256 + i.val) e0).trans (show t.val * 256 + i.val = 256 * t.val + i.val by omega))
  | ⟨1, _⟩ => exact ((cfg0.win 6).rect_emb_val t (ix2 i j) (1 : Fin 2)).trans ((congrArg (fun z : ℕ => z * 2048 + j.val) e1).trans (show 0 * 2048 + j.val = j.val by omega))

theorem blk7_emb (t : Fin grid0.N) (i : Fin 256) (j : Fin 2048) : ((cfg0.win 7).blk t).view.emb (ix2 i j) = ix2 (rowOf t i) j := by
  obtain ⟨e0, e1⟩ := index7 t
  refine funext fun a => Fin.ext ?_
  match a with
  | ⟨0, _⟩ => exact ((cfg0.win 7).rect_emb_val t (ix2 i j) (0 : Fin 2)).trans ((congrArg (fun z : ℕ => z * 256 + i.val) e0).trans (show t.val * 256 + i.val = 256 * t.val + i.val by omega))
  | ⟨1, _⟩ => exact ((cfg0.win 7).rect_emb_val t (ix2 i j) (1 : Fin 2)).trans ((congrArg (fun z : ℕ => z * 2048 + j.val) e1).trans (show 0 * 2048 + j.val = j.val by omega))

end

/-! ## The results -/

section
variable (a b : (⟨S4x4096x1024, .f32⟩ : BufTy).Contents (Elt Ideal)) (x : (⟨S4x4096x2048, .f32⟩ : BufTy).Contents (Elt Ideal))
  (w : (⟨S1x2048x2048, .f32⟩ : BufTy).Contents (Elt Ideal)) (g : (⟨S1x2048, .f32⟩ : BufTy).Contents (Elt Ideal))

/-- A token's residual row plus its two mixers' rows through their halves of the weights. -/
def mixed (r : Fin 16384) (j : Fin 2048) : EReal :=
  (x (ix3 (tokenOf r) (placeOf r) j) + ∑ k : Fin 1024, (a (ix3 (tokenOf r) (placeOf r) k) : EReal) * w (ix3 0 ⟨k.val, by omega⟩ j))
    + ∑ k : Fin 1024, (b (ix3 (tokenOf r) (placeOf r) k) : EReal) * w (ix3 0 ⟨1024 + k.val, by omega⟩ j)

/-- The rows. -/
def hidden : (⟨2, ![16384, 2048]⟩ : Shape).Idx → EReal := fun i => mixed a b x w (i 0) (i 1)

/-- And the rows normed. -/
def hiddenNormed : (⟨2, ![16384, 2048]⟩ : Shape).Idx → EReal := fun i => normed (mixed a b x w (i 0)) (fun l => g (ix2 0 l)) (i 1)

theorem half_apply (i : Fin 16384) (k : Fin 1024) :
    shapeCast S16384x1024 a shapeCasts_S4x4096x1024_S16384x1024 (ix2 i k) = a (ix3 (tokenOf i) (placeOf i) k) := by
  refine shapeCast_apply _ _ _ _ ?_
  refine (Shape.rowMajor_val_three _).trans (Eq.trans ?_ (Shape.rowMajor_val_two _).symm)
  show (i.val / 4096 * 4096 + i.val % 4096) * 1024 + k.val = i.val * 1024 + k.val
  omega

theorem flatWeight_apply (k : Fin 2048) (j : Fin 2048) :
    shapeCast S2048x2048 w shapeCasts_S1x2048x2048_S2048x2048 (ix2 k j) = w (ix3 0 k j) := by
  refine shapeCast_apply _ _ _ _ ?_
  refine (Shape.rowMajor_val_three _).trans (Eq.trans ?_ (Shape.rowMajor_val_two _).symm)
  show (0 * 2048 + k.val) * 2048 + j.val = k.val * 2048 + j.val
  omega

theorem low_apply (k : Fin 1024) (j : Fin 2048) :
    extractStridedSlice S1024x2048 ![0, 0] (shapeCast S2048x2048 w shapeCasts_S1x2048x2048_S2048x2048) slices_S2048x2048_S1024x2048_0_0 (ix2 k j)
      = w (ix3 0 ⟨k.val, by omega⟩ j) :=
  (extractStridedSlice_apply _ _ _ _ (ix2 ⟨k.val, by omega⟩ j) (fun a => by
    match a with | ⟨0, _⟩ => exact (Nat.zero_add _).symm | ⟨1, _⟩ => exact (Nat.zero_add _).symm)).trans (flatWeight_apply w _ _)

theorem high_apply (k : Fin 1024) (j : Fin 2048) :
    extractStridedSlice S1024x2048 ![1024, 0] (shapeCast S2048x2048 w shapeCasts_S1x2048x2048_S2048x2048) slices_S2048x2048_S1024x2048_1024_0 (ix2 k j)
      = w (ix3 0 ⟨1024 + k.val, by omega⟩ j) :=
  (extractStridedSlice_apply _ _ _ _ (ix2 ⟨1024 + k.val, by omega⟩ j) (fun a => by
    match a with | ⟨0, _⟩ => rfl | ⟨1, _⟩ => exact (Nat.zero_add _).symm)).trans (flatWeight_apply w _ _)

end

section
variable (m : (ℓ : Loc nD τ sig) → Buf (Elt Ideal) ℓ) (c : Dev nD)

/-- (m ((c : Thread nD τ).loc main_arg0)) point's rows are the tokens'. -/
theorem mixed_block (t : Fin grid0.N) (i : Fin 256) (j : Fin 2048) :
    k0_pay1 (iblk m c 4 t) (iblk m c 0 t) (iblk m c 2 t) (iblk m c 1 t) (iblk m c 3 t) (ix2 i j) = mixed (m ((c : Thread nD τ).loc main_arg0)) (m ((c : Thread nD τ).loc main_arg1)) (m ((c : Thread nD τ).loc main_arg2)) (m ((c : Thread nD τ).loc main_arg3)) (rowOf t i) j := by
  refine (sum_apply _ _ _ _ _ i j).trans ?_
  unfold mixed
  refine congrArg₂ (fun p q : EReal => p + q) (congrArg₂ (fun p q : EReal => p + q) ?_ (Finset.sum_congr rfl fun k _ => congrArg₂ (fun p q : EReal => p * q) ?_ ?_))
    (Finset.sum_congr rfl fun k _ => congrArg₂ (fun p q : EReal => p * q) ?_ ?_)
  · rw [iblk4_apply, rows_eq]; exact flat_apply _ _ _
  · rw [iblk0_apply, left_eq]; exact half_apply _ _ _
  · rw [iblk2_apply, first_eq]; exact low_apply _ _ _
  · rw [iblk1_apply, right_eq]; exact half_apply _ _ _
  · rw [iblk3_apply, second_eq]; exact high_apply _ _ _

/-- What the call leaves. -/
theorem left_hidden : (dats m 0 c).arrAt 6 cfg0.N = hidden (m ((c : Thread nD τ).loc main_arg0)) (m ((c : Thread nD τ).loc main_arg1)) (m ((c : Thread nD τ).loc main_arg2)) (m ((c : Thread nD τ).loc main_arg3)) := by
  refine (dats m 0 c).arrAt_eq_of_covers 6 (hidden (m ((c : Thread nD τ).loc main_arg0)) (m ((c : Thread nD τ).loc main_arg1)) (m ((c : Thread nD τ).loc main_arg2)) (m ((c : Thread nD τ).loc main_arg3))) ?_ fun t _ y => ?_
  · refine (cfg0.win 6).covers_of_indexMap_surj rfl (fun a => (by decide : ∀ a : Fin 2, 0 < (![256, 2048] : Fin 2 → ℕ) a) a) fun β => ?_
    have h0 : (β (0 : Fin 2)).val < 64 := lt_of_lt_of_eq (β (0 : Fin 2)).isLt (show (16384 + 256 - 1) / 256 = 64 by decide)
    have h1 : (β (1 : Fin 2)).val < 1 := lt_of_lt_of_eq (β (1 : Fin 2)).isLt (show (2048 + 2048 - 1) / 2048 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 256) (j : Fin 2048), y = ix2 i j := ⟨y (0 : Fin 2), y (1 : Fin 2), by
      funext a; match a with | ⟨0, _⟩ => rfl | ⟨1, _⟩ => rfl⟩
    refine Eq.trans ?_ (congrArg (hidden (m ((c : Thread nD τ).loc main_arg0)) (m ((c : Thread nD τ).loc main_arg1)) (m ((c : Thread nD τ).loc main_arg2)) (m ((c : Thread nD τ).loc main_arg3))) (blk6_emb t i j)).symm
    show (dats m 0 c).after 6 t (ix2 i j) = _
    rw [after0_6]
    unfold out0_6
    rw [View.canon_cons_unit_lit _ _ _ (by decide), View.ld_unit_lit _ _ (by decide), View.ld_unit_lit _ _ (by decide), View.ld_unit_lit _ _ (by decide), View.ld_unit_lit _ _ (by decide), View.ld_unit_lit _ _ (by decide)]
    exact mixed_block m c t i j

/-- What the call leaves. -/
theorem left_normed : (dats m 0 c).arrAt 7 cfg0.N = hiddenNormed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 (hiddenNormed (m ((c : Thread nD τ).loc main_arg0)) (m ((c : Thread nD τ).loc main_arg1)) (m ((c : Thread nD τ).loc main_arg2)) (m ((c : Thread nD τ).loc main_arg3)) (m ((c : Thread nD τ).loc main_arg4))) ?_ fun t _ y => ?_
  · refine (cfg0.win 7).covers_of_indexMap_surj rfl (fun a => (by decide : ∀ a : Fin 2, 0 < (![256, 2048] : Fin 2 → ℕ) a) a) fun β => ?_
    have h0 : (β (0 : Fin 2)).val < 64 := lt_of_lt_of_eq (β (0 : Fin 2)).isLt (show (16384 + 256 - 1) / 256 = 64 by decide)
    have h1 : (β (1 : Fin 2)).val < 1 := lt_of_lt_of_eq (β (1 : Fin 2)).isLt (show (2048 + 2048 - 1) / 2048 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 256) (j : Fin 2048), y = ix2 i j := ⟨y (0 : Fin 2), y (1 : Fin 2), by
      funext a; match a with | ⟨0, _⟩ => rfl | ⟨1, _⟩ => rfl⟩
    refine Eq.trans ?_ (congrArg (hiddenNormed (m ((c : Thread nD τ).loc main_arg0)) (m ((c : Thread nD τ).loc main_arg1)) (m ((c : Thread nD τ).loc main_arg2)) (m ((c : Thread nD τ).loc main_arg3)) (m ((c : Thread nD τ).loc main_arg4))) (blk7_emb t i j)).symm
    show (dats m 0 c).after 7 t (ix2 i j) = _
    rw [after0_7]
    unfold out0_7
    rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
    refine (tile_apply _ _ _ _ _ _ i j).trans ?_
    refine congrArg₂ (fun r g => normed r g j) (funext fun l => mixed_block m c t i l) (funext fun l => ?_)
    rw [iblk5_apply, norm_eq]; exact scale_apply _ _

end

/-! ## The reference -/

section
open Cert.Reference6Ideal.Read

variable (a b : (⟨S4x4096x1024, .f32⟩ : BufTy).Contents (Elt Ideal)) (x : (⟨S4x4096x2048, .f32⟩ : BufTy).Contents (Elt Ideal))
  (w : (⟨S1x2048x2048, .f32⟩ : BufTy).Contents (Elt Ideal)) (g : (⟨S1x2048, .f32⟩ : BufTy).Contents (Elt Ideal))

theorem joined_low (p : Fin 4) (q : Fin 4096) (k : Fin 1024) : val_main_v0 (F := Ideal) a b (ix3 p q ⟨k.val, by omega⟩) = a (ix3 p q k) := by
  unfold val_main_v0
  refine concatenate_pair_apply_left (t := Cert.Reference6Ideal.S4x4096x2048) (s₁ := S4x4096x1024) (s₂ := S4x4096x1024) 2 _ _ _ _ rfl (ix3 p q k) fun d => ?_
  match d with | ⟨0, _⟩ => rfl | ⟨1, _⟩ => rfl | ⟨2, _⟩ => rfl

theorem joined_high (p : Fin 4) (q : Fin 4096) (k : Fin 1024) : val_main_v0 (F := Ideal) a b (ix3 p q ⟨1024 + k.val, by omega⟩) = b (ix3 p q k) := by
  unfold val_main_v0
  refine concatenate_pair_apply_right (t := Cert.Reference6Ideal.S4x4096x2048) (s₁ := S4x4096x1024) (s₂ := S4x4096x1024) 2 _ _ _ _ rfl rfl (ix3 p q k) (fun d hd => ?_) ?_
  · match d with | ⟨0, _⟩ => rfl | ⟨1, _⟩ => rfl | ⟨2, _⟩ => exact absurd rfl hd
  · exact Nat.add_comm _ _

theorem weight_apply (k j : Fin 2048) : val_main_v1 (F := Ideal) w (ix2 k j) = w (ix3 0 k j) := by
  have hk := k.isLt
  have hj := j.isLt
  rw [val_main_v1_apply]
  refine congrArg w (funext fun d => ?_)
  match d with
  | ⟨0, _⟩ => rfl
  | ⟨1, _⟩ => refine Fin.ext ?_; show (k.val * 2048 + j.val) / 2048 % 2048 = k.val; omega
  | ⟨2, _⟩ => refine Fin.ext ?_; show (k.val * 2048 + j.val) % 2048 = j.val; omega

theorem halves (f : Fin 2048 → EReal) : ∑ k : Fin 2048, f k = ∑ k : Fin 1024, f ⟨k.val, by omega⟩ + ∑ k : Fin 1024, f ⟨1024 + k.val, by omega⟩ :=
  Fin.sum_univ_add (a := 1024) (b := 1024) f

theorem mixed_apply (r : Fin 16384) (j : Fin 2048) : val_main_v3 (F := Ideal) a b x w (ix3 (tokenOf r) (placeOf r) j) = mixed a b x w r j := by
  have el : ∀ k, lidx_main_v2 (ix3 (tokenOf r) (placeOf r) j) k = ix3 (tokenOf r) (placeOf r) k := fun k => by
    funext d; match d with | ⟨0, _⟩ => rfl | ⟨1, _⟩ => rfl | ⟨2, _⟩ => rfl
  have er : ∀ k, ridx_main_v2 (ix3 (tokenOf r) (placeOf r) j) k = ix2 k j := fun k => by
    funext d; match d with | ⟨0, _⟩ => rfl | ⟨1, _⟩ => rfl
  rw [val_main_v3_apply, val_main_v2_apply, halves]
  unfold mixed
  refine Eq.trans ?_ (add_assoc _ _ _).symm
  refine congrArg (fun s : EReal => x (ix3 (tokenOf r) (placeOf r) j) + s) (congrArg₂ (fun p q : EReal => p + q) (Finset.sum_congr rfl fun k _ => ?_) (Finset.sum_congr rfl fun k _ => ?_))
  · rw [el, er, joined_low, weight_apply]
  · rw [el, er, joined_high, weight_apply]

theorem mean_apply (r : Fin 16384) : val_main_v6 (F := Ideal) a b x w (ix2 (tokenOf r) (placeOf r)) = ∑ l : Fin 2048, mixed a b x w r l * mixed a b x w r l := by
  rw [val_main_v6_apply, val_main_cst_apply]
  refine (congrArg (fun z : EReal => z + _) Ideal.ofBits_zero_f32).trans ((zero_add _).trans ?_)
  refine Finset.sum_congr rfl fun l _ => ?_
  have e : idx_main_v6 (ix2 (tokenOf r) (placeOf r)) l = ix3 (tokenOf r) (placeOf r) l := by
    funext q; match q with | ⟨0, _⟩ => rfl | ⟨1, _⟩ => rfl | ⟨2, _⟩ => rfl
  rw [val_main_v5_apply, e, mixed_apply]
  rfl

/-- What the reference leaves first. -/
theorem hidden_eq : val_main_v18 (F := Ideal) a b x w = hidden a b x w := by
  funext i
  obtain ⟨r, j, rfl⟩ : ∃ (r : Fin 16384) (j : Fin 2048), i = ix2 r j := ⟨i 0, i 1, by
    funext a; match a with | ⟨0, _⟩ => rfl | ⟨1, _⟩ => rfl⟩
  have hj := j.isLt
  have e : idx_main_v18 (ix2 r j) = ix3 (tokenOf r) (placeOf r) j := by
    funext a
    match a with
    | ⟨0, _⟩ => refine Fin.ext ?_; show (r.val * 2048 + j.val) / 8388608 = r.val / 4096; omega
    | ⟨1, _⟩ => refine Fin.ext ?_; show (r.val * 2048 + j.val) / 2048 % 4096 = r.val % 4096; omega
    | ⟨2, _⟩ => refine Fin.ext ?_; show (r.val * 2048 + j.val) % 2048 = j.val; omega
  rw [val_main_v18_apply, e, mixed_apply]
  rfl

/-- What the reference leaves second. -/
theorem normed_eq : val_main_v20 (F := Ideal) a b x w g = hiddenNormed a b x w g := by
  funext i
  obtain ⟨r, j, rfl⟩ : ∃ (r : Fin 16384) (j : Fin 2048), i = ix2 r j := ⟨i 0, i 1, by
    funext a; match a with | ⟨0, _⟩ => rfl | ⟨1, _⟩ => rfl⟩
  have hj := j.isLt
  have e : idx_main_v19 (ix2 r j) = ix3 (tokenOf r) (placeOf r) j := by
    funext a
    match a with
    | ⟨0, _⟩ => refine Fin.ext ?_; show (r.val * 2048 + j.val) / 8388608 = r.val / 4096; omega
    | ⟨1, _⟩ => refine Fin.ext ?_; show (r.val * 2048 + j.val) / 2048 % 4096 = r.val % 4096; omega
    | ⟨2, _⟩ => refine Fin.ext ?_; show (r.val * 2048 + j.val) % 2048 = j.val; omega
  have e9 : idx_main_v7 (idx_main_v13 (ix3 (tokenOf r) (placeOf r) j)) = ix2 (tokenOf r) (placeOf r) := by
    funext q; match q with | ⟨0, _⟩ => rfl | ⟨1, _⟩ => rfl
  have e0 : idx_main_v4 (idx_main_v15 (idx_main_v16 (ix3 (tokenOf r) (placeOf r) j))) = ix2 0 j := by
    funext q
    match q with
    | ⟨0, _⟩ => rfl
    | ⟨1, _⟩ => refine Fin.ext ?_; show j.val % 2048 = j.val; omega
  rw [val_main_v20_apply, val_main_v19_apply, e, val_main_v17_apply, val_main_v14_apply, mixed_apply, val_main_v13_apply, val_main_v12_apply, val_main_v11_apply,
    val_main_v10_apply, val_main_cst_1_apply, val_main_v9_apply, val_main_v8_apply, val_main_cst_0_apply, val_main_v7_apply, e9, mean_apply,
    val_main_v16_apply, val_main_v15_apply, val_main_v4_apply, e0]
  rfl

end

/-- The reference's run ends with every argument as launched and every counter at zero. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The two programs leave one pair of results. -/
theorem same_result : Cert.algebraic_Kernel6Ideal_Reference6Ideal := by
  intro m g m' g' _ hargs
  refine ⟨fun c => hidden (m ((c : Thread nD τ).loc main_arg0)) (m ((c : Thread nD τ).loc main_arg1)) (m ((c : Thread nD τ).loc main_arg2)) (m ((c : Thread nD τ).loc main_arg3)),
    fun c => hiddenNormed (m ((c : Thread nD τ).loc main_arg0)) (m ((c : Thread nD τ).loc main_arg1)) (m ((c : Thread nD τ).loc main_arg2)) (m ((c : Thread nD τ).loc main_arg3))
      (m ((c : Thread nD τ).loc main_arg4)), ?_, ?_⟩
  · exact (θ_run _ _ _).mono (fun r h c => ⟨(h c).1.trans (left_hidden m c), (h c).2.1.trans (left_normed m c), (h c).2.2⟩) (Value.run_blocks m g)
  · refine (θ_run _ _ _).mono (fun r h c => ?_) (Cert.Reference6Ideal.Value.run m' g')
    obtain ⟨a0, a1, a2, a3, a4⟩ := hargs c
    refine ⟨(h c).1.trans ?_, (h c).2.1.trans ?_, (h c).2.2⟩
    · rw [Cert.Reference6Ideal.Read.val_main_v18_eq, hidden_eq, a0, a1, a2, a3]
    · rw [Cert.Reference6Ideal.Read.val_main_v20_eq, normed_eq, a0, a1, a2, a3, a4]

end Cert.Out
-- ==== Proof.NewGlu.lean ====
/-
  The gated linear unit of the convolution group for the sample batch, at the ideal values: what the pallas_call leaves, read at an index, and
  the reference's result at the same index.
-/
module

public import proofs.«01_k».proof.Proof.Gen.Kernel8Ideal.Value
public import proofs.«01_k».proof.Proof.Gen.Reference8Ideal.Read
public import proofs.«01_k».proof.Proof.Glu
public import proofs.«01_k».proof.Defs
public import Idealize.ShloMosaic.PureOps.Ideal.Laws
public import Idealize.ShloMosaic.Lib.Pipeline.Value
public import Idealize.ShloMosaic.Lib.Pipeline.ValueKit
public import Idealize.ShloMosaic.Lib.Pipeline.Covers
public import Idealize.ShloMosaic.Lib.ValueIdx

@[expose] public section

noncomputable section

namespace Cert.NewGlu

open Cert.Kernel8Ideal Cert.Kernel8Ideal.Gen
open Idealize.ShloMosaic Idealize.ShloMosaic.TcCoe Idealize.SL.Sem
open Idealize.ShloMosaic.ValueIdx (contrEquiv1 contrEquiv1_symm_val)
open Cert.Glu (normed glu cast_same one_word)

/-- The normed rows of a tile. -/
theorem normed_apply (x : Vec Ideal S128x2048 .f32) (g : Vec Ideal S1x2048 .f32) (i : Fin 128) (k : Fin 2048) :
    k0_pay1 x g (ix2 i k) = normed (fun l => x (ix2 i l)) (fun l => g (ix2 0 l)) k := by
  unfold k0_pay1
  rw [cast_same x, cast_same g, cast_same]
  unfold normed
  refine congrArg₂ (fun a b : EReal => a * b) (congrArg (fun b : EReal => x (ix2 i k) * b) ?_) ?_
  · refine (broadcastTo_apply _ _ _ (ix2 i 0) (fun a => by match a with | ⟨0, _⟩ => rfl | ⟨1, _⟩ => rfl)).trans ?_
    show Ideal.rsqrt (Ideal.div (shapeCast S128x1 _ _ (ix2 i 0)) _ + _) = _
    refine congrArg (fun s : EReal => Ideal.rsqrt (Ideal.div s (Ideal.ofBits .f32 0x45000000#32) + Ideal.ofBits .f32 0x358637BD#32)) ?_
    refine (shapeCast_apply _ _ _ (ix1 i) ?_).trans ?_
    · refine (Shape.rowMajor_val_one _).trans (Eq.trans ?_ (Shape.rowMajor_val_two _).symm)
      show i.val = i.val * 1 + 0
      omega
    · refine (Ideal.multiReduction_add_single _ _ _ _ _ _).trans ?_
      refine Finset.sum_congr rfl fun l _ => ?_
      have e : Shape.Reduces.lift reduces_S128x2048_S128 (ix1 i) l = ix2 i l := by
        funext a; match a with | ⟨0, _⟩ => rfl | ⟨1, _⟩ => rfl
      rw [e]
      rfl
  · exact broadcastTo_apply _ _ _ (ix2 0 k) (fun a => by match a with | ⟨0, _⟩ => rfl | ⟨1, _⟩ => rfl)

/-- The product of a tile, at a row and a column. -/
theorem product_apply (a : FVec Ideal S128x2048 .bf16) (b : FVec Ideal S2048x1024 .bf16) (i : Fin 128) (j : Fin 1024) :
    matmul dot_S128x2048_S2048x1024_S128x1024_1_0_0_1_n_n none a b (constant S128x1024 .f32 0x00000000#32) (ix2 i j)
      = ∑ k : Fin 2048, (a (ix2 i k) : EReal) * b (ix2 k j) := by
  let d := dot_S128x2048_S2048x1024_S128x1024_1_0_0_1_n_n
  simp only [matmul]
  rw [Ideal.matmul_constant_zero_apply, ← Equiv.sum_comp (contrEquiv1 d 2048 rfl rfl).symm]
  refine Finset.sum_congr rfl fun k _ => ?_
  have hk := contrEquiv1_symm_val d 2048 rfl rfl k
  have el : d.lhsIdx (ix2 i j) ((contrEquiv1 d 2048 rfl rfl).symm k) = ix2 i k := funext fun x => Fin.ext (by
    match x with
    | ⟨0, _⟩ =>
      show (d.lhsIdx (ix2 i j) _ 0).val = _
      unfold DotDims.lhsIdx
      rw [dif_neg (show ¬(0 : Fin S128x2048.rank) ∈ d.lhsBatch by decide), dif_pos (show (0 : Fin S128x2048.rank) ∈ d.lhsNonContracting by decide)]
      rfl
    | ⟨1, _⟩ => exact (d.lhsIdx_val_of_single rfl _ _).trans hk)
  have er : d.rhsIdx (ix2 i j) ((contrEquiv1 d 2048 rfl rfl).symm k) = ix2 k j := funext fun x => Fin.ext (by
    match x with
    | ⟨0, _⟩ => exact (d.rhsIdx_val_of_single rfl _ _).trans hk
    | ⟨1, _⟩ =>
      show (d.rhsIdx (ix2 i j) _ 1).val = _
      unfold DotDims.rhsIdx
      rw [dif_neg (show ¬(1 : Fin S2048x1024.rank) ∈ d.rhsBatch by decide), dif_pos (show (1 : Fin S2048x1024.rank) ∈ d.rhsNonContracting by decide)]
      rfl)
  rw [el, er]

/-- A tile's result, at a row and a column. -/
theorem tile_apply (x : Vec Ideal S128x2048 .bf16) (y z : Vec Ideal S2048x1024 .bf16) (i : Fin 128) (j : Fin 1024) :
    k0_pay2 x y z (ix2 i j)
      = glu (∑ k : Fin 2048, (x (ix2 i k) : EReal) * y (ix2 k j)) (∑ k : Fin 2048, (x (ix2 i k) : EReal) * z (ix2 k j)) := by
  rw [← product_apply x y, ← product_apply x z]
  unfold k0_pay2
  rw [cast_same y, cast_same z]
  rfl

/-! ## The arrays the call reads -/

section
variable {F : FTy → Type} [FloatOps F] (m : (ℓ : Loc nD τ sig) → Buf (Elt F) ℓ) (c : Dev nD)

theorem rows_eq : V m c (Pipeline.arrRef spec0 0)
    = shapeCast S128x2048 (m ((c : Thread nD τ).loc main_arg0)) shapeCasts_S32x4x2048_S128x2048 := by
  show StableHlo.after hostOps0 _ _ = _
  simp only [hostOps0]
  after_results_simp <;> rfl

theorem norm_eq : V m c (Pipeline.arrRef spec0 1)
    = broadcastInDim S1x2048 ![1] bcast_S2048_S1x2048_1 (shapeCast S2048 (m ((c : Thread nD τ).loc main_arg1)) shapeCasts_S1x2048_S2048) := by
  show StableHlo.after hostOps0 _ _ = _
  simp only [hostOps0]
  after_results_simp <;> rfl

theorem first_eq : V m c (Pipeline.arrRef spec0 2)
    = truncf .bf16 (extractStridedSlice S2048x1024 ![0, 2640] (shapeCast S2048x4688 (m ((c : Thread nD τ).loc main_arg2)) shapeCasts_S1x2048x4688_S2048x4688)
        slices_S2048x4688_S2048x1024_0_2640) bitsLt_bf16_f32 := by
  show StableHlo.after hostOps0 _ _ = _
  simp only [hostOps0]
  after_results_simp <;> rfl

theorem second_eq : V m c (Pipeline.arrRef spec0 3)
    = truncf .bf16 (extractStridedSlice S2048x1024 ![0, 3664] (shapeCast S2048x4688 (m ((c : Thread nD τ).loc main_arg2)) shapeCasts_S1x2048x4688_S2048x4688)
        slices_S2048x4688_S2048x1024_0_3664) bitsLt_bf16_f32 := by
  show StableHlo.after hostOps0 _ _ = _
  simp only [hostOps0]
  after_results_simp <;> rfl

end

/-! ## The blocks -/

theorem coord0 (t : Fin grid0.N) : ((grid0.coords t) 0).val = t.val := by
  have h := Pipeline.Grid.coords_val (G := grid0) t 0 (S := 1) (B := 1) (by decide) (by decide)
  have ht : t.val < 1 := lt_of_lt_of_eq t.isLt N_0
  omega

theorem coord1 (t : Fin grid0.N) : ((grid0.coords t) 1).val = 0 := by
  have h := Pipeline.Grid.coords_val (G := grid0) t 1 (S := 1) (B := 1) (by decide) (by decide)
  omega

theorem row_word (t : Fin grid0.N) : (BitVec.ofNat 32 ((grid0.coords t) 0).val).toNat = t.val := by
  have := lt_of_lt_of_eq t.isLt N_0
  rw [coord0, BitVec.toNat_ofNat]; omega

theorem col_word (t : Fin grid0.N) : (BitVec.ofNat 32 ((grid0.coords t) 1).val).toNat = 0 := by
  rw [coord1, BitVec.toNat_ofNat]

/-- A tile's row of the result. -/
def rowOf (t : Fin grid0.N) (i : Fin 128) : Fin 128 := ⟨128 * t.val + i.val, by have := lt_of_lt_of_eq t.isLt N_0; omega⟩

section
variable {F : FTy → Type} [FloatOps F] (m : (ℓ : Loc nD τ sig) → Buf (Elt F) ℓ) (c : Dev nD)

theorem iblk0_apply (t : Fin grid0.N) (i : Fin 128) (k : Fin 2048) :
    iblk m c 0 t (ix2 i k) = V m c (Pipeline.arrRef spec0 0) (ix2 (rowOf t i) k) := by
  have e0 : (cfg0.win 0).index t (0 : Fin 2) = t.val := row_word t
  have e1 : (cfg0.win 0).index t (1 : Fin 2) = 0 := rfl
  unfold iblk
  refine congrArg (V m c (Pipeline.arrRef spec0 0)) (funext fun a => Fin.ext ?_)
  match a with
  | ⟨0, _⟩ => exact ((cfg0.win 0).rect_emb_val t (ix2 i k) (0 : Fin 2)).trans ((congrArg (fun z : ℕ => z * 128 + i.val) e0).trans (show t.val * 128 + i.val = 128 * t.val + i.val by omega))
  | ⟨1, _⟩ => exact ((cfg0.win 0).rect_emb_val t (ix2 i k) (1 : Fin 2)).trans ((congrArg (fun z : ℕ => z * 2048 + k.val) e1).trans (show 0 * 2048 + k.val = k.val by omega))

theorem iblk1_apply (t : Fin grid0.N) (z0 : Fin 1) (k : Fin 2048) :
    iblk m c 1 t (ix2 z0 k) = V m c (Pipeline.arrRef spec0 1) (ix2 z0 k) := by
  have e0 : (cfg0.win 1).index t (0 : Fin 2) = 0 := rfl
  have e1 : (cfg0.win 1).index t (1 : Fin 2) = 0 := rfl
  unfold iblk
  refine congrArg (V m c (Pipeline.arrRef spec0 1)) (funext fun a => Fin.ext ?_)
  match a with
  | ⟨0, _⟩ => exact ((cfg0.win 1).rect_emb_val t (ix2 z0 k) (0 : Fin 2)).trans ((congrArg (fun z : ℕ => z * 1 + z0.val) e0).trans (show 0 * 1 + z0.val = z0.val by rw [Nat.zero_mul, Nat.zero_add]))
  | ⟨1, _⟩ => exact ((cfg0.win 1).rect_emb_val t (ix2 z0 k) (1 : Fin 2)).trans ((congrArg (fun z : ℕ => z * 2048 + k.val) e1).trans (show 0 * 2048 + k.val = k.val by omega))

theorem iblk2_apply (t : Fin grid0.N) (k : Fin 2048) (j : Fin 1024) :
    iblk m c 2 t (ix2 k j) = V m c (Pipeline.arrRef spec0 2) (ix2 k j) := by
  have e0 : (cfg0.win 2).index t (0 : Fin 2) = 0 := rfl
  have e1 : (cfg0.win 2).index t (1 : Fin 2) = 0 := col_word t
  unfold iblk
  refine congrArg (V m c (Pipeline.arrRef spec0 2)) (funext fun a => Fin.ext ?_)
  match a with
  | ⟨0, _⟩ => exact ((cfg0.win 2).rect_emb_val t (ix2 k j) (0 : Fin 2)).trans ((congrArg (fun z : ℕ => z * 2048 + k.val) e0).trans (show 0 * 2048 + k.val = k.val by omega))
  | ⟨1, _⟩ => exact ((cfg0.win 2).rect_emb_val t (ix2 k j) (1 : Fin 2)).trans ((congrArg (fun z : ℕ => z * 1024 + j.val) e1).trans (show 0 * 1024 + j.val = j.val by omega))

theorem iblk3_apply (t : Fin grid0.N) (k : Fin 2048) (j : Fin 1024) :
    iblk m c 3 t (ix2 k j) = V m c (Pipeline.arrRef spec0 3) (ix2 k j) := by
  have e0 : (cfg0.win 3).index t (0 : Fin 2) = 0 := rfl
  have e1 : (cfg0.win 3).index t (1 : Fin 2) = 0 := col_word t
  unfold iblk
  refine congrArg (V m c (Pipeline.arrRef spec0 3)) (funext fun a => Fin.ext ?_)
  match a with
  | ⟨0, _⟩ => exact ((cfg0.win 3).rect_emb_val t (ix2 k j) (0 : Fin 2)).trans ((congrArg (fun z : ℕ => z * 2048 + k.val) e0).trans (show 0 * 2048 + k.val = k.val by omega))
  | ⟨1, _⟩ => exact ((cfg0.win 3).rect_emb_val t (ix2 k j) (1 : Fin 2)).trans ((congrArg (fun z : ℕ => z * 1024 + j.val) e1).trans (show 0 * 1024 + j.val = j.val by omega))

theorem blk4_emb (t : Fin grid0.N) (i : Fin 128) (j : Fin 1024) : ((cfg0.win 4).blk t).view.emb (ix2 i j) = ix2 (rowOf t i) j := by
  have e0 : (cfg0.win 4).index t (0 : Fin 2) = t.val := row_word t
  have e1 : (cfg0.win 4).index t (1 : Fin 2) = 0 := col_word t
  refine funext fun a => Fin.ext ?_
  match a with
  | ⟨0, _⟩ => exact ((cfg0.win 4).rect_emb_val t (ix2 i j) (0 : Fin 2)).trans ((congrArg (fun z : ℕ => z * 128 + i.val) e0).trans (show t.val * 128 + i.val = 128 * t.val + i.val by omega))
  | ⟨1, _⟩ => exact ((cfg0.win 4).rect_emb_val t (ix2 i j) (1 : Fin 2)).trans ((congrArg (fun z : ℕ => z * 1024 + j.val) e1).trans (show 0 * 1024 + j.val = j.val by omega))

end

/-! ## The result -/

/-- Row `i` of the flattened tokens. -/
abbrev tokenOf (i : Fin 128) : Fin 32 := ⟨i.val / 4, by omega⟩
/-- And its place in its sequence. -/
abbrev placeOf (i : Fin 128) : Fin 4 := ⟨i.val % 4, by omega⟩

/-- A token's normed row. -/
def rowNormed (x : (⟨S32x4x2048, .f32⟩ : BufTy).Contents (Elt Ideal)) (g : (⟨S1x2048, .f32⟩ : BufTy).Contents (Elt Ideal)) (i : Fin 128) : Fin 2048 → EReal :=
  normed (fun l => x (ix3 (tokenOf i) (placeOf i) l)) (fun l => g (ix2 0 l))

/-- The first half's column. -/
abbrev lowCol (j : Fin 1024) : Fin 4688 := ⟨2640 + j.val, by omega⟩
/-- The gate's column. -/
abbrev highCol (j : Fin 1024) : Fin 4688 := ⟨3664 + j.val, by omega⟩

/-- The gated linear unit of the arguments. -/
def gated (x : (⟨S32x4x2048, .f32⟩ : BufTy).Contents (Elt Ideal)) (g : (⟨S1x2048, .f32⟩ : BufTy).Contents (Elt Ideal))
    (w : (⟨S1x2048x4688, .f32⟩ : BufTy).Contents (Elt Ideal)) : (⟨S128x1024, .f32⟩ : BufTy).Contents (Elt Ideal) := fun i =>
  glu (∑ k : Fin 2048, rowNormed x g (i 0) k * w (ix3 0 k (lowCol (i 1))))
    (∑ k : Fin 2048, rowNormed x g (i 0) k * w (ix3 0 k (highCol (i 1))))

theorem flat_apply (x : (⟨S32x4x2048, .f32⟩ : BufTy).Contents (Elt Ideal)) (i : Fin 128) (k : Fin 2048) :
    shapeCast S128x2048 x shapeCasts_S32x4x2048_S128x2048 (ix2 i k) = x (ix3 (tokenOf i) (placeOf i) k) := by
  refine shapeCast_apply _ _ _ _ ?_
  refine (Shape.rowMajor_val_three _).trans (Eq.trans ?_ (Shape.rowMajor_val_two _).symm)
  show (i.val / 4 * 4 + i.val % 4) * 2048 + k.val = i.val * 2048 + k.val
  omega

theorem scale_apply (g : (⟨S1x2048, .f32⟩ : BufTy).Contents (Elt Ideal)) (k : Fin 2048) :
    broadcastInDim S1x2048 ![1] bcast_S2048_S1x2048_1 (shapeCast S2048 g shapeCasts_S1x2048_S2048) (ix2 0 k) = g (ix2 0 k) := by
  refine (broadcastInDim_apply _ _ _ _ (ix1 k) (fun a => by match a with | ⟨0, _⟩ => rfl)).trans ?_
  refine shapeCast_apply _ _ _ _ ?_
  refine (Shape.rowMajor_val_two _).trans (Eq.trans ?_ (Shape.rowMajor_val_one _).symm)
  show 0 * 2048 + k.val = k.val
  omega

theorem flatWeight_apply (w : (⟨S1x2048x4688, .f32⟩ : BufTy).Contents (Elt Ideal)) (k : Fin 2048) (j : Fin 4688) :
    shapeCast S2048x4688 w shapeCasts_S1x2048x4688_S2048x4688 (ix2 k j) = w (ix3 0 k j) := by
  refine shapeCast_apply _ _ _ _ ?_
  refine (Shape.rowMajor_val_three _).trans (Eq.trans ?_ (Shape.rowMajor_val_two _).symm)
  show (0 * 2048 + k.val) * 4688 + j.val = k.val * 4688 + j.val
  omega

theorem low_apply (w : (⟨S1x2048x4688, .f32⟩ : BufTy).Contents (Elt Ideal)) (k : Fin 2048) (j : Fin 1024) :
    truncf (F := Ideal) .bf16 (extractStridedSlice S2048x1024 ![0, 2640] (shapeCast S2048x4688 w shapeCasts_S1x2048x4688_S2048x4688) slices_S2048x4688_S2048x1024_0_2640)
      bitsLt_bf16_f32 (ix2 k j) = w (ix3 0 k (lowCol j)) := by
  refine (show _ = extractStridedSlice S2048x1024 ![0, 2640] (shapeCast S2048x4688 w shapeCasts_S1x2048x4688_S2048x4688) slices_S2048x4688_S2048x1024_0_2640 (ix2 k j) from rfl).trans ?_
  exact (extractStridedSlice_apply _ _ _ _ (ix2 k (lowCol j)) (fun a => by
    match a with | ⟨0, _⟩ => exact (Nat.zero_add _).symm | ⟨1, _⟩ => rfl)).trans (flatWeight_apply w k _)

theorem high_apply (w : (⟨S1x2048x4688, .f32⟩ : BufTy).Contents (Elt Ideal)) (k : Fin 2048) (j : Fin 1024) :
    truncf (F := Ideal) .bf16 (extractStridedSlice S2048x1024 ![0, 3664] (shapeCast S2048x4688 w shapeCasts_S1x2048x4688_S2048x4688) slices_S2048x4688_S2048x1024_0_3664)
      bitsLt_bf16_f32 (ix2 k j) = w (ix3 0 k (highCol j)) := by
  refine (show _ = extractStridedSlice S2048x1024 ![0, 3664] (shapeCast S2048x4688 w shapeCasts_S1x2048x4688_S2048x4688) slices_S2048x4688_S2048x1024_0_3664 (ix2 k j) from rfl).trans ?_
  exact (extractStridedSlice_apply _ _ _ _ (ix2 k (highCol j)) (fun a => by
    match a with | ⟨0, _⟩ => exact (Nat.zero_add _).symm | ⟨1, _⟩ => rfl)).trans (flatWeight_apply w k _)

variable (m : (ℓ : Loc nD τ sig) → Buf (Elt Ideal) ℓ) (c : Dev nD)

/-- A point's normed row is the tokens'. -/
theorem normed_block (t : Fin grid0.N) (i : Fin 128) (k : Fin 2048) :
    k0_pay1 (iblk m c 0 t) (iblk m c 1 t) (ix2 i k) = rowNormed (m ((c : Thread nD τ).loc main_arg0)) (m ((c : Thread nD τ).loc main_arg1)) (rowOf t i) k := by
  refine (normed_apply _ _ i k).trans ?_
  unfold rowNormed
  refine congrArg₂ (fun r g => normed r g k) (funext fun l => ?_) (funext fun l => ?_)
  · rw [iblk0_apply, rows_eq]; exact flat_apply _ _ _
  · rw [iblk1_apply, norm_eq]; exact scale_apply _ _

/-- What the call leaves. -/
theorem left_eq : (dats m 0 c).arrAt 4 cfg0.N
    = gated (m ((c : Thread nD τ).loc main_arg0)) (m ((c : Thread nD τ).loc main_arg1)) (m ((c : Thread nD τ).loc main_arg2)) := by
  refine (dats m 0 c).arrAt_eq_of_covers 4 (gated _ _ _) ?_ fun t _ y => ?_
  · refine (cfg0.win 4).covers_of_indexMap_surj rfl (fun a => (by decide : ∀ a : Fin 2, 0 < (![128, 1024] : Fin 2 → ℕ) a) a) fun β => ?_
    have h0 : (β (0 : Fin 2)).val < 1 := lt_of_lt_of_eq (β (0 : Fin 2)).isLt (show (128 + 128 - 1) / 128 = 1 by decide)
    have h1 : (β (1 : Fin 2)).val < 1 := lt_of_lt_of_eq (β (1 : Fin 2)).isLt (show (1024 + 1024 - 1) / 1024 = 1 by decide)
    refine ⟨fun a => match a with | ⟨0, _⟩ => ⟨(β (0 : Fin 2)).val, h0⟩ | ⟨1, _⟩ => ⟨(β (1 : Fin 2)).val, h1⟩, fun a => ?_⟩
    match a with
    | ⟨0, _⟩ =>
      show (BitVec.ofNat 32 (β (0 : Fin 2)).val).toNat = (β (0 : Fin 2)).val
      rw [BitVec.toNat_ofNat]; omega
    | ⟨1, _⟩ =>
      show (BitVec.ofNat 32 (β (1 : Fin 2)).val).toNat = (β (1 : Fin 2)).val
      rw [BitVec.toNat_ofNat]; omega
  · obtain ⟨i, j, rfl⟩ : ∃ (i : Fin 128) (j : Fin 1024), y = ix2 i j := ⟨y (0 : Fin 2), y (1 : Fin 2), by
      funext a; match a with | ⟨0, _⟩ => rfl | ⟨1, _⟩ => rfl⟩
    refine Eq.trans ?_ (congrArg (gated _ _ _) (blk4_emb t i j)).symm
    show (dats m 0 c).after 4 t (ix2 i j) = _
    rw [after0_4]
    unfold outsAt0
    frame_out
    rw [tile_apply]
    refine congrArg₂ glu (Finset.sum_congr rfl fun k _ => ?_) (Finset.sum_congr rfl fun k _ => ?_)
    · rw [normed_block, iblk2_apply, first_eq]
      exact congrArg (fun b : EReal => _ * b) (low_apply _ _ _)
    · rw [normed_block, iblk3_apply, second_eq]
      exact congrArg (fun b : EReal => _ * b) (high_apply _ _ _)

/-! ## The reference -/

section
open Cert.Reference8Ideal.Read

variable (x : (⟨S32x4x2048, .f32⟩ : BufTy).Contents (Elt Ideal)) (g : (⟨S1x2048, .f32⟩ : BufTy).Contents (Elt Ideal))
  (w : (⟨S1x2048x4688, .f32⟩ : BufTy).Contents (Elt Ideal))

theorem mean_apply (a : Fin 32) (b : Fin 4) : val_main_v2 (F := Ideal) x (ix2 a b) = ∑ l : Fin 2048, (x (ix3 a b l) : EReal) * x (ix3 a b l) := by
  rw [val_main_v2_apply, val_main_cst_apply]
  refine (congrArg (fun z : EReal => z + _) Ideal.ofBits_zero_f32).trans ((zero_add _).trans ?_)
  refine Finset.sum_congr rfl fun l _ => ?_
  rw [val_main_v1_apply]
  have e : idx_main_v2 (ix2 a b) l = ix3 a b l := by
    funext q; match q with | ⟨0, _⟩ => rfl | ⟨1, _⟩ => rfl | ⟨2, _⟩ => rfl
  rw [e]
  rfl

theorem norm_apply (r : Fin 128) (k : Fin 2048) : val_main_v13 (F := Ideal) x g (ix3 (tokenOf r) (placeOf r) k) = rowNormed x g r k := by
  have hk := k.isLt
  have e9 : idx_main_v3 (idx_main_v9 (ix3 (tokenOf r) (placeOf r) k)) = ix2 (tokenOf r) (placeOf r) := by
    funext q; match q with | ⟨0, _⟩ => rfl | ⟨1, _⟩ => rfl
  have e0 : idx_main_v0 (idx_main_v11 (idx_main_v12 (ix3 (tokenOf r) (placeOf r) k))) = ix2 0 k := by
    funext q
    match q with
    | ⟨0, _⟩ => rfl
    | ⟨1, _⟩ => refine Fin.ext ?_; show k.val % 2048 = k.val; omega
  rw [val_main_v13_apply, val_main_v10_apply, val_main_v9_apply, val_main_v8_apply, val_main_v7_apply, val_main_v6_apply, val_main_cst_1_apply,
    val_main_v5_apply, val_main_v4_apply, val_main_cst_0_apply, val_main_v3_apply, e9, mean_apply, val_main_v12_apply, val_main_v11_apply,
    val_main_v0_apply, e0]
  rfl

theorem column_apply (r : Fin 128) (j : Fin 4688) :
    val_main_v15 (F := Ideal) x g w (ix3 (tokenOf r) (placeOf r) j) = ∑ k : Fin 2048, rowNormed x g r k * w (ix3 0 k j) := by
  rw [val_main_v15_apply]
  have hj := j.isLt
  refine Finset.sum_congr rfl fun k _ => congrArg₂ (fun a b : EReal => a * b) ?_ ((val_main_v14_apply w _).trans (congrArg w ?_))
  · refine (congrArg (val_main_v13 (F := Ideal) x g) ?_).trans (norm_apply x g r k)
    funext a; match a with | ⟨0, _⟩ => rfl | ⟨1, _⟩ => rfl | ⟨2, _⟩ => rfl
  · have hk := k.isLt
    funext a
    match a with
    | ⟨0, _⟩ => rfl
    | ⟨1, _⟩ => refine Fin.ext ?_; show (k.val * 4688 + j.val) / 4688 % 2048 = k.val; omega
    | ⟨2, _⟩ => refine Fin.ext ?_; show (k.val * 4688 + j.val) % 4688 = j.val; omega

/-- What the reference leaves. -/
theorem wanted_eq : val_main_v26 (F := Ideal) x g w = gated x g w := by
  funext i
  obtain ⟨r, j, rfl⟩ : ∃ (r : Fin 128) (j : Fin 1024), i = ix2 r j := ⟨i 0, i 1, by
    funext a; match a with | ⟨0, _⟩ => rfl | ⟨1, _⟩ => rfl⟩
  have hj := j.isLt
  have e : idx_main_v26 (ix2 r j) = ix3 (tokenOf r) (placeOf r) j := by
    funext a
    match a with
    | ⟨0, _⟩ => refine Fin.ext ?_; show (r.val * 1024 + j.val) / 4096 = r.val / 4; omega
    | ⟨1, _⟩ => refine Fin.ext ?_; show (r.val * 1024 + j.val) / 1024 % 4 = r.val % 4; omega
    | ⟨2, _⟩ => refine Fin.ext ?_; show (r.val * 1024 + j.val) % 1024 = j.val; omega
  have eLow : idx_main_v16 (idx_main_v17 (ix3 (tokenOf r) (placeOf r) j)) = ix3 (tokenOf r) (placeOf r) (lowCol j) := by
    funext a; match a with | ⟨0, _⟩ => rfl | ⟨1, _⟩ => rfl | ⟨2, _⟩ => rfl
  have eHigh : idx_main_v16 (idx_main_v18 (ix3 (tokenOf r) (placeOf r) j)) = ix3 (tokenOf r) (placeOf r) (highCol j) := by
    funext a
    match a with
    | ⟨0, _⟩ => rfl
    | ⟨1, _⟩ => rfl
    | ⟨2, _⟩ => refine Fin.ext ?_; show 2640 + (1024 + j.val) = 3664 + j.val; omega
  rw [val_main_v26_apply, e, val_main_v25_apply, val_main_v17_apply, val_main_v16_apply, eLow, column_apply, val_main_v24_apply, val_main_v23_apply,
    val_main_cst_3_apply, val_main_v22_apply, val_main_v21_apply, val_main_cst_2_apply, val_main_v20_apply, val_main_v19_apply, val_main_v18_apply,
    val_main_v16_apply, eHigh, column_apply]
  show _ * (Ideal.div (Ideal.ofBits .f32 0x3F800000#32) (Ideal.ofBits .f32 0x3F800000#32 + Ideal.exp (-_))) = glu _ _
  rw [one_word]
  rfl

end

/-- The reference's run ends with every argument as launched and every counter at zero. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The two programs leave one result. -/
theorem same_result : Cert.algebraic_Kernel8Ideal_Reference8Ideal := by
  intro m g m' g' _ hargs
  refine ⟨fun c => gated (m ((c : Thread nD τ).loc main_arg0)) (m ((c : Thread nD τ).loc main_arg1)) (m ((c : Thread nD τ).loc main_arg2)), ?_, ?_⟩
  · exact (θ_run _ _ _).mono (fun r h c => ⟨(h c).1.trans (left_eq m c), (h c).2⟩) (Value.run_blocks m g)
  · refine (θ_run _ _ _).mono (fun r h c => ?_) (Cert.Reference8Ideal.Value.run m' g')
    refine ⟨(h c).1.trans ?_, (h c).2⟩
    obtain ⟨a0, a1, a2⟩ := hargs c
    rw [Cert.Reference8Ideal.Read.val_main_v26_eq, wanted_eq, a0, a1, a2]

end Cert.NewGlu
-- ==== Proof.NewForms.lean ====
/-
  The projections and the rotary embedding of the attention group for the sample batch: the functions of the arguments that both programs are
  shown to leave.
-/
module

public import proofs.«01_k».proof.Proof.NewGlu
public import proofs.«01_k».proof.Proof.FrontForms

@[expose] public section

noncomputable section

namespace Cert.New

open Cert.Kernel8Ideal
open Idealize.ShloMosaic
open Cert.Front (turn angle cosAt sinAt)
open Cert.NewGlu (rowNormed placeOf tokenOf)

/-- A new token's position, as a word. -/
theorem position_word (p : ℕ) : IntOp.addi 16384#32 (BitVec.ofNat 32 p) = BitVec.ofNat 32 (16384 + p) := (BitVec.ofNat_add 16384 p).symm

variable (x : (⟨S32x4x2048, .f32⟩ : BufTy).Contents (Elt Ideal)) (g : (⟨S1x2048, .f32⟩ : BufTy).Contents (Elt Ideal))
  (w : (⟨S1x2048x4688, .f32⟩ : BufTy).Contents (Elt Ideal))

/-- A token's projection to a column. -/
def proj (r : Fin 128) (j : Fin 4688) : EReal := ∑ k : Fin 2048, rowNormed x g r k * w (ix3 0 k j)

/-- The same over every natural number, zero past the columns. -/
def projAt (r : Fin 128) (n : ℕ) : EReal := if h : n < 4688 then proj x g w r ⟨n, h⟩ else 0

theorem projAt_of (r : Fin 128) (n : ℕ) (h : n < 4688) : projAt x g w r n = proj x g w r ⟨n, h⟩ := dif_pos h

/-- The keys. -/
def keys : (⟨2, ![128, 256]⟩ : Shape).Idx → EReal := fun i =>
  turn 0x42800000#32 64 (projAt x g w (i 0)) (16384 + (i 0).val % 4) (1024 + (i 1).val / 128 * 128) ((i 1).val % 128)

/-- The values. -/
def values : (⟨2, ![128, 256]⟩ : Shape).Idx → EReal := fun i => projAt x g w (i 0) (1280 + (i 1).val)

/-- The indexer's keys. -/
def idxKeys : (⟨2, ![128, 64]⟩ : Shape).Idx → EReal := fun i =>
  turn 0x42000000#32 32 (projAt x g w (i 0)) (16384 + (i 0).val % 4) 2560 (i 1).val

end Cert.New
-- ==== Proof.NewHost.lean ====
/-
  The arrays the attention group's call for the sample batch reads, at an index: the tables of cosines and sines of the two head widths, and
  the weights' columns with their padding.
-/
module

public import proofs.«01_k».proof.Proof.Gen.Kernel7Ideal.Value
public import proofs.«01_k».proof.Proof.NewForms
public import Idealize.ShloMosaic.Lib.IdealHost
public import Idealize.ShloMosaic.Lib.Pipeline.Value
public import Idealize.ShloMosaic.Lib.ValueIdx

@[expose] public section

noncomputable section

namespace Cert.New

open Cert.Kernel7Ideal Cert.Kernel7Ideal.Gen
open Idealize.ShloMosaic Idealize.ShloMosaic.TcCoe Idealize.SL.Sem
open Cert.Front (turn angle cosAt sinAt)
open Cert.NewGlu (rowNormed placeOf tokenOf flat_apply scale_apply flatWeight_apply)

section
variable {F : FTy → Type} [FloatOps F]

/-- The frequencies of a head of 128 lanes. -/
def freq64 : FVec F S64 .f32 :=
  Host.powf (broadcastInDim S64 ![] bcast_S_S64 (constant S_ .f32 0x461C4000#32))
    (Host.divf (Host.negf (sitofp .f32 (iotaInDim S64 32 0))) (broadcastInDim S64 ![] bcast_S_S64 (constant S_ .f32 0x42800000#32)))

/-- The angles of a head of 128 lanes. -/
def angles64 : FVec F S4x64 .f32 :=
  mulf (broadcastInDim S4x64 ![0, 1] bcast_S4x1_S4x64_0_1 (broadcastInDim S4x1 ![0] bcast_S4_S4x1_0 (sitofp .f32 (addi (broadcastInDim S4 ![] bcast_S_S4 (constantI S_ 32 16384#32)) (iotaInDim S4 32 0)))))
    (broadcastInDim S4x64 ![0, 1] bcast_S1x64_S4x64_0_1 (broadcastInDim S1x64 ![1] bcast_S64_S1x64_1 freq64))

/-- Two halves side by side, laid out as a table of 128 lanes. -/
def table64 (a b : FVec F S4x64 .f32) : FVec F S4x128 .f32 :=
  shapeCast S4x128 (broadcastInDim S1x4x1x128 ![0, 1, 2, 3] bcast_S1x4x1x128_S1x4x1x128_0_1_2_3
    (shapeCast S1x4x1x128 (concatenate S4x128 1 [⟨S4x64, a⟩, ⟨S4x64, b⟩] concatenates_S4x64_S4x64_S4x128_d1) shapeCasts_S4x128_S1x4x1x128))
    shapeCasts_S1x4x1x128_S4x128

/-- A table repeated for every sequence. -/
def tiled (T : FVec F S4x128 .f32) : FVec F S128x128 .f32 :=
  shapeCast S128x128 (broadcastInDim S32x4x1x128 ![0, 1, 2, 3] bcast_S1x4x1x128_S32x4x1x128_0_1_2_3
    (shapeCast S1x4x1x128 T shapeCasts_S4x128_S1x4x1x128)) shapeCasts_S32x4x1x128_S128x128

/-- The frequencies of a head of 64 lanes. -/
def freq32 : FVec F S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles of a head of 64 lanes. -/
def angles32 : FVec F S4x32 .f32 :=
  mulf (broadcastInDim S4x32 ![0, 1] bcast_S4x1_S4x32_0_1 (broadcastInDim S4x1 ![0] bcast_S4_S4x1_0 (sitofp .f32 (addi (broadcastInDim S4 ![] bcast_S_S4 (constantI S_ 32 16384#32)) (iotaInDim S4 32 0)))))
    (broadcastInDim S4x32 ![0, 1] bcast_S1x32_S4x32_0_1 (broadcastInDim S1x32 ![1] bcast_S32_S1x32_1 freq32))

/-- Two halves side by side, laid out as a table of 128 lanes. -/
def table32 (a b : FVec F S4x32 .f32) : FVec F S4x128 .f32 :=
  shapeCast S4x128 (broadcastInDim S1x4x2x64 ![0, 1, 2, 3] bcast_S1x4x1x64_S1x4x2x64_0_1_2_3
    (shapeCast S1x4x1x64 (concatenate S4x64 1 [⟨S4x32, a⟩, ⟨S4x32, b⟩] concatenates_S4x32_S4x32_S4x64_d1) shapeCasts_S4x64_S1x4x1x64))
    shapeCasts_S1x4x2x64_S4x128

variable (m : (ℓ : Loc nD τ sig) → Buf (Elt F) ℓ) (c : Dev nD)

theorem rows_eq : V m c (Pipeline.arrRef spec0 0)
    = shapeCast S128x2048 (m ((c : Thread nD τ).loc main_arg0)) shapeCasts_S32x4x2048_S128x2048 := by
  show StableHlo.after hostOps0 _ _ = _
  simp only [hostOps0]
  after_results_simp <;> rfl

theorem norm_eq : V m c (Pipeline.arrRef spec0 1)
    = broadcastInDim S1x2048 ![1] bcast_S2048_S1x2048_1 (shapeCast S2048 (m ((c : Thread nD τ).loc main_arg1)) shapeCasts_S1x2048_S2048) := by
  show StableHlo.after hostOps0 _ _ = _
  simp only [hostOps0]
  after_results_simp <;> rfl

theorem weight_eq : V m c (Pipeline.arrRef spec0 2)
    = truncf .bf16 (concatenate S2048x2688 1 [⟨S2048x2640, extractStridedSlice S2048x2640 ![0, 0] (shapeCast S2048x4688 (m ((c : Thread nD τ).loc main_arg2)) shapeCasts_S1x2048x4688_S2048x4688) slices_S2048x4688_S2048x2640_0_0⟩,
        ⟨S2048x48, broadcastInDim S2048x48 ![] bcast_S_S2048x48 (constant S_ .f32 0x00000000#32)⟩] concatenates_S2048x2640_S2048x48_S2048x2688_d1) bitsLt_bf16_f32 := by
  show StableHlo.after hostOps0 _ _ = _
  simp only [hostOps0]
  after_results_simp <;> rfl

theorem cos64_eq : V m c (Pipeline.arrRef spec0 3)
    = tiled (table64 (Host.cos angles64) (Host.cos angles64)) := by
  show StableHlo.after hostOps0 _ _ = _
  simp only [hostOps0]
  after_results_simp <;> rfl

theorem sin64_eq : V m c (Pipeline.arrRef spec0 4)
    = tiled (table64 (Host.negf (Host.sin angles64)) (Host.sin angles64)) := by
  show StableHlo.after hostOps0 _ _ = _
  simp only [hostOps0]
  after_results_simp <;> rfl

theorem cos32_eq : V m c (Pipeline.arrRef spec0 5)
    = tiled (table32 (Host.cos angles32) (Host.cos angles32)) := by
  show StableHlo.after hostOps0 _ _ = _
  simp only [hostOps0]
  after_results_simp <;> rfl

theorem sin32_eq : V m c (Pipeline.arrRef spec0 6)
    = tiled (table32 (Host.negf (Host.sin angles32)) (Host.sin angles32)) := by
  show StableHlo.after hostOps0 _ _ = _
  simp only [hostOps0]
  after_results_simp <;> rfl

end

theorem freq64_apply (j : Fin 64) : freq64 (F := Ideal) (ix1 j)
    = FloatOps.hostPowf (FloatOps.ofBits .f32 0x461C4000#32 : Ideal .f32)
      (FloatOps.hostDivf (FloatOps.hostNegf (FloatOps.sitofp .f32 (BitVec.ofNat 32 j.val))) (FloatOps.ofBits .f32 0x42800000#32)) := rfl

theorem angles64_apply (p : Fin 4) (j : Fin 64) : angles64 (F := Ideal) (ix2 p j) = angle 0x42800000#32 (16384 + p.val) j.val := by
  refine congrArg₂ (fun a b : Ideal .f32 => FloatOps.mulf a b) ?_ ?_
  · refine (broadcastInDim_apply _ _ _ _ (ix2 p 0) (fun a => by match a with | ⟨0, _⟩ => rfl | ⟨1, _⟩ => rfl)).trans ?_
    exact (broadcastInDim_apply _ _ _ _ (ix1 p) (fun a => by match a with | ⟨0, _⟩ => rfl)).trans
      (congrArg (fun z : BitVec 32 => (FloatOps.sitofp .f32 z : Ideal .f32)) (position_word p.val))
  · refine (broadcastInDim_apply _ _ _ _ (ix2 0 j) (fun a => by match a with | ⟨0, _⟩ => rfl | ⟨1, _⟩ => rfl)).trans ?_
    exact (broadcastInDim_apply _ _ _ _ (ix1 j) (fun a => by match a with | ⟨0, _⟩ => rfl)).trans (freq64_apply j)

theorem table64_inner (a b : FVec Ideal S4x64 .f32) (p : Fin 4) (l : Fin 128) :
    table64 a b (ix2 p ⟨l.val, by omega⟩)
      = concatenate S4x128 1 [⟨S4x64, a⟩, ⟨S4x64, b⟩] concatenates_S4x64_S4x64_S4x128_d1 (ix2 p l) := by
  have hl := l.isLt
  unfold table64
  refine (shapeCast_apply _ _ _ (ix4 0 p 0 l) ?_).trans ?_
  · refine (Shape.rowMajor_val_four _).trans (Eq.trans ?_ (Shape.rowMajor_val_two _).symm)
    show ((0 * 4 + p.val) * 1 + 0) * 128 + l.val = p.val * 128 + l.val
    omega
  refine (broadcastInDim_apply _ _ _ _ (ix4 0 p 0 l) (fun a => by match a with | ⟨0, _⟩ => rfl | ⟨1, _⟩ => rfl | ⟨2, _⟩ => rfl | ⟨3, _⟩ => rfl)).trans ?_
  refine shapeCast_apply _ _ _ _ ?_
  refine (Shape.rowMajor_val_two _).trans (Eq.trans ?_ (Shape.rowMajor_val_four _).symm)
  show p.val * 128 + l.val = ((0 * 4 + p.val) * 1 + 0) * 128 + l.val
  omega

theorem table64_low (a b : FVec Ideal S4x64 .f32) (p : Fin 4) (l : Fin 128) (hl : l.val < 64) :
    table64 a b (ix2 p l) = a (ix2 p ⟨l.val, hl⟩) := by
  refine (table64_inner a b p ⟨l.val, by omega⟩).trans ?_
  refine concatenate_pair_apply_left (t := S4x128) (s₁ := S4x64) (s₂ := S4x64) 1 _ _ _ _ rfl (ix2 p ⟨l.val, hl⟩) fun a => ?_
  match a with | ⟨0, _⟩ => rfl | ⟨1, _⟩ => rfl

theorem table64_high (a b : FVec Ideal S4x64 .f32) (p : Fin 4) (l : Fin 128) (hl : 64 ≤ l.val) (hu : l.val < 128) :
    table64 a b (ix2 p l) = b (ix2 p ⟨l.val - 64, by omega⟩) := by
  refine (table64_inner a b p ⟨l.val, hu⟩).trans ?_
  refine concatenate_pair_apply_right (t := S4x128) (s₁ := S4x64) (s₂ := S4x64) 1 _ _ _ _ rfl rfl (ix2 p ⟨l.val - 64, by omega⟩) (fun a ha => ?_) ?_
  · match a with | ⟨0, _⟩ => rfl | ⟨1, _⟩ => exact absurd rfl ha
  · exact Nat.sub_add_cancel hl

theorem freq32_apply (j : Fin 32) : freq32 (F := Ideal) (ix1 j)
    = FloatOps.hostPowf (FloatOps.ofBits .f32 0x461C4000#32 : Ideal .f32)
      (FloatOps.hostDivf (FloatOps.hostNegf (FloatOps.sitofp .f32 (BitVec.ofNat 32 j.val))) (FloatOps.ofBits .f32 0x42000000#32)) := rfl

theorem angles32_apply (p : Fin 4) (j : Fin 32) : angles32 (F := Ideal) (ix2 p j) = angle 0x42000000#32 (16384 + p.val) j.val := by
  refine congrArg₂ (fun a b : Ideal .f32 => FloatOps.mulf a b) ?_ ?_
  · refine (broadcastInDim_apply _ _ _ _ (ix2 p 0) (fun a => by match a with | ⟨0, _⟩ => rfl | ⟨1, _⟩ => rfl)).trans ?_
    exact (broadcastInDim_apply _ _ _ _ (ix1 p) (fun a => by match a with | ⟨0, _⟩ => rfl)).trans
      (congrArg (fun z : BitVec 32 => (FloatOps.sitofp .f32 z : Ideal .f32)) (position_word p.val))
  · refine (broadcastInDim_apply _ _ _ _ (ix2 0 j) (fun a => by match a with | ⟨0, _⟩ => rfl | ⟨1, _⟩ => rfl)).trans ?_
    exact (broadcastInDim_apply _ _ _ _ (ix1 j) (fun a => by match a with | ⟨0, _⟩ => rfl)).trans (freq32_apply j)

theorem table32_inner (a b : FVec Ideal S4x32 .f32) (p : Fin 4) (l : Fin 64) :
    table32 a b (ix2 p ⟨l.val, by omega⟩)
      = concatenate S4x64 1 [⟨S4x32, a⟩, ⟨S4x32, b⟩] concatenates_S4x32_S4x32_S4x64_d1 (ix2 p l) := by
  have hl := l.isLt
  unfold table32
  refine (shapeCast_apply _ _ _ (ix4 0 p 0 l) ?_).trans ?_
  · refine (Shape.rowMajor_val_four _).trans (Eq.trans ?_ (Shape.rowMajor_val_two _).symm)
    show ((0 * 4 + p.val) * 2 + 0) * 64 + l.val = p.val * 128 + l.val
    omega
  refine (broadcastInDim_apply _ _ _ _ (ix4 0 p 0 l) (fun a => by match a with | ⟨0, _⟩ => rfl | ⟨1, _⟩ => rfl | ⟨2, _⟩ => rfl | ⟨3, _⟩ => rfl)).trans ?_
  refine shapeCast_apply _ _ _ _ ?_
  refine (Shape.rowMajor_val_two _).trans (Eq.trans ?_ (Shape.rowMajor_val_four _).symm)
  show p.val * 64 + l.val = ((0 * 4 + p.val) * 1 + 0) * 64 + l.val
  omega

theorem table32_low (a b : FVec Ideal S4x32 .f32) (p : Fin 4) (l : Fin 128) (hl : l.val < 32) :
    table32 a b (ix2 p l) = a (ix2 p ⟨l.val, hl⟩) := by
  refine (table32_inner a b p ⟨l.val, by omega⟩).trans ?_
  refine concatenate_pair_apply_left (t := S4x64) (s₁ := S4x32) (s₂ := S4x32) 1 _ _ _ _ rfl (ix2 p ⟨l.val, hl⟩) fun a => ?_
  match a with | ⟨0, _⟩ => rfl | ⟨1, _⟩ => rfl

theorem table32_high (a b : FVec Ideal S4x32 .f32) (p : Fin 4) (l : Fin 128) (hl : 32 ≤ l.val) (hu : l.val < 64) :
    table32 a b (ix2 p l) = b (ix2 p ⟨l.val - 32, by omega⟩) := by
  refine (table32_inner a b p ⟨l.val, hu⟩).trans ?_
  refine concatenate_pair_apply_right (t := S4x64) (s₁ := S4x32) (s₂ := S4x32) 1 _ _ _ _ rfl rfl (ix2 p ⟨l.val - 32, by omega⟩) (fun a ha => ?_) ?_
  · match a with | ⟨0, _⟩ => rfl | ⟨1, _⟩ => exact absurd rfl ha
  · exact Nat.sub_add_cancel hl

theorem tiled_apply (T : FVec Ideal S4x128 .f32) (r : Fin 128) (l : Fin 128) : tiled T (ix2 r l) = T (ix2 (placeOf r) l) := by
  have hr := r.isLt
  unfold tiled
  refine (shapeCast_apply _ _ _ (ix4 (tokenOf r) (placeOf r) 0 l) ?_).trans ?_
  · refine (Shape.rowMajor_val_four _).trans (Eq.trans ?_ (Shape.rowMajor_val_two _).symm)
    show ((r.val / 4 * 4 + r.val % 4) * 1 + 0) * 128 + l.val = r.val * 128 + l.val
    omega
  refine (broadcastInDim_apply _ _ _ _ (ix4 0 (placeOf r) 0 l) (fun a => by match a with | ⟨0, _⟩ => rfl | ⟨1, _⟩ => rfl | ⟨2, _⟩ => rfl | ⟨3, _⟩ => rfl)).trans ?_
  refine shapeCast_apply _ _ _ _ ?_
  refine (Shape.rowMajor_val_two _).trans (Eq.trans ?_ (Shape.rowMajor_val_four _).symm)
  show r.val % 4 * 128 + l.val = ((0 * 4 + r.val % 4) * 1 + 0) * 128 + l.val
  omega

/-- A weight column of the call's. -/
theorem column_apply (w : (⟨S1x2048x4688, .f32⟩ : BufTy).Contents (Elt Ideal)) (k : Fin 2048) (j : Fin 2688) (hj : j.val < 2640) :
    truncf (F := Ideal) .bf16 (concatenate S2048x2688 1 [⟨S2048x2640, extractStridedSlice S2048x2640 ![0, 0] (shapeCast S2048x4688 w shapeCasts_S1x2048x4688_S2048x4688) slices_S2048x4688_S2048x2640_0_0⟩,
        ⟨S2048x48, broadcastInDim S2048x48 ![] bcast_S_S2048x48 (constant S_ .f32 0x00000000#32)⟩] concatenates_S2048x2640_S2048x48_S2048x2688_d1) bitsLt_bf16_f32 (ix2 k j)
      = w (ix3 0 k ⟨j.val, by omega⟩) := by
  refine (concatenate_pair_apply_left (t := S2048x2688) (s₁ := S2048x2640) (s₂ := S2048x48) 1 _ _ concatenates_S2048x2640_S2048x48_S2048x2688_d1 (ix2 k j) rfl (ix2 k ⟨j.val, hj⟩) fun a => ?_).trans ?_
  · match a with | ⟨0, _⟩ => rfl | ⟨1, _⟩ => rfl
  refine (extractStridedSlice_apply _ _ _ _ (ix2 k ⟨j.val, by omega⟩) (fun a => by
    match a with | ⟨0, _⟩ => exact (Nat.zero_add _).symm | ⟨1, _⟩ => exact (Nat.zero_add _).symm)).trans ?_
  exact flatWeight_apply w k _

end Cert.New
-- ==== Proof.NewTile.lean ====
/-
  The attention group's call: a point's tile at an index, the blocks it reads, and what the call leaves.
-/
module

public import proofs.«01_k».proof.Proof.NewHost
public import Idealize.ShloMosaic.PureOps.Ideal.Laws
public import Idealize.ShloMosaic.Lib.Pipeline.ValueKit
public import Idealize.ShloMosaic.Lib.Pipeline.Covers
public import Idealize.ShloMosaic.Lib.KernelVsHost

@[expose] public section

noncomputable section

namespace Cert.New

open Cert.Kernel7Ideal Cert.Kernel7Ideal.Gen
open Idealize.ShloMosaic Idealize.ShloMosaic.TcCoe Idealize.SL.Sem
open Idealize.ShloMosaic.ValueIdx (contrEquiv1 contrEquiv1_symm_val)
open Cert.Front (turn angle cosAt sinAt)
open Cert.Glu (normed cast_same)
open Cert.NewGlu (rowNormed placeOf tokenOf flat_apply scale_apply)

/-- The normed rows of a tile. -/
theorem normed_apply (x : FVec Ideal S128x2048 .f32) (g : FVec Ideal S1x2048 .f32) (i : Fin 128) (k : Fin 2048) :
    mulf (mulf x (broadcastTo S128x2048 (rsqrt (addf (divf (shapeCast S128x1 (multiReduction .add [1] S128 (mulf x x) 0x00000000#32 reduces_S128x2048_S128 (.inl rfl) rfl) shapeCasts_S128_S128x1)
      (broadcast S128x1 (Scalar.ofBits .f32 0x45000000#32))) (broadcast S128x1 (Scalar.ofBits .f32 0x358637BD#32)))) broadcasts_S128x1_S128x2048))
      (broadcastTo S128x2048 g broadcasts_S1x2048_S128x2048) (ix2 i k) = normed (fun l => x (ix2 i l)) (fun l => g (ix2 0 l)) k := by
  unfold normed
  refine congrArg₂ (fun a b : EReal => a * b) (congrArg (fun b : EReal => x (ix2 i k) * b) ?_) ?_
  · refine (broadcastTo_apply _ _ _ (ix2 i 0) (fun a => by match a with | ⟨0, _⟩ => rfl | ⟨1, _⟩ => rfl)).trans ?_
    show Ideal.rsqrt (Ideal.div (shapeCast S128x1 _ _ (ix2 i 0)) _ + _) = _
    refine congrArg (fun s : EReal => Ideal.rsqrt (Ideal.div s (Ideal.ofBits .f32 0x45000000#32) + Ideal.ofBits .f32 0x358637BD#32)) ?_
    refine (shapeCast_apply _ _ _ (ix1 i) ?_).trans ?_
    · refine (Shape.rowMajor_val_one _).trans (Eq.trans ?_ (Shape.rowMajor_val_two _).symm)
      show i.val = i.val * 1 + 0
      omega
    · refine (Ideal.multiReduction_add_single _ _ _ _ _ _).trans ?_
      refine Finset.sum_congr rfl fun l _ => ?_
      have e : Shape.Reduces.lift reduces_S128x2048_S128 (ix1 i) l = ix2 i l := by
        funext a; match a with | ⟨0, _⟩ => rfl | ⟨1, _⟩ => rfl
      rw [e]
      rfl
  · exact broadcastTo_apply _ _ _ (ix2 0 k) (fun a => by match a with | ⟨0, _⟩ => rfl | ⟨1, _⟩ => rfl)

/-- The product of a tile, at a row and a column. -/
theorem product_apply (a : FVec Ideal S128x2048 .bf16) (b : FVec Ideal S2048x2688 .bf16) (i : Fin 128) (j : Fin 2688) :
    matmul dot_S128x2048_S2048x2688_S128x2688_1_0_0_1_n_n none a b (constant S128x2688 .f32 0x00000000#32) (ix2 i j)
      = ∑ k : Fin 2048, (a (ix2 i k) : EReal) * b (ix2 k j) := by
  let d := dot_S128x2048_S2048x2688_S128x2688_1_0_0_1_n_n
  simp only [matmul]
  rw [Ideal.matmul_constant_zero_apply, ← Equiv.sum_comp (contrEquiv1 d 2048 rfl rfl).symm]
  refine Finset.sum_congr rfl fun k _ => ?_
  have hk := contrEquiv1_symm_val d 2048 rfl rfl k
  have el : d.lhsIdx (ix2 i j) ((contrEquiv1 d 2048 rfl rfl).symm k) = ix2 i k := funext fun x => Fin.ext (by
    match x with
    | ⟨0, _⟩ =>
      show (d.lhsIdx (ix2 i j) _ 0).val = _
      unfold DotDims.lhsIdx
      rw [dif_neg (show ¬(0 : Fin S128x2048.rank) ∈ d.lhsBatch by decide), dif_pos (show (0 : Fin S128x2048.rank) ∈ d.lhsNonContracting by decide)]
      rfl
    | ⟨1, _⟩ => exact (d.lhsIdx_val_of_single rfl _ _).trans hk)
  have er : d.rhsIdx (ix2 i j) ((contrEquiv1 d 2048 rfl rfl).symm k) = ix2 k j := funext fun x => Fin.ext (by
    match x with
    | ⟨0, _⟩ => exact (d.rhsIdx_val_of_single rfl _ _).trans hk
    | ⟨1, _⟩ =>
      show (d.rhsIdx (ix2 i j) _ 1).val = _
      unfold DotDims.rhsIdx
      rw [dif_neg (show ¬(1 : Fin S2048x2688.rank) ∈ d.rhsBatch by decide), dif_pos (show (1 : Fin S2048x2688.rank) ∈ d.rhsNonContracting by decide)]
      rfl)
  rw [el, er]

/-- A tile's projection, at a row and a column. -/
theorem tile_apply (x : Vec Ideal S128x2048 .f32) (g : Vec Ideal S1x2048 .f32) (y : Vec Ideal S2048x2688 .bf16) (i : Fin 128) (j : Fin 2688) :
    k0_pay1 x g y (ix2 i j) = ∑ k : Fin 2048, normed (fun l => x (ix2 i l)) (fun l => g (ix2 0 l)) k * y (ix2 k j) := by
  unfold k0_pay1
  rw [cast_same x, cast_same g, cast_same y]
  refine (product_apply _ _ i j).trans (Finset.sum_congr rfl fun k _ => ?_)
  exact congrArg (fun a : EReal => a * y (ix2 k j)) (normed_apply x g i k)

theorem pay16_apply (v : FVec Ideal S128x2688 .f32) (a b : FVec Ideal S128x128 .f32) (i : Fin 128) (l : Fin 128) :
    k0_pay16 v a b (ix2 i l) = (v (ix2 i ⟨1024 + l.val, by omega⟩) : EReal) * a (ix2 i l) + v (ix2 i ⟨1024 + (l.val + 64) % 128, by omega⟩) * b (ix2 i l) := by
  unfold k0_pay16
  refine congrArg₂ (fun p q : EReal => p + q) (congrArg (fun p : EReal => p * a (ix2 i l)) ?_) (congrArg (fun p : EReal => p * b (ix2 i l)) ?_)
  · exact extractStridedSlice_apply _ _ _ _ _ (fun a => by match a with | ⟨0, _⟩ => exact (Nat.zero_add _).symm | ⟨1, _⟩ => rfl)
  · refine (dynamicRotate_apply _ _ _ _ _ (ix2 i ⟨(l.val + 64) % 128, by omega⟩) (fun a => ?_)).trans ?_
    · match a with
      | ⟨0, _⟩ => rfl
      | ⟨1, _⟩ => exact (show (l.val + 64) % 128 = (l.val + 128 - 64 % 128) % 128 by omega).trans (if_pos rfl).symm
    · exact extractStridedSlice_apply _ _ _ _ _ (fun a => by match a with | ⟨0, _⟩ => exact (Nat.zero_add _).symm | ⟨1, _⟩ => rfl)

theorem pay18_apply (v : FVec Ideal S128x2688 .f32) (a b : FVec Ideal S128x128 .f32) (i : Fin 128) (l : Fin 128) :
    k0_pay18 v a b (ix2 i l) = (v (ix2 i ⟨1152 + l.val, by omega⟩) : EReal) * a (ix2 i l) + v (ix2 i ⟨1152 + (l.val + 64) % 128, by omega⟩) * b (ix2 i l) := by
  unfold k0_pay18
  refine congrArg₂ (fun p q : EReal => p + q) (congrArg (fun p : EReal => p * a (ix2 i l)) ?_) (congrArg (fun p : EReal => p * b (ix2 i l)) ?_)
  · exact extractStridedSlice_apply _ _ _ _ _ (fun a => by match a with | ⟨0, _⟩ => exact (Nat.zero_add _).symm | ⟨1, _⟩ => rfl)
  · refine (dynamicRotate_apply _ _ _ _ _ (ix2 i ⟨(l.val + 64) % 128, by omega⟩) (fun a => ?_)).trans ?_
    · match a with
      | ⟨0, _⟩ => rfl
      | ⟨1, _⟩ => exact (show (l.val + 64) % 128 = (l.val + 128 - 64 % 128) % 128 by omega).trans (if_pos rfl).symm
    · exact extractStridedSlice_apply _ _ _ _ _ (fun a => by match a with | ⟨0, _⟩ => exact (Nat.zero_add _).symm | ⟨1, _⟩ => rfl)

theorem pay20_apply (v : FVec Ideal S128x2688 .f32) (i : Fin 128) (l : Fin 256) :
    k0_pay20 v (ix2 i l) = v (ix2 i ⟨1280 + l.val, by omega⟩) := by
  unfold k0_pay20
  exact extractStridedSlice_apply _ _ _ _ _ (fun a => by match a with | ⟨0, _⟩ => exact (Nat.zero_add _).symm | ⟨1, _⟩ => rfl)

theorem pay54_apply (v : FVec Ideal S128x2688 .f32) (i : Fin 128) (l : Fin 128) :
    k0_pay54 v (ix2 i l) = v (ix2 i ⟨2560 + l.val, by omega⟩) := by
  unfold k0_pay54
  exact extractStridedSlice_apply _ _ _ _ _ (fun a => by match a with | ⟨0, _⟩ => exact (Nat.zero_add _).symm | ⟨1, _⟩ => rfl)

theorem lane_word : ∀ l : Fin 64, Scalar.cmpi .slt (BitVec.ofNat 32 (0 * 128 + l.val) &&& 63#32) 32#32 = if l.val < 32 then 1#1 else 0#1 := by
  decide +kernel

theorem pay56_apply (v : FVec Ideal S128x2688 .f32) (a b : FVec Ideal S128x128 .f32) (h : S128x128.Iotas .tc 32 [1]) (i : Fin 128) (l : Fin 64) :
    k0_pay56 v a b (iota .tc S128x128 32 [1] h) (ix2 i l)
      = (v (ix2 i ⟨2560 + l.val, by omega⟩) : EReal) * a (ix2 i ⟨l.val, by omega⟩)
        + (if l.val < 32 then v (ix2 i ⟨2560 + (l.val + 32), by omega⟩) else v (ix2 i ⟨2560 + (l.val - 32), by omega⟩) : EReal) * b (ix2 i ⟨l.val, by omega⟩) := by
  have hl := l.isLt
  unfold k0_pay56
  refine (extractStridedSlice_apply _ _ _ _ (ix2 i ⟨l.val, by omega⟩) (fun a => by match a with | ⟨0, _⟩ => exact (Nat.zero_add _).symm | ⟨1, _⟩ => exact (Nat.zero_add _).symm)).trans ?_
  unfold k0_pay55
  refine congrArg₂ (fun p q : EReal => p + q) (congrArg (fun p : EReal => p * a _) (pay54_apply v i _)) (congrArg (fun p : EReal => p * b _) ?_)
  show (if Scalar.cmpi .slt (BitVec.ofNat 32 (0 * 128 + l.val) &&& 63#32) 32#32 = 1 then dynamicRotate 1 96#32 none (k0_pay54 v) rotates_S128x128_d1 (ix2 i ⟨l.val, by omega⟩)
    else dynamicRotate 1 32#32 none (k0_pay54 v) rotates_S128x128_d1 (ix2 i ⟨l.val, by omega⟩)) = _
  rw [lane_word l]
  by_cases hlt : l.val < 32
  · rw [if_pos hlt, if_pos hlt]
    refine Eq.trans (if_pos rfl) ?_
    refine (dynamicRotate_apply _ _ _ _ _ (ix2 i ⟨l.val + 32, by omega⟩) (fun a => ?_)).trans (pay54_apply v i _)
    match a with
    | ⟨0, _⟩ => rfl
    | ⟨1, _⟩ => exact (show l.val + 32 = (l.val + 128 - 96 % 128) % 128 by omega).trans (if_pos rfl).symm
  · rw [if_neg hlt, if_neg hlt]
    refine Eq.trans (if_neg (by decide)) ?_
    refine (dynamicRotate_apply _ _ _ _ _ (ix2 i ⟨l.val - 32, by omega⟩) (fun a => ?_)).trans (pay54_apply v i _)
    match a with
    | ⟨0, _⟩ => rfl
    | ⟨1, _⟩ => exact (show l.val - 32 = (l.val + 128 - 32 % 128) % 128 by omega).trans (if_pos rfl).symm

/-! ## The blocks -/

/-- A tile's row of the tokens. -/
def rowOf (t : Fin grid0.N) (i : Fin 128) : Fin 128 := ⟨128 * t.val + i.val, by have := lt_of_lt_of_eq t.isLt N_0; omega⟩

theorem index0 : ∀ t : Fin cfg0.N, (cfg0.win 0).index t (0 : Fin 2) = t.val ∧ (cfg0.win 0).index t (1 : Fin 2) = 0 :=
  (by decide +kernel : ∀ t : Fin grid0.N, win0_0.index t (0 : Fin 2) = t.val ∧ win0_0.index t (1 : Fin 2) = 0)

theorem index1 : ∀ t : Fin cfg0.N, (cfg0.win 1).index t (0 : Fin 2) = 0 ∧ (cfg0.win 1).index t (1 : Fin 2) = 0 :=
  (by decide +kernel : ∀ t : Fin grid0.N, win0_1.index t (0 : Fin 2) = 0 ∧ win0_1.index t (1 : Fin 2) = 0)

theorem index2 : ∀ t : Fin cfg0.N, (cfg0.win 2).index t (0 : Fin 2) = 0 ∧ (cfg0.win 2).index t (1 : Fin 2) = 0 :=
  (by decide +kernel : ∀ t : Fin grid0.N, win0_2.index t (0 : Fin 2) = 0 ∧ win0_2.index t (1 : Fin 2) = 0)

theorem index3 : ∀ t : Fin cfg0.N, (cfg0.win 3).index t (0 : Fin 2) = t.val ∧ (cfg0.win 3).index t (1 : Fin 2) = 0 :=
  (by decide +kernel : ∀ t : Fin grid0.N, win0_3.index t (0 : Fin 2) = t.val ∧ win0_3.index t (1 : Fin 2) = 0)

theorem index4 : ∀ t : Fin cfg0.N, (cfg0.win 4).index t (0 : Fin 2) = t.val ∧ (cfg0.win 4).index t (1 : Fin 2) = 0 :=
  (by decide +kernel : ∀ t : Fin grid0.N, win0_4.index t (0 : Fin 2) = t.val ∧ win0_4.index t (1 : Fin 2) = 0)

theorem index5 : ∀ t : Fin cfg0.N, (cfg0.win 5).index t (0 : Fin 2) = t.val ∧ (cfg0.win 5).index t (1 : Fin 2) = 0 :=
  (by decide +kernel : ∀ t : Fin grid0.N, win0_5.index t (0 : Fin 2) = t.val ∧ win0_5.index t (1 : Fin 2) = 0)

theorem index6 : ∀ t : Fin cfg0.N, (cfg0.win 6).index t (0 : Fin 2) = t.val ∧ (cfg0.win 6).index t (1 : Fin 2) = 0 :=
  (by decide +kernel : ∀ t : Fin grid0.N, win0_6.index t (0 : Fin 2) = t.val ∧ win0_6.index t (1 : Fin 2) = 0)

theorem index8 : ∀ t : Fin cfg0.N, (cfg0.win 8).index t (0 : Fin 2) = t.val ∧ (cfg0.win 8).index t (1 : Fin 2) = 0 :=
  (by decide +kernel : ∀ t : Fin grid0.N, win0_8.index t (0 : Fin 2) = t.val ∧ win0_8.index t (1 : Fin 2) = 0)

theorem index10 : ∀ t : Fin cfg0.N, (cfg0.win 10).index t (0 : Fin 2) = t.val ∧ (cfg0.win 10).index t (1 : Fin 2) = 0 :=
  (by decide +kernel : ∀ t : Fin grid0.N, win0_10.index t (0 : Fin 2) = t.val ∧ win0_10.index t (1 : Fin 2) = 0)

theorem index13 : ∀ t : Fin cfg0.N, (cfg0.win 13).index t (0 : Fin 2) = t.val ∧ (cfg0.win 13).index t (1 : Fin 2) = 0 :=
  (by decide +kernel : ∀ t : Fin grid0.N, win0_13.index t (0 : Fin 2) = t.val ∧ win0_13.index t (1 : Fin 2) = 0)

section
variable {F : FTy → Type} [FloatOps F] (m : (ℓ : Loc nD τ sig) → Buf (Elt F) ℓ) (c : Dev nD)

theorem iblk0_apply (t : Fin grid0.N) (i : Fin 128) (k : Fin 2048) :
    iblk m c 0 t (ix2 i k) = V m c (Pipeline.arrRef spec0 0) (ix2 (rowOf t i) k) := by
  obtain ⟨e0, e1⟩ := index0 t
  have ht := lt_of_lt_of_eq t.isLt N_0
  have hi := i.isLt
  unfold iblk
  refine congrArg (V m c (Pipeline.arrRef spec0 0)) (funext fun a => Fin.ext ?_)
  match a with
  | ⟨0, _⟩ => exact ((cfg0.win 0).rect_emb_val t (ix2 i k) (0 : Fin 2)).trans ((congrArg (fun z : ℕ => z * 128 + i.val) e0).trans (show t.val * 128 + i.val = 128 * t.val + i.val by omega))
  | ⟨1, _⟩ => exact ((cfg0.win 0).rect_emb_val t (ix2 i k) (1 : Fin 2)).trans ((congrArg (fun z : ℕ => z * 2048 + k.val) e1).trans (show 0 * 2048 + k.val = k.val by omega))

theorem iblk1_apply (t : Fin grid0.N) (i : Fin 1) (k : Fin 2048) :
    iblk m c 1 t (ix2 i k) = V m c (Pipeline.arrRef spec0 1) (ix2 i k) := by
  obtain ⟨e0, e1⟩ := index1 t
  have ht := lt_of_lt_of_eq t.isLt N_0
  have hi := i.isLt
  unfold iblk
  refine congrArg (V m c (Pipeline.arrRef spec0 1)) (funext fun a => Fin.ext ?_)
  match a with
  | ⟨0, _⟩ => exact ((cfg0.win 1).rect_emb_val t (ix2 i k) (0 : Fin 2)).trans ((congrArg (fun z : ℕ => z * 1 + i.val) e0).trans (show 0 * 1 + i.val = i.val by omega))
  | ⟨1, _⟩ => exact ((cfg0.win 1).rect_emb_val t (ix2 i k) (1 : Fin 2)).trans ((congrArg (fun z : ℕ => z * 2048 + k.val) e1).trans (show 0 * 2048 + k.val = k.val by omega))

theorem iblk2_apply (t : Fin grid0.N) (i : Fin 2048) (k : Fin 2688) :
    iblk m c 2 t (ix2 i k) = V m c (Pipeline.arrRef spec0 2) (ix2 i k) := by
  obtain ⟨e0, e1⟩ := index2 t
  have ht := lt_of_lt_of_eq t.isLt N_0
  have hi := i.isLt
  unfold iblk
  refine congrArg (V m c (Pipeline.arrRef spec0 2)) (funext fun a => Fin.ext ?_)
  match a with
  | ⟨0, _⟩ => exact ((cfg0.win 2).rect_emb_val t (ix2 i k) (0 : Fin 2)).trans ((congrArg (fun z : ℕ => z * 2048 + i.val) e0).trans (show 0 * 2048 + i.val = i.val by omega))
  | ⟨1, _⟩ => exact ((cfg0.win 2).rect_emb_val t (ix2 i k) (1 : Fin 2)).trans ((congrArg (fun z : ℕ => z * 2688 + k.val) e1).trans (show 0 * 2688 + k.val = k.val by omega))

theorem iblk3_apply (t : Fin grid0.N) (i : Fin 128) (k : Fin 128) :
    iblk m c 3 t (ix2 i k) = V m c (Pipeline.arrRef spec0 3) (ix2 (rowOf t i) k) := by
  obtain ⟨e0, e1⟩ := index3 t
  have ht := lt_of_lt_of_eq t.isLt N_0
  have hi := i.isLt
  unfold iblk
  refine congrArg (V m c (Pipeline.arrRef spec0 3)) (funext fun a => Fin.ext ?_)
  match a with
  | ⟨0, _⟩ => exact ((cfg0.win 3).rect_emb_val t (ix2 i k) (0 : Fin 2)).trans ((congrArg (fun z : ℕ => z * 128 + i.val) e0).trans (show t.val * 128 + i.val = 128 * t.val + i.val by omega))
  | ⟨1, _⟩ => exact ((cfg0.win 3).rect_emb_val t (ix2 i k) (1 : Fin 2)).trans ((congrArg (fun z : ℕ => z * 128 + k.val) e1).trans (show 0 * 128 + k.val = k.val by omega))

theorem iblk4_apply (t : Fin grid0.N) (i : Fin 128) (k : Fin 128) :
    iblk m c 4 t (ix2 i k) = V m c (Pipeline.arrRef spec0 4) (ix2 (rowOf t i) k) := by
  obtain ⟨e0, e1⟩ := index4 t
  have ht := lt_of_lt_of_eq t.isLt N_0
  have hi := i.isLt
  unfold iblk
  refine congrArg (V m c (Pipeline.arrRef spec0 4)) (funext fun a => Fin.ext ?_)
  match a with
  | ⟨0, _⟩ => exact ((cfg0.win 4).rect_emb_val t (ix2 i k) (0 : Fin 2)).trans ((congrArg (fun z : ℕ => z * 128 + i.val) e0).trans (show t.val * 128 + i.val = 128 * t.val + i.val by omega))
  | ⟨1, _⟩ => exact ((cfg0.win 4).rect_emb_val t (ix2 i k) (1 : Fin 2)).trans ((congrArg (fun z : ℕ => z * 128 + k.val) e1).trans (show 0 * 128 + k.val = k.val by omega))

theorem iblk5_apply (t : Fin grid0.N) (i : Fin 128) (k : Fin 128) :
    iblk m c 5 t (ix2 i k) = V m c (Pipeline.arrRef spec0 5) (ix2 (rowOf t i) k) := by
  obtain ⟨e0, e1⟩ := index5 t
  have ht := lt_of_lt_of_eq t.isLt N_0
  have hi := i.isLt
  unfold iblk
  refine congrArg (V m c (Pipeline.arrRef spec0 5)) (funext fun a => Fin.ext ?_)
  match a with
  | ⟨0, _⟩ => exact ((cfg0.win 5).rect_emb_val t (ix2 i k) (0 : Fin 2)).trans ((congrArg (fun z : ℕ => z * 128 + i.val) e0).trans (show t.val * 128 + i.val = 128 * t.val + i.val by omega))
  | ⟨1, _⟩ => exact ((cfg0.win 5).rect_emb_val t (ix2 i k) (1 : Fin 2)).trans ((congrArg (fun z : ℕ => z * 128 + k.val) e1).trans (show 0 * 128 + k.val = k.val by omega))

theorem iblk6_apply (t : Fin grid0.N) (i : Fin 128) (k : Fin 128) :
    iblk m c 6 t (ix2 i k) = V m c (Pipeline.arrRef spec0 6) (ix2 (rowOf t i) k) := by
  obtain ⟨e0, e1⟩ := index6 t
  have ht := lt_of_lt_of_eq t.isLt N_0
  have hi := i.isLt
  unfold iblk
  refine congrArg (V m c (Pipeline.arrRef spec0 6)) (funext fun a => Fin.ext ?_)
  match a with
  | ⟨0, _⟩ => exact ((cfg0.win 6).rect_emb_val t (ix2 i k) (0 : Fin 2)).trans ((congrArg (fun z : ℕ => z * 128 + i.val) e0).trans (show t.val * 128 + i.val = 128 * t.val + i.val by omega))
  | ⟨1, _⟩ => exact ((cfg0.win 6).rect_emb_val t (ix2 i k) (1 : Fin 2)).trans ((congrArg (fun z : ℕ => z * 128 + k.val) e1).trans (show 0 * 128 + k.val = k.val by omega))

theorem blk8_emb (t : Fin grid0.N) (i : Fin 128) (j : Fin 256) : ((cfg0.win 8).blk t).view.emb (ix2 i j) = ix2 (rowOf t i) j := by
  obtain ⟨e0, e1⟩ := index8 t
  refine funext fun a => Fin.ext ?_
  match a with
  | ⟨0, _⟩ => exact ((cfg0.win 8).rect_emb_val t (ix2 i j) (0 : Fin 2)).trans ((congrArg (fun z : ℕ => z * 128 + i.val) e0).trans (show t.val * 128 + i.val = 128 * t.val + i.val by omega))
  | ⟨1, _⟩ => exact ((cfg0.win 8).rect_emb_val t (ix2 i j) (1 : Fin 2)).trans ((congrArg (fun z : ℕ => z * 256 + j.val) e1).trans (show 0 * 256 + j.val = j.val by omega))

theorem blk10_emb (t : Fin grid0.N) (i : Fin 128) (j : Fin 256) : ((cfg0.win 10).blk t).view.emb (ix2 i j) = ix2 (rowOf t i) j := by
  obtain ⟨e0, e1⟩ := index10 t
  refine funext fun a => Fin.ext ?_
  match a with
  | ⟨0, _⟩ => exact ((cfg0.win 10).rect_emb_val t (ix2 i j) (0 : Fin 2)).trans ((congrArg (fun z : ℕ => z * 128 + i.val) e0).trans (show t.val * 128 + i.val = 128 * t.val + i.val by omega))
  | ⟨1, _⟩ => exact ((cfg0.win 10).rect_emb_val t (ix2 i j) (1 : Fin 2)).trans ((congrArg (fun z : ℕ => z * 256 + j.val) e1).trans (show 0 * 256 + j.val = j.val by omega))

theorem blk13_emb (t : Fin grid0.N) (i : Fin 128) (j : Fin 64) : ((cfg0.win 13).blk t).view.emb (ix2 i j) = ix2 (rowOf t i) j := by
  obtain ⟨e0, e1⟩ := index13 t
  refine funext fun a => Fin.ext ?_
  match a with
  | ⟨0, _⟩ => exact ((cfg0.win 13).rect_emb_val t (ix2 i j) (0 : Fin 2)).trans ((congrArg (fun z : ℕ => z * 128 + i.val) e0).trans (show t.val * 128 + i.val = 128 * t.val + i.val by omega))
  | ⟨1, _⟩ => exact ((cfg0.win 13).rect_emb_val t (ix2 i j) (1 : Fin 2)).trans ((congrArg (fun z : ℕ => z * 64 + j.val) e1).trans (show 0 * 64 + j.val = j.val by omega))

end

variable (m : (ℓ : Loc nD τ sig) → Buf (Elt Ideal) ℓ) (c : Dev nD)

/-- A point's projection is the tokens'. -/
theorem proj_block (t : Fin grid0.N) (i : Fin 128) (j : Fin 2688) (hj : j.val < 2640) :
    k0_pay1 (iblk m c 0 t) (iblk m c 1 t) (iblk m c 2 t) (ix2 i j) = projAt (m ((c : Thread nD τ).loc main_arg0)) (m ((c : Thread nD τ).loc main_arg1)) (m ((c : Thread nD τ).loc main_arg2)) (rowOf t i) j.val := by
  rw [projAt_of (m ((c : Thread nD τ).loc main_arg0)) (m ((c : Thread nD τ).loc main_arg1)) (m ((c : Thread nD τ).loc main_arg2)) (rowOf t i) j.val (by omega)]
  refine (tile_apply _ _ _ i j).trans (Finset.sum_congr rfl fun k _ => congrArg₂ (fun a b : EReal => a * b) ?_ ?_)
  · unfold rowNormed
    refine congrArg₂ (fun r g => normed r g k) (funext fun l => ?_) (funext fun l => ?_)
    · rw [iblk0_apply, rows_eq]; exact flat_apply _ _ _
    · rw [iblk1_apply, norm_eq]; exact scale_apply _ _
  · rw [iblk2_apply, weight_eq]; exact column_apply _ k j hj

theorem cos64_low (t : Fin grid0.N) (i : Fin 128) (l : Fin 128) (hl : l.val < 64) :
    (iblk m c 3 t (ix2 i l) : EReal) = cosAt 0x42800000#32 (16384 + (rowOf t i).val % 4) l.val := by
  rw [iblk3_apply, cos64_eq, tiled_apply, table64_low _ _ _ l hl]
  exact congrArg (fun z : Ideal .f32 => (FloatOps.hostUnary .cos z : Ideal .f32)) (angles64_apply _ _)

theorem cos64_high (t : Fin grid0.N) (i : Fin 128) (l : Fin 128) (hl : 64 ≤ l.val) :
    (iblk m c 3 t (ix2 i l) : EReal) = cosAt 0x42800000#32 (16384 + (rowOf t i).val % 4) (l.val - 64) := by
  rw [iblk3_apply, cos64_eq, tiled_apply, table64_high _ _ _ l hl l.isLt]
  exact congrArg (fun z : Ideal .f32 => (FloatOps.hostUnary .cos z : Ideal .f32)) (angles64_apply _ _)

theorem sin64_low (t : Fin grid0.N) (i : Fin 128) (l : Fin 128) (hl : l.val < 64) :
    (iblk m c 4 t (ix2 i l) : EReal) = -sinAt 0x42800000#32 (16384 + (rowOf t i).val % 4) l.val := by
  rw [iblk4_apply, sin64_eq, tiled_apply, table64_low _ _ _ l hl]
  exact congrArg (fun z : Ideal .f32 => -(FloatOps.hostUnary .sin z : Ideal .f32)) (angles64_apply _ _)

theorem sin64_high (t : Fin grid0.N) (i : Fin 128) (l : Fin 128) (hl : 64 ≤ l.val) :
    (iblk m c 4 t (ix2 i l) : EReal) = sinAt 0x42800000#32 (16384 + (rowOf t i).val % 4) (l.val - 64) := by
  rw [iblk4_apply, sin64_eq, tiled_apply, table64_high _ _ _ l hl l.isLt]
  exact congrArg (fun z : Ideal .f32 => (FloatOps.hostUnary .sin z : Ideal .f32)) (angles64_apply _ _)

theorem cos32_low (t : Fin grid0.N) (i : Fin 128) (l : Fin 128) (hl : l.val < 32) :
    (iblk m c 5 t (ix2 i l) : EReal) = cosAt 0x42000000#32 (16384 + (rowOf t i).val % 4) l.val := by
  rw [iblk5_apply, cos32_eq, tiled_apply, table32_low _ _ _ l hl]
  exact congrArg (fun z : Ideal .f32 => (FloatOps.hostUnary .cos z : Ideal .f32)) (angles32_apply _ _)

theorem cos32_high (t : Fin grid0.N) (i : Fin 128) (l : Fin 128) (hl : 32 ≤ l.val) (hu : l.val < 64) :
    (iblk m c 5 t (ix2 i l) : EReal) = cosAt 0x42000000#32 (16384 + (rowOf t i).val % 4) (l.val - 32) := by
  rw [iblk5_apply, cos32_eq, tiled_apply, table32_high _ _ _ l hl hu]
  exact congrArg (fun z : Ideal .f32 => (FloatOps.hostUnary .cos z : Ideal .f32)) (angles32_apply _ _)

theorem sin32_low (t : Fin grid0.N) (i : Fin 128) (l : Fin 128) (hl : l.val < 32) :
    (iblk m c 6 t (ix2 i l) : EReal) = -sinAt 0x42000000#32 (16384 + (rowOf t i).val % 4) l.val := by
  rw [iblk6_apply, sin32_eq, tiled_apply, table32_low _ _ _ l hl]
  exact congrArg (fun z : Ideal .f32 => -(FloatOps.hostUnary .sin z : Ideal .f32)) (angles32_apply _ _)

theorem sin32_high (t : Fin grid0.N) (i : Fin 128) (l : Fin 128) (hl : 32 ≤ l.val) (hu : l.val < 64) :
    (iblk m c 6 t (ix2 i l) : EReal) = sinAt 0x42000000#32 (16384 + (rowOf t i).val % 4) (l.val - 32) := by
  rw [iblk6_apply, sin32_eq, tiled_apply, table32_high _ _ _ l hl hu]
  exact congrArg (fun z : Ideal .f32 => (FloatOps.hostUnary .sin z : Ideal .f32)) (angles32_apply _ _)

/-- A head of the keys, at a point. -/
theorem head16 (t : Fin grid0.N) (i : Fin 128) (l : Fin 128) :
    k0_pay16 (k0_pay1 (iblk m c 0 t) (iblk m c 1 t) (iblk m c 2 t)) (iblk m c 3 t) (iblk m c 4 t) (ix2 i l)
      = turn 0x42800000#32 64 (projAt (m ((c : Thread nD τ).loc main_arg0)) (m ((c : Thread nD τ).loc main_arg1)) (m ((c : Thread nD τ).loc main_arg2)) (rowOf t i)) (16384 + (rowOf t i).val % 4) 1024 l.val := by
  have hl := l.isLt
  rw [pay16_apply, proj_block m c t i _ (show 1024 + l.val < 2640 by omega), proj_block m c t i _ (show 1024 + (l.val + 64) % 128 < 2640 by omega)]
  show projAt (m ((c : Thread nD τ).loc main_arg0)) (m ((c : Thread nD τ).loc main_arg1)) (m ((c : Thread nD τ).loc main_arg2)) (rowOf t i) (1024 + l.val) * _ + projAt (m ((c : Thread nD τ).loc main_arg0)) (m ((c : Thread nD τ).loc main_arg1)) (m ((c : Thread nD τ).loc main_arg2)) (rowOf t i) (1024 + (l.val + 64) % 128) * _ = _
  unfold turn
  by_cases hlt : l.val < 64
  · rw [if_pos hlt, cos64_low m c t i l hlt, sin64_low m c t i l hlt, mul_neg, ← sub_eq_add_neg, show 1024 + (l.val + 64) % 128 = 1024 + l.val + 64 by omega]
  · rw [if_neg hlt, cos64_high m c t i l (by omega), sin64_high m c t i l (by omega), show 1024 + (l.val + 64) % 128 = 1024 + l.val - 64 by omega]

/-- A head of the keys, at a point. -/
theorem head18 (t : Fin grid0.N) (i : Fin 128) (l : Fin 128) :
    k0_pay18 (k0_pay1 (iblk m c 0 t) (iblk m c 1 t) (iblk m c 2 t)) (iblk m c 3 t) (iblk m c 4 t) (ix2 i l)
      = turn 0x42800000#32 64 (projAt (m ((c : Thread nD τ).loc main_arg0)) (m ((c : Thread nD τ).loc main_arg1)) (m ((c : Thread nD τ).loc main_arg2)) (rowOf t i)) (16384 + (rowOf t i).val % 4) 1152 l.val := by
  have hl := l.isLt
  rw [pay18_apply, proj_block m c t i _ (show 1152 + l.val < 2640 by omega), proj_block m c t i _ (show 1152 + (l.val + 64) % 128 < 2640 by omega)]
  show projAt (m ((c : Thread nD τ).loc main_arg0)) (m ((c : Thread nD τ).loc main_arg1)) (m ((c : Thread nD τ).loc main_arg2)) (rowOf t i) (1152 + l.val) * _ + projAt (m ((c : Thread nD τ).loc main_arg0)) (m ((c : Thread nD τ).loc main_arg1)) (m ((c : Thread nD τ).loc main_arg2)) (rowOf t i) (1152 + (l.val + 64) % 128) * _ = _
  unfold turn
  by_cases hlt : l.val < 64
  · rw [if_pos hlt, cos64_low m c t i l hlt, sin64_low m c t i l hlt, mul_neg, ← sub_eq_add_neg, show 1152 + (l.val + 64) % 128 = 1152 + l.val + 64 by omega]
  · rw [if_neg hlt, cos64_high m c t i l (by omega), sin64_high m c t i l (by omega), show 1152 + (l.val + 64) % 128 = 1152 + l.val - 64 by omega]

/-- The indexer's keys, at a point. -/
theorem head56 (h : S128x128.Iotas .tc 32 [1]) (t : Fin grid0.N) (i : Fin 128) (l : Fin 64) :
    k0_pay56 (k0_pay1 (iblk m c 0 t) (iblk m c 1 t) (iblk m c 2 t)) (iblk m c 5 t) (iblk m c 6 t) (iota .tc S128x128 32 [1] h) (ix2 i l)
      = turn 0x42000000#32 32 (projAt (m ((c : Thread nD τ).loc main_arg0)) (m ((c : Thread nD τ).loc main_arg1)) (m ((c : Thread nD τ).loc main_arg2)) (rowOf t i)) (16384 + (rowOf t i).val % 4) 2560 l.val := by
  have hl := l.isLt
  rw [pay56_apply, proj_block m c t i _ (show 2560 + l.val < 2640 by omega)]
  unfold turn
  by_cases hlt : l.val < 32
  · rw [if_pos hlt, if_pos hlt, cos32_low m c t i _ hlt, sin32_low m c t i _ hlt, proj_block m c t i _ (show 2560 + (l.val + 32) < 2640 by omega), mul_neg, ← sub_eq_add_neg]
    rfl
  · rw [if_neg hlt, if_neg hlt, cos32_high m c t i _ (Nat.le_of_not_lt hlt) hl, sin32_high m c t i _ (Nat.le_of_not_lt hlt) hl, proj_block m c t i _ (show 2560 + (l.val - 32) < 2640 by omega),
      show 2560 + l.val - 32 = 2560 + (l.val - 32) by omega]

theorem same2 (x : Vec Ideal S128x128 .f32) : k0_pay2 x = x := cast_same x _

theorem same3 (x : Vec Ideal S128x128 .f32) : k0_pay3 x = x := cast_same x _

theorem same4 (x : Vec Ideal S128x128 .f32) : k0_pay4 x = x := cast_same x _

theorem same5 (x : Vec Ideal S128x128 .f32) : k0_pay5 x = x := cast_same x _

/-- What the call leaves. -/
theorem left_keys : (dats m 0 c).arrAt 8 cfg0.N = keys (m ((c : Thread nD τ).loc main_arg0)) (m ((c : Thread nD τ).loc main_arg1)) (m ((c : Thread nD τ).loc main_arg2)) := by
  refine (dats m 0 c).arrAt_eq_of_covers 8 (keys (m ((c : Thread nD τ).loc main_arg0)) (m ((c : Thread nD τ).loc main_arg1)) (m ((c : Thread nD τ).loc main_arg2))) ?_ fun t _ y => ?_
  · refine (cfg0.win 8).covers_of_indexMap_surj rfl (fun a => (by decide : ∀ a : Fin 2, 0 < (![128, 256] : Fin 2 → ℕ) a) a) fun β => ?_
    have h0 : (β (0 : Fin 2)).val < 1 := lt_of_lt_of_eq (β (0 : Fin 2)).isLt (show (128 + 128 - 1) / 128 = 1 by decide)
    have h1 : (β (1 : Fin 2)).val < 1 := lt_of_lt_of_eq (β (1 : Fin 2)).isLt (show (256 + 256 - 1) / 256 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 128) (j : Fin 256), y = ix2 i j := ⟨y (0 : Fin 2), y (1 : Fin 2), by
      funext a; match a with | ⟨0, _⟩ => rfl | ⟨1, _⟩ => rfl⟩
    refine Eq.trans ?_ (congrArg (keys (m ((c : Thread nD τ).loc main_arg0)) (m ((c : Thread nD τ).loc main_arg1)) (m ((c : Thread nD τ).loc main_arg2))) (blk8_emb t i j)).symm
    show (dats m 0 c).after 8 t (ix2 i j) = _
    rw [after0_8]
    unfold out0_8 k0_pay62 k0_pay61 k0_pay60
    rw [View.ld_unit_lit _ _ (by decide), View.ld_unit_lit _ _ (by decide), View.ld_unit_lit _ _ (by decide), View.ld_unit_lit _ _ (by decide), View.ld_unit_lit _ _ (by decide)]
    rw [same2, same3]
    refine View.canon_apply_of_pieces (fun y : S128x256.Idx => (show Elt Ideal .f32 from keys (m ((c : Thread nD τ).loc main_arg0)) (m ((c : Thread nD τ).loc main_arg1)) (m ((c : Thread nD τ).loc main_arg2)) (ix2 (rowOf t (y (0 : Fin 2))) (y (1 : Fin 2))))) _ ?_ (ix2 i j) (cover0_8 _ _ (ix2 i j))
    intro pc hpc
    rcases List.mem_cons.mp hpc with rfl | hpc
    · intro x
      obtain ⟨p, l, rfl⟩ : ∃ (p : Fin 128) (l : Fin 128), x = ix2 p l := ⟨x (0 : Fin 2), x (1 : Fin 2), by
        funext a; match a with | ⟨0, _⟩ => rfl | ⟨1, _⟩ => rfl⟩
      have hl := l.isLt
      refine (head18 m c t p l).trans ?_
      have ep : (⟨0 + 1 * p.val, by omega⟩ : Fin 128) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 128))) (16384 + (rowOf t (⟨0 + 1 * p.val, by omega⟩ : Fin 128)).val % 4) (1024 + (128 + 1 * l.val) / 128 * 128) ((128 + 1 * l.val) % 128)
      rw [ep, show 1024 + (128 + 1 * l.val) / 128 * 128 = 1152 by omega, show (128 + 1 * l.val) % 128 = l.val by omega]
    rcases List.mem_cons.mp hpc with rfl | hpc
    · intro x
      obtain ⟨p, l, rfl⟩ : ∃ (p : Fin 128) (l : Fin 128), x = ix2 p l := ⟨x (0 : Fin 2), x (1 : Fin 2), by
        funext a; match a with | ⟨0, _⟩ => rfl | ⟨1, _⟩ => rfl⟩
      have hl := l.isLt
      refine (head16 m c t p l).trans ?_
      have ep : (⟨0 + 1 * p.val, by omega⟩ : Fin 128) = p := Fin.ext (show 0 + 1 * p.val = p.val by omega)
      show _ = turn 0x42800000#32 64 (projAt (m ((c : Thread nD τ).loc main_arg0)) (m ((c : Thread nD τ).loc main_arg1)) (m ((c : Thread nD τ).loc main_arg2)) (rowOf t (⟨0 + 1 * p.val, by omega⟩ : Fin 128))) (16384 + (rowOf t (⟨0 + 1 * p.val, by omega⟩ : Fin 128)).val % 4) (1024 + (0 + 1 * l.val) / 128 * 128) ((0 + 1 * l.val) % 128)
      rw [ep, show 1024 + (0 + 1 * l.val) / 128 * 128 = 1024 by omega, show (0 + 1 * l.val) % 128 = l.val by omega]
    nomatch hpc

/-- What the call leaves. -/
theorem left_values : (dats m 0 c).arrAt 10 cfg0.N = values (m ((c : Thread nD τ).loc main_arg0)) (m ((c : Thread nD τ).loc main_arg1)) (m ((c : Thread nD τ).loc main_arg2)) := by
  refine (dats m 0 c).arrAt_eq_of_covers 10 (values (m ((c : Thread nD τ).loc main_arg0)) (m ((c : Thread nD τ).loc main_arg1)) (m ((c : Thread nD τ).loc main_arg2))) ?_ fun t _ y => ?_
  · refine (cfg0.win 10).covers_of_indexMap_surj rfl (fun a => (by decide : ∀ a : Fin 2, 0 < (![128, 256] : Fin 2 → ℕ) a) a) fun β => ?_
    have h0 : (β (0 : Fin 2)).val < 1 := lt_of_lt_of_eq (β (0 : Fin 2)).isLt (show (128 + 128 - 1) / 128 = 1 by decide)
    have h1 : (β (1 : Fin 2)).val < 1 := lt_of_lt_of_eq (β (1 : Fin 2)).isLt (show (256 + 256 - 1) / 256 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 128) (j : Fin 256), y = ix2 i j := ⟨y (0 : Fin 2), y (1 : Fin 2), by
      funext a; match a with | ⟨0, _⟩ => rfl | ⟨1, _⟩ => rfl⟩
    refine Eq.trans ?_ (congrArg (values (m ((c : Thread nD τ).loc main_arg0)) (m ((c : Thread nD τ).loc main_arg1)) (m ((c : Thread nD τ).loc main_arg2))) (blk10_emb t i j)).symm
    show (dats m 0 c).after 10 t (ix2 i j) = _
    rw [after0_10]
    unfold out0_10 k0_pay60
    rw [View.canon_cons_unit_lit _ _ _ (by decide), View.ld_unit_lit _ _ (by decide), View.ld_unit_lit _ _ (by decide), View.ld_unit_lit _ _ (by decide), pay20_apply, proj_block m c t i _ (show 1280 + j.val < 2640 by omega)]
    rfl

/-- What the call leaves. -/
theorem left_idxKeys : (dats m 0 c).arrAt 13 cfg0.N = idxKeys (m ((c : Thread nD τ).loc main_arg0)) (m ((c : Thread nD τ).loc main_arg1)) (m ((c : Thread nD τ).loc main_arg2)) := by
  refine (dats m 0 c).arrAt_eq_of_covers 13 (idxKeys (m ((c : Thread nD τ).loc main_arg0)) (m ((c : Thread nD τ).loc main_arg1)) (m ((c : Thread nD τ).loc main_arg2))) ?_ fun t _ y => ?_
  · refine (cfg0.win 13).covers_of_indexMap_surj rfl (fun a => (by decide : ∀ a : Fin 2, 0 < (![128, 64] : Fin 2 → ℕ) a) a) fun β => ?_
    have h0 : (β (0 : Fin 2)).val < 1 := lt_of_lt_of_eq (β (0 : Fin 2)).isLt (show (128 + 128 - 1) / 128 = 1 by decide)
    have h1 : (β (1 : Fin 2)).val < 1 := lt_of_lt_of_eq (β (1 : Fin 2)).isLt (show (64 + 64 - 1) / 64 = 1 by decide)
    refine ⟨fun a => match a with | ⟨0, _⟩ => ⟨(β (0 : Fin 2)).val, h0⟩, fun a => ?_⟩
    match a with
    | ⟨0, _⟩ =>
      show (BitVec.ofNat 32 (β (0 : Fin 2)).val).toNat = (β (0 : Fin 2)).val
      rw [BitVec.toNat_ofNat]; omega
    | ⟨1, _⟩ => show 0 = (β (1 : Fin 2)).val; omega
  · obtain ⟨i, j, rfl⟩ : ∃ (i : Fin 128) (j : Fin 64), y = ix2 i j := ⟨y (0 : Fin 2), y (1 : Fin 2), by
      funext a; match a with | ⟨0, _⟩ => rfl | ⟨1, _⟩ => rfl⟩
    refine Eq.trans ?_ (congrArg (idxKeys (m ((c : Thread nD τ).loc main_arg0)) (m ((c : Thread nD τ).loc main_arg1)) (m ((c : Thread nD τ).loc main_arg2))) (blk13_emb t i j)).symm
    show (dats m 0 c).after 13 t (ix2 i j) = _
    rw [after0_13]
    unfold out0_13 k0_pay64 k0_pay63 k0_pay60 k0_pay59
    rw [View.canon_cons_unit_lit _ _ _ (by decide), View.ld_unit_lit _ _ (by decide), View.ld_unit_lit _ _ (by decide), View.ld_unit_lit _ _ (by decide), View.ld_unit_lit _ _ (by decide), View.ld_unit_lit _ _ (by decide)]
    rw [same4, same5]
    exact head56 m c _ t i j

end Cert.New
-- ==== Proof.NewWanted.lean ====
/-
  The attention group's reference for the sample batch, read at an index.
-/
module

public import proofs.«01_k».proof.Proof.Gen.Reference7Ideal.Read
public import proofs.«01_k».proof.Proof.NewForms
public import Idealize.ShloMosaic.PureOps.Ideal.Laws
public import Idealize.ShloMosaic.Lib.IdealHost
public import Idealize.ShloMosaic.Lib.Pipeline.Value
public import Idealize.ShloMosaic.Lib.ValueIdx

@[expose] public section

noncomputable section

namespace Cert.NewWanted

open Cert.Reference7Ideal Cert.Reference7Ideal.Read Cert.New
open Cert.Front (turn angle cosAt sinAt)
open Idealize.ShloMosaic
open Cert.NewGlu (rowNormed placeOf tokenOf)

variable (x : (⟨S32x4x2048, .f32⟩ : BufTy).Contents (Elt Ideal)) (g : (⟨S1x2048, .f32⟩ : BufTy).Contents (Elt Ideal))
  (w : (⟨S1x2048x4688, .f32⟩ : BufTy).Contents (Elt Ideal))

theorem mean_apply (a : Fin 32) (b : Fin 4) : val_main_v5 (F := Ideal) x (ix2 a b) = ∑ l : Fin 2048, (x (ix3 a b l) : EReal) * x (ix3 a b l) := by
  rw [val_main_v5_apply, val_main_cst_apply]
  refine (congrArg (fun z : EReal => z + _) Ideal.ofBits_zero_f32).trans ((zero_add _).trans ?_)
  refine Finset.sum_congr rfl fun l _ => ?_
  rw [val_main_v4_apply]
  have e : idx_main_v5 (ix2 a b) l = ix3 a b l := by
    funext q; match q with | ⟨0, _⟩ => rfl | ⟨1, _⟩ => rfl | ⟨2, _⟩ => rfl
  rw [e]
  rfl

theorem norm_apply (r : Fin 128) (k : Fin 2048) : val_main_v16 (F := Ideal) x g (ix3 (tokenOf r) (placeOf r) k) = rowNormed x g r k := by
  have hk := k.isLt
  have e9 : idx_main_v6 (idx_main_v12 (ix3 (tokenOf r) (placeOf r) k)) = ix2 (tokenOf r) (placeOf r) := by
    funext q; match q with | ⟨0, _⟩ => rfl | ⟨1, _⟩ => rfl
  have e0 : idx_main_v3 (idx_main_v14 (idx_main_v15 (ix3 (tokenOf r) (placeOf r) k))) = ix2 0 k := by
    funext q
    match q with
    | ⟨0, _⟩ => rfl
    | ⟨1, _⟩ => refine Fin.ext ?_; show k.val % 2048 = k.val; omega
  rw [val_main_v16_apply, val_main_v13_apply, val_main_v12_apply, val_main_v11_apply, val_main_v10_apply, val_main_v9_apply, val_main_cst_1_apply,
    val_main_v8_apply, val_main_v7_apply, val_main_cst_0_apply, val_main_v6_apply, e9, mean_apply, val_main_v15_apply, val_main_v14_apply,
    val_main_v3_apply, e0]
  rfl

theorem column_apply (r : Fin 128) (j : Fin 4688) :
    val_main_v18 (F := Ideal) x g w (ix3 (tokenOf r) (placeOf r) j) = projAt x g w r j.val := by
  rw [val_main_v18_apply, projAt_of x g w r j.val j.isLt]
  have hj := j.isLt
  refine Finset.sum_congr rfl fun k _ => congrArg₂ (fun a b : EReal => a * b) ?_ ((val_main_v17_apply w _).trans (congrArg w ?_))
  · refine (congrArg (val_main_v16 (F := Ideal) x g) ?_).trans (norm_apply x g r k)
    funext a; match a with | ⟨0, _⟩ => rfl | ⟨1, _⟩ => rfl | ⟨2, _⟩ => rfl
  · have hk := k.isLt
    funext a
    match a with
    | ⟨0, _⟩ => rfl
    | ⟨1, _⟩ => refine Fin.ext ?_; show (k.val * 4688 + j.val) / 4688 % 2048 = k.val; omega
    | ⟨2, _⟩ => refine Fin.ext ?_; show (k.val * 4688 + j.val) % 4688 = j.val; omega

theorem cosA (a : Fin 32) (p : Fin 4) (h : Fin 2) (l : Fin 64) :
    val_main_v40 (F := Ideal) (ix4 a p h l) = cosAt 0x42800000#32 (16384 + p.val) l.val := by
  rw [val_main_v40_apply, val_main_v39_apply, val_main_v34_apply, val_main_v33_apply, val_main_v32_apply, val_main_v30_apply, val_main_v28_apply, val_main_v27_apply, val_main_v2_apply, val_main_v1_apply, val_main_c_apply, val_main_v0_apply, val_main_v31_apply, val_main_v29_apply, val_main_v26_apply, val_main_v25_apply, val_main_cst_3_apply, val_main_v24_apply, val_main_v23_apply, val_main_cst_2_apply, val_main_v22_apply]
  unfold cosAt angle
  rw [← position_word]
  rfl

theorem sinA (a : Fin 32) (p : Fin 4) (h : Fin 2) (l : Fin 64) :
    val_main_v43 (F := Ideal) (ix4 a p h l) = sinAt 0x42800000#32 (16384 + p.val) l.val := by
  rw [val_main_v43_apply, val_main_v42_apply, val_main_v36_apply, val_main_v35_apply, val_main_v32_apply, val_main_v30_apply, val_main_v28_apply, val_main_v27_apply, val_main_v2_apply, val_main_v1_apply, val_main_c_apply, val_main_v0_apply, val_main_v31_apply, val_main_v29_apply, val_main_v26_apply, val_main_v25_apply, val_main_cst_3_apply, val_main_v24_apply, val_main_v23_apply, val_main_cst_2_apply, val_main_v22_apply]
  unfold sinAt angle
  rw [← position_word]
  rfl

theorem cosB (a : Fin 32) (p : Fin 4) (h : Fin 2) (l : Fin 64) :
    val_main_v47 (F := Ideal) (ix4 a p h l) = cosAt 0x42800000#32 (16384 + p.val) l.val := by
  rw [val_main_v47_apply, val_main_v46_apply, val_main_v34_apply, val_main_v33_apply, val_main_v32_apply, val_main_v30_apply, val_main_v28_apply, val_main_v27_apply, val_main_v2_apply, val_main_v1_apply, val_main_c_apply, val_main_v0_apply, val_main_v31_apply, val_main_v29_apply, val_main_v26_apply, val_main_v25_apply, val_main_cst_3_apply, val_main_v24_apply, val_main_v23_apply, val_main_cst_2_apply, val_main_v22_apply]
  unfold cosAt angle
  rw [← position_word]
  rfl

theorem sinB (a : Fin 32) (p : Fin 4) (h : Fin 2) (l : Fin 64) :
    val_main_v50 (F := Ideal) (ix4 a p h l) = sinAt 0x42800000#32 (16384 + p.val) l.val := by
  rw [val_main_v50_apply, val_main_v49_apply, val_main_v36_apply, val_main_v35_apply, val_main_v32_apply, val_main_v30_apply, val_main_v28_apply, val_main_v27_apply, val_main_v2_apply, val_main_v1_apply, val_main_c_apply, val_main_v0_apply, val_main_v31_apply, val_main_v29_apply, val_main_v26_apply, val_main_v25_apply, val_main_cst_3_apply, val_main_v24_apply, val_main_v23_apply, val_main_cst_2_apply, val_main_v22_apply]
  unfold sinAt angle
  rw [← position_word]
  rfl

theorem cosC (a : Fin 32) (p : Fin 4) (h : Fin 1) (l : Fin 32) :
    val_main_v77 (F := Ideal) (ix4 a p h l) = cosAt 0x42000000#32 (16384 + p.val) l.val := by
  rw [val_main_v77_apply, val_main_v76_apply, val_main_v71_apply, val_main_v70_apply, val_main_v69_apply, val_main_v67_apply, val_main_v65_apply, val_main_v64_apply, val_main_v2_apply, val_main_v1_apply, val_main_c_apply, val_main_v0_apply, val_main_v68_apply, val_main_v66_apply, val_main_v63_apply, val_main_v62_apply, val_main_cst_5_apply, val_main_v61_apply, val_main_v60_apply, val_main_cst_4_apply, val_main_v59_apply]
  unfold cosAt angle
  rw [← position_word]
  rfl

theorem sinC (a : Fin 32) (p : Fin 4) (h : Fin 1) (l : Fin 32) :
    val_main_v80 (F := Ideal) (ix4 a p h l) = sinAt 0x42000000#32 (16384 + p.val) l.val := by
  rw [val_main_v80_apply, val_main_v79_apply, val_main_v73_apply, val_main_v72_apply, val_main_v69_apply, val_main_v67_apply, val_main_v65_apply, val_main_v64_apply, val_main_v2_apply, val_main_v1_apply, val_main_c_apply, val_main_v0_apply, val_main_v68_apply, val_main_v66_apply, val_main_v63_apply, val_main_v62_apply, val_main_cst_5_apply, val_main_v61_apply, val_main_v60_apply, val_main_cst_4_apply, val_main_v59_apply]
  unfold sinAt angle
  rw [← position_word]
  rfl

theorem cosD (a : Fin 32) (p : Fin 4) (h : Fin 1) (l : Fin 32) :
    val_main_v84 (F := Ideal) (ix4 a p h l) = cosAt 0x42000000#32 (16384 + p.val) l.val := by
  rw [val_main_v84_apply, val_main_v83_apply, val_main_v71_apply, val_main_v70_apply, val_main_v69_apply, val_main_v67_apply, val_main_v65_apply, val_main_v64_apply, val_main_v2_apply, val_main_v1_apply, val_main_c_apply, val_main_v0_apply, val_main_v68_apply, val_main_v66_apply, val_main_v63_apply, val_main_v62_apply, val_main_cst_5_apply, val_main_v61_apply, val_main_v60_apply, val_main_cst_4_apply, val_main_v59_apply]
  unfold cosAt angle
  rw [← position_word]
  rfl

theorem sinD (a : Fin 32) (p : Fin 4) (h : Fin 1) (l : Fin 32) :
    val_main_v87 (F := Ideal) (ix4 a p h l) = sinAt 0x42000000#32 (16384 + p.val) l.val := by
  rw [val_main_v87_apply, val_main_v86_apply, val_main_v73_apply, val_main_v72_apply, val_main_v69_apply, val_main_v67_apply, val_main_v65_apply, val_main_v64_apply, val_main_v2_apply, val_main_v1_apply, val_main_c_apply, val_main_v0_apply, val_main_v68_apply, val_main_v66_apply, val_main_v63_apply, val_main_v62_apply, val_main_cst_5_apply, val_main_v61_apply, val_main_v60_apply, val_main_cst_4_apply, val_main_v59_apply]
  unfold sinAt angle
  rw [← position_word]
  rfl

theorem low64 (r : Fin 128) (h : Fin 2) (l : Fin 64) :
    val_main_v37 (F := Ideal) x g w (ix4 (tokenOf r) (placeOf r) h l) = projAt x g w r (1024 + h.val * 128 + l.val) := by
  have hh := h.isLt
  have hl := l.isLt
  have e : idx_main_v19 (idx_main_v20 (idx_main_v37 (ix4 (tokenOf r) (placeOf r) h l))) = ix3 (tokenOf r) (placeOf r) ⟨1024 + h.val * 128 + l.val, by omega⟩ := by
    funext a
    match a with
    | ⟨0, _⟩ => refine Fin.ext ?_; show (((r.val / 4 * 4 + r.val % 4) * 2 + h.val) * 128 + (l.val)) / 1024 = r.val / 4; omega
    | ⟨1, _⟩ => refine Fin.ext ?_; show (((r.val / 4 * 4 + r.val % 4) * 2 + h.val) * 128 + (l.val)) / 256 % 4 = r.val % 4; omega
    | ⟨2, _⟩ => refine Fin.ext ?_; show 1024 + ((((r.val / 4 * 4 + r.val % 4) * 2 + h.val) * 128 + (l.val)) % 256) = 1024 + h.val * 128 + l.val; omega
  rw [val_main_v37_apply, val_main_v20_apply, val_main_v19_apply, e, column_apply]

theorem high64 (r : Fin 128) (h : Fin 2) (l : Fin 64) :
    val_main_v38 (F := Ideal) x g w (ix4 (tokenOf r) (placeOf r) h l) = projAt x g w r (1024 + h.val * 128 + (64 + l.val)) := by
  have hh := h.isLt
  have hl := l.isLt
  have e : idx_main_v19 (idx_main_v20 (idx_main_v38 (ix4 (tokenOf r) (placeOf r) h l))) = ix3 (tokenOf r) (placeOf r) ⟨1024 + h.val * 128 + (64 + l.val), by omega⟩ := by
    funext a
    match a with
    | ⟨0, _⟩ => refine Fin.ext ?_; show (((r.val / 4 * 4 + r.val % 4) * 2 + h.val) * 128 + (64 + l.val)) / 1024 = r.val / 4; omega
    | ⟨1, _⟩ => refine Fin.ext ?_; show (((r.val / 4 * 4 + r.val % 4) * 2 + h.val) * 128 + (64 + l.val)) / 256 % 4 = r.val % 4; omega
    | ⟨2, _⟩ => refine Fin.ext ?_; show 1024 + ((((r.val / 4 * 4 + r.val % 4) * 2 + h.val) * 128 + (64 + l.val)) % 256) = 1024 + h.val * 128 + (64 + l.val); omega
  rw [val_main_v38_apply, val_main_v20_apply, val_main_v19_apply, e, column_apply]

theorem low32 (r : Fin 128) (h : Fin 1) (l : Fin 32) :
    val_main_v74 (F := Ideal) x g w (ix4 (tokenOf r) (placeOf r) h l) = projAt x g w r (2560 + l.val) := by
  have hh := h.isLt
  have hl := l.isLt
  have e : idx_main_v56 (idx_main_v57 (idx_main_v74 (ix4 (tokenOf r) (placeOf r) h l))) = ix3 (tokenOf r) (placeOf r) ⟨2560 + l.val, by omega⟩ := by
    funext a
    match a with
    | ⟨0, _⟩ => refine Fin.ext ?_; show (((r.val / 4 * 4 + r.val % 4) * 1 + h.val) * 64 + (l.val)) / 256 = r.val / 4; omega
    | ⟨1, _⟩ => refine Fin.ext ?_; show (((r.val / 4 * 4 + r.val % 4) * 1 + h.val) * 64 + (l.val)) / 64 % 4 = r.val % 4; omega
    | ⟨2, _⟩ => refine Fin.ext ?_; show 2560 + ((((r.val / 4 * 4 + r.val % 4) * 1 + h.val) * 64 + (l.val)) % 64) = 2560 + l.val; omega
  rw [val_main_v74_apply, val_main_v57_apply, val_main_v56_apply, e, column_apply]

theorem high32 (r : Fin 128) (h : Fin 1) (l : Fin 32) :
    val_main_v75 (F := Ideal) x g w (ix4 (tokenOf r) (placeOf r) h l) = projAt x g w r (2560 + (32 + l.val)) := by
  have hh := h.isLt
  have hl := l.isLt
  have e : idx_main_v56 (idx_main_v57 (idx_main_v75 (ix4 (tokenOf r) (placeOf r) h l))) = ix3 (tokenOf r) (placeOf r) ⟨2560 + (32 + l.val), by omega⟩ := by
    funext a
    match a with
    | ⟨0, _⟩ => refine Fin.ext ?_; show (((r.val / 4 * 4 + r.val % 4) * 1 + h.val) * 64 + (32 + l.val)) / 256 = r.val / 4; omega
    | ⟨1, _⟩ => refine Fin.ext ?_; show (((r.val / 4 * 4 + r.val % 4) * 1 + h.val) * 64 + (32 + l.val)) / 64 % 4 = r.val % 4; omega
    | ⟨2, _⟩ => refine Fin.ext ?_; show 2560 + ((((r.val / 4 * 4 + r.val % 4) * 1 + h.val) * 64 + (32 + l.val)) % 64) = 2560 + (32 + l.val); omega
  rw [val_main_v75_apply, val_main_v57_apply, val_main_v56_apply, e, column_apply]

theorem value (r : Fin 128) (h : Fin 2) (l : Fin 128) :
    val_main_v55 (F := Ideal) x g w (ix4 (tokenOf r) (placeOf r) h l) = projAt x g w r (1280 + h.val * 128 + l.val) := by
  have hh := h.isLt
  have hl := l.isLt
  have e : idx_main_v54 (idx_main_v55 (ix4 (tokenOf r) (placeOf r) h l)) = ix3 (tokenOf r) (placeOf r) ⟨1280 + h.val * 128 + l.val, by omega⟩ := by
    funext a
    match a with
    | ⟨0, _⟩ => refine Fin.ext ?_; show (((r.val / 4 * 4 + r.val % 4) * 2 + h.val) * 128 + (l.val)) / 1024 = r.val / 4; omega
    | ⟨1, _⟩ => refine Fin.ext ?_; show (((r.val / 4 * 4 + r.val % 4) * 2 + h.val) * 128 + (l.val)) / 256 % 4 = r.val % 4; omega
    | ⟨2, _⟩ => refine Fin.ext ?_; show 1280 + ((((r.val / 4 * 4 + r.val % 4) * 2 + h.val) * 128 + (l.val)) % 256) = 1280 + h.val * 128 + l.val; omega
  rw [val_main_v55_apply, val_main_v54_apply, e, column_apply]

theorem turned64 (r : Fin 128) (h : Fin 2) (l : Fin 128) :
    val_main_v53 (F := Ideal) x g w (ix4 (tokenOf r) (placeOf r) h l) = turn 0x42800000#32 64 (projAt x g w r) (16384 + r.val % 4) (1024 + h.val * 128) l.val := by
  have hl := l.isLt
  unfold val_main_v53
  by_cases hlt : l.val < 64
  · refine (concatenate_pair_apply_left (t := S32x4x2x128) (s₁ := S32x4x2x64) (s₂ := S32x4x2x64) 3 _ _ _ _ rfl (ix4 (tokenOf r) (placeOf r) h ⟨l.val, hlt⟩) fun a => ?_).trans ?_
    · match a with | ⟨0, _⟩ => rfl | ⟨1, _⟩ => rfl | ⟨2, _⟩ => rfl | ⟨3, _⟩ => rfl
    rw [val_main_v45_apply, val_main_v41_apply, val_main_v44_apply, low64, high64, cosA, sinA]
    unfold turn
    rw [if_pos hlt, show 1024 + h.val * 128 + l.val + 64 = 1024 + h.val * 128 + (64 + l.val) by omega]
    rfl
  · have hge : 64 ≤ l.val := Nat.le_of_not_lt hlt
    refine (concatenate_pair_apply_right (t := S32x4x2x128) (s₁ := S32x4x2x64) (s₂ := S32x4x2x64) 3 _ _ _ _ rfl rfl (ix4 (tokenOf r) (placeOf r) h ⟨l.val - 64, by omega⟩) (fun a ha => ?_) ?_).trans ?_
    · match a with | ⟨0, _⟩ => rfl | ⟨1, _⟩ => rfl | ⟨2, _⟩ => rfl | ⟨3, _⟩ => exact absurd rfl ha
    · exact Nat.sub_add_cancel hge
    rw [val_main_v52_apply, val_main_v48_apply, val_main_v51_apply, low64, high64, cosB, sinB]
    unfold turn
    rw [if_neg hlt, show 1024 + h.val * 128 + l.val - 64 = 1024 + h.val * 128 + (l.val - 64) by omega]
    have e : 64 + (l.val - 64) = l.val := by omega
    show projAt x g w r (1024 + h.val * 128 + (64 + (l.val - 64))) * _ + _ = _
    rw [e]
    rfl

theorem turned32 (r : Fin 128) (h : Fin 1) (l : Fin 64) :
    val_main_v90 (F := Ideal) x g w (ix4 (tokenOf r) (placeOf r) h l) = turn 0x42000000#32 32 (projAt x g w r) (16384 + r.val % 4) (2560) l.val := by
  have hl := l.isLt
  unfold val_main_v90
  by_cases hlt : l.val < 32
  · refine (concatenate_pair_apply_left (t := S32x4x1x64) (s₁ := S32x4x1x32) (s₂ := S32x4x1x32) 3 _ _ _ _ rfl (ix4 (tokenOf r) (placeOf r) h ⟨l.val, hlt⟩) fun a => ?_).trans ?_
    · match a with | ⟨0, _⟩ => rfl | ⟨1, _⟩ => rfl | ⟨2, _⟩ => rfl | ⟨3, _⟩ => rfl
    rw [val_main_v82_apply, val_main_v78_apply, val_main_v81_apply, low32, high32, cosC, sinC]
    unfold turn
    rw [if_pos hlt, show 2560 + l.val + 32 = 2560 + (32 + l.val) by omega]
    rfl
  · have hge : 32 ≤ l.val := Nat.le_of_not_lt hlt
    refine (concatenate_pair_apply_right (t := S32x4x1x64) (s₁ := S32x4x1x32) (s₂ := S32x4x1x32) 3 _ _ _ _ rfl rfl (ix4 (tokenOf r) (placeOf r) h ⟨l.val - 32, by omega⟩) (fun a ha => ?_) ?_).trans ?_
    · match a with | ⟨0, _⟩ => rfl | ⟨1, _⟩ => rfl | ⟨2, _⟩ => rfl | ⟨3, _⟩ => exact absurd rfl ha
    · exact Nat.sub_add_cancel hge
    rw [val_main_v89_apply, val_main_v85_apply, val_main_v88_apply, low32, high32, cosD, sinD]
    unfold turn
    rw [if_neg hlt, show 2560 + l.val - 32 = 2560 + (l.val - 32) by omega]
    have e : 32 + (l.val - 32) = l.val := by omega
    show projAt x g w r (2560 + (32 + (l.val - 32))) * _ + _ = _
    rw [e]
    rfl

/-- What the reference leaves. -/
theorem keys_eq : val_main_v92 (F := Ideal) x g w = keys x g w := by
  funext i
  obtain ⟨r, j, rfl⟩ : ∃ (r : Fin 128) (j : Fin 256), i = ix2 r j := ⟨i 0, i 1, by
    funext a; match a with | ⟨0, _⟩ => rfl | ⟨1, _⟩ => rfl⟩
  have hj := j.isLt
  have e : idx_main_v92 (ix2 r j) = ix4 (tokenOf r) (placeOf r) ⟨j.val / 128, by omega⟩ ⟨j.val % 128, by omega⟩ := by
    funext a
    match a with
    | ⟨0, _⟩ => refine Fin.ext ?_; show (r.val * 256 + j.val) / 1024 = r.val / 4; omega
    | ⟨1, _⟩ => refine Fin.ext ?_; show (r.val * 256 + j.val) / 256 % 4 = r.val % 4; omega
    | ⟨2, _⟩ => refine Fin.ext ?_; show (r.val * 256 + j.val) / 128 % 2 = j.val / 128; omega
    | ⟨3, _⟩ => refine Fin.ext ?_; show (r.val * 256 + j.val) % 128 = j.val % 128; omega
  rw [val_main_v92_apply, e, turned64]
  rfl

/-- What the reference leaves. -/
theorem values_eq : val_main_v93 (F := Ideal) x g w = values x g w := by
  funext i
  obtain ⟨r, j, rfl⟩ : ∃ (r : Fin 128) (j : Fin 256), i = ix2 r j := ⟨i 0, i 1, by
    funext a; match a with | ⟨0, _⟩ => rfl | ⟨1, _⟩ => rfl⟩
  have hj := j.isLt
  have e : idx_main_v93 (ix2 r j) = ix4 (tokenOf r) (placeOf r) ⟨j.val / 128, by omega⟩ ⟨j.val % 128, by omega⟩ := by
    funext a
    match a with
    | ⟨0, _⟩ => refine Fin.ext ?_; show (r.val * 256 + j.val) / 1024 = r.val / 4; omega
    | ⟨1, _⟩ => refine Fin.ext ?_; show (r.val * 256 + j.val) / 256 % 4 = r.val % 4; omega
    | ⟨2, _⟩ => refine Fin.ext ?_; show (r.val * 256 + j.val) / 128 % 2 = j.val / 128; omega
    | ⟨3, _⟩ => refine Fin.ext ?_; show (r.val * 256 + j.val) % 128 = j.val % 128; omega
  rw [val_main_v93_apply, e, value]
  exact congrArg (projAt x g w r) (show 1280 + j.val / 128 * 128 + j.val % 128 = 1280 + j.val by omega)

/-- What the reference leaves. -/
theorem idxKeys_eq : val_main_v94 (F := Ideal) x g w = idxKeys x g w := by
  funext i
  obtain ⟨r, j, rfl⟩ : ∃ (r : Fin 128) (j : Fin 64), i = ix2 r j := ⟨i 0, i 1, by
    funext a; match a with | ⟨0, _⟩ => rfl | ⟨1, _⟩ => rfl⟩
  have hj := j.isLt
  have e : idx_main_v91 (idx_main_v94 (ix2 r j)) = ix4 (tokenOf r) (placeOf r) 0 j := by
    have hr := r.isLt
    have e0 : (r.val * 64 + j.val) / 256 = r.val / 4 := by omega
    have e1 : (r.val * 64 + j.val) / 64 % 4 = r.val % 4 := by omega
    have e2 : (r.val * 64 + j.val) % 64 = j.val := by omega
    funext a
    match a with
    | ⟨0, _⟩ => refine Fin.ext ?_; show (((r.val * 64 + j.val) / 256 * 4 + (r.val * 64 + j.val) / 64 % 4) * 64 + (r.val * 64 + j.val) % 64) / 256 = r.val / 4; omega
    | ⟨1, _⟩ => refine Fin.ext ?_; show (((r.val * 64 + j.val) / 256 * 4 + (r.val * 64 + j.val) / 64 % 4) * 64 + (r.val * 64 + j.val) % 64) / 64 % 4 = r.val % 4; omega
    | ⟨2, _⟩ => rfl
    | ⟨3, _⟩ => refine Fin.ext ?_; show (((r.val * 64 + j.val) / 256 * 4 + (r.val * 64 + j.val) / 64 % 4) * 64 + (r.val * 64 + j.val) % 64) % 64 = j.val; omega
  rw [val_main_v94_apply, val_main_v91_apply, e, turned32]
  rfl

end Cert.NewWanted
-- ==== Proof.New.lean ====
/-
  The attention group's projections: the kernel and the reference leave the same keys, values and indexer keys.
-/
module

public import proofs.«01_k».proof.Proof.NewTile
public import proofs.«01_k».proof.Proof.NewWanted
public import proofs.«01_k».proof.Defs

@[expose] public section

noncomputable section

namespace Cert.New

open Cert.Kernel7Ideal Cert.Kernel7Ideal.Gen
open Idealize.ShloMosaic Idealize.ShloMosaic.TcCoe Idealize.SL.Sem

/-- The reference's run ends with every argument as launched and every counter at zero. -/
theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The two programs leave one set of results. -/
theorem same_result : Cert.algebraic_Kernel7Ideal_Reference7Ideal := by
  intro m g m' g' _ hargs
  refine ⟨fun c => keys (m ((c : Thread nD τ).loc main_arg0)) (m ((c : Thread nD τ).loc main_arg1)) (m ((c : Thread nD τ).loc main_arg2)),
    fun c => values (m ((c : Thread nD τ).loc main_arg0)) (m ((c : Thread nD τ).loc main_arg1)) (m ((c : Thread nD τ).loc main_arg2)),
    fun c => idxKeys (m ((c : Thread nD τ).loc main_arg0)) (m ((c : Thread nD τ).loc main_arg1)) (m ((c : Thread nD τ).loc main_arg2)), ?_, ?_⟩
  · refine (θ_run _ _ _).mono (fun r h c => ?_) (Value.run_blocks m g)
    obtain ⟨_, h1, _, h3, _, _, h6, _, _, h9⟩ := h c
    exact ⟨h1.trans (left_keys m c), h3.trans (left_values m c), h6.trans (left_idxKeys m c), h9⟩
  · refine (θ_run _ _ _).mono (fun r h c => ?_) (Cert.Reference7Ideal.Value.run m' g')
    obtain ⟨a0, a1, a2⟩ := hargs c
    obtain ⟨h0, h1, h2, h3⟩ := h c
    refine ⟨h0.trans ?_, h1.trans ?_, h2.trans ?_, h3⟩
    · rw [Cert.Reference7Ideal.Read.val_main_v92_eq, Cert.NewWanted.keys_eq, a0, a1, a2]
    · rw [Cert.Reference7Ideal.Read.val_main_v93_eq, Cert.NewWanted.values_eq, a0, a1, a2]
    · rw [Cert.Reference7Ideal.Read.val_main_v94_eq, Cert.NewWanted.idxKeys_eq, a0, a1, a2]

end Cert.New
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Read
public import proofs.«01_k».proof.Proof.Range
public import proofs.«01_k».proof.Proof.Equal
public import proofs.«01_k».proof.Proof.Gate
public import proofs.«01_k».proof.Proof.Gen.Kernel2.Frame
public import proofs.«01_k».proof.Proof.Glu
public import proofs.«01_k».proof.Proof.Gen.Kernel4.Frame
public import proofs.«01_k».proof.Proof.Front
public import proofs.«01_k».proof.Proof.Gen.Kernel5.Frame
public import proofs.«01_k».proof.Proof.Out
public import proofs.«01_k».proof.Proof.Gen.Kernel6.Frame
public import proofs.«01_k».proof.Proof.New
public import proofs.«01_k».proof.Proof.Gen.Kernel7.Frame
public import proofs.«01_k».proof.Proof.NewGlu
public import proofs.«01_k».proof.Proof.Gen.Kernel8.Frame
public import proofs.«01_k».proof.Proof.Gen.Pre_pages
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_pages.Gen.facts, by
  exact ⟨Cert.Pages.frame_kernel, Cert.Pages.frame_kernelIdeal, Cert.Pages.frame_reference,
    fun m ρ _ => Cert.Kernel2.Gen.frame m ρ, fun m ρ _ => Cert.Kernel2Ideal.Gen.frame m ρ, Cert.Gate.frame_reference,
    fun m ρ _ => Cert.Kernel4.Gen.frame m ρ, fun m ρ _ => Cert.Kernel4Ideal.Gen.frame m ρ, Cert.Glu.frame_reference,
    fun m ρ _ => Cert.Kernel5.Gen.frame m ρ, fun m ρ _ => Cert.Kernel5Ideal.Gen.frame m ρ, Cert.Front.frame_reference,
    fun m ρ _ => Cert.Kernel6.Gen.frame m ρ, fun m ρ _ => Cert.Kernel6Ideal.Gen.frame m ρ, Cert.Out.frame_reference,
    fun m ρ _ => Cert.Kernel7.Gen.frame m ρ, fun m ρ _ => Cert.Kernel7Ideal.Gen.frame m ρ, Cert.New.frame_reference,
    fun m ρ _ => Cert.Kernel8.Gen.frame m ρ, fun m ρ _ => Cert.Kernel8Ideal.Gen.frame m ρ, Cert.NewGlu.frame_reference,
    trivial, Cert.Pages.same_result,
    trivial, Cert.Gate.same_result,
    trivial, Cert.Glu.same_result,
    trivial, Cert.Front.same_result,
    trivial, Cert.Out.same_result,
    trivial, Cert.New.same_result,
    trivial, Cert.NewGlu.same_result⟩⟩

end Cert.Proof

end
